-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "qscale" .f32 0x3DD53B95#32 (((Real.sqrt 192)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "alpha" .f32 0x3FB504F3#32 ((Real.sqrt 2 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "alpha" .f32 0x3FB504F3#32 ((Real.sqrt 2 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S8x2048x16x128 : Shape := ⟨4, ![8, 2048, 16, 128]⟩
abbrev S8x2048x16x64 : Shape := ⟨4, ![8, 2048, 16, 64]⟩
abbrev S8x2048x64 : Shape := ⟨3, ![8, 2048, 64]⟩
abbrev S_ : Shape := ⟨0, ![]⟩

class Facts : Prop where
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_
  h_S_ : 0 < S_.numel
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  bcast_S_S8x2048x64 : S_.BroadcastsInDim S8x2048x64 (![] : Fin 0 → Fin S8x2048x64.rank)
  reducesTo_S8x2048x64_S_d0_1_2 : S8x2048x64.ReducesTo [0, 1, 2] S_

variable [Facts]

def fn_part1 {F : FTy → Type} [FloatOps F] (main_v13 : IVec S_ 1) (main_v16 : IVec S8x2048x64 1) : IVec S_ 1 :=
  let main_c_5 : IVec S_ 1 := constantI S_ 1 1#1
  let main_v17 : IVec S_ 1 := (fun x v => Host.reduce IntOp.andi x v reducesTo_S8x2048x64_S_d0_1_2 h_S_) main_v16 main_c_5
  let main_v18 : IVec S_ 1 := andi main_v13 main_v17
  main_v18

def fn {F : FTy → Type} [FloatOps F] (main_arg0 : FVec F S8x2048x16x128 .f32) (main_arg1 : FVec F S8x2048x16x64 .f32) (main_arg2 : FVec F S8x2048x16x128 .f32) (main_arg3 : FVec F S8x2048x64 .f32) (main_arg4 : FVec F S8x2048x16x128 .f32) : IVec S_ 1 :=
  let main_v0 : FVec F S8x2048x16x128 .f32 := Host.absf main_arg0
  let main_cst : FVec F S_ .f32 := constant S_ .f32 0x7F800000#32
  let main_v1 : FVec F S8x2048x16x128 .f32 := broadcastInDim S8x2048x16x128 ![] bcast_S_S8x2048x16x128 main_cst
  let main_v2 : IVec S8x2048x16x128 1 := cmpf .olt main_v0 main_v1
  let main_c : IVec S_ 1 := constantI S_ 1 1#1
  let main_v3 : IVec S_ 1 := (fun x v => Host.reduce IntOp.andi x v reducesTo_S8x2048x16x128_S_d0_1_2_3 h_S_) main_v2 main_c
  let main_v4 : FVec F S8x2048x16x64 .f32 := Host.absf main_arg1
  let main_cst_0 : FVec F S_ .f32 := constant S_ .f32 0x7F800000#32
  let main_v5 : FVec F S8x2048x16x64 .f32 := broadcastInDim S8x2048x16x64 ![] bcast_S_S8x2048x16x64 main_cst_0
  let main_v6 : IVec S8x2048x16x64 1 := cmpf .olt main_v4 main_v5
  let main_c_1 : IVec S_ 1 := constantI S_ 1 1#1
  let main_v7 : IVec S_ 1 := (fun x v => Host.reduce IntOp.andi x v reducesTo_S8x2048x16x64_S_d0_1_2_3 h_S_) main_v6 main_c_1
  let main_v8 : IVec S_ 1 := andi main_v3 main_v7
  let main_v9 : FVec F S8x2048x16x128 .f32 := Host.absf main_arg2
  let main_cst_2 : FVec F S_ .f32 := constant S_ .f32 0x7F800000#32
  let main_v10 : FVec F S8x2048x16x128 .f32 := broadcastInDim S8x2048x16x128 ![] bcast_S_S8x2048x16x128 main_cst_2
  let main_v11 : IVec S8x2048x16x128 1 := cmpf .olt main_v9 main_v10
  let main_c_3 : IVec S_ 1 := constantI S_ 1 1#1
  let main_v12 : IVec S_ 1 := (fun x v => Host.reduce IntOp.andi x v reducesTo_S8x2048x16x128_S_d0_1_2_3 h_S_) main_v11 main_c_3
  let main_v13 : IVec S_ 1 := andi main_v8 main_v12
  let main_v14 : FVec F S8x2048x64 .f32 := Host.absf main_arg3
  let main_cst_4 : FVec F S_ .f32 := constant S_ .f32 0x7F800000#32
  let main_v15 : FVec F S8x2048x64 .f32 := broadcastInDim S8x2048x64 ![] bcast_S_S8x2048x64 main_cst_4
  let main_v16 : IVec S8x2048x64 1 := cmpf .olt main_v14 main_v15
  fn_part1 (F := F) main_v13 main_v16
-- ==== Kernel.lean ====
abbrev S8x2048x16x128 : Shape := ⟨4, ![8, 2048, 16, 128]⟩
abbrev S8x2048x16x64 : Shape := ⟨4, ![8, 2048, 16, 64]⟩
abbrev S8x2048x64 : Shape := ⟨3, ![8, 2048, 64]⟩
abbrev S_ : Shape := ⟨0, ![]⟩
abbrev S8x2048x16x256 : Shape := ⟨4, ![8, 2048, 16, 256]⟩
abbrev S8x2048x1x64 : Shape := ⟨4, ![8, 2048, 1, 64]⟩
abbrev S16384x4096 : Shape := ⟨2, ![16384, 4096]⟩
abbrev S16384x2048 : Shape := ⟨2, ![16384, 2048]⟩
abbrev S2048x512 : Shape := ⟨2, ![2048, 512]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 34
  | .vmem => 8
  | .smem => 0
  | _ => 0

abbrev bufTy : (tb : Table) → Fin (tcTables nBuf tb) → BufTy
  | .hbm, ⟨0, _⟩ => ⟨S8x2048x16x128, .f32⟩
  | .hbm, ⟨1, _⟩ => ⟨S8x2048x16x64, .f32⟩
  | .hbm, ⟨2, _⟩ => ⟨S8x2048x16x128, .f32⟩
  | .hbm, ⟨3, _⟩ => ⟨S8x2048x64, .f32⟩
  | .hbm, ⟨4, _⟩ => ⟨S8x2048x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .bf16⟩
  | .hbm, ⟨13, _⟩ => ⟨S8x2048x16x64, .bf16⟩
  | .hbm, ⟨14, _⟩ => ⟨S_, .bf16⟩
  | .hbm, ⟨15, _⟩ => ⟨S8x2048x16x128, .bf16⟩
  | .hbm, ⟨16, _⟩ => ⟨S8x2048x16x128, .f32⟩
  | .hbm, ⟨17, _⟩ => ⟨S8x2048x16x128, .f32⟩
  | .hbm, ⟨18, _⟩ => ⟨S8x2048x16x128, .bf16⟩
  | .hbm, ⟨19, _⟩ => ⟨S8x2048x16x64, .f32⟩
  | .hbm, ⟨20, _⟩ => ⟨S8x2048x16x64, .f32⟩
  | .hbm, ⟨21, _⟩ => ⟨S8x2048x16x64, .bf16⟩
  | .hbm, ⟨22, _⟩ => ⟨S8x2048x16x256, .bf16⟩
  | .hbm, ⟨23, _⟩ => ⟨S8x2048x1x64, .f32⟩
  | .hbm, ⟨24, _⟩ => ⟨S8x2048x16x64, .f32⟩
  | .hbm, ⟨25, _⟩ => ⟨S8x2048x16x64, .bf16⟩
  | .hbm, ⟨26, _⟩ => ⟨S8x2048x16x128, .bf16⟩
  | .hbm, ⟨27, _⟩ => ⟨S8x2048x16x256, .bf16⟩
  | .hbm, ⟨28, _⟩ => ⟨S8x2048x16x128, .bf16⟩
  | .hbm, ⟨29, _⟩ => ⟨S8x2048x16x256, .bf16⟩
  | .hbm, ⟨30, _⟩ => ⟨S16384x4096, .bf16⟩
  | .hbm, ⟨31, _⟩ => ⟨S16384x4096, .bf16⟩
  | .hbm, ⟨32, _⟩ => ⟨S16384x4096, .bf16⟩
  | .hbm, ⟨33, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x256, .bf16⟩
  | .local _ .vmem, ⟨7, _⟩ => ⟨S2048x256, .bf16⟩
  | _, _ => ⟨S8x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2048x16x128 : Shape := ⟨4, ![8, 2048, 16, 128]⟩
abbrev S8x2048x16x64 : Shape := ⟨4, ![8, 2048, 16, 64]⟩
abbrev S8x2048x64 : Shape := ⟨3, ![8, 2048, 64]⟩
abbrev S_ : Shape := ⟨0, ![]⟩
abbrev S2048 : Shape := ⟨1, ![2048]⟩
abbrev S8x16x2048x2048 : Shape := ⟨4, ![8, 16, 2048, 2048]⟩
abbrev S8x2048x2048x16 : Shape := ⟨4, ![8, 2048, 2048, 16]⟩
abbrev S2048x1 : Shape := ⟨2, ![2048, 1]⟩
abbrev S1x2048 : Shape := ⟨2, ![1, 2048]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x16x128x2048 : Shape := ⟨4, ![8, 16, 128, 2048]⟩
abbrev S16384x2048 : Shape := ⟨2, ![16384, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x16x128, .f32⟩
  | .hbm, ⟨1, _⟩ => ⟨S8x2048x16x64, .f32⟩
  | .hbm, ⟨2, _⟩ => ⟨S8x2048x16x128, .f32⟩
  | .hbm, ⟨3, _⟩ => ⟨S8x2048x64, .f32⟩
  | .hbm, ⟨4, _⟩ => ⟨S8x2048x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S8x16x2048x2048, .f32⟩
  | .hbm, ⟨29, _⟩ => ⟨S8x2048x2048x16, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S_, .f32⟩
  | .hbm, ⟨40, _⟩ => ⟨S_, .f32⟩
  | .hbm, ⟨41, _⟩ => ⟨S8x16x2048x2048, .i1⟩
  | .hbm, ⟨42, _⟩ => ⟨S8x16x2048x2048, .f32⟩
  | .hbm, ⟨43, _⟩ => ⟨S8x16x2048x2048, .f32⟩
  | .hbm, ⟨44, _⟩ => ⟨S_, .f32⟩
  | .hbm, ⟨45, _⟩ => ⟨S8x16x2048, .f32⟩
  | .hbm, ⟨46, _⟩ => ⟨S_, .f32⟩
  | .hbm, ⟨47, _⟩ => ⟨S8x16x2048, .f32⟩
  | .hbm, ⟨48, _⟩ => ⟨S8x16x2048, .f32⟩
  | .hbm, ⟨49, _⟩ => ⟨S8x16x2048x1, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S_, .f32⟩
  | .hbm, ⟨54, _⟩ => ⟨S8x16x2048, .f32⟩
  | .hbm, ⟨55, _⟩ => ⟨S8x16x2048x1, .f32⟩
  | .hbm, ⟨56, _⟩ => ⟨S8x16x2048x2048, .f32⟩
  | .hbm, ⟨57, _⟩ => ⟨S8x16x2048x2048, .f32⟩
  | .hbm, ⟨58, _⟩ => ⟨S8x16x128x2048, .f32⟩
  | .hbm, ⟨59, _⟩ => ⟨S8x2048x16x128, .f32⟩
  | .hbm, ⟨60, _⟩ => ⟨S16384x2048, .f32⟩
  | .hbm, ⟨61, _⟩ => ⟨S16384x2048, .bf16⟩
  | _, _ => ⟨S8x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048x512 : Shape := ⟨2, ![2048, 512]⟩
abbrev S512 : Shape := ⟨1, ![512]⟩
abbrev S512x3072 : Shape := ⟨2, ![512, 3072]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S512x16x192 : Shape := ⟨3, ![512, 16, 192]⟩
abbrev S512x16x256 : Shape := ⟨3, ![512, 16, 256]⟩
abbrev S512x4096 : Shape := ⟨2, ![512, 4096]⟩
abbrev S16384x2048 : Shape := ⟨2, ![16384, 2048]⟩
abbrev S1x512 : Shape := ⟨2, ![1, 512]⟩
abbrev S16384x4096 : Shape := ⟨2, ![16384, 4096]⟩
abbrev S512x2048 : Shape := ⟨2, ![512, 2048]⟩
abbrev S512x128 : Shape := ⟨2, ![512, 128]⟩
abbrev S512x512 : Shape := ⟨2, ![512, 512]⟩
abbrev S512x1 : Shape := ⟨2, ![512, 1]⟩
abbrev S512x256 : Shape := ⟨2, ![512, 256]⟩

abbrev nBuf : Space → Nat
  | .hbm => 41
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S512, .f32⟩
  | .hbm, ⟨3, _⟩ => ⟨S512x3072, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S_, .f32⟩
  | .hbm, ⟨25, _⟩ => ⟨S2048x64, .f32⟩
  | .hbm, ⟨26, _⟩ => ⟨S2048x32, .f32⟩
  | .hbm, ⟨27, _⟩ => ⟨S2048x32, .f32⟩
  | .hbm, ⟨28, _⟩ => ⟨S2048x128, .f32⟩
  | .hbm, ⟨29, _⟩ => ⟨S2048x128, .f32⟩
  | .hbm, ⟨30, _⟩ => ⟨S512x16x192, .f32⟩
  | .hbm, ⟨31, _⟩ => ⟨S_, .i32⟩
  | .hbm, ⟨32, _⟩ => ⟨S_, .f32⟩
  | .hbm, ⟨33, _⟩ => ⟨S512x16x256, .f32⟩
  | .hbm, ⟨34, _⟩ => ⟨S512x4096, .f32⟩
  | .hbm, ⟨35, _⟩ => ⟨S512x4096, .bf16⟩
  | .hbm, ⟨36, _⟩ => ⟨S16384x2048, .f32⟩
  | .hbm, ⟨37, _⟩ => ⟨S16384x2048, .bf16⟩
  | .hbm, ⟨38, _⟩ => ⟨S2048x512, .bf16⟩
  | .hbm, ⟨39, _⟩ => ⟨S1x512, .f32⟩
  | .hbm, ⟨40, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S1x512, .f32⟩
  | .local _ .vmem, ⟨4, _⟩ => ⟨S512x4096, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x4096, .bf16⟩
  | .local _ .vmem, ⟨10, _⟩ => ⟨S512x4096, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
variable {F : FTy → Type} [FloatOps F] [Named F]
def κ : String → Option EReal := fun
  | "qscale" => some (((Real.sqrt 192)⁻¹ * (Real.log 2)⁻¹ : ℝ) : EReal)
  | _ => none
-- ==== Reference2Ideal.lean ====
abbrev S8x2048x2048 : Shape := ⟨3, ![8, 2048, 2048]⟩
abbrev S2048x512 : Shape := ⟨2, ![2048, 512]⟩
abbrev S512 : Shape := ⟨1, ![512]⟩
abbrev S512x3072 : Shape := ⟨2, ![512, 3072]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩
abbrev S8x2048x3072 : Shape := ⟨3, ![8, 2048, 3072]⟩
abbrev S8x2048x16x192 : Shape := ⟨4, ![8, 2048, 16, 192]⟩
abbrev S8x2048x16x32 : Shape := ⟨4, ![8, 2048, 16, 32]⟩
abbrev S8x2048x16x128 : Shape := ⟨4, ![8, 2048, 16, 128]⟩
abbrev S1x2048x1x32 : Shape := ⟨4, ![1, 2048, 1, 32]⟩
abbrev S8x2048x16x64 : Shape := ⟨4, ![8, 2048, 16, 64]⟩
abbrev S8x2048x16x256 : Shape := ⟨4, ![8, 2048, 16, 256]⟩
abbrev S16384x4096 : Shape := ⟨2, ![16384, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x512, .f32⟩
  | .hbm, ⟨2, _⟩ => ⟨S512, .f32⟩
  | .hbm, ⟨3, _⟩ => ⟨S512x3072, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1x32, .f32⟩
  | .hbm, ⟨26, _⟩ => ⟨S2048x32, .f32⟩
  | .hbm, ⟨27, _⟩ => ⟨S2048x1x32, .f32⟩
  | .hbm, ⟨28, _⟩ => ⟨S8x2048x512, .f32⟩
  | .hbm, ⟨29, _⟩ => ⟨S8x2048x512, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x512, .f32⟩
  | .hbm, ⟨41, _⟩ => ⟨S8x2048x512, .f32⟩
  | .hbm, ⟨42, _⟩ => ⟨S1x1x512, .f32⟩
  | .hbm, ⟨43, _⟩ => ⟨S8x2048x512, .f32⟩
  | .hbm, ⟨44, _⟩ => ⟨S8x2048x512, .f32⟩
  | .hbm, ⟨45, _⟩ => ⟨S8x2048x3072, .f32⟩
  | .hbm, ⟨46, _⟩ => ⟨S8x2048x16x192, .f32⟩
  | .hbm, ⟨47, _⟩ => ⟨S8x2048x16x32, .f32⟩
  | .hbm, ⟨48, _⟩ => ⟨S8x2048x16x32, .f32⟩
  | .hbm, ⟨49, _⟩ => ⟨S8x2048x16x128, .f32⟩
  | .hbm, ⟨50, _⟩ => ⟨S1x2048x1x32, .f32⟩
  | .hbm, ⟨51, _⟩ => ⟨S8x2048x16x32, .f32⟩
  | .hbm, ⟨52, _⟩ => ⟨S8x2048x16x32, .f32⟩
  | .hbm, ⟨53, _⟩ => ⟨S1x2048x1x32, .f32⟩
  | .hbm, ⟨54, _⟩ => ⟨S8x2048x16x32, .f32⟩
  | .hbm, ⟨55, _⟩ => ⟨S8x2048x16x32, .f32⟩
  | .hbm, ⟨56, _⟩ => ⟨S8x2048x16x32, .f32⟩
  | .hbm, ⟨57, _⟩ => ⟨S1x2048x1x32, .f32⟩
  | .hbm, ⟨58, _⟩ => ⟨S8x2048x16x32, .f32⟩
  | .hbm, ⟨59, _⟩ => ⟨S8x2048x16x32, .f32⟩
  | .hbm, ⟨60, _⟩ => ⟨S1x2048x1x32, .f32⟩
  | .hbm, ⟨61, _⟩ => ⟨S8x2048x16x32, .f32⟩
  | .hbm, ⟨62, _⟩ => ⟨S8x2048x16x32, .f32⟩
  | .hbm, ⟨63, _⟩ => ⟨S8x2048x16x32, .f32⟩
  | .hbm, ⟨64, _⟩ => ⟨S8x2048x16x192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8x2048x16x192, .f32⟩
  | .hbm, ⟨73, _⟩ => ⟨S8x2048x16x192, .f32⟩
  | .hbm, ⟨74, _⟩ => ⟨S_, .f32⟩
  | .hbm, ⟨75, _⟩ => ⟨S8x2048x16x64, .f32⟩
  | .hbm, ⟨76, _⟩ => ⟨S8x2048x16x256, .f32⟩
  | .hbm, ⟨77, _⟩ => ⟨S16384x4096, .f32⟩
  | .hbm, ⟨78, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048x576 : Shape := ⟨2, ![2048, 576]⟩
abbrev S512 : Shape := ⟨1, ![512]⟩
abbrev S512x4096 : Shape := ⟨2, ![512, 4096]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S16384x2048 : Shape := ⟨2, ![16384, 2048]⟩
abbrev S2048x512 : Shape := ⟨2, ![2048, 512]⟩
abbrev S1x512 : Shape := ⟨2, ![1, 512]⟩
abbrev S16384x4096 : Shape := ⟨2, ![16384, 4096]⟩
abbrev S512x2048 : Shape := ⟨2, ![512, 2048]⟩
abbrev S512x128 : Shape := ⟨2, ![512, 128]⟩
abbrev S512x512 : Shape := ⟨2, ![512, 512]⟩
abbrev S512x1 : Shape := ⟨2, ![512, 1]⟩
abbrev S512x256 : Shape := ⟨2, ![512, 256]⟩

abbrev nBuf : Space → Nat
  | .hbm => 42
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S2048x576, .f32⟩
  | .hbm, ⟨2, _⟩ => ⟨S512, .f32⟩
  | .hbm, ⟨3, _⟩ => ⟨S512x4096, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S_, .f32⟩
  | .hbm, ⟨25, _⟩ => ⟨S2048x64, .f32⟩
  | .hbm, ⟨26, _⟩ => ⟨S2048x32, .f32⟩
  | .hbm, ⟨27, _⟩ => ⟨S2048x32, .f32⟩
  | .hbm, ⟨28, _⟩ => ⟨S2048x128, .f32⟩
  | .hbm, ⟨29, _⟩ => ⟨S2048x128, .f32⟩
  | .hbm, ⟨30, _⟩ => ⟨S2048x576, .bf16⟩
  | .hbm, ⟨31, _⟩ => ⟨S2048x64, .bf16⟩
  | .hbm, ⟨32, _⟩ => ⟨S_, .i32⟩
  | .hbm, ⟨33, _⟩ => ⟨S_, .bf16⟩
  | .hbm, ⟨34, _⟩ => ⟨S2048x128, .bf16⟩
  | .hbm, ⟨35, _⟩ => ⟨S16384x2048, .f32⟩
  | .hbm, ⟨36, _⟩ => ⟨S16384x2048, .bf16⟩
  | .hbm, ⟨37, _⟩ => ⟨S2048x512, .bf16⟩
  | .hbm, ⟨38, _⟩ => ⟨S512x4096, .bf16⟩
  | .hbm, ⟨39, _⟩ => ⟨S1x512, .f32⟩
  | .hbm, ⟨40, _⟩ => ⟨S16384x4096, .bf16⟩
  | .hbm, ⟨41, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x128, .bf16⟩
  | .local _ .vmem, ⟨4, _⟩ => ⟨S1x512, .f32⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x4096, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x2048 : Shape := ⟨3, ![8, 2048, 2048]⟩
abbrev S2048x576 : Shape := ⟨2, ![2048, 576]⟩
abbrev S512 : Shape := ⟨1, ![512]⟩
abbrev S512x4096 : Shape := ⟨2, ![512, 4096]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S8x2048x576 : Shape := ⟨3, ![8, 2048, 576]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩
abbrev S8x2048x32 : Shape := ⟨3, ![8, 2048, 32]⟩
abbrev S8x2048x64 : Shape := ⟨3, ![8, 2048, 64]⟩
abbrev S1x2048x32 : Shape := ⟨3, ![1, 2048, 32]⟩
abbrev S8x2048x128 : Shape := ⟨3, ![8, 2048, 128]⟩
abbrev S8x2048x1x128 : Shape := ⟨4, ![8, 2048, 1, 128]⟩
abbrev S8x2048x16x128 : Shape := ⟨4, ![8, 2048, 16, 128]⟩
abbrev S8x2048x4096 : Shape := ⟨3, ![8, 2048, 4096]⟩
abbrev S8x2048x16x256 : Shape := ⟨4, ![8, 2048, 16, 256]⟩
abbrev S16384x4096 : Shape := ⟨2, ![16384, 4096]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x576, .f32⟩
  | .hbm, ⟨2, _⟩ => ⟨S512, .f32⟩
  | .hbm, ⟨3, _⟩ => ⟨S512x4096, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S8x2048x576, .f32⟩
  | .hbm, ⟨27, _⟩ => ⟨S8x2048x512, .f32⟩
  | .hbm, ⟨28, _⟩ => ⟨S8x2048x512, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x512, .f32⟩
  | .hbm, ⟨40, _⟩ => ⟨S8x2048x512, .f32⟩
  | .hbm, ⟨41, _⟩ => ⟨S1x1x512, .f32⟩
  | .hbm, ⟨42, _⟩ => ⟨S8x2048x512, .f32⟩
  | .hbm, ⟨43, _⟩ => ⟨S8x2048x512, .f32⟩
  | .hbm, ⟨44, _⟩ => ⟨S8x2048x32, .f32⟩
  | .hbm, ⟨45, _⟩ => ⟨S8x2048x32, .f32⟩
  | .hbm, ⟨46, _⟩ => ⟨S_, .f32⟩
  | .hbm, ⟨47, _⟩ => ⟨S8x2048x64, .f32⟩
  | .hbm, ⟨48, _⟩ => ⟨S1x2048x32, .f32⟩
  | .hbm, ⟨49, _⟩ => ⟨S8x2048x32, .f32⟩
  | .hbm, ⟨50, _⟩ => ⟨S8x2048x32, .f32⟩
  | .hbm, ⟨51, _⟩ => ⟨S1x2048x32, .f32⟩
  | .hbm, ⟨52, _⟩ => ⟨S8x2048x32, .f32⟩
  | .hbm, ⟨53, _⟩ => ⟨S8x2048x32, .f32⟩
  | .hbm, ⟨54, _⟩ => ⟨S8x2048x32, .f32⟩
  | .hbm, ⟨55, _⟩ => ⟨S1x2048x32, .f32⟩
  | .hbm, ⟨56, _⟩ => ⟨S8x2048x32, .f32⟩
  | .hbm, ⟨57, _⟩ => ⟨S8x2048x32, .f32⟩
  | .hbm, ⟨58, _⟩ => ⟨S1x2048x32, .f32⟩
  | .hbm, ⟨59, _⟩ => ⟨S8x2048x32, .f32⟩
  | .hbm, ⟨60, _⟩ => ⟨S8x2048x32, .f32⟩
  | .hbm, ⟨61, _⟩ => ⟨S8x2048x32, .f32⟩
  | .hbm, ⟨62, _⟩ => ⟨S8x2048x128, .f32⟩
  | .hbm, ⟨63, _⟩ => ⟨S8x2048x1x128, .f32⟩
  | .hbm, ⟨64, _⟩ => ⟨S8x2048x16x128, .f32⟩
  | .hbm, ⟨65, _⟩ => ⟨S8x2048x4096, .f32⟩
  | .hbm, ⟨66, _⟩ => ⟨S8x2048x16x256, .f32⟩
  | .hbm, ⟨67, _⟩ => ⟨S8x2048x16x128, .f32⟩
  | .hbm, ⟨68, _⟩ => ⟨S8x2048x16x256, .f32⟩
  | .hbm, ⟨69, _⟩ => ⟨S8x2048x16x128, .f32⟩
  | .hbm, ⟨70, _⟩ => ⟨S_, .f32⟩
  | .hbm, ⟨71, _⟩ => ⟨S8x2048x16x128, .f32⟩
  | .hbm, ⟨72, _⟩ => ⟨S8x2048x16x256, .f32⟩
  | .hbm, ⟨73, _⟩ => ⟨S16384x4096, .f32⟩
  | .hbm, ⟨74, _⟩ => ⟨S16384x4096, .bf16⟩
  | .hbm, ⟨75, _⟩ => ⟨S16384x4096, .f32⟩
  | .hbm, ⟨76, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S16384x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![33, 1], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond2 (i : grid0.Coords) : BitVec 1 :=
  let arg0 : BitVec 32 := BitVec.ofNat 32 (i 0).val
  let c32_i32 : BitVec 32 := 32#32
  let v9 : BitVec 1 := Scalar.cmpi .slt arg0 c32_i32
  let c2_i32 : BitVec 32 := 2#32
  let v7 : BitVec 32 := Scalar.remsi arg0 c2_i32
  let c0_i32_2 : BitVec 32 := 0#32
  let v8 : BitVec 1 := Scalar.cmpi .eq v7 c0_i32_2
  let v10 : BitVec 1 := Scalar.andi v9 v8
  let v11 : BitVec 32 := Scalar.extui v10
  let c0_i32_3 : BitVec 32 := 0#32
  let v12 : BitVec 1 := Scalar.cmpi .ne v11 c0_i32_3
  v12

def k0_off1 (i : grid0.Coords) (c0_i32_15 : BitVec 32) : Fin 2 → Nat :=
  let arg1 : BitVec 32 := BitVec.ofNat 32 (i 1).val
  let c512_i32 : BitVec 32 := 512#32
  let v0 : BitVec 32 := Scalar.muli arg1 c512_i32
  let v1 : BitVec 32 := v0
  let v31 : BitVec 32 := Scalar.addi v1 c0_i32_15
  let v32 : Index := Scalar.indexCast v31
  let c0_16 : Index := 0#32
  ![v32.toNat, 0]
def k0_cond3 (i : grid0.Coords) : BitVec 1 :=
  let arg0 : BitVec 32 := BitVec.ofNat 32 (i 0).val
  let c32_i32_4 : BitVec 32 := 32#32
  let v13 : BitVec 1 := Scalar.cmpi .slt arg0 c32_i32_4
  let c2_i32 : BitVec 32 := 2#32
  let v7 : BitVec 32 := Scalar.remsi arg0 c2_i32
  let c0_i32_2 : BitVec 32 := 0#32
  let v8 : BitVec 1 := Scalar.cmpi .eq v7 c0_i32_2
  let v_true : BitVec 1 := 1#1
  let v14 : BitVec 1 := Scalar.xori v8 v_true
  let v15 : BitVec 1 := Scalar.andi v13 v14
  let v16 : BitVec 32 := Scalar.extui v15
  let c0_i32_5 : BitVec 32 := 0#32
  let v17 : BitVec 1 := Scalar.cmpi .ne v16 c0_i32_5
  v17

def k0_off2 (i : grid0.Coords) (c0_i32_15 : BitVec 32) : Fin 2 → Nat :=
  let arg1 : BitVec 32 := BitVec.ofNat 32 (i 1).val
  let c512_i32 : BitVec 32 := 512#32
  let v0 : BitVec 32 := Scalar.muli arg1 c512_i32
  let v1 : BitVec 32 := v0
  let v31 : BitVec 32 := Scalar.addi v1 c0_i32_15
  let v32 : Index := Scalar.indexCast v31
  let c0_16 : Index := 0#32
  ![v32.toNat, 0]
def k0_cond4 (i : grid0.Coords) : BitVec 1 :=
  let arg0 : BitVec 32 := BitVec.ofNat 32 (i 0).val
  let c32_i32_6 : BitVec 32 := 32#32
  let v18 : BitVec 1 := Scalar.cmpi .eq arg0 c32_i32_6
  let v19 : BitVec 32 := Scalar.extui v18
  let c0_i32_7 : BitVec 32 := 0#32
  let v20 : BitVec 1 := Scalar.cmpi .ne v19 c0_i32_7
  v20

def k0_off3 (i : grid0.Coords) (c0_i32_8 : BitVec 32) : Fin 2 → Nat :=
  let arg1 : BitVec 32 := BitVec.ofNat 32 (i 1).val
  let c512_i32 : BitVec 32 := 512#32
  let v0 : BitVec 32 := Scalar.muli arg1 c512_i32
  let v1 : BitVec 32 := v0
  let v21 : BitVec 32 := Scalar.addi v1 c0_i32_8
  let v22 : Index := Scalar.indexCast v21
  let c0 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel4Ideal.lean ====
variable {F : FTy → Type} [FloatOps F] [Named F]
def κ : String → Option EReal := fun
  | "alpha" => some ((Real.sqrt 2 : ℝ) : EReal)
  | _ => none
-- ==== Reference4Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel5.lean ====
abbrev S16384x2048 : Shape := ⟨2, ![16384, 2048]⟩
abbrev S2x2048x8192 : Shape := ⟨3, ![2, 2048, 8192]⟩
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1x2048x1024 : Shape := ⟨3, ![1, 2048, 1024]⟩
abbrev S2x128x2048 : Shape := ⟨3, ![2, 128, 2048]⟩
abbrev S2 : Shape := ⟨1, ![2]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S2048x1024 : Shape := ⟨2, ![2048, 1024]⟩
abbrev S1024x1024 : Shape := ⟨2, ![1024, 1024]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S16384x2048, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S2x128x2048, .f32⟩
  | .local _ .vmem, ⟨11, _⟩ => ⟨S2x128x2048, .f32⟩
  | .local _ .vmem, ⟨12, _⟩ => ⟨S2x128x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg0 : BitVec 32 := BitVec.ofNat 32 (i 0).val
  let c1_i32 : BitVec 32 := 1#32
  let v1 : BitVec 1 := Scalar.cmpi .sge arg0 c1_i32
  let v13 : BitVec 32 := Scalar.extui v1
  let c0_i32_3 : BitVec 32 := 0#32
  let v14 : BitVec 1 := Scalar.cmpi .ne v13 c0_i32_3
  v14

def k0_mult1 (i : grid0.Coords) : BitVec 32 :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  v55
def k0_off1 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off2 (i : grid0.Coords) : Fin 3 → Nat :=
  let arg1 : BitVec 32 := BitVec.ofNat 32 (i 1).val
  let c2_i32 : BitVec 32 := 2#32
  let v0 : BitVec 32 := Scalar.remsi arg1 c2_i32
  let c0_i32_26 : BitVec 32 := 0#32
  let c0_i32_27 : BitVec 32 := 0#32
  ![v0.toNat, 0, 0]
def k0_off3 (i : grid0.Coords) : Fin 2 → Nat :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  let v56 : BitVec 32 := v55
  let c0_i32_28 : BitVec 32 := 0#32
  ![v56.toNat, 0]
def k0_cond3 (i : grid0.Coords) : BitVec 1 :=
  let arg0 : BitVec 32 := BitVec.ofNat 32 (i 0).val
  let c1_i32 : BitVec 32 := 1#32
  let v1 : BitVec 1 := Scalar.cmpi .sge arg0 c1_i32
  let c1_i32_0 : BitVec 32 := 1#32
  let v2 : BitVec 32 := Scalar.subi arg0 c1_i32_0
  let c8_i32 : BitVec 32 := 8#32
  let v3 : BitVec 32 := Scalar.muli v2 c8_i32
  let arg1 : BitVec 32 := BitVec.ofNat 32 (i 1).val
  let v4 : BitVec 32 := Scalar.addi v3 arg1
  let c2_i32_4 : BitVec 32 := 2#32
  let v15 : BitVec 1 := Scalar.cmpi .sge v4 c2_i32_4
  let v16 : BitVec 1 := Scalar.andi v1 v15
  let v17 : BitVec 32 := Scalar.extui v16
  let c0_i32_5 : BitVec 32 := 0#32
  let v18 : BitVec 1 := Scalar.cmpi .ne v17 c0_i32_5
  v18

def k0_mult2 (i : grid0.Coords) : BitVec 32 :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  v55
def k0_off4 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off5 (i : grid0.Coords) : Fin 2 → Nat :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  let v56 : BitVec 32 := v55
  let c0_i32_26 : BitVec 32 := 0#32
  ![v56.toNat, 0]
def k0_off6 (i : grid0.Coords) : Fin 3 → Nat :=
  let arg1 : BitVec 32 := BitVec.ofNat 32 (i 1).val
  let c2_i32 : BitVec 32 := 2#32
  let v0 : BitVec 32 := Scalar.remsi arg1 c2_i32
  let c0_i32_27 : BitVec 32 := 0#32
  let c0_i32_28 : BitVec 32 := 0#32
  ![v0.toNat, 0, 0]
def k0_cond4 (i : grid0.Coords) : BitVec 1 :=
  let arg0 : BitVec 32 := BitVec.ofNat 32 (i 0).val
  let arg1 : BitVec 32 := BitVec.ofNat 32 (i 1).val
  let c7_i32_8 : BitVec 32 := 7#32
  let v21 : BitVec 1 := Scalar.cmpi .eq arg1 c7_i32_8
  let v22 : BitVec 32 := Scalar.extui v21
  let v23 : BitVec 32 := Scalar.addi arg0 v22
  let c1_i32_9 : BitVec 32 := 1#32
  let v24 : BitVec 1 := Scalar.cmpi .sge v23 c1_i32_9
  let c16_i32_10 : BitVec 32 := 16#32
  let v25 : BitVec 1 := Scalar.cmpi .sle v23 c16_i32_10
  let v26 : BitVec 1 := Scalar.andi v24 v25
  let v27 : BitVec 32 := Scalar.extui v26
  let c0_i32_11 : BitVec 32 := 0#32
  let v28 : BitVec 1 := Scalar.cmpi .ne v27 c0_i32_11
  v28

def k0_mult3 (i : grid0.Coords) : BitVec 32 :=
  let arg0 : BitVec 32 := BitVec.ofNat 32 (i 0).val
  let arg1 : BitVec 32 := BitVec.ofNat 32 (i 1).val
  let c7_i32_8 : BitVec 32 := 7#32
  let v21 : BitVec 1 := Scalar.cmpi .eq arg1 c7_i32_8
  let v22 : BitVec 32 := Scalar.extui v21
  let v23 : BitVec 32 := Scalar.addi arg0 v22
  let c1_i32_25 : BitVec 32 := 1#32
  let v52 : BitVec 32 := Scalar.subi v23 c1_i32_25
  let c1024_i32 : BitVec 32 := 1024#32
  let v54 : BitVec 32 := Scalar.muli v52 c1024_i32
  let c1_i32_6 : BitVec 32 := 1#32
  let v19 : BitVec 32 := Scalar.addi arg1 c1_i32_6
  let c8_i32_7 : BitVec 32 := 8#32
  let v20 : BitVec 32 := Scalar.remsi v19 c8_i32_7
  let c128_i32 : BitVec 32 := 128#32
  let v55 : BitVec 32 := Scalar.muli v20 c128_i32
  let v56 : BitVec 32 := Scalar.addi v54 v55
  v56
def k0_off7 (i : grid0.Coords) : Fin 1 → Nat :=
  let c1_i32_26 : BitVec 32 := 1#32
  let arg1 : BitVec 32 := BitVec.ofNat 32 (i 1).val
  let c2_i32 : BitVec 32 := 2#32
  let v0 : BitVec 32 := Scalar.remsi arg1 c2_i32
  let v53 : BitVec 32 := Scalar.subi c1_i32_26 v0
  ![v53.toNat]
def k0_off8 (i : grid0.Coords) : Fin 3 → Nat :=
  let c1_i32_26 : BitVec 32 := 1#32
  let arg1 : BitVec 32 := BitVec.ofNat 32 (i 1).val
  let c2_i32 : BitVec 32 := 2#32
  let v0 : BitVec 32 := Scalar.remsi arg1 c2_i32
  let v53 : BitVec 32 := Scalar.subi c1_i32_26 v0
  let c0_i32_27 : BitVec 32 := 0#32
  let c0_i32_28 : BitVec 32 := 0#32
  ![v53.toNat, 0, 0]
def k0_off9 (i : grid0.Coords) : Fin 2 → Nat :=
  let arg0 : BitVec 32 := BitVec.ofNat 32 (i 0).val
  let arg1 : BitVec 32 := BitVec.ofNat 32 (i 1).val
  let c7_i32_8 : BitVec 32 := 7#32
  let v21 : BitVec 1 := Scalar.cmpi .eq arg1 c7_i32_8
  let v22 : BitVec 32 := Scalar.extui v21
  let v23 : BitVec 32 := Scalar.addi arg0 v22
  let c1_i32_25 : BitVec 32 := 1#32
  let v52 : BitVec 32 := Scalar.subi v23 c1_i32_25
  let c1024_i32 : BitVec 32 := 1024#32
  let v54 : BitVec 32 := Scalar.muli v52 c1024_i32
  let c1_i32_6 : BitVec 32 := 1#32
  let v19 : BitVec 32 := Scalar.addi arg1 c1_i32_6
  let c8_i32_7 : BitVec 32 := 8#32
  let v20 : BitVec 32 := Scalar.remsi v19 c8_i32_7
  let c128_i32 : BitVec 32 := 128#32
  let v55 : BitVec 32 := Scalar.muli v20 c128_i32
  let v56 : BitVec 32 := Scalar.addi v54 v55
  let v57 : BitVec 32 := v56
  let c0_i32_29 : BitVec 32 := 0#32
  ![v57.toNat, 0]
def k0_cond6 (i : grid0.Coords) : BitVec 1 :=
  let arg0 : BitVec 32 := BitVec.ofNat 32 (i 0).val
  let c1_i32_16 : BitVec 32 := 1#32
  let v34 : BitVec 1 := Scalar.cmpi .sge arg0 c1_i32_16
  let c16_i32_17 : BitVec 32 := 16#32
  let v35 : BitVec 1 := Scalar.cmpi .slt arg0 c16_i32_17
  let v36 : BitVec 1 := Scalar.andi v34 v35
  let c2_i32_12 : BitVec 32 := 2#32
  let v29 : BitVec 32 := Scalar.remsi arg0 c2_i32_12
  let c0_i32_13 : BitVec 32 := 0#32
  let v30 : BitVec 1 := Scalar.cmpi .eq v29 c0_i32_13
  let v37 : BitVec 1 := Scalar.andi v36 v30
  let v38 : BitVec 32 := Scalar.extui v37
  let c0_i32_18 : BitVec 32 := 0#32
  let v39 : BitVec 1 := Scalar.cmpi .ne v38 c0_i32_18
  v39

def k0_mult4 (i : grid0.Coords) : BitVec 32 :=
  let arg1 : BitVec 32 := BitVec.ofNat 32 (i 1).val
  let c128_i32 : BitVec 32 := 128#32
  let v70 : BitVec 32 := Scalar.muli arg1 c128_i32
  v70
def k0_off10 (i : grid0.Coords) : Fin 2 → Nat :=
  let arg1 : BitVec 32 := BitVec.ofNat 32 (i 1).val
  let c128_i32 : BitVec 32 := 128#32
  let v70 : BitVec 32 := Scalar.muli arg1 c128_i32
  let v71 : BitVec 32 := v70
  let v72 : Index := Scalar.indexCast v71
  let c0_37 : Index := 0#32
  ![v72.toNat, 0]
def k0_off11 (i : grid0.Coords) : Fin 3 → Nat :=
  let arg1 : BitVec 32 := BitVec.ofNat 32 (i 1).val
  let c2_i32 : BitVec 32 := 2#32
  let v0 : BitVec 32 := Scalar.remsi arg1 c2_i32
  let v74 : Index := Scalar.indexCast v0
  let c0_38 : Index := 0#32
  let c0_39 : Index := 0#32
  ![v74.toNat, 0, 0]
def k0_cond7 (i : grid0.Coords) : BitVec 1 :=
  let arg0 : BitVec 32 := BitVec.ofNat 32 (i 0).val
  let c16_i32_19 : BitVec 32 := 16#32
  let v40 : BitVec 1 := Scalar.cmpi .slt arg0 c16_i32_19
  let c2_i32_12 : BitVec 32 := 2#32
  let v29 : BitVec 32 := Scalar.remsi arg0 c2_i32_12
  let c0_i32_13 : BitVec 32 := 0#32
  let v30 : BitVec 1 := Scalar.cmpi .eq v29 c0_i32_13
  let v_true : BitVec 1 := 1#1
  let v41 : BitVec 1 := Scalar.xori v30 v_true
  let v42 : BitVec 1 := Scalar.andi v40 v41
  let v43 : BitVec 32 := Scalar.extui v42
  let c0_i32_20 : BitVec 32 := 0#32
  let v44 : BitVec 1 := Scalar.cmpi .ne v43 c0_i32_20
  v44

def k0_mult5 (i : grid0.Coords) : BitVec 32 :=
  let arg1 : BitVec 32 := BitVec.ofNat 32 (i 1).val
  let c128_i32 : BitVec 32 := 128#32
  let v70 : BitVec 32 := Scalar.muli arg1 c128_i32
  v70
def k0_off12 (i : grid0.Coords) : Fin 2 → Nat :=
  let arg1 : BitVec 32 := BitVec.ofNat 32 (i 1).val
  let c128_i32 : BitVec 32 := 128#32
  let v70 : BitVec 32 := Scalar.muli arg1 c128_i32
  let v71 : BitVec 32 := v70
  let v72 : Index := Scalar.indexCast v71
  let c0_37 : Index := 0#32
  ![v72.toNat, 0]
def k0_off13 (i : grid0.Coords) : Fin 3 → Nat :=
  let arg1 : BitVec 32 := BitVec.ofNat 32 (i 1).val
  let c2_i32 : BitVec 32 := 2#32
  let v0 : BitVec 32 := Scalar.remsi arg1 c2_i32
  let v74 : Index := Scalar.indexCast v0
  let c0_38 : Index := 0#32
  let c0_39 : Index := 0#32
  ![v74.toNat, 0, 0]
def k0_cond8 (i : grid0.Coords) : BitVec 1 :=
  let arg0 : BitVec 32 := BitVec.ofNat 32 (i 0).val
  let c16_i32_21 : BitVec 32 := 16#32
  let v45 : BitVec 1 := Scalar.cmpi .eq arg0 c16_i32_21
  let v46 : BitVec 32 := Scalar.extui v45
  let c0_i32_22 : BitVec 32 := 0#32
  let v47 : BitVec 1 := Scalar.cmpi .ne v46 c0_i32_22
  v47

def k0_mult6 (i : grid0.Coords) : BitVec 32 :=
  let arg1 : BitVec 32 := BitVec.ofNat 32 (i 1).val
  let c128_i32 : BitVec 32 := 128#32
  let v52 : BitVec 32 := Scalar.muli arg1 c128_i32
  v52
def k0_off14 (i : grid0.Coords) : Fin 2 → Nat :=
  let arg1 : BitVec 32 := BitVec.ofNat 32 (i 1).val
  let c128_i32 : BitVec 32 := 128#32
  let v52 : BitVec 32 := Scalar.muli arg1 c128_i32
  let v53 : BitVec 32 := v52
  let v54 : Index := Scalar.indexCast v53
  let c0 : Index := 0#32
  ![v54.toNat, 0]
def k0_off15 (i : grid0.Coords) : Fin 3 → Nat :=
  let arg1 : BitVec 32 := BitVec.ofNat 32 (i 1).val
  let c2_i32 : BitVec 32 := 2#32
  let v0 : BitVec 32 := Scalar.remsi arg1 c2_i32
  let v56 : Index := Scalar.indexCast v0
  let c0_25 : Index := 0#32
  let c0_26 : Index := 0#32
  ![v56.toNat, 0, 0]
def k0_cond9 (i : grid0.Coords) : BitVec 1 :=
  let arg0 : BitVec 32 := BitVec.ofNat 32 (i 0).val
  let c1_i32 : BitVec 32 := 1#32
  let v1 : BitVec 1 := Scalar.cmpi .sge arg0 c1_i32
  let v48 : BitVec 32 := Scalar.extui v1
  let c0_i32_23 : BitVec 32 := 0#32
  let v49 : BitVec 1 := Scalar.cmpi .ne v48 c0_i32_23
  v49

def k0_mult7 (i : grid0.Coords) : BitVec 32 :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  v55
def k0_off16 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off17 (i : grid0.Coords) : Fin 2 → Nat :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  let v56 : BitVec 32 := v55
  let c0_i32_26 : BitVec 32 := 0#32
  ![v56.toNat, 0]
def k0_off18 (i : grid0.Coords) : Fin 3 → Nat :=
  let arg1 : BitVec 32 := BitVec.ofNat 32 (i 1).val
  let c2_i32 : BitVec 32 := 2#32
  let v0 : BitVec 32 := Scalar.remsi arg1 c2_i32
  let c0_i32_27 : BitVec 32 := 0#32
  let c0_i32_28 : BitVec 32 := 0#32
  ![v0.toNat, 0, 0]
def k0_cond10 (i : grid0.Coords) : BitVec 1 :=
  let arg0 : BitVec 32 := BitVec.ofNat 32 (i 0).val
  let c16_i32 : BitVec 32 := 16#32
  let v5 : BitVec 1 := Scalar.cmpi .eq arg0 c16_i32
  let arg1 : BitVec 32 := BitVec.ofNat 32 (i 1).val
  let c7_i32 : BitVec 32 := 7#32
  let v6 : BitVec 1 := Scalar.cmpi .eq arg1 c7_i32
  let v7 : BitVec 1 := Scalar.andi v5 v6
  let v50 : BitVec 32 := Scalar.extui v7
  let c0_i32_24 : BitVec 32 := 0#32
  let v51 : BitVec 1 := Scalar.cmpi .ne v50 c0_i32_24
  v51

def k0_mult8 (i : grid0.Coords) : BitVec 32 :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  v55
def k0_mult9 (i : grid0.Coords) : BitVec 32 :=
  let arg0 : BitVec 32 := BitVec.ofNat 32 (i 0).val
  let c1_i32_26 : BitVec 32 := 1#32
  let v57 : BitVec 32 := Scalar.subi arg0 c1_i32_26
  let c1024_i32_29 : BitVec 32 := 1024#32
  let v60 : BitVec 32 := Scalar.muli v57 c1024_i32_29
  let arg1 : BitVec 32 := BitVec.ofNat 32 (i 1).val
  let c1_i32_27 : BitVec 32 := 1#32
  let v58 : BitVec 32 := Scalar.subi arg1 c1_i32_27
  let c128_i32_30 : BitVec 32 := 128#32
  let v61 : BitVec 32 := Scalar.muli v58 c128_i32_30
  let v62 : BitVec 32 := Scalar.addi v60 v61
  v62
def k0_off19 (i : grid0.Coords) : Fin 1 → Nat :=
  let arg1 : BitVec 32 := BitVec.ofNat 32 (i 1).val
  let c2_i32 : BitVec 32 := 2#32
  let v0 : BitVec 32 := Scalar.remsi arg1 c2_i32
  ![v0.toNat]
def k0_off20 (i : grid0.Coords) : Fin 2 → Nat :=
  let arg0 : BitVec 32 := BitVec.ofNat 32 (i 0).val
  let c1_i32_25 : BitVec 32 := 1#32
  let v52 : BitVec 32 := Scalar.subi arg0 c1_i32_25
  let c1024_i32 : BitVec 32 := 1024#32
  let v53 : BitVec 32 := Scalar.muli v52 c1024_i32
  let arg1 : BitVec 32 := BitVec.ofNat 32 (i 1).val
  let c128_i32 : BitVec 32 := 128#32
  let v54 : BitVec 32 := Scalar.muli arg1 c128_i32
  let v55 : BitVec 32 := Scalar.addi v53 v54
  let v56 : BitVec 32 := v55
  let c0_i32_31 : BitVec 32 := 0#32
  ![v56.toNat, 0]
def k0_off21 (i : grid0.Coords) : Fin 3 → Nat :=
  let arg1 : BitVec 32 := BitVec.ofNat 32 (i 1).val
  let c2_i32 : BitVec 32 := 2#32
  let v0 : BitVec 32 := Scalar.remsi arg1 c2_i32
  let c0_i32_32 : BitVec 32 := 0#32
  let c0_i32_33 : BitVec 32 := 0#32
  ![v0.toNat, 0, 0]
def k0_off22 (i : grid0.Coords) : Fin 1 → Nat :=
  let c1_i32_28 : BitVec 32 := 1#32
  let arg1 : BitVec 32 := BitVec.ofNat 32 (i 1).val
  let c2_i32 : BitVec 32 := 2#32
  let v0 : BitVec 32 := Scalar.remsi arg1 c2_i32
  let v59 : BitVec 32 := Scalar.subi c1_i32_28 v0
  ![v59.toNat]
def k0_off23 (i : grid0.Coords) : Fin 2 → Nat :=
  let arg0 : BitVec 32 := BitVec.ofNat 32 (i 0).val
  let c1_i32_26 : BitVec 32 := 1#32
  let v57 : BitVec 32 := Scalar.subi arg0 c1_i32_26
  let c1024_i32_29 : BitVec 32 := 1024#32
  let v60 : BitVec 32 := Scalar.muli v57 c1024_i32_29
  let arg1 : BitVec 32 := BitVec.ofNat 32 (i 1).val
  let c1_i32_27 : BitVec 32 := 1#32
  let v58 : BitVec 32 := Scalar.subi arg1 c1_i32_27
  let c128_i32_30 : BitVec 32 := 128#32
  let v61 : BitVec 32 := Scalar.muli v58 c128_i32_30
  let v62 : BitVec 32 := Scalar.addi v60 v61
  let v63 : BitVec 32 := v62
  let c0_i32_37 : BitVec 32 := 0#32
  ![v63.toNat, 0]
def k0_off24 (i : grid0.Coords) : Fin 3 → Nat :=
  let c1_i32_28 : BitVec 32 := 1#32
  let arg1 : BitVec 32 := BitVec.ofNat 32 (i 1).val
  let c2_i32 : BitVec 32 := 2#32
  let v0 : BitVec 32 := Scalar.remsi arg1 c2_i32
  let v59 : BitVec 32 := Scalar.subi c1_i32_28 v0
  let c0_i32_38 : BitVec 32 := 0#32
  let c0_i32_39 : BitVec 32 := 0#32
  ![v59.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c7_i32 : BitVec 32 := 7#32
  let v1 : BitVec 32 := Scalar.select v0 c7_i32 arg1
  let c1_i32 : BitVec 32 := 1#32
  let c0_i32 : BitVec 32 := 0#32
  let c0_i32_0 : BitVec 32 := 0#32
  ![c1_i32.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c7_i32 : BitVec 32 := 7#32
  let v1 : BitVec 32 := Scalar.select v0 c7_i32 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Kernel5Ideal.lean ====
variable {F : FTy → Type} [FloatOps F] [Named F]
def κ : String → Option EReal := fun
  | "alpha" => some ((Real.sqrt 2 : ℝ) : EReal)
  | _ => none
-- ==== Reference5Ideal.lean ====
abbrev S16384x2048 : Shape := ⟨2, ![16384, 2048]⟩
abbrev S2x2048x8192 : Shape := ⟨3, ![2, 2048, 8192]⟩
abbrev S8192x2048 : Shape := ⟨2, ![8192, 2048]⟩
abbrev S2048 : Shape := ⟨1, ![2048]⟩
abbrev S_ : Shape := ⟨0, ![]⟩
abbrev S1x2048x8192 : Shape := ⟨3, ![1, 2048, 8192]⟩
abbrev S2048x8192 : Shape := ⟨2, ![2048, 8192]⟩
abbrev S16384x8192 : Shape := ⟨2, ![16384, 8192]⟩
abbrev S16384 : Shape := ⟨1, ![16384]⟩
abbrev S16384x1 : Shape := ⟨2, ![16384, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S1x2048x8192, .f32⟩
  | .hbm, ⟨11, _⟩ => ⟨S2048x8192, .f32⟩
  | .hbm, ⟨12, _⟩ => ⟨S16384x8192, .f32⟩
  | .hbm, ⟨13, _⟩ => ⟨S_, .f32⟩
  | .hbm, ⟨14, _⟩ => ⟨S16384x8192, .f32⟩
  | .hbm, ⟨15, _⟩ => ⟨S16384x8192, .f32⟩
  | .hbm, ⟨16, _⟩ => ⟨S16384x8192, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Prepared.lean ====
/- The three arrays the kernel call is given, as the host operations before it leave them: one entry at a time. -/
module

public import proofs.«01_k».proof.Proof.Gen.KernelIdeal.Value
public import Idealize.ShloMosaic.Lib.ValueIdx
public import Idealize.ShloMosaic.PureOps.Ideal.Laws

@[expose] public section

noncomputable section

namespace Cert.Prepared

open Idealize.ShloMosaic Idealize.ShloMosaic.ValueIdx Idealize.ShloMosaic.TcCoe Cert.KernelIdeal Cert.KernelIdeal.Gen

variable (m : (ℓ : Loc nD τ sig) → Buf (Elt Ideal) ℓ) (c : Dev nD)

/-- The score factor: one over `sqrt 192 * log 2`. -/
def scale : FVec Ideal S_ .f32 :=
  Host.divf (constant (F := Ideal) S_ .f32 0x3F800000#32) (mulf (Host.sqrt (constant (F := Ideal) S_ .f32 0x43400000#32)) (Host.log (constant (F := Ideal) S_ .f32 0x40000000#32)))

/-- The queries: the part without positions, the part with positions, and a gap of zeros, side by side. -/
def queries (a0 : FVec Ideal S8x2048x16x128 .f32) (a1 : FVec Ideal S8x2048x16x64 .f32) : FVec Ideal S8x2048x16x256 .bf16 :=
  concatenate S8x2048x16x256 3
    [⟨S8x2048x16x128, truncf .bf16 (mulf a0 (broadcastInDim S8x2048x16x128 ![] bcast_S_S8x2048x16x128 scale)) bitsLt_bf16_f32⟩,
      ⟨S8x2048x16x64, truncf .bf16 (mulf a1 (broadcastInDim S8x2048x16x64 ![] bcast_S_S8x2048x16x64 scale)) bitsLt_bf16_f32⟩,
      ⟨S8x2048x16x64, broadcastInDim S8x2048x16x64 ![] bcast_S_S8x2048x16x64 (constant (F := Ideal) S_ .bf16 0x0000#16)⟩]
    concatenates_S8x2048x16x128_S8x2048x16x64_S8x2048x16x64_S8x2048x16x256_d3

/-- The keys, likewise; the part with positions is the same for every head. -/
def keys (a2 : FVec Ideal S8x2048x16x128 .f32) (a3 : FVec Ideal S8x2048x64 .f32) : FVec Ideal S8x2048x16x256 .bf16 :=
  concatenate S8x2048x16x256 3
    [⟨S8x2048x16x128, truncf .bf16 a2 bitsLt_bf16_f32⟩,
      ⟨S8x2048x16x64, truncf .bf16 (broadcastInDim S8x2048x16x64 ![0, 1, 2, 3] bcast_S8x2048x1x64_S8x2048x16x64_0_1_2_3
        (broadcastInDim S8x2048x1x64 ![0, 1, 3] bcast_S8x2048x64_S8x2048x1x64_0_1_3 a3)) bitsLt_bf16_f32⟩,
      ⟨S8x2048x16x64, broadcastInDim S8x2048x16x64 ![] bcast_S_S8x2048x16x64 (constant (F := Ideal) S_ .bf16 0x0000#16)⟩]
    concatenates_S8x2048x16x128_S8x2048x16x64_S8x2048x16x64_S8x2048x16x256_d3

/-- The values, and beside them lanes of ones. -/
def values (a4 : FVec Ideal S8x2048x16x128 .f32) : FVec Ideal S8x2048x16x256 .bf16 :=
  concatenate S8x2048x16x256 3
    [⟨S8x2048x16x128, truncf .bf16 a4 bitsLt_bf16_f32⟩,
      ⟨S8x2048x16x128, broadcastInDim S8x2048x16x128 ![] bcast_S_S8x2048x16x128 (constant (F := Ideal) S_ .bf16 0x3F80#16)⟩]
    concatenates_S8x2048x16x128_S8x2048x16x128_S8x2048x16x256_d3

/-- What an operation of three operands leaves in its result, each operand read at its own name. -/
theorem three_result {x a b y : Ref sig .tc} {Val : EltTy → Type}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem V_queries : V m c main_v20
    = shapeCast S16384x4096 (queries (m (c.tc.loc main_arg0)) (m (c.tc.loc main_arg1))) shapeCasts_S8x2048x16x256_S16384x4096 := by
  unfold_abbrev_sides
  simp (disch := decide) only [↓ StableHlo.readResult, ↓ StableHlo.readPieces, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_keys : V m c main_v21
    = shapeCast S16384x4096 (keys (m (c.tc.loc main_arg2)) (m (c.tc.loc main_arg3))) shapeCasts_S8x2048x16x256_S16384x4096 := by
  unfold_abbrev_sides
  simp (disch := decide) only [↓ StableHlo.readResult, ↓ StableHlo.readPieces, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_values : V m c main_v22
    = shapeCast S16384x4096 (values (m (c.tc.loc main_arg4))) shapeCasts_S8x2048x16x256_S16384x4096 := by
  unfold_abbrev_sides
  simp (disch := decide) only [↓ StableHlo.readResult, ↓ StableHlo.readPieces, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

end Cert.Prepared

end
-- ==== Proof.Entries.lean ====
/- One entry of each array the kernel call is given, in terms of the arguments. -/
module

public import proofs.«01_k».proof.Proof.Prepared

@[expose] public section

noncomputable section

namespace Cert.Prepared

open Idealize.ShloMosaic Idealize.ShloMosaic.ValueIdx Cert.KernelIdeal Cert.KernelIdeal.Gen

/-- The score factor as a real number. -/
def factor : ℝ := 1 / Real.sqrt 192 * (1 / Real.log 2)

theorem ofBits_192 : (Ideal.ofBits .f32 0x43400000#32 : EReal) = ((192 : ℝ) : EReal) := by
  simp [Ideal.ofBits, Ideal.ieee, -EReal.coe_mul]; norm_num
theorem ofBits_2 : (Ideal.ofBits .f32 0x40000000#32 : EReal) = ((2 : ℝ) : EReal) := by
  simp [Ideal.ofBits, Ideal.ieee, -EReal.coe_mul]; norm_num
theorem ofBits_1 : (Ideal.ofBits .f32 0x3F800000#32 : EReal) = ((1 : ℝ) : EReal) := by
  simp [Ideal.ofBits, Ideal.ieee, -EReal.coe_mul]; norm_num
theorem ofBits_one16 : (Ideal.ofBits .bf16 0x3F80#16 : EReal) = 1 := by
  simp [Ideal.ofBits, Ideal.ieee, -EReal.coe_mul]; norm_num
theorem ofBits_zero16 : (Ideal.ofBits .bf16 0x0000#16 : EReal) = 0 := by
  simp [Ideal.ofBits, Ideal.ieee, -EReal.coe_mul]

/-- The factor the host computes is that number. -/
theorem scale_apply (i : S_.Idx) : scale i = (factor : EReal) := by
  show Ideal.div (Ideal.ofBits .f32 0x3F800000#32)
    (Ideal.sqrt (Ideal.ofBits .f32 0x43400000#32) * Ideal.log (Ideal.ofBits .f32 0x40000000#32)) = _
  rw [ofBits_192, ofBits_2, ofBits_1]
  have h2 : (0 : ℝ) < Real.log 2 := Real.log_pos (by norm_num)
  have h1 : (0 : ℝ) < Real.sqrt 192 := Real.sqrt_pos.mpr (by norm_num)
  rw [Ideal.sqrt_coe, Ideal.log_coe, if_neg (by norm_num), if_neg (by norm_num), ← EReal.coe_mul,
    Ideal.div_coe (by positivity), ← EReal.coe_mul]
  congr 1
  unfold factor
  field_simp

variable (a0 : FVec Ideal S8x2048x16x128 .f32) (a1 : FVec Ideal S8x2048x16x64 .f32)
  (a2 : FVec Ideal S8x2048x16x128 .f32) (a3 : FVec Ideal S8x2048x64 .f32) (a4 : FVec Ideal S8x2048x16x128 .f32)
  (b : Fin 8) (q : Fin 2048) (n : Fin 16)

/-! ### Pieces set side by side, read in each of them -/

section Pieces

variable (x : FVec Ideal S8x2048x16x128 .bf16) (y z : FVec Ideal S8x2048x16x64 .bf16) (w : FVec Ideal S8x2048x16x128 .bf16)
  (h3 : Shape.Concatenates [S8x2048x16x128, S8x2048x16x64, S8x2048x16x64] S8x2048x16x256 3)
  (h2 : Shape.Concatenates [S8x2048x16x128, S8x2048x16x128] S8x2048x16x256 3)

theorem three_first (d : Fin 128) :
    concatenate S8x2048x16x256 3 [⟨S8x2048x16x128, x⟩, ⟨S8x2048x16x64, y⟩, ⟨S8x2048x16x64, z⟩] h3 (ix4 b q n ⟨d.val, by omega⟩)
      = x (ix4 b q n d) :=
  concatenate_apply_piece (t := S8x2048x16x256) 3 [⟨S8x2048x16x128, x⟩, ⟨S8x2048x16x64, y⟩, ⟨S8x2048x16x64, z⟩] h3 _ 0 (by simp) S8x2048x16x128 x rfl rfl 0 rfl (ix4 b q n d)
    (fun a ha => match a with | ⟨0, _⟩ => rfl | ⟨1, _⟩ => rfl | ⟨2, _⟩ => rfl | ⟨3, _⟩ => absurd rfl ha) (Nat.zero_add _)

theorem three_second (d : Fin 64) :
    concatenate S8x2048x16x256 3 [⟨S8x2048x16x128, x⟩, ⟨S8x2048x16x64, y⟩, ⟨S8x2048x16x64, z⟩] h3 (ix4 b q n ⟨128 + d.val, by omega⟩)
      = y (ix4 b q n d) :=
  concatenate_apply_piece (t := S8x2048x16x256) 3 [⟨S8x2048x16x128, x⟩, ⟨S8x2048x16x64, y⟩, ⟨S8x2048x16x64, z⟩] h3 _ 1 (by simp) S8x2048x16x64 y rfl rfl 128 rfl (ix4 b q n d)
    (fun a ha => match a with | ⟨0, _⟩ => rfl | ⟨1, _⟩ => rfl | ⟨2, _⟩ => rfl | ⟨3, _⟩ => absurd rfl ha) rfl

theorem three_third (d : Fin 64) :
    concatenate S8x2048x16x256 3 [⟨S8x2048x16x128, x⟩, ⟨S8x2048x16x64, y⟩, ⟨S8x2048x16x64, z⟩] h3 (ix4 b q n ⟨192 + d.val, by omega⟩)
      = z (ix4 b q n d) :=
  concatenate_apply_piece (t := S8x2048x16x256) 3 [⟨S8x2048x16x128, x⟩, ⟨S8x2048x16x64, y⟩, ⟨S8x2048x16x64, z⟩] h3 _ 2 (by simp) S8x2048x16x64 z rfl rfl 192 rfl (ix4 b q n d)
    (fun a ha => match a with | ⟨0, _⟩ => rfl | ⟨1, _⟩ => rfl | ⟨2, _⟩ => rfl | ⟨3, _⟩ => absurd rfl ha) rfl

theorem two_first (d : Fin 128) :
    concatenate S8x2048x16x256 3 [⟨S8x2048x16x128, x⟩, ⟨S8x2048x16x128, w⟩] h2 (ix4 b q n ⟨d.val, by omega⟩)
      = x (ix4 b q n d) :=
  concatenate_apply_piece (t := S8x2048x16x256) 3 [⟨S8x2048x16x128, x⟩, ⟨S8x2048x16x128, w⟩] h2 _ 0 (by simp) S8x2048x16x128 x rfl rfl 0 rfl (ix4 b q n d)
    (fun a ha => match a with | ⟨0, _⟩ => rfl | ⟨1, _⟩ => rfl | ⟨2, _⟩ => rfl | ⟨3, _⟩ => absurd rfl ha) (Nat.zero_add _)

theorem two_second (d : Fin 128) :
    concatenate S8x2048x16x256 3 [⟨S8x2048x16x128, x⟩, ⟨S8x2048x16x128, w⟩] h2 (ix4 b q n ⟨128 + d.val, by omega⟩)
      = w (ix4 b q n d) :=
  concatenate_apply_piece (t := S8x2048x16x256) 3 [⟨S8x2048x16x128, x⟩, ⟨S8x2048x16x128, w⟩] h2 _ 1 (by simp) S8x2048x16x128 w rfl rfl 128 rfl (ix4 b q n d)
    (fun a ha => match a with | ⟨0, _⟩ => rfl | ⟨1, _⟩ => rfl | ⟨2, _⟩ => rfl | ⟨3, _⟩ => absurd rfl ha) rfl

end Pieces

/-! ### The prepared queries, keys and values -/

theorem queries_nope (d : Fin 128) :
    queries a0 a1 (ix4 b q n ⟨d.val, by omega⟩) = a0 (ix4 b q n d) * (factor : EReal) := by
  unfold queries
  rw [three_first]
  show a0 (ix4 b q n d) * broadcastInDim S8x2048x16x128 ![] bcast_S_S8x2048x16x128 scale (ix4 b q n d) = _
  rw [broadcastInDim_apply _ _ _ _ (fun a => a.elim0) (fun a => a.elim0), scale_apply]

theorem queries_rope (d : Fin 64) :
    queries a0 a1 (ix4 b q n ⟨128 + d.val, by omega⟩) = a1 (ix4 b q n d) * (factor : EReal) := by
  unfold queries
  rw [three_second]
  show a1 (ix4 b q n d) * broadcastInDim S8x2048x16x64 ![] bcast_S_S8x2048x16x64 scale (ix4 b q n d) = _
  rw [broadcastInDim_apply _ _ _ _ (fun a => a.elim0) (fun a => a.elim0), scale_apply]

theorem queries_gap (d : Fin 64) : queries a0 a1 (ix4 b q n ⟨192 + d.val, by omega⟩) = 0 := by
  unfold queries
  rw [three_third, broadcastInDim_apply _ _ _ _ (fun a => a.elim0) (fun a => a.elim0)]
  exact ofBits_zero16

theorem keys_nope (d : Fin 128) : keys a2 a3 (ix4 b q n ⟨d.val, by omega⟩) = a2 (ix4 b q n d) := by
  unfold keys
  rw [three_first]
  rfl

theorem keys_rope (d : Fin 64) : keys a2 a3 (ix4 b q n ⟨128 + d.val, by omega⟩) = a3 (ix3 b q d) := by
  unfold keys
  rw [three_second]
  show broadcastInDim S8x2048x16x64 ![0, 1, 2, 3] bcast_S8x2048x1x64_S8x2048x16x64_0_1_2_3
        (broadcastInDim S8x2048x1x64 ![0, 1, 3] bcast_S8x2048x64_S8x2048x1x64_0_1_3 a3) (ix4 b q n d) = _
  rw [broadcastInDim_apply (s := S8x2048x1x64) (t := S8x2048x16x64) _ _ _ _ (ix4 b q 0 d)
      (fun a => match a with | ⟨0, _⟩ => rfl | ⟨1, _⟩ => rfl | ⟨2, _⟩ => rfl | ⟨3, _⟩ => rfl),
    broadcastInDim_apply (s := S8x2048x64) (t := S8x2048x1x64) _ _ _ _ (ix3 b q d)
      (fun a => match a with | ⟨0, _⟩ => rfl | ⟨1, _⟩ => rfl | ⟨2, _⟩ => rfl)]

theorem keys_gap (d : Fin 64) : keys a2 a3 (ix4 b q n ⟨192 + d.val, by omega⟩) = 0 := by
  unfold keys
  rw [three_third, broadcastInDim_apply _ _ _ _ (fun a => a.elim0) (fun a => a.elim0)]
  exact ofBits_zero16

theorem values_val (d : Fin 128) : values a4 (ix4 b q n ⟨d.val, by omega⟩) = a4 (ix4 b q n d) := by
  unfold values
  rw [two_first]
  rfl

theorem values_one (d : Fin 128) : values a4 (ix4 b q n ⟨128 + d.val, by omega⟩) = 1 := by
  unfold values
  rw [two_second, broadcastInDim_apply _ _ _ _ (fun a => a.elim0) (fun a => a.elim0)]
  exact ofBits_one16

/-- The four axes folded into rows and lanes. -/
theorem folded (x : FVec Ideal S8x2048x16x256 .bf16) (d : Fin 256) :
    shapeCast S16384x4096 x shapeCasts_S8x2048x16x256_S16384x4096
      (ix2 ⟨2048 * b.val + q.val, by omega⟩ ⟨256 * n.val + d.val, by omega⟩) = x (ix4 b q n d) := by
  refine shapeCast_apply _ _ _ _ ?_
  rw [Shape.rowMajor_val_four, Shape.rowMajor_val_two]
  show ((b.val * 2048 + q.val) * 16 + n.val) * 256 + d.val = (2048 * b.val + q.val) * 4096 + (256 * n.val + d.val)
  omega

end Cert.Prepared

end
-- ==== Proof.Steps.lean ====
/- The steps of the attention kernel's sweep, on one tile of 256 queries and one tile of 256 keys of one head, as
   functions of the tiles they read. A query tile carries two things from one key tile to the next: the greatest score
   its rows have met, and the weighted sum of the value rows, the weights being two to the power of a score minus that
   greatest score. -/
module

public import proofs.«01_k».proof.Proof.Gen.KernelIdeal.Value
public import Idealize.ShloMosaic.PureOps.Ideal.Laws

@[expose] public section

noncomputable section

namespace Cert.Steps

open Idealize.ShloMosaic Cert.KernelIdeal Cert.KernelIdeal.Gen

/-- A tile as it is loaded: 256 rows of 256 lanes. -/
abbrev Tile := Vec Ideal S256x256 .bf16

/-- The scores of a query tile against a key tile: row of one against row of the other. -/
def score (q k : Tile) : FVec Ideal S256x256 .f32 :=
  matmul dot_S256x256_S256x256_S256x256_1_1_0_0_n_n none (shapeCast S256x256 q shapeCasts_S256x256_S256x256 : FVec Ideal S256x256 .bf16)
    (shapeCast S256x256 k shapeCasts_S256x256_S256x256 : FVec Ideal S256x256 .bf16) (constant S256x256 .f32 0x00000000#32)

/-- The scores of the tile on the diagonal: those the mask hides are −∞. -/
def scoreMasked (mask : IVec S256x256 1) (q k : Tile) : FVec Ideal S256x256 .f32 :=
  select mask (score q k) (broadcast S256x256 (Scalar.ofBits .f32 0xFF800000#32 : Ideal .f32))

/-- The greatest score of each row, as a column. -/
def rowMax (s : FVec Ideal S256x256 .f32) : FVec Ideal S256x1 .f32 :=
  shapeCast S256x1 (multiReduction .maximumf [1] S256 s 0xFF800000#32 reduces_S256x256_S256 (.inl rfl) rfl : FVec Ideal S256 .f32)
    shapeCasts_S256_S256x1

/-- Two to the power of a score minus its row's number, times the value rows, summed over the key tile. -/
def gather (s : FVec Ideal S256x256 .f32) (mx : FVec Ideal S256x1 .f32) (v : Tile) : FVec Ideal S256x256 .f32 :=
  matmul dot_S256x256_S256x256_S256x256_1_0_0_1_n_n none
    (truncf .bf16 (exp2 (subf s (broadcastTo S256x256 mx broadcasts_S256x1_S256x256))) bitsLt_bf16_f32)
    (shapeCast S256x256 v shapeCasts_S256x256_S256x256 : FVec Ideal S256x256 .bf16) (constant S256x256 .f32 0x00000000#32)

/-- What a query tile carries along its sweep. -/
structure Carry where
  /-- The greatest score each row has met. -/
  mx : FVec Ideal S256x1 .f32
  /-- The weighted sum of the value rows met. -/
  acc : FVec Ideal S256x256 .f32

/-- The carry after the tile on the diagonal. -/
def first (mask : IVec S256x256 1) (q k v : Tile) : Carry :=
  ⟨rowMax (scoreMasked mask q k), gather (scoreMasked mask q k) (rowMax (scoreMasked mask q k)) v⟩

/-- The carry after one more key tile: the greatest scores are brought up to date, the old sum is brought to them, and
    the new tile's weighted value rows are added. -/
def next (q : Tile) (c : Carry) (k v : Tile) : Carry :=
  ⟨maximumf c.mx (rowMax (score q k)),
   addf (mulf c.acc (broadcastTo S256x256 (exp2 (subf c.mx (maximumf c.mx (rowMax (score q k))))) broadcasts_S256x1_S256x256))
     (gather (score q k) (maximumf c.mx (rowMax (score q k))) v)⟩

/-- What is stored: the left half of the sum divided by the right half, where the weights alone were summed. -/
def finish (c : Carry) : FVec Ideal S256x128 .bf16 :=
  truncf .bf16 (mulf (extractStridedSlice S256x128 ![0, 0] c.acc slices_S256x256_o0_0_S256x128)
    (divf (broadcast S256x128 (Scalar.ofBits .f32 0x3F800000#32 : Ideal .f32))
      (extractStridedSlice S256x128 ![0, 128] c.acc slices_S256x256_o0_128_S256x128))) bitsLt_bf16_f32

/-- The sweep of query tile `q`: the diagonal tile first, then key tiles 0, 1, …, `n` − 1. -/
def sweep (mask : IVec S256x256 1) (q kd vd : Tile) (k v : ℕ → Tile) : ℕ → Carry
  | 0 => first mask q kd vd
  | n + 1 => next q (sweep mask q kd vd k v n) (k n) (v n)

end Cert.Steps

end
-- ==== Proof.Pieces.lean ====
/- Each of the kernel's sixteen stores holds the finished sweep of its query tile. -/
module

public import proofs.«01_k».proof.Proof.Steps

@[expose] public section

noncomputable section

namespace Cert.Pieces

open Idealize.ShloMosaic Cert.KernelIdeal Cert.KernelIdeal.Gen Cert.Steps

/-- Tile `n` of head `h` lies inside a block of 2048 rows and two heads' lanes. (Both numbers are taken within their
    range, so that a tile is defined at every number.) -/
theorem tile_inb (h n : ℕ) : ∀ a : Fin S2048x512.rank,
    (![256 * (n % 8), 256 * (h % 2)] : Fin S2048x512.rank → ℕ) a + S256x256.size a ≤ S2048x512.size a := by
  intro a
  match a with
  | ⟨0, _⟩ => show 256 * (n % 8) + 256 ≤ 2048; omega
  | ⟨1, _⟩ => show 256 * (h % 2) + 256 ≤ 512; omega

/-- Tile `n` of head `h` of a block: its rows 256·n … 256·n + 255, the head's 256 lanes. -/
def tile (x : Vec Ideal S2048x512 .bf16) (h n : ℕ) : Tile :=
  View.ld x (Rect.unit (s := S2048x512) ![256 * (n % 8), 256 * (h % 2)] S256x256.size (tile_inb h n))

/-- The mask of a diagonal tile, as the kernel computes it. -/
def mask : IVec S256x256 1 := k0_pay7 k0_pay2 k0_pay3 k0_pay4 k0_pay5 k0_pay6

/-- What the store of query tile `n` of head `h` holds. -/
def stored (x0 x1 x2 : Vec Ideal S2048x512 .bf16) (h n : ℕ) : FVec Ideal S256x128 .bf16 :=
  finish (sweep mask (tile x0 h n) (tile x1 h n) (tile x2 h n) (tile x1 h) (tile x2 h) n)

set_option maxRecDepth 20000 in
/-- The body's result, its sixteen stores being finished sweeps. -/
theorem out_eq (x0 x1 x2 : Vec Ideal S2048x512 .bf16) : out0_3 x0 x1 x2 =
    View.canon [⟨r0_31, stored x0 x1 x2 1 1⟩, ⟨r0_30, stored x0 x1 x2 1 2⟩, ⟨r0_29, stored x0 x1 x2 1 3⟩,
      ⟨r0_28, stored x0 x1 x2 1 4⟩, ⟨r0_27, stored x0 x1 x2 1 5⟩, ⟨r0_26, stored x0 x1 x2 1 6⟩,
      ⟨r0_25, stored x0 x1 x2 1 7⟩, ⟨r0_17, stored x0 x1 x2 1 0⟩, ⟨r0_15, stored x0 x1 x2 0 1⟩,
      ⟨r0_14, stored x0 x1 x2 0 2⟩, ⟨r0_13, stored x0 x1 x2 0 3⟩, ⟨r0_12, stored x0 x1 x2 0 4⟩,
      ⟨r0_11, stored x0 x1 x2 0 5⟩, ⟨r0_10, stored x0 x1 x2 0 6⟩, ⟨r0_9, stored x0 x1 x2 0 7⟩,
      ⟨r0_1, stored x0 x1 x2 0 0⟩] := by
  simp only [out0_3, stored, sweep, finish, next, first, gather, rowMax, score, scoreMasked, mask,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238]
  rfl

end Cert.Pieces

end
-- ==== Proof.Mask.lean ====
/- The mask of a diagonal tile: a query sees a key when the key's chunk of 64 positions is not after its own. -/
module

public import proofs.«01_k».proof.Proof.Pieces
public import Idealize.ShloMosaic.Lib.ValueIdx

@[expose] public section

noncomputable section

namespace Cert.Pieces

open Idealize.ShloMosaic Idealize.ShloMosaic.ValueIdx Cert.KernelIdeal Cert.KernelIdeal.Gen

/-- A word divided by 64 and rounded down, as the kernel spells it: the quotient rounded towards zero, less one where the
    signs differ and something is left over. -/
def floorDiv (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
      (IntOp.cmpi .ne (IntOp.remsi .vector x 64#32) 0#32)) (IntOp.subi (IntOp.divsi .vector x 64#32) 1#32) (IntOp.divsi .vector x 64#32)

/-- On the numbers of a tile's rows it is the natural numbers' quotient. -/
theorem floorDiv_ofNat : ∀ p : Fin 256, floorDiv (BitVec.ofNat 32 p.val) = BitVec.ofNat 32 (p.val / 64) := by decide +kernel

/-- Two words below 256 compare as the numbers do. -/
theorem sge_ofNat : ∀ a b : Fin 4, IntOp.cmpi .sge (BitVec.ofNat 32 a.val) (BitVec.ofNat 32 b.val) = 1#1 ↔ b.val ≤ a.val := by
  decide +kernel

/-- The mask compares the two quotients. -/
theorem mask_eq (p c : Fin 256) :
    mask (ix2 p c) = IntOp.cmpi .sge (floorDiv (BitVec.ofNat 32 (0 * 256 + p.val))) (floorDiv (BitVec.ofNat 32 (0 * 256 + c.val))) := rfl

/-- The mask is one where the key's chunk is not after the query's. -/
theorem mask_apply (p c : Fin 256) : mask (ix2 p c) = 1#1 ↔ c.val / 64 ≤ p.val / 64 := by
  rw [mask_eq, Nat.zero_mul, Nat.zero_add, Nat.zero_add, floorDiv_ofNat p, floorDiv_ofNat c]
  exact sge_ofNat ⟨p.val / 64, by omega⟩ ⟨c.val / 64, by omega⟩

end Cert.Pieces

end
-- ==== Proof.Read.lean ====
/- The steps of the sweep, read one entry at a time: a score is a dot product of two rows, a row's greatest score is a
   supremum over the key tile, and a gathered row is a weighted sum of the value rows. -/
module

public import proofs.«01_k».proof.Proof.Steps
public import Idealize.ShloMosaic.Lib.MatmulPlain
public import Idealize.ShloMosaic.Lib.ValueIdx
public import Idealize.ShloMosaic.Lib.ValueLayoutCasts

@[expose] public section

noncomputable section

namespace Cert.Steps

open Idealize.ShloMosaic Idealize.ShloMosaic.ValueIdx Cert.KernelIdeal Cert.KernelIdeal.Gen

/-- The word of minus infinity. -/
theorem ofBits_bot : Ideal.ofBits .f32 0xFF800000#32 = (⊥ : EReal) := by
  simp [Ideal.ofBits, Ideal.ieee]

/-- The word of zero. -/
theorem ofBits_zero : Ideal.ofBits .f32 0x00000000#32 = (0 : EReal) := by
  simp [Ideal.ofBits, Ideal.ieee]

/-- The word of one. -/
theorem ofBits_one : Ideal.ofBits .f32 0x3F800000#32 = (1 : EReal) := by
  simp [Ideal.ofBits, Ideal.ieee, -EReal.coe_mul]; norm_num

/-- A cast of a tile to its own shape changes nothing. -/
theorem cast_tile (x : Tile) : shapeCast S256x256 x shapeCasts_S256x256_S256x256 = x := by
  funext j; exact shapeCast_apply x _ _ _ rfl

/-- A score is the dot product of a query row and a key row. -/
theorem score_apply (q k : Tile) (p c : Fin 256) :
    score q k (ix2 p c) = ∑ d : Fin 256, q (ix2 p d) * k (ix2 c d) := by
  unfold score
  rw [cast_tile, cast_tile]
  refine (Ideal.matmul_transposedRhs_apply (M := 256) (K := 256) (N := 256) (φ₁ := .bf16) (φ₂ := .bf16) none q k _ p c).trans ?_
  rw [constant_apply, ofBits_zero, zero_add]

/-- A masked score: the score where the mask is one, minus infinity elsewhere. -/
theorem scoreMasked_apply (mask : IVec S256x256 1) (q k : Tile) (p c : Fin 256) :
    scoreMasked mask q k (ix2 p c) = if mask (ix2 p c) = 1#1 then score q k (ix2 p c) else ⊥ := by
  unfold scoreMasked
  rw [select_apply, broadcast_apply]
  show Scalar.select _ _ (Ideal.ofBits .f32 0xFF800000#32) = _
  rw [ofBits_bot]
  rfl

/-- A row's greatest score is the supremum of its scores. -/
theorem rowMax_apply (s : FVec Ideal S256x256 .f32) (p : Fin 256) (u : Fin 1) :
    rowMax s (ix2 p u) = Finset.univ.sup fun c : Fin 256 => s (ix2 p c) := by
  unfold rowMax
  refine (shapeCast_a_a1_apply _ _ p u).trans ?_
  refine (Ideal.multiReduction_maximumf_single (a := 1) s _ _ _ _ (ix1 p)).trans ?_
  show Finset.univ.fold max (Ideal.ofBits .f32 0xFF800000#32) _ = _
  rw [ofBits_bot]
  refine Finset.fold_congr fun c _ => congrArg s ?_
  funext a
  match a with
  | ⟨0, _⟩ => rfl
  | ⟨1, _⟩ => rfl

/-- A column spread along the lanes reads the column. -/
theorem column_apply (x : FVec Ideal S256x1 .f32) (p c : Fin 256) :
    broadcastTo S256x256 x broadcasts_S256x1_S256x256 (ix2 p c) = x (ix2 p 0) := by
  refine broadcastTo_apply x _ _ _ fun a => ?_
  match a with
  | ⟨0, _⟩ => rfl
  | ⟨1, _⟩ => rfl

/-- A gathered row is the weighted sum of the value rows. -/
theorem gather_apply (s : FVec Ideal S256x256 .f32) (mx : FVec Ideal S256x1 .f32) (v : Tile) (p c : Fin 256) :
    gather s mx v (ix2 p c) = ∑ k : Fin 256, Ideal.exp2 (s (ix2 p k) - mx (ix2 p 0)) * v (ix2 k c) := by
  unfold gather
  rw [cast_tile]
  refine (Ideal.matmul_plain_apply (M := 256) (K := 256) (N := 256) (φ₁ := .bf16) (φ₂ := .bf16) none _ v _ p c).trans ?_
  rw [constant_apply, ofBits_zero, zero_add]
  refine Finset.sum_congr rfl fun k _ => ?_
  rw [← column_apply mx p k]
  rfl

/-- What the finished sweep stores at a row and a lane of the left half. -/
theorem finish_apply (c : Carry) (p : Fin 256) (j : Fin 128) :
    finish c (ix2 p j) = c.acc (ix2 p ⟨j.val, by omega⟩) * Ideal.div 1 (c.acc (ix2 p ⟨128 + j.val, by omega⟩)) := by
  unfold finish
  show _ * Ideal.div (Ideal.ofBits .f32 0x3F800000#32) _ = _
  rw [ofBits_one]
  rw [extractStridedSlice_apply _ c.acc slices_S256x256_o0_0_S256x128 (ix2 p j) (ix2 p ⟨j.val, by omega⟩)
      (fun a => by match a with | ⟨0, _⟩ => exact (Nat.zero_add _).symm | ⟨1, _⟩ => exact (Nat.zero_add _).symm),
    extractStridedSlice_apply _ c.acc slices_S256x256_o0_128_S256x128 (ix2 p j) (ix2 p ⟨128 + j.val, by omega⟩)
      (fun a => by match a with | ⟨0, _⟩ => exact (Nat.zero_add _).symm | ⟨1, _⟩ => rfl)]

/-- The greatest scores after the diagonal tile. -/
theorem first_mx (mask : IVec S256x256 1) (q k v : Tile) (p : Fin 256) :
    (first mask q k v).mx (ix2 p 0) = rowMax (scoreMasked mask q k) (ix2 p 0) := by
  rw [first]

/-- The weighted sum after the diagonal tile. -/
theorem first_acc (mask : IVec S256x256 1) (q k v : Tile) (p j : Fin 256) :
    (first mask q k v).acc (ix2 p j) = ∑ r : Fin 256,
      Ideal.exp2 (scoreMasked mask q k (ix2 p r) - rowMax (scoreMasked mask q k) (ix2 p 0)) * v (ix2 r j) := by
  rw [first, ← gather_apply]

/-- The greatest scores after one more key tile. -/
theorem next_mx (q k v : Tile) (c : Carry) (p : Fin 256) :
    (next q c k v).mx (ix2 p 0) = max (c.mx (ix2 p 0)) (Finset.univ.sup fun j : Fin 256 => score q k (ix2 p j)) := by
  show max _ (rowMax _ _) = _
  rw [rowMax_apply]

/-- The weighted sum after one more key tile. -/
theorem next_acc (q k v : Tile) (c : Carry) (p j : Fin 256) :
    (next q c k v).acc (ix2 p j) = c.acc (ix2 p j) * Ideal.exp2 (c.mx (ix2 p 0) - (next q c k v).mx (ix2 p 0))
      + ∑ r : Fin 256, Ideal.exp2 (score q k (ix2 p r) - (next q c k v).mx (ix2 p 0)) * v (ix2 r j) := by
  rw [← gather_apply]
  show _ * broadcastTo S256x256 _ broadcasts_S256x1_S256x256 (ix2 p j) + _ = _
  rw [column_apply]
  rfl

end Cert.Steps

end
-- ==== Proof.Online.lean ====
/- The running softmax of one row, over the extended real numbers: a sum of weights two to the power of a score minus the
   greatest score met, brought from one greatest score to the next. -/
module

public import Idealize.ShloMosaic.PureOps.Ideal.Laws

@[expose] public section

noncomputable section

namespace Cert.Online

open Idealize.ShloMosaic

/-- Two to an extended real is not negative. -/
theorem exp2_nonneg (x : EReal) : 0 ≤ Ideal.exp2 x := by
  induction x with
  | bot => simp
  | top => simp
  | coe r => rw [Ideal.exp2_coe]; exact EReal.coe_nonneg.mpr (Real.rpow_nonneg (by norm_num) r)

/-- A score that is not plus infinity, brought from one real greatest score to another: the weights multiply. -/
theorem exp2_shift {x : EReal} (hx : x ≠ ⊤) (a b : ℝ) :
    Ideal.exp2 (x - a) * Ideal.exp2 ((a : EReal) - b) = Ideal.exp2 (x - b) := by
  induction x with
  | bot => simp
  | top => exact absurd rfl hx
  | coe r =>
    rw [← EReal.coe_sub, ← EReal.coe_sub, ← EReal.coe_sub, Ideal.exp2_coe, Ideal.exp2_coe, Ideal.exp2_coe, ← EReal.coe_mul]
    have h := Real.rpow_add (x := 2) (by norm_num) (r - a) (a - b)
    rw [sub_add_sub_cancel] at h
    exact congrArg _ h.symm

/-- A real that is not negative multiplies into a finite sum of extended reals. -/
theorem sum_mul {ι : Type*} (A : Finset ι) (f : ι → EReal) (c : ℝ) (hc : 0 ≤ c) :
    (∑ k ∈ A, f k) * c = ∑ k ∈ A, f k * c := by
  classical
  induction A using Finset.induction_on with
  | empty => simp
  | insert a A ha ih =>
    rw [Finset.sum_insert ha, Finset.sum_insert ha, ← ih,
      EReal.right_distrib_of_nonneg_of_ne_top (EReal.coe_nonneg.mpr hc) (EReal.coe_ne_top c)]

/-- A finite sum of reals, as an extended real. -/
theorem coe_sum {ι : Type*} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

/-- A finite supremum of scores, none plus infinity and one of them real, is real. -/
theorem sup_real {ι : Type*} (A : Finset ι) (s : ι → EReal) (ht : ∀ k, s k ≠ ⊤) {k : ι} (hk : k ∈ A) (hb : s k ≠ ⊥) :
    ∃ r : ℝ, A.sup s = r := by
  have h1 : A.sup s ≠ ⊤ := ne_of_lt ((Finset.sup_lt_iff bot_lt_top).mpr fun k _ => lt_top_iff_ne_top.mpr (ht k))
  have h2 : A.sup s ≠ ⊥ := fun h => hb (le_bot_iff.mp (h ▸ Finset.le_sup hk))
  exact ⟨(A.sup s).toReal, (EReal.coe_toReal h1 h2).symm⟩

/-- The weighted sum over the keys `A` at the greatest score `m`. -/
def weighted {ι : Type*} (A : Finset ι) (s w : ι → EReal) (m : EReal) : EReal := ∑ k ∈ A, Ideal.exp2 (s k - m) * w k

/-- The weighted sum brought from one greatest score to another. -/
theorem weighted_shift {ι : Type*} (A : Finset ι) (s w : ι → EReal) (ht : ∀ k, s k ≠ ⊤) (a b : ℝ) :
    weighted A s w a * Ideal.exp2 ((a : EReal) - b) = weighted A s w b := by
  unfold weighted
  have e : Ideal.exp2 ((a : EReal) - b) = ((Real.rpow 2 (a - b) : ℝ) : EReal) := by rw [← EReal.coe_sub, Ideal.exp2_coe]
  rw [e, sum_mul _ _ (Real.rpow 2 (a - b)) (Real.rpow_nonneg (by norm_num) _), ← e]
  refine Finset.sum_congr rfl fun k _ => ?_
  rw [mul_right_comm, exp2_shift (ht k)]

/-- One more set of keys: the old sum brought to the new greatest score, plus the new keys' sum. -/
theorem weighted_union {ι : Type*} [DecidableEq ι] (A B : Finset ι) (hAB : Disjoint A B) (s w : ι → EReal) (ht : ∀ k, s k ≠ ⊤)
    {k : ι} (hk : k ∈ A) (hb : s k ≠ ⊥) :
    weighted A s w (A.sup s) * Ideal.exp2 (A.sup s - (A ∪ B).sup s) + weighted B s w ((A ∪ B).sup s)
      = weighted (A ∪ B) s w ((A ∪ B).sup s) := by
  obtain ⟨a, ha⟩ := sup_real A s ht hk hb
  obtain ⟨b, hb'⟩ := sup_real (A ∪ B) s ht (Finset.mem_union_left B hk) hb
  rw [ha, hb', weighted_shift A s w ht]
  unfold weighted
  rw [Finset.sum_union hAB]

/-- Scaling every score by a positive real scales the greatest. -/
theorem sup_scale {ι : Type*} (A : Finset ι) (σ : ι → EReal) (c : ℝ) (hc : 0 < c) :
    (A.sup fun k => σ k * c) = A.sup σ * c := by
  have hm : Monotone fun x : EReal => x * c := fun x y h => mul_le_mul_of_nonneg_right h (EReal.coe_nonneg.mpr hc.le)
  exact (Finset.apply_sup_eq_sup_comp_of_linearOrder (s := A) (f := σ) (fun x : EReal => x * c) hm
    (EReal.bot_mul_coe_of_pos hc)).symm

/-- Two to the power of a score scaled by log₂ e is e to the power of the score. -/
theorem exp2_scaled {x : EReal} (hx : x ≠ ⊤) (a : ℝ) :
    Ideal.exp2 (x * ((1 / Real.log 2 : ℝ) : EReal) - (a : EReal) * ((1 / Real.log 2 : ℝ) : EReal)) = Ideal.exp (x - a) := by
  have hl : 0 < Real.log 2 := Real.log_pos (by norm_num)
  induction x with
  | bot => rw [EReal.bot_mul_coe_of_pos (by positivity)]; simp
  | top => exact absurd rfl hx
  | coe r =>
    rw [← EReal.coe_mul, ← EReal.coe_mul, ← EReal.coe_sub, ← EReal.coe_sub, Ideal.exp2_coe, Ideal.exp_coe]
    refine congrArg _ ?_
    show (2 : ℝ) ^ (_ : ℝ) = _
    rw [Real.rpow_def_of_pos (by norm_num)]
    congr 1
    field_simp

/-- **One row of attention.** Over the keys met, the weighted sum of the values divided by the sum of the weights, the
    weights being powers of two of scores scaled by log₂ e, is the softmax of the scores applied to the values, when every
    key not met has score minus infinity. -/
theorem row_eq {ι : Type*} [Fintype ι] (A : Finset ι) (σ S w : ι → EReal) (ht : ∀ k, σ k ≠ ⊤)
    (hS : ∀ k, S k = σ k * ((1 / Real.log 2 : ℝ) : EReal)) (hA : ∀ k, k ∉ A → σ k = ⊥) {k₀ : ι} (hk : k₀ ∈ A) (hb : σ k₀ ≠ ⊥) :
    weighted A S w (A.sup S) * Ideal.div 1 (weighted A S (fun _ => 1) (A.sup S))
      = ∑ k, w k * Ideal.div (Ideal.exp (σ k - Finset.univ.sup σ)) (∑ j, Ideal.exp (σ j - Finset.univ.sup σ)) := by
  classical
  have hl : 0 < Real.log 2 := Real.log_pos (by norm_num)
  obtain ⟨μ, hμ⟩ := sup_real A σ ht hk hb
  have hu : Finset.univ.sup σ = (μ : EReal) := by
    rw [← hμ]
    refine le_antisymm (Finset.sup_le fun k _ => ?_) (Finset.sup_mono (Finset.subset_univ A))
    by_cases h : k ∈ A
    · exact Finset.le_sup h
    · rw [hA k h]; exact bot_le
  have hM : A.sup S = (μ : EReal) * ((1 / Real.log 2 : ℝ) : EReal) := by
    rw [show S = fun k => σ k * ((1 / Real.log 2 : ℝ) : EReal) from funext hS, sup_scale A σ _ (by positivity), hμ]
  have hE : ∀ k, Ideal.exp2 (S k - A.sup S) = Ideal.exp (σ k - μ) := fun k => by rw [hM, hS, exp2_scaled (ht k)]
  -- every weight is a real that is not negative, and the greatest score's is one
  have hr : ∀ k, ∃ r : ℝ, 0 ≤ r ∧ Ideal.exp (σ k - μ) = r ∧ (σ k ≠ ⊥ → 0 < r) := fun k => by
    cases h : σ k with
    | bot => exact ⟨0, le_rfl, by simp, fun h => absurd rfl h⟩
    | top => exact absurd h (ht k)
    | coe r => exact ⟨Real.exp (r - μ), (Real.exp_pos _).le, by rw [← EReal.coe_sub, Ideal.exp_coe], fun _ => Real.exp_pos _⟩
  choose e he0 he hepos using hr
  have hz : ∀ k, k ∉ A → e k = 0 := fun k h => by
    have := he k; rw [hA k h] at this; simpa using this.symm
  have hsum : ∀ B : Finset ι, ∑ k ∈ B, Ideal.exp (σ k - μ) = ((∑ k ∈ B, e k : ℝ) : EReal) := fun B => by
    rw [coe_sum]; exact Finset.sum_congr rfl fun k _ => he k
  have hd : (∑ k, e k) = ∑ k ∈ A, e k := (Finset.sum_subset (Finset.subset_univ A) fun k _ h => hz k h).symm
  have hpos : 0 < ∑ k ∈ A, e k := Finset.sum_pos' (fun k _ => he0 k) ⟨k₀, hk, hepos k₀ hb⟩
  have hdiv : ∀ x : EReal, Ideal.div x ((∑ k ∈ A, e k : ℝ) : EReal) = x * (((∑ k ∈ A, e k)⁻¹ : ℝ) : EReal) := fun x => by
    unfold Ideal.div
    rw [if_neg (by exact_mod_cast hpos.ne'), EReal.coe_inv]
  rw [hu, hsum, hd]
  unfold weighted
  simp only [hE, mul_one]
  rw [hsum, hdiv, one_mul, sum_mul _ _ _ (inv_nonneg.mpr hpos.le)]
  rw [← Finset.sum_subset (Finset.subset_univ A) (fun k _ h => by rw [he k, hz k h, EReal.coe_zero, hdiv, zero_mul, mul_zero])]
  refine Finset.sum_congr rfl fun k _ => ?_
  rw [hdiv, mul_comm (w k), mul_right_comm]

end Cert.Online

end
-- ==== Proof.Sweep.lean ====
/- What the sweep of one query tile carries: after the diagonal tile and the first `n` key tiles, each row holds the greatest
   of the scores met and the weighted sum of the value rows met. -/
module

public import proofs.«01_k».proof.Proof.Mask
public import proofs.«01_k».proof.Proof.Read
public import proofs.«01_k».proof.Proof.Online

@[expose] public section

noncomputable section

namespace Cert.Sweep

open Idealize.ShloMosaic Idealize.ShloMosaic.ValueIdx Cert.KernelIdeal Cert.KernelIdeal.Gen Cert.Steps Cert.Pieces Cert.Online

/-- Row `p` of tile `n` as a row of the block. -/
def row (n : Fin 8) (p : Fin 256) : Fin 2048 := ⟨256 * n.val + p.val, by omega⟩

/-- Lane `c` of head `h` as a lane of the block. -/
def lane (h : Fin 2) (c : Fin 256) : Fin 512 := ⟨256 * h.val + c.val, by omega⟩

/-- An entry of a tile is an entry of the block. -/
theorem tile_apply (x : Vec Ideal S2048x512 .bf16) (h : Fin 2) (n : Fin 8) (p c : Fin 256) :
    tile x h.val n.val (ix2 p c) = x (ix2 (row n p) (lane h c)) := by
  refine congrArg x (funext fun a => Fin.ext ?_)
  match a with
  | ⟨0, _⟩ => show 256 * (n.val % 8) + 1 * p.val = 256 * n.val + p.val; have := n.isLt; omega
  | ⟨1, _⟩ => show 256 * (h.val % 2) + 1 * c.val = 256 * h.val + c.val; have := h.isLt; omega

/-- The score of query row `q` and key row `k` of head `h`. -/
def dot (x0 x1 : Vec Ideal S2048x512 .bf16) (h : Fin 2) (q k : Fin 2048) : EReal :=
  ∑ d : Fin 256, x0 (ix2 q (lane h d)) * x1 (ix2 k (lane h d))

/-- The score a query sees: minus infinity where the key's chunk is after its own. -/
def seen (x0 x1 : Vec Ideal S2048x512 .bf16) (h : Fin 2) (q k : Fin 2048) : EReal :=
  if k.val / 64 ≤ q.val / 64 then dot x0 x1 h q k else ⊥

/-- The keys of tile `n`. -/
def keys (n : Fin 8) : Finset (Fin 2048) := Finset.univ.map ⟨row n, fun a b h => Fin.ext (by
  have := congrArg Fin.val h; simp only [row] at this; omega)⟩

/-- The keys query tile `i` has met after its diagonal tile and the first `n` key tiles. -/
def met (i : Fin 8) (n : ℕ) : Finset (Fin 2048) := Finset.univ.filter fun k => k.val / 256 = i.val ∨ k.val < 256 * n

theorem mem_keys (n : Fin 8) (k : Fin 2048) : k ∈ keys n ↔ k.val / 256 = n.val := by
  unfold keys
  rw [Finset.mem_map]
  constructor
  · rintro ⟨p, -, rfl⟩
    show (256 * n.val + p.val) / 256 = n.val
    omega
  · intro h
    exact ⟨⟨k.val % 256, by omega⟩, Finset.mem_univ _, Fin.ext (by show 256 * n.val + k.val % 256 = k.val; omega)⟩

theorem met_zero (i : Fin 8) : met i 0 = keys i := by
  ext k; simp [met, mem_keys]

theorem met_succ (i : Fin 8) (n : ℕ) (hn : n < i.val) : met i (n + 1) = met i n ∪ keys ⟨n, by omega⟩ := by
  ext k
  rw [Finset.mem_union, mem_keys]
  simp only [met, Finset.mem_filter, Finset.mem_univ, true_and]
  omega

theorem met_disjoint (i : Fin 8) (n : ℕ) (hn : n < i.val) : Disjoint (met i n) (keys ⟨n, by omega⟩) := by
  rw [Finset.disjoint_left]
  intro k h
  rw [mem_keys]
  simp only [met, Finset.mem_filter, Finset.mem_univ, true_and] at h
  show ¬ k.val / 256 = n
  omega

variable (x0 x1 x2 : Vec Ideal S2048x512 .bf16) (h : Fin 2) (i : Fin 8)

/-- What the sweep has done after `n` key tiles: row `p`'s greatest score and, at every lane, its weighted sum. -/
def Holds (c : Carry) (n : ℕ) : Prop := ∀ p : Fin 256,
  c.mx (ix2 p 0) = (met i n).sup (seen x0 x1 h (row i p)) ∧
  ∀ j : Fin 256, c.acc (ix2 p j) = weighted (met i n) (seen x0 x1 h (row i p)) (fun k => x2 (ix2 k (lane h j)))
    ((met i n).sup (seen x0 x1 h (row i p)))

/-- The scores of the diagonal tile, masked, are the scores seen. -/
theorem scoreMasked_tile (p r : Fin 256) :
    scoreMasked mask (tile x0 h.val i.val) (tile x1 h.val i.val) (ix2 p r) = seen x0 x1 h (row i p) (row i r) := by
  rw [scoreMasked_apply]
  unfold seen
  rw [score_apply]
  simp only [tile_apply]
  refine if_congr ((mask_apply p r).trans ?_) rfl rfl
  show _ ↔ (256 * i.val + r.val) / 64 ≤ (256 * i.val + p.val) / 64
  omega

/-- The scores of an earlier key tile are seen, all of them. -/
theorem score_tile (n : ℕ) (hn : n < i.val) (p r : Fin 256) :
    score (tile x0 h.val i.val) (tile x1 h.val n) (ix2 p r) = seen x0 x1 h (row i p) (row ⟨n, by omega⟩ r) := by
  rw [score_apply]
  unfold seen
  rw [if_pos (by show (256 * n + r.val) / 64 ≤ (256 * i.val + p.val) / 64; omega)]
  refine Finset.sum_congr rfl fun d _ => ?_
  rw [tile_apply, tile_apply x1 h ⟨n, by omega⟩]

/-- The carry after the diagonal tile. -/
theorem holds_first : Holds x0 x1 x2 h i (first mask (tile x0 h.val i.val) (tile x1 h.val i.val) (tile x2 h.val i.val)) 0 := by
  intro p
  have hm : rowMax (scoreMasked mask (tile x0 h.val i.val) (tile x1 h.val i.val)) (ix2 p 0)
      = (met i 0).sup (seen x0 x1 h (row i p)) := by
    rw [rowMax_apply, met_zero, keys, Finset.sup_map]
    refine Finset.sup_congr rfl fun r _ => ?_
    rw [scoreMasked_tile, Function.comp_apply]
    rfl
  refine ⟨(first_mx _ _ _ _ p).trans hm, fun j => ?_⟩
  rw [first_acc, hm]
  generalize (met i 0).sup (seen x0 x1 h (row i p)) = mx
  rw [met_zero, weighted, keys, Finset.sum_map]
  refine Finset.sum_congr rfl fun r _ => ?_
  rw [scoreMasked_tile, tile_apply]
  rfl

/-- One more key tile, when no score is plus infinity and a key on the diagonal has a real score. -/
theorem holds_next (n : ℕ) (hn : n < i.val) (ht : ∀ q k, seen x0 x1 h q k ≠ ⊤) (hb : ∀ q, seen x0 x1 h q q ≠ ⊥) (c : Carry)
    (hc : Holds x0 x1 x2 h i c n) :
    Holds x0 x1 x2 h i (next (tile x0 h.val i.val) c (tile x1 h.val n) (tile x2 h.val n)) (n + 1) := by
  intro p
  obtain ⟨h1, h2⟩ := hc p
  have hm : (next (tile x0 h.val i.val) c (tile x1 h.val n) (tile x2 h.val n)).mx (ix2 p 0)
      = (met i n ∪ keys ⟨n, by omega⟩).sup (seen x0 x1 h (row i p)) := by
    rw [next_mx, h1, Finset.sup_union, keys, Finset.sup_map]
    exact congrArg₂ max rfl (Finset.sup_congr rfl fun r _ => score_tile x0 x1 h i n hn p r)
  rw [met_succ i n hn]
  refine ⟨hm, fun j => ?_⟩
  rw [next_acc, hm, h1, h2]
  have hd : row i p ∈ met i n := by
    simp only [met, Finset.mem_filter, Finset.mem_univ, true_and]
    left; show (256 * i.val + p.val) / 256 = i.val; omega
  rw [← weighted_union (met i n) (keys ⟨n, by omega⟩) (met_disjoint i n hn) _ _ (ht (row i p)) hd (hb (row i p))]
  refine congrArg₂ (· + ·) rfl ?_
  generalize (met i n ∪ keys ⟨n, by omega⟩).sup (seen x0 x1 h (row i p)) = mx
  rw [weighted, keys, Finset.sum_map]
  refine Finset.sum_congr rfl fun r _ => ?_
  rw [score_tile x0 x1 h i n hn, tile_apply x2 h ⟨n, by omega⟩]
  rfl

/-- The whole sweep. -/
theorem holds_sweep (ht : ∀ q k, seen x0 x1 h q k ≠ ⊤) (hb : ∀ q, seen x0 x1 h q q ≠ ⊥) : ∀ n : ℕ, n ≤ i.val →
    Holds x0 x1 x2 h i (sweep mask (tile x0 h.val i.val) (tile x1 h.val i.val) (tile x2 h.val i.val) (tile x1 h.val) (tile x2 h.val) n) n
  | 0, _ => holds_first x0 x1 x2 h i
  | n + 1, hn => holds_next x0 x1 x2 h i n (by omega) ht hb _ (holds_sweep ht hb n (by omega))

/-- **One store.** At row `p` and lane `j` of query tile `i` it holds the weighted sum of the values divided by the sum
    at the lane 128 further on, over the keys of the tiles up to its own. -/
theorem stored_apply (ht : ∀ q k, seen x0 x1 h q k ≠ ⊤) (hb : ∀ q, seen x0 x1 h q q ≠ ⊥) (p : Fin 256) (j : Fin 128) :
    stored x0 x1 x2 h.val i.val (ix2 p j) =
      weighted (met i i.val) (seen x0 x1 h (row i p)) (fun k => x2 (ix2 k (lane h ⟨j.val, by omega⟩)))
          ((met i i.val).sup (seen x0 x1 h (row i p)))
        * Ideal.div 1 (weighted (met i i.val) (seen x0 x1 h (row i p)) (fun k => x2 (ix2 k (lane h ⟨128 + j.val, by omega⟩)))
          ((met i i.val).sup (seen x0 x1 h (row i p)))) := by
  obtain ⟨-, h2⟩ := holds_sweep x0 x1 x2 h i ht hb i.val le_rfl p
  unfold stored
  rw [finish_apply, h2, h2]

end Cert.Sweep

end
-- ==== Proof.Block.lean ====
/- What one grid point's body leaves in its output block, as one function of the block's row and lane. -/
module

public import proofs.«01_k».proof.Proof.Sweep

@[expose] public section

noncomputable section

namespace Cert.Block

open Idealize.ShloMosaic Idealize.ShloMosaic.ValueIdx Cert.KernelIdeal Cert.KernelIdeal.Gen Cert.Steps Cert.Pieces Cert.Online Cert.Sweep

/-- The keys in the tiles up to the one query row `q` lies in. -/
def upTo (q : Fin 2048) : Finset (Fin 2048) := Finset.univ.filter fun k => k.val / 256 ≤ q.val / 256

/-- What query row `q` of head `h` gets at lane `j`. -/
def attended (x0 x1 x2 : Vec Ideal S2048x512 .bf16) (h : Fin 2) (q : Fin 2048) (j : Fin 128) : EReal :=
  weighted (upTo q) (seen x0 x1 h q) (fun k => x2 (ix2 k (lane h ⟨j.val, by omega⟩))) ((upTo q).sup (seen x0 x1 h q))
    * Ideal.div 1 (weighted (upTo q) (seen x0 x1 h q) (fun k => x2 (ix2 k (lane h ⟨128 + j.val, by omega⟩)))
        ((upTo q).sup (seen x0 x1 h q)))

/-- The output block: lanes 0 … 127 are the first head's, lanes 128 … 255 the second's. -/
def result (x0 x1 x2 : Vec Ideal S2048x512 .bf16) (y : S2048x256.Idx) : EReal :=
  attended x0 x1 x2 ⟨(y 1).val / 128, by have := idx2_lt1 y; omega⟩ (y 0) ⟨(y 1).val % 128, by omega⟩

variable (x0 x1 x2 : Vec Ideal S2048x512 .bf16)

theorem met_eq (i : Fin 8) (p : Fin 256) : met i i.val = upTo (row i p) := by
  ext k
  simp only [met, upTo, Finset.mem_filter, Finset.mem_univ, true_and]
  show _ ↔ k.val / 256 ≤ (256 * i.val + p.val) / 256
  omega

/-- The rows and lanes a store covers lie inside the output block. -/
theorem piece_inb (h : Fin 2) (i : Fin 8) : ∀ a : Fin S2048x256.rank,
    (![256 * i.val, 128 * h.val] : Fin S2048x256.rank → ℕ) a + S256x128.size a ≤ S2048x256.size a := by
  intro a
  match a with
  | ⟨0, _⟩ => show 256 * i.val + 256 ≤ 2048; omega
  | ⟨1, _⟩ => show 128 * h.val + 128 ≤ 256; omega

/-- The store of query tile `i` of head `h` is the part of the result it covers. -/
theorem piece (ht : ∀ h q k, seen x0 x1 h q k ≠ ⊤) (hb : ∀ h q, seen x0 x1 h q q ≠ ⊥) (h : Fin 2) (i : Fin 8)
    (x : S256x128.Idx) :
    stored x0 x1 x2 h.val i.val x
      = result x0 x1 x2 ((Rect.unit (s := S2048x256) ![256 * i.val, 128 * h.val] S256x128.size (piece_inb h i)).emb x) := by
  obtain ⟨p, j, rfl⟩ : ∃ (p : Fin 256) (j : Fin 128), x = ix2 p j := ⟨x 0, x 1, eq_ix2 x⟩
  have e0 : (Rect.unit (s := S2048x256) ![256 * i.val, 128 * h.val] S256x128.size (piece_inb h i)).emb (ix2 p j)
      = ix2 (n0 := 2048) (n1 := 256) (row i p) ⟨128 * h.val + j.val, by omega⟩ := by
    funext a
    apply Fin.ext
    match a with
    | ⟨0, _⟩ => show 256 * i.val + 1 * p.val = 256 * i.val + p.val; omega
    | ⟨1, _⟩ => show 128 * h.val + 1 * j.val = 128 * h.val + j.val; omega
  rw [e0, stored_apply x0 x1 x2 h i (ht h) (hb h) p j, met_eq i p]
  have eh : (⟨(128 * h.val + j.val) / 128, by omega⟩ : Fin 2) = h := Fin.ext (by show (128 * h.val + j.val) / 128 = h.val; omega)
  have ej : (⟨(128 * h.val + j.val) % 128, by omega⟩ : Fin 128) = j := Fin.ext (by show (128 * h.val + j.val) % 128 = j.val; omega)
  show _ = attended x0 x1 x2 ⟨(128 * h.val + j.val) / 128, _⟩ (row i p) ⟨(128 * h.val + j.val) % 128, _⟩
  rw [eh, ej]
  rfl

/-- **The body's result** is the attention of its two heads, when no score is plus infinity and every diagonal score is
    real. -/
theorem out_apply (ht : ∀ h q k, seen x0 x1 h q k ≠ ⊤) (hb : ∀ h q, seen x0 x1 h q q ≠ ⊥) (y : S2048x256.Idx) :
    out0_3 x0 x1 x2 y = result x0 x1 x2 y := by
  rw [out_eq]
  refine View.canon_apply_of_pieces (Val := Elt Ideal) (S := S2048x256) (e := .bf16) (result x0 x1 x2) _ ?_ y
    (cover0_3 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact piece x0 x1 x2 ht hb 1 1 x
  · exact piece x0 x1 x2 ht hb 1 2 x
  · exact piece x0 x1 x2 ht hb 1 3 x
  · exact piece x0 x1 x2 ht hb 1 4 x
  · exact piece x0 x1 x2 ht hb 1 5 x
  · exact piece x0 x1 x2 ht hb 1 6 x
  · exact piece x0 x1 x2 ht hb 1 7 x
  · exact piece x0 x1 x2 ht hb 1 0 x
  · exact piece x0 x1 x2 ht hb 0 1 x
  · exact piece x0 x1 x2 ht hb 0 2 x
  · exact piece x0 x1 x2 ht hb 0 3 x
  · exact piece x0 x1 x2 ht hb 0 4 x
  · exact piece x0 x1 x2 ht hb 0 5 x
  · exact piece x0 x1 x2 ht hb 0 6 x
  · exact piece x0 x1 x2 ht hb 0 7 x
  · exact piece x0 x1 x2 ht hb 0 0 x

end Cert.Block

end
-- ==== Proof.Blocks.lean ====
/- The blocks of one grid point: point `(b, p)` reads the rows of batch entry `b` and the lanes of heads `2 p` and `2 p + 1`. -/
module

public import proofs.«01_k».proof.Proof.Entries
public import proofs.«01_k».proof.Proof.Block

@[expose] public section

noncomputable section

namespace Cert.Prepared

open Idealize.ShloMosaic Idealize.ShloMosaic.ValueIdx Idealize.ShloMosaic.TcCoe Cert.KernelIdeal Cert.KernelIdeal.Gen Cert.Sweep

variable (m : (ℓ : Loc nD τ sig) → Buf (Elt Ideal) ℓ) (c : Dev nD)

/-- The batch entry of a grid point. -/
def batch (t : Fin cfg0.N) : Fin 8 := ⟨t.val / 8, by have : t.val < 64 := t.isLt; omega⟩

/-- Head `h` of a grid point's pair, among all heads. -/
def head (t : Fin cfg0.N) (h : Fin 2) : Fin 16 := ⟨2 * (t.val % 8) + h.val, by omega⟩

theorem index_0 : ∀ t : Fin grid0.N, win0_0.index t = ![t.val / 8, t.val % 8] := by decide +kernel
theorem index_1 : ∀ t : Fin grid0.N, win0_1.index t = ![t.val / 8, t.val % 8] := by decide +kernel
theorem index_2 : ∀ t : Fin grid0.N, win0_2.index t = ![t.val / 8, t.val % 8] := by decide +kernel
theorem index_3 : ∀ t : Fin grid0.N, win0_3.index t = ![t.val / 8, t.val % 8] := by decide +kernel

theorem block_queries (t : Fin cfg0.N) (h : Fin 2) (q : Fin 2048) (d : Fin 256) :
    iblk m c 0 t (ix2 q (lane h d)) = queries (m (c.tc.loc main_arg0)) (m (c.tc.loc main_arg1)) (ix4 (batch t) q (head t h) d) := by
  refine Eq.trans ?_ (folded (batch t) q (head t h) _ d)
  refine (congrFun (V_queries m c) _).trans (congrArg _ (funext fun a => Fin.ext ?_))
  match a with
  | ⟨0, _⟩ =>
    show win0_0.index t 0 * 2048 + 1 * q.val = 2048 * (t.val / 8) + q.val
    rw [index_0]; show t.val / 8 * 2048 + 1 * q.val = _; omega
  | ⟨1, _⟩ =>
    show win0_0.index t 1 * 512 + 1 * (256 * h.val + d.val) = 256 * (2 * (t.val % 8) + h.val) + d.val
    rw [index_0]; show t.val % 8 * 512 + 1 * (256 * h.val + d.val) = _; omega

theorem block_keys (t : Fin cfg0.N) (h : Fin 2) (q : Fin 2048) (d : Fin 256) :
    iblk m c 1 t (ix2 q (lane h d)) = keys (m (c.tc.loc main_arg2)) (m (c.tc.loc main_arg3)) (ix4 (batch t) q (head t h) d) := by
  refine Eq.trans ?_ (folded (batch t) q (head t h) _ d)
  refine (congrFun (V_keys m c) _).trans (congrArg _ (funext fun a => Fin.ext ?_))
  match a with
  | ⟨0, _⟩ =>
    show win0_1.index t 0 * 2048 + 1 * q.val = 2048 * (t.val / 8) + q.val
    rw [index_1]; show t.val / 8 * 2048 + 1 * q.val = _; omega
  | ⟨1, _⟩ =>
    show win0_1.index t 1 * 512 + 1 * (256 * h.val + d.val) = 256 * (2 * (t.val % 8) + h.val) + d.val
    rw [index_1]; show t.val % 8 * 512 + 1 * (256 * h.val + d.val) = _; omega

theorem block_values (t : Fin cfg0.N) (h : Fin 2) (q : Fin 2048) (d : Fin 256) :
    iblk m c 2 t (ix2 q (lane h d)) = values (m (c.tc.loc main_arg4)) (ix4 (batch t) q (head t h) d) := by
  refine Eq.trans ?_ (folded (batch t) q (head t h) _ d)
  refine (congrFun (V_values m c) _).trans (congrArg _ (funext fun a => Fin.ext ?_))
  match a with
  | ⟨0, _⟩ =>
    show win0_2.index t 0 * 2048 + 1 * q.val = 2048 * (t.val / 8) + q.val
    rw [index_2]; show t.val / 8 * 2048 + 1 * q.val = _; omega
  | ⟨1, _⟩ =>
    show win0_2.index t 1 * 512 + 1 * (256 * h.val + d.val) = 256 * (2 * (t.val % 8) + h.val) + d.val
    rw [index_2]; show t.val % 8 * 512 + 1 * (256 * h.val + d.val) = _; omega

end Cert.Prepared

end
-- ==== Proof.RefMask.lean ====
/- Which keys the reference lets a query attend to: those whose chunk of 64 positions is not after its own. -/
module

public import proofs.«01_k».proof.Proof.Gen.ReferenceIdeal.Read
public import Idealize.ShloMosaic.Lib.ValueIdx
public import Idealize.ShloMosaic.PureOps.Ideal.Laws

@[expose] public section

noncomputable section

namespace Cert.Reference

open Idealize.ShloMosaic Idealize.ShloMosaic.ValueIdx Cert.ReferenceIdeal Cert.ReferenceIdeal.Gen Cert.ReferenceIdeal.Read

/-- The sign of a word. -/
def sign (x : BitVec 32) : BitVec 32 := if x = 0 then 0 else if x.msb then -1 else 1

/-- A word divided by 64 and rounded down: the quotient rounded towards zero, less one where the signs differ and something
    is left over. -/
def chunk (x : BitVec 32) : BitVec 32 :=
  Scalar.select (IntOp.andi (IntOp.cmpi .ne (sign x) (sign 64#32)) (IntOp.cmpi .ne (IntOp.remsi .host x 64#32) 0#32))
    (IntOp.subi (IntOp.divsi .host x 64#32) 1#32) (IntOp.divsi .host x 64#32)

/-- On the positions it is the natural numbers' quotient. -/
theorem chunk_ofNat : ∀ p : Fin 2048, chunk (BitVec.ofNat 32 p.val) = BitVec.ofNat 32 (p.val / 64) := by decide +kernel

/-- Two chunk numbers compare as the numbers do. -/
theorem sge_ofNat : ∀ a b : Fin 32, IntOp.cmpi .sge (BitVec.ofNat 32 a.val) (BitVec.ofNat 32 b.val) = 1#1 ↔ b.val ≤ a.val := by
  decide +kernel

/-- A position's chunk. -/
theorem val_main_v3_at (p : Fin 2048) : val_main_v3 (F := Ideal) (ix1 p) = BitVec.ofNat 32 (p.val / 64) := by
  rw [← chunk_ofNat]
  simp only [val_main_v3_apply, val_main_call0_v11_apply, val_main_call0_v6_apply, val_main_call0_v5_apply, val_main_call0_v10_apply,
    val_main_call0_v8_apply, val_main_call0_v7_apply, val_main_call0_v9_apply, val_main_call0_c_apply, val_main_call0_v13_apply,
    val_main_call0_v2_apply, val_main_call0_v1_apply, val_main_call0_v12_apply, val_main_call0_c_0_apply, val_main_call0_v0_apply,
    val_main_c_apply, val_main_v2_apply]
  rfl

/-- The comparison of the query's chunk with the key's. -/
theorem val_main_v14_at (q k : Fin 2048) : val_main_v14 (F := Ideal) (ix2 q k) = 1#1 ↔ k.val / 64 ≤ q.val / 64 := by
  have e1 : val_main_v12 (F := Ideal) (ix2 q k) = BitVec.ofNat 32 (q.val / 64) := by
    rw [val_main_v12_apply, val_main_v10_apply, ← val_main_v3_at]
    exact congrArg _ (funext fun a => match a with | ⟨0, _⟩ => rfl)
  have e2 : val_main_v13 (F := Ideal) (ix2 q k) = BitVec.ofNat 32 (k.val / 64) := by
    rw [val_main_v13_apply, val_main_v11_apply, ← val_main_v3_at]
    exact congrArg _ (funext fun a => match a with | ⟨0, _⟩ => rfl)
  rw [val_main_v14_apply, e1, e2]
  exact sge_ofNat ⟨q.val / 64, by omega⟩ ⟨k.val / 64, by omega⟩

end Cert.Reference

end
-- ==== Proof.Reference.lean ====
/- What the reference computes, one entry at a time: the softmax of the masked scores, applied to the values. -/
module

public import proofs.«01_k».proof.Proof.RefMask

@[expose] public section

noncomputable section

namespace Cert.Reference

open Idealize.ShloMosaic Idealize.ShloMosaic.ValueIdx Cert.ReferenceIdeal Cert.ReferenceIdeal.Gen Cert.ReferenceIdeal.Read

variable (x0 : FVec Ideal S8x2048x16x128 .f32) (x1 : FVec Ideal S8x2048x16x64 .f32)
  (x2 : FVec Ideal S8x2048x16x128 .f32) (x3 : FVec Ideal S8x2048x64 .f32) (x4 : FVec Ideal S8x2048x16x128 .f32)

/-- The scaled score of query `q` and key `k` of head `n` in batch entry `b`. -/
def logit (b : Fin 8) (n : Fin 16) (q k : Fin 2048) : EReal :=
  ((∑ d : Fin 128, x0 (ix4 b q n d) * x2 (ix4 b k n d)) + ∑ d : Fin 64, x3 (ix3 b k d) * x1 (ix4 b q n d))
    * ((1 / Real.sqrt 192 : ℝ) : EReal)

/-- The masked score. -/
def masked (b : Fin 8) (n : Fin 16) (q k : Fin 2048) : EReal :=
  if k.val / 64 ≤ q.val / 64 then logit x0 x1 x2 x3 b n q k else ⊥

/-- What query `q` of head `n` gets at lane `j`: the values weighted by the softmax of the masked scores. -/
def attention (b : Fin 8) (q : Fin 2048) (n : Fin 16) (j : Fin 128) : EReal :=
  ∑ k : Fin 2048, x4 (ix4 b k n j) *
    Ideal.div (Ideal.exp (masked x0 x1 x2 x3 b n q k - Finset.univ.sup (masked x0 x1 x2 x3 b n q)))
      (∑ k' : Fin 2048, Ideal.exp (masked x0 x1 x2 x3 b n q k' - Finset.univ.sup (masked x0 x1 x2 x3 b n q)))

theorem ofBits_192 : (Ideal.ofBits .f32 0x43400000#32 : EReal) = ((192 : ℝ) : EReal) := by
  simp [Ideal.ofBits, Ideal.ieee, -EReal.coe_mul]; norm_num
theorem ofBits_1 : (Ideal.ofBits .f32 0x3F800000#32 : EReal) = ((1 : ℝ) : EReal) := by
  simp [Ideal.ofBits, Ideal.ieee, -EReal.coe_mul]; norm_num
theorem ofBits_0 : (Ideal.ofBits .f32 0x00000000#32 : EReal) = 0 := by
  simp [Ideal.ofBits, Ideal.ieee, -EReal.coe_mul]
theorem ofBits_bot : (Ideal.ofBits .f32 0xFF800000#32 : EReal) = ⊥ := by
  simp [Ideal.ofBits, Ideal.ieee, -EReal.coe_mul]

/-- The score factor is one over the square root of the 192 lanes a score sums over. -/
theorem val_main_v1_at (i : S_.Idx) : val_main_v1 (F := Ideal) i = ((1 / Real.sqrt 192 : ℝ) : EReal) := by
  show Ideal.div (Ideal.ofBits .f32 0x3F800000#32) (Ideal.sqrt (Ideal.ofBits .f32 0x43400000#32)) = _
  have h1 : (0 : ℝ) < Real.sqrt 192 := Real.sqrt_pos.mpr (by norm_num)
  rw [ofBits_192, ofBits_1, Ideal.sqrt_coe, if_neg (by norm_num), Ideal.div_coe (ne_of_gt h1), ← EReal.coe_mul, one_mul]

/-- The masked scores. -/
theorem val_main_v15_at (b : Fin 8) (n : Fin 16) (q k : Fin 2048) :
    val_main_v15 (F := Ideal) x0 x1 x2 x3 (ix4 b n q k) = masked x0 x1 x2 x3 b n q k := by
  have e1 : val_main_v9 (F := Ideal) x0 x1 x2 x3 (ix4 b n q k) = logit x0 x1 x2 x3 b n q k := by
    have ea : val_main_v4 (F := Ideal) x0 x2 (ix4 b n q k) = ∑ d : Fin 128, x0 (ix4 b q n d) * x2 (ix4 b k n d) := by
      rw [val_main_v4_apply]
      refine Finset.sum_congr rfl fun d _ => congrArg₂ (· * ·) (congrArg x0 ?_) (congrArg x2 ?_) <;>
        exact funext fun a => match a with | ⟨0, _⟩ => rfl | ⟨1, _⟩ => rfl | ⟨2, _⟩ => rfl | ⟨3, _⟩ => rfl
    have eb : val_main_v6 (F := Ideal) x1 x3 (ix4 b n q k) = ∑ d : Fin 64, x3 (ix3 b k d) * x1 (ix4 b q n d) := by
      rw [val_main_v6_apply, val_main_v5_apply]
      refine Finset.sum_congr rfl fun d _ => congrArg₂ (· * ·) (congrArg x3 ?_) (congrArg x1 ?_)
      · exact funext fun a => match a with | ⟨0, _⟩ => rfl | ⟨1, _⟩ => rfl | ⟨2, _⟩ => rfl
      · exact funext fun a => match a with | ⟨0, _⟩ => rfl | ⟨1, _⟩ => rfl | ⟨2, _⟩ => rfl | ⟨3, _⟩ => rfl
    rw [val_main_v9_apply, val_main_v7_apply, ea, eb, val_main_v8_apply, val_main_v1_at]
    rfl
  have e2 : val_main_call1_v1 (F := Ideal) (ix4 b n q k) = val_main_v14 (F := Ideal) (ix2 q k) := by
    rw [val_main_call1_v1_apply]
    exact congrArg _ (funext fun a => match a with | ⟨0, _⟩ => rfl | ⟨1, _⟩ => rfl)
  rw [val_main_v15_apply, e1, e2, val_main_call1_v2_apply, val_main_call1_v0_apply, val_main_cst_1_apply]
  unfold masked
  show (if val_main_v14 (F := Ideal) (ix2 q k) = 1#1 then logit x0 x1 x2 x3 b n q k else Ideal.ofBits .f32 0xFF800000#32) = _
  rw [ofBits_bot]
  exact if_congr (val_main_v14_at q k) rfl rfl

/-- A row's greatest masked score. -/
theorem val_main_v18_at (b : Fin 8) (n : Fin 16) (q : Fin 2048) :
    val_main_v18 (F := Ideal) x0 x1 x2 x3 (ix3 b n q) = Finset.univ.sup (masked x0 x1 x2 x3 b n q) := by
  rw [val_main_v18_apply, val_main_v17_apply, val_main_cst_3_apply]
  have e : val_main_v16 (F := Ideal) x0 x1 x2 x3 (ix3 b n q) = Finset.univ.sup (masked x0 x1 x2 x3 b n q) := by
    unfold val_main_v16
    refine (Host.reduce_eq_fold_single (a := 3) (f := max (α := EReal)) _ _ _ (by decide) _ (ix3 b n q)).trans ?_
    show Finset.univ.fold max (Ideal.ofBits .f32 0xFF800000#32) _ = _
    rw [ofBits_bot]
    refine Finset.fold_congr fun k _ => Eq.trans ?_ (val_main_v15_at x0 x1 x2 x3 b n q k)
    exact congrArg (val_main_v15 (F := Ideal) x0 x1 x2 x3) (funext fun a => match a with | ⟨0, _⟩ => rfl | ⟨1, _⟩ => rfl | ⟨2, _⟩ => rfl | ⟨3, _⟩ => rfl)
  rw [e]
  show max (Ideal.ofBits .f32 0xFF800000#32) _ = _
  rw [ofBits_bot]
  exact max_eq_right bot_le

/-- The exponentials. -/
theorem val_main_v22_at (b : Fin 8) (n : Fin 16) (q k : Fin 2048) :
    val_main_v22 (F := Ideal) x0 x1 x2 x3 (ix4 b n q k)
      = Ideal.exp (masked x0 x1 x2 x3 b n q k - Finset.univ.sup (masked x0 x1 x2 x3 b n q)) := by
  rw [val_main_v22_apply, val_main_v21_apply, val_main_v15_at, val_main_v20_apply, val_main_v19_apply, ← val_main_v18_at]
  exact congrArg (fun s => Ideal.exp (masked x0 x1 x2 x3 b n q k - val_main_v18 (F := Ideal) x0 x1 x2 x3 s))
    (funext fun a => match a with | ⟨0, _⟩ => rfl | ⟨1, _⟩ => rfl | ⟨2, _⟩ => rfl)

/-- Their sum along a row. -/
theorem val_main_v25_at (b : Fin 8) (n : Fin 16) (q k : Fin 2048) :
    val_main_v25 (F := Ideal) x0 x1 x2 x3 (ix4 b n q k)
      = ∑ k' : Fin 2048, Ideal.exp (masked x0 x1 x2 x3 b n q k' - Finset.univ.sup (masked x0 x1 x2 x3 b n q)) := by
  rw [val_main_v25_apply, val_main_v24_apply, val_main_v23_apply, val_main_cst_4_apply]
  show Ideal.ofBits .f32 0x00000000#32 + _ = _
  rw [ofBits_0, zero_add]
  refine Finset.sum_congr rfl fun k' _ => ?_
  rw [← val_main_v22_at]
  exact congrArg _ (funext fun a => match a with | ⟨0, _⟩ => rfl | ⟨1, _⟩ => rfl | ⟨2, _⟩ => rfl | ⟨3, _⟩ => rfl)

/-- The result, at row `2048 b + q` and lane `128 n + j`. -/
theorem val_main_v30_at (b : Fin 8) (q : Fin 2048) (n : Fin 16) (j : Fin 128) :
    val_main_v30 (F := Ideal) x0 x1 x2 x3 x4 (ix2 ⟨2048 * b.val + q.val, by omega⟩ ⟨128 * n.val + j.val, by omega⟩)
      = attention x0 x1 x2 x3 x4 b q n j := by
  have e : idx_main_v29 (ix2 ⟨2048 * b.val + q.val, by omega⟩ ⟨128 * n.val + j.val, by omega⟩) = ix4 b q n j := by
    funext a
    apply Fin.ext
    match a with
    | ⟨0, _⟩ => show ((2048 * b.val + q.val) * 2048 + (128 * n.val + j.val)) / 4194304 = b.val; omega
    | ⟨1, _⟩ => show ((2048 * b.val + q.val) * 2048 + (128 * n.val + j.val)) / 2048 % 2048 = q.val; omega
    | ⟨2, _⟩ => show ((2048 * b.val + q.val) * 2048 + (128 * n.val + j.val)) / 128 % 16 = n.val; omega
    | ⟨3, _⟩ => show ((2048 * b.val + q.val) * 2048 + (128 * n.val + j.val)) % 128 = j.val; omega
  rw [val_main_v30_apply]
  show val_main_v29 (F := Ideal) x0 x1 x2 x3 x4 _ = _
  rw [val_main_v29_apply, e, val_main_v28_apply, val_main_v27_apply]
  unfold attention
  refine Finset.sum_congr rfl fun k _ => congrArg₂ (· * ·) (congrArg x4 ?_) ?_
  · exact funext fun a => match a with | ⟨0, _⟩ => rfl | ⟨1, _⟩ => rfl | ⟨2, _⟩ => rfl | ⟨3, _⟩ => rfl
  · have e2 : ridx_main_v27 (idx_main_v28 (ix4 b q n j)) k = ix4 b n q k :=
      funext fun a => match a with | ⟨0, _⟩ => rfl | ⟨1, _⟩ => rfl | ⟨2, _⟩ => rfl | ⟨3, _⟩ => rfl
    rw [e2, val_main_v26_apply, val_main_v22_at, val_main_v25_at]
    rfl

end Cert.Reference

end
-- ==== Proof.Finite.lean ====
/- The precondition read: every query and every key entry is a real number. -/
module

public import proofs.«01_k».proof.Proof.Gen.Pre_finite_scores
public import Idealize.ShloMosaic.Lib.ValueIdx
public import Idealize.ShloMosaic.Lib.ReduceAll
public import Idealize.ShloMosaic.PureOps.Ideal.Laws

@[expose] public section

noncomputable section

namespace Cert.Finite

open Idealize.ShloMosaic Idealize.ShloMosaic.ValueIdx Cert.Pre_finite_scores Cert.Pre_finite_scores.Gen

theorem ofBits_top : (Ideal.ofBits .f32 0x7F800000#32 : EReal) = ⊤ := by
  simp [Ideal.ofBits, Ideal.ieee, -EReal.coe_mul]

/-- An entry whose magnitude is below infinity is a real number. -/
theorem entry {x : EReal} (h : Ideal.cmp .olt (max x (-x)) ⊤ = 1#1) : ∃ r : ℝ, x = (r : EReal) := by
  induction x with
  | bot => simp [Ideal.cmp] at h
  | coe r => exact ⟨r, rfl⟩
  | top => simp [Ideal.cmp] at h

/-- An array all of whose magnitudes are below infinity is an array of real numbers. -/
theorem array {s : Shape} (x : FVec Ideal s .f32) (hb : S_.BroadcastsInDim s (![] : Fin 0 → Fin s.rank)) {axes : List (Fin s.rank)}
    (hr : s.ReducesTo axes S_) (h1 : 0 < S_.numel) (j : S_.Idx)
    (h : Host.reduce IntOp.andi (cmpf .olt (Host.absf x) (broadcastInDim s ![] hb (constant (F := Ideal) S_ .f32 0x7F800000#32)))
      (constantI S_ 1 1#1) hr h1 j = 1#1) : ∃ f : s.Idx → ℝ, x = fun i => (f i : EReal) := by
  have : Subsingleton S_.Idx := ⟨fun a b => funext fun k => k.elim0⟩
  have e : ∀ i, ∃ r : ℝ, x i = (r : EReal) := fun i => by
    have hi := Host.reduce_andi_all _ _ hr h1 j h i
    refine entry ?_
    rw [← ofBits_top]
    exact hi
  choose f hf using e
  exact ⟨f, funext hf⟩

/-- The precondition makes the queries and the keys, with and without positions, arrays of real numbers. -/
theorem real (x0 : FVec Ideal S8x2048x16x128 .f32) (x1 : FVec Ideal S8x2048x16x64 .f32) (x2 : FVec Ideal S8x2048x16x128 .f32)
    (x3 : FVec Ideal S8x2048x64 .f32) (x4 : FVec Ideal S8x2048x16x128 .f32) (h : fn (F := Ideal) x0 x1 x2 x3 x4 = fun _ => 1#1) :
    (∃ f : S8x2048x16x128.Idx → ℝ, x0 = fun i => (f i : EReal)) ∧ (∃ f : S8x2048x16x64.Idx → ℝ, x1 = fun i => (f i : EReal))
      ∧ (∃ f : S8x2048x16x128.Idx → ℝ, x2 = fun i => (f i : EReal)) ∧ (∃ f : S8x2048x64.Idx → ℝ, x3 = fun i => (f i : EReal)) := by
  have h0 := congrFun h (fun a => a.elim0)
  obtain ⟨h012, h3⟩ := IntOp.andi_eq_one.1 h0
  obtain ⟨h01, h2⟩ := IntOp.andi_eq_one.1 h012
  obtain ⟨h0, h1⟩ := IntOp.andi_eq_one.1 h01
  exact ⟨array x0 _ _ _ _ h0, array x1 _ _ _ _ h1, array x2 _ _ _ _ h2, array x3 _ _ _ _ h3⟩

end Cert.Finite

end
-- ==== Proof.Equation.lean ====
/- The equation: what a grid point leaves for a query is the reference's softmax attention of that query. -/
module

public import proofs.«01_k».proof.Proof.Blocks
public import proofs.«01_k».proof.Proof.Reference
public import proofs.«01_k».proof.Proof.Finite

@[expose] public section

noncomputable section

namespace Cert.Equation

open Idealize.ShloMosaic Idealize.ShloMosaic.ValueIdx Idealize.ShloMosaic.TcCoe Cert.KernelIdeal Cert.KernelIdeal.Gen Cert.Sweep
  Cert.Prepared Cert.Block Cert.Online Cert.Reference

/-- A sum over 256 lanes is the sum over the first 128, the next 64 and the last 64. -/
theorem sum_lanes (f : Fin 256 → EReal) :
    ∑ d, f d = (∑ d : Fin 128, f ⟨d.val, by omega⟩) + (∑ d : Fin 64, f ⟨128 + d.val, by omega⟩) + ∑ d : Fin 64, f ⟨192 + d.val, by omega⟩ := by
  rw [show (∑ d, f d) = ∑ d : Fin (128 + 64 + 64), f d from rfl, Fin.sum_univ_add, Fin.sum_univ_add]
  rfl

variable (f0 : S8x2048x16x128.Idx → ℝ) (f1 : S8x2048x16x64.Idx → ℝ) (f2 : S8x2048x16x128.Idx → ℝ) (f3 : S8x2048x64.Idx → ℝ)

/-- The unscaled score of real queries and keys. -/
def raw (b : Fin 8) (n : Fin 16) (q k : Fin 2048) : ℝ :=
  (∑ d : Fin 128, f0 (ix4 b q n d) * f2 (ix4 b k n d)) + ∑ d : Fin 64, f3 (ix3 b k d) * f1 (ix4 b q n d)

/-- The reference's scaled score, of real queries and keys. -/
theorem logit_real (b : Fin 8) (n : Fin 16) (q k : Fin 2048) :
    logit (fun i => (f0 i : EReal)) (fun i => (f1 i : EReal)) (fun i => (f2 i : EReal)) (fun i => (f3 i : EReal)) b n q k
      = ((raw f0 f1 f2 f3 b n q k * (1 / Real.sqrt 192) : ℝ) : EReal) := by
  unfold logit raw
  simp only [EReal.coe_mul, EReal.coe_add, coe_sum]

/-- The prepared arrays' score, of real queries and keys. -/
theorem prepared_real (b : Fin 8) (n : Fin 16) (q k : Fin 2048) :
    ∑ d : Fin 256, queries (fun i => (f0 i : EReal)) (fun i => (f1 i : EReal)) (ix4 b q n d)
        * keys (fun i => (f2 i : EReal)) (fun i => (f3 i : EReal)) (ix4 b k n d)
      = ((raw f0 f1 f2 f3 b n q k * factor : ℝ) : EReal) := by
  rw [sum_lanes]
  simp only [queries_nope, queries_rope, queries_gap, keys_nope, keys_rope, zero_mul, Finset.sum_const_zero, add_zero]
  simp only [← EReal.coe_mul, ← coe_sum, ← EReal.coe_add]
  congr 1
  unfold raw
  rw [add_mul, Finset.sum_mul, Finset.sum_mul]
  congr 1 <;> exact Finset.sum_congr rfl fun d _ => by ring

variable (m : (ℓ : Loc nD τ sig) → Buf (Elt Ideal) ℓ) (c : Dev nD)

/-- The score a grid point computes is the prepared arrays'. -/
theorem dot_eq (t : Fin cfg0.N) (h : Fin 2) (q k : Fin 2048) (h0 : m (c.tc.loc main_arg0) = fun i => (f0 i : EReal))
    (h1 : m (c.tc.loc main_arg1) = fun i => (f1 i : EReal)) (h2 : m (c.tc.loc main_arg2) = fun i => (f2 i : EReal))
    (h3 : m (c.tc.loc main_arg3) = fun i => (f3 i : EReal)) :
    dot (iblk m c 0 t) (iblk m c 1 t) h q k = ((raw f0 f1 f2 f3 (batch t) (head t h) q k * factor : ℝ) : EReal) := by
  rw [← prepared_real]
  unfold dot
  refine Finset.sum_congr rfl fun d _ => ?_
  rw [block_queries, block_keys, h0, h1, h2, h3]

/-- What a grid point leaves for query `q` of its head `h` at lane `j` is the reference's attention of that query. -/
theorem attended_eq (t : Fin cfg0.N) (h : Fin 2) (q : Fin 2048) (j : Fin 128) (h0 : m (c.tc.loc main_arg0) = fun i => (f0 i : EReal))
    (h1 : m (c.tc.loc main_arg1) = fun i => (f1 i : EReal)) (h2 : m (c.tc.loc main_arg2) = fun i => (f2 i : EReal))
    (h3 : m (c.tc.loc main_arg3) = fun i => (f3 i : EReal)) :
    attended (iblk m c 0 t) (iblk m c 1 t) (iblk m c 2 t) h q j
      = attention (m (c.tc.loc main_arg0)) (m (c.tc.loc main_arg1)) (m (c.tc.loc main_arg2)) (m (c.tc.loc main_arg3))
          (m (c.tc.loc main_arg4)) (batch t) q (head t h) j := by
  have ed := fun k => dot_eq f0 f1 f2 f3 m c t h q k h0 h1 h2 h3
  have em : ∀ k, masked (m (c.tc.loc main_arg0)) (m (c.tc.loc main_arg1)) (m (c.tc.loc main_arg2)) (m (c.tc.loc main_arg3))
      (batch t) (head t h) q k
        = if k.val / 64 ≤ q.val / 64 then ((raw f0 f1 f2 f3 (batch t) (head t h) q k * (1 / Real.sqrt 192) : ℝ) : EReal) else ⊥ := by
    intro k
    unfold masked
    rw [h0, h1, h2, h3, logit_real]
  unfold attended attention
  simp only [block_values, values_val, values_one]
  refine row_eq (k₀ := q) (upTo q) _ _ _ ?_ ?_ ?_ ?_ ?_
  · intro k
    rw [em]
    split
    · exact EReal.coe_ne_top _
    · exact bot_ne_top
  · intro k
    rw [em]
    unfold seen
    rw [ed]
    split
    · rw [← EReal.coe_mul]
      unfold factor
      congr 1
      ring
    · exact (EReal.bot_mul_coe_of_pos (by have := Real.log_pos (show (1 : ℝ) < 2 by norm_num); positivity)).symm
  · intro k hk
    rw [em, if_neg]
    intro hle
    refine hk ?_
    simp only [upTo, Finset.mem_filter, Finset.mem_univ, true_and]
    omega
  · simp [upTo]
  · rw [em, if_pos le_rfl]
    exact EReal.coe_ne_bot _

end Cert.Equation

end
-- ==== Proof.Result.lean ====
/- The kernel's whole result array is the reference's. -/
module

public import proofs.«01_k».proof.Proof.Equation

@[expose] public section

noncomputable section

namespace Cert.Result

open Idealize.ShloMosaic Idealize.ShloMosaic.ValueIdx Idealize.ShloMosaic.TcCoe Cert.KernelIdeal Cert.KernelIdeal.Gen Cert.Sweep
  Cert.Prepared Cert.Block Cert.Reference Cert.Equation

variable (m : (ℓ : Loc nD τ sig) → Buf (Elt Ideal) ℓ) (c : Dev nD)
  (f0 : S8x2048x16x128.Idx → ℝ) (f1 : S8x2048x16x64.Idx → ℝ) (f2 : S8x2048x16x128.Idx → ℝ) (f3 : S8x2048x64.Idx → ℝ)

/-- The reference's result of the kernel's arguments. -/
def expected : S16384x2048.Idx → EReal :=
  Cert.ReferenceIdeal.Read.val_main_v30 (F := Ideal) (m (c.tc.loc main_arg0)) (m (c.tc.loc main_arg1)) (m (c.tc.loc main_arg2))
    (m (c.tc.loc main_arg3)) (m (c.tc.loc main_arg4))

/-- The row and lane of the result that a grid point's row `q` and lane `l` are. -/
def place (t : Fin cfg0.N) (q : Fin 2048) (l : Fin 256) : S16384x2048.Idx :=
  ix2 ⟨2048 * (batch t).val + q.val, by have := (batch t).isLt; omega⟩ ⟨256 * (t.val % 8) + l.val, by omega⟩

/-- Every entry of the result is in the block of one grid point. -/
theorem place_point (r : Fin 16384) (l : Fin 2048) :
    place ⟨8 * (r.val / 2048) + l.val / 256, by show _ < 64; omega⟩ ⟨r.val % 2048, by omega⟩ ⟨l.val % 256, by omega⟩ = ix2 r l := by
  funext a
  apply Fin.ext
  match a with
  | ⟨0, _⟩ => show 2048 * ((8 * (r.val / 2048) + l.val / 256) / 8) + r.val % 2048 = r.val; omega
  | ⟨1, _⟩ => show 256 * ((8 * (r.val / 2048) + l.val / 256) % 8) + l.val % 256 = l.val; omega

/-- A grid point's block of the result array, entry by entry. -/
theorem block_emb (t : Fin cfg0.N) (q : Fin 2048) (l : Fin 256) : ((cfg0.win 3).blk t).view.emb (ix2 q l) = place t q l := by
  funext a
  apply Fin.ext
  match a with
  | ⟨0, _⟩ =>
    show win0_3.index t 0 * 2048 + 1 * q.val = 2048 * (t.val / 8) + q.val
    rw [index_3]; show t.val / 8 * 2048 + 1 * q.val = _; omega
  | ⟨1, _⟩ =>
    show win0_3.index t 1 * 256 + 1 * l.val = 256 * (t.val % 8) + l.val
    rw [index_3]; show t.val % 8 * 256 + 1 * l.val = _; omega

/-- What a grid point leaves at an entry of its block is the reference's entry there. -/
theorem entry (h0 : m (c.tc.loc main_arg0) = fun i => (f0 i : EReal)) (h1 : m (c.tc.loc main_arg1) = fun i => (f1 i : EReal))
    (h2 : m (c.tc.loc main_arg2) = fun i => (f2 i : EReal)) (h3 : m (c.tc.loc main_arg3) = fun i => (f3 i : EReal))
    (t : Fin cfg0.N) (q : Fin 2048) (l : Fin 256) :
    out0_3 (iblk m c 0 t) (iblk m c 1 t) (iblk m c 2 t) (ix2 q l) = expected m c (place t q l) := by
  have ht : ∀ h q k, seen (iblk m c 0 t) (iblk m c 1 t) h q k ≠ ⊤ := by
    intro h q k
    unfold seen
    rw [dot_eq f0 f1 f2 f3 m c t h q k h0 h1 h2 h3]
    split
    · exact EReal.coe_ne_top _
    · exact bot_ne_top
  have hb : ∀ h q, seen (iblk m c 0 t) (iblk m c 1 t) h q q ≠ ⊥ := by
    intro h q
    unfold seen
    rw [dot_eq f0 f1 f2 f3 m c t h q q h0 h1 h2 h3, if_pos le_rfl]
    exact EReal.coe_ne_bot _
  rw [out_apply _ _ _ ht hb]
  show attended (iblk m c 0 t) (iblk m c 1 t) (iblk m c 2 t) ⟨l.val / 128, by omega⟩ q ⟨l.val % 128, by omega⟩ = _
  rw [attended_eq f0 f1 f2 f3 m c t _ q _ h0 h1 h2 h3, ← val_main_v30_at]
  unfold expected
  refine congrArg _ (funext fun a => Fin.ext ?_)
  match a with
  | ⟨0, _⟩ => rfl
  | ⟨1, _⟩ =>
    show 128 * (2 * (t.val % 8) + l.val / 128) + l.val % 128 = 256 * (t.val % 8) + l.val
    omega

/-- The result array after the run. -/
theorem array (h0 : m (c.tc.loc main_arg0) = fun i => (f0 i : EReal)) (h1 : m (c.tc.loc main_arg1) = fun i => (f1 i : EReal))
    (h2 : m (c.tc.loc main_arg2) = fun i => (f2 i : EReal)) (h3 : m (c.tc.loc main_arg3) = fun i => (f3 i : EReal)) :
    (dats m 0 c).arrAt 3 cfg0.N = expected m c := by
  refine Pipeline.Dat.arrAt_eq_of_cover (dats m 0 c) 3 (expected m c) (fun t _ => ?_) fun i => ?_
  · rw [Cert.KernelIdeal.Value.flushed3]
    funext x
    obtain ⟨q, l, rfl⟩ : ∃ (q : Fin 2048) (l : Fin 256), x = ix2 q l := ⟨x 0, x 1, eq_ix2 x⟩
    refine (entry m c f0 f1 f2 f3 h0 h1 h2 h3 t q l).trans ?_
    rw [← block_emb]
    rfl
  · obtain ⟨r, l, rfl⟩ : ∃ (r : Fin 16384) (l : Fin 2048), i = ix2 r l := ⟨i 0, i 1, eq_ix2 i⟩
    have hN : cfg0.N = 64 := rfl
    refine ⟨⟨8 * (r.val / 2048) + l.val / 256, by rw [hN]; omega⟩, flush0_3 _, ?_⟩
    rw [← place_point r l, ← block_emb]
    exact View.emb_mem_set _ _

end Cert.Result

end
-- ==== Proof.Rotary.lean ====
/- The two pieces of arithmetic the query projection and the key and value projection share, one row at a time: the
   normalisation of a row of 512 by the root of its mean square, and the rotary turn of a row of 128 lanes. -/
module

public import Idealize.ShloMosaic.PureOps.Ideal.Laws

@[expose] public section

noncomputable section

namespace Cert.Rotary

open Idealize.ShloMosaic

/-- The factor of the scores, `1 / sqrt 192`, for a softmax in powers of two. -/
def factor : EReal := (((Real.sqrt 192)⁻¹ * (Real.log 2)⁻¹ : ℝ) : EReal)

/-- Entry `r` of a row divided by the root of its mean square plus a small number, times the weight `g r`. -/
def normed (y g : Fin 512 → EReal) (r : Fin 512) : EReal :=
  y r * Ideal.rsqrt (Ideal.div (∑ i, y i * y i) (Ideal.ofBits .f32 0x44000000#32) + Ideal.ofBits .f32 0x358637BD#32) * g r

/-- The partner of lane `l` in the turn: the lane 32 further on, its sign changed, in the first 32 lanes, and the lane 32
    back in the others. -/
def partner (x : Fin 128 → EReal) (l : Fin 128) : EReal :=
  if h : l.val < 32 then 0 - x ⟨l.val + 32, by omega⟩ else x ⟨l.val - 32, by omega⟩

/-- Lane `l` of a row after the turn. -/
def turned (x c s : Fin 128 → EReal) (l : Fin 128) : EReal := x l * c l + partner x l * s l

/-- Where both tables are zero the turn gives zero. -/
theorem turned_zero (x c s : Fin 128 → EReal) (l : Fin 128) (hc : c l = 0) (hs : s l = 0) : turned x c s l = 0 := by
  unfold turned
  rw [hc, hs, mul_zero, mul_zero, add_zero]

/-- In the first 32 lanes: the lane times the cosine, less its partner times the sine. -/
theorem turned_low (x c s : Fin 128 → EReal) (l : Fin 128) (h : l.val < 32) :
    turned x c s l = x l * c l - x ⟨l.val + 32, by omega⟩ * s l := by
  unfold turned partner
  rw [dif_pos h, zero_sub, EReal.neg_mul, ← sub_eq_add_neg]

/-- In the next 32: the lane times the cosine, and its partner times the sine. -/
theorem turned_high (x c s : Fin 128 → EReal) (l : Fin 128) (h : ¬ l.val < 32) :
    turned x c s l = x l * c l + x ⟨l.val - 32, by omega⟩ * s l := by
  unfold turned partner
  rw [dif_neg h]

end Cert.Rotary

end
-- ==== Proof.Latent.lean ====
/- The steps the two projections share, on a block of 512 rows, and each of them read at one entry. -/
module

public import proofs.«01_k».proof.Proof.Rotary
public import proofs.«01_k».proof.Proof.Gen.Kernel2Ideal.Value
public import Idealize.ShloMosaic.Lib.ValueIdx
public import Idealize.ShloMosaic.Lib.KernelVsHost
public import Idealize.ShloMosaic.Lib.MatmulPlain
public import Idealize.ShloMosaic.Lib.ValueLayoutCasts

@[expose] public section

noncomputable section

namespace Cert.Latent

open Idealize.ShloMosaic Idealize.ShloMosaic.ValueIdx Cert.Kernel2Ideal Cert.Kernel2Ideal.Gen Cert.Rotary

theorem ofBits_zero : (Ideal.ofBits .f32 0x00000000#32 : EReal) = 0 := by
  simp [Ideal.ofBits, Ideal.ieee, -EReal.coe_mul]

/-- The rows times the matrix into 512 lanes. -/
def down (x : Vec Ideal S512x2048 .bf16) (w : Vec Ideal S2048x512 .bf16) : FVec Ideal S512x512 .f32 :=
  matmul dot_S512x2048_S2048x512_S512x512_1_0_0_1_n_n none (shapeCast S512x2048 x shapeCasts_S512x2048_S512x2048 : FVec Ideal S512x2048 .bf16)
    (shapeCast S2048x512 w shapeCasts_S2048x512_S2048x512 : FVec Ideal S2048x512 .bf16) (constant S512x512 .f32 0x00000000#32)

/-- One over the root of each row's mean square. -/
def inverse (y : FVec Ideal S512x512 .f32) : FVec Ideal S512x1 .f32 :=
  rsqrt (addf (divf (shapeCast S512x1 (multiReduction .add [1] S512 (mulf y y) 0x00000000#32 reduces_S512x512_S512 (.inl rfl) rfl : FVec Ideal S512 .f32) shapeCasts_S512_S512x1)
    (broadcast S512x1 (Scalar.ofBits .f32 0x44000000#32 : Ideal .f32))) (broadcast S512x1 (Scalar.ofBits .f32 0x358637BD#32 : Ideal .f32)))

/-- The normalised rows. -/
def latent (x : Vec Ideal S512x2048 .bf16) (w : Vec Ideal S2048x512 .bf16) (g : Vec Ideal S1x512 .f32) : FVec Ideal S512x512 .bf16 :=
  truncf .bf16 (mulf (mulf (down x w) (broadcastTo S512x512 (inverse (down x w)) broadcasts_S512x1_S512x512))
    (broadcastTo S512x512 (shapeCast S1x512 g shapeCasts_S1x512_S1x512 : FVec Ideal S1x512 .f32) broadcasts_S1x512_S512x512)) bitsLt_bf16_f32

/-- One head's product: 256 lanes. -/
def head (l : FVec Ideal S512x512 .bf16) (w : Vec Ideal S512x256 .bf16) : FVec Ideal S512x256 .f32 :=
  matmul dot_S512x512_S512x256_S512x256_1_0_0_1_n_n none l (shapeCast S512x256 w shapeCasts_S512x256_S512x256 : FVec Ideal S512x256 .bf16)
    (constant S512x256 .f32 0x00000000#32)

/-- The rotary turn of 128 lanes. -/
def turn (r c s : FVec Ideal S512x128 .f32) : FVec Ideal S512x128 .f32 :=
  addf (mulf r c) (mulf (select (cmpi .slt (iota .tc S512x128 32 [1] iota_S512x128_d1_w32) (broadcast S512x128 32#32))
    (subf (broadcast S512x128 (Scalar.ofBits .f32 0x00000000#32 : Ideal .f32)) (dynamicRotate 1 96#32 none r rotates_S512x128_d1))
    (dynamicRotate 1 32#32 none r rotates_S512x128_d1)) s)

theorem down_apply (x : Vec Ideal S512x2048 .bf16) (w : Vec Ideal S2048x512 .bf16) (p r : Fin 512) :
    down x w (ix2 p r) = ∑ d : Fin 2048, x (ix2 p d) * w (ix2 d r) := by
  unfold down
  rw [shapeCast_self, shapeCast_self]
  refine (Ideal.matmul_plain_apply (M := 512) (K := 2048) (N := 512) (φ₁ := .bf16) (φ₂ := .bf16) none x w _ p r).trans ?_
  rw [constant_apply]
  exact (congrArg (· + _) ofBits_zero).trans (zero_add _)

theorem head_apply (l : FVec Ideal S512x512 .bf16) (w : Vec Ideal S512x256 .bf16) (p : Fin 512) (j : Fin 256) :
    head l w (ix2 p j) = ∑ r : Fin 512, l (ix2 p r) * w (ix2 r j) := by
  unfold head
  rw [shapeCast_self]
  refine (Ideal.matmul_plain_apply (M := 512) (K := 512) (N := 256) (φ₁ := .bf16) (φ₂ := .bf16) none l w _ p j).trans ?_
  rw [constant_apply]
  exact (congrArg (· + _) ofBits_zero).trans (zero_add _)

theorem inverse_apply (y : FVec Ideal S512x512 .f32) (p : Fin 512) :
    inverse y (ix2 p 0) = Ideal.rsqrt (Ideal.div (∑ i : Fin 512, y (ix2 p i) * y (ix2 p i)) (Ideal.ofBits .f32 0x44000000#32)
      + Ideal.ofBits .f32 0x358637BD#32) := by
  have e : (shapeCast S512x1 (multiReduction .add [1] S512 (mulf y y) 0x00000000#32 reduces_S512x512_S512 (.inl rfl) rfl : FVec Ideal S512 .f32) shapeCasts_S512_S512x1 : FVec Ideal S512x1 .f32) (ix2 p 0)
      = ∑ i : Fin 512, y (ix2 p i) * y (ix2 p i) := by
    rw [shapeCast_a_a1_apply]
    refine (Ideal.multiReduction_add_single (a := 1) (mulf y y) _ _ _ _ _).trans ?_
    refine Finset.sum_congr rfl fun i _ => ?_
    refine congrArg (fun s => y s * y s) (funext fun a => Fin.ext ?_)
    match a with
    | ⟨0, _⟩ => rfl
    | ⟨1, _⟩ => rfl
  rw [← e]
  rfl

/-- The normalised rows, entry by entry. -/
theorem latent_apply (x : Vec Ideal S512x2048 .bf16) (w : Vec Ideal S2048x512 .bf16) (g : Vec Ideal S1x512 .f32) (p r : Fin 512) :
    latent x w g (ix2 p r) = normed (fun i => ∑ d : Fin 2048, x (ix2 p d) * w (ix2 d i)) (fun i => g (ix2 0 i)) r := by
  have e1 : broadcastTo S512x512 (inverse (down x w)) broadcasts_S512x1_S512x512 (ix2 p r) = inverse (down x w) (ix2 p 0) := by
    refine broadcastTo_apply _ _ _ _ fun a => ?_
    match a with
    | ⟨0, _⟩ => rfl
    | ⟨1, _⟩ => rfl
  have e2 : broadcastTo S512x512 g broadcasts_S1x512_S512x512 (ix2 p r) = g (ix2 0 r) := by
    refine broadcastTo_apply _ _ _ _ fun a => ?_
    match a with
    | ⟨0, _⟩ => rfl
    | ⟨1, _⟩ => rfl
  unfold latent
  rw [shapeCast_self]
  show down x w (ix2 p r) * broadcastTo S512x512 (inverse (down x w)) broadcasts_S512x1_S512x512 (ix2 p r)
    * broadcastTo S512x512 g broadcasts_S1x512_S512x512 (ix2 p r) = _
  rw [e1, e2, inverse_apply]
  simp only [down_apply]
  rfl

/-- The lanes below 32, as the kernel compares them. -/
theorem slt_ofNat : ∀ l : Fin 128, IntOp.cmpi .slt (BitVec.ofNat 32 l.val) 32#32 = 1#1 ↔ l.val < 32 := by decide +kernel

/-- The turn, lane by lane. -/
theorem turn_apply (r c s : FVec Ideal S512x128 .f32) (p : Fin 512) (l : Fin 128) :
    turn r c s (ix2 p l) = turned (fun l => r (ix2 p l)) (fun l => c (ix2 p l)) (fun l => s (ix2 p l)) l := by
  unfold turned
  refine congrArg (r (ix2 p l) * c (ix2 p l) + ·) (congrArg (· * s (ix2 p l)) ?_)
  show (if IntOp.cmpi .slt (BitVec.ofNat 32 (0 * 128 + l.val)) 32#32 = 1#1
    then Ideal.ofBits .f32 0x00000000#32 - dynamicRotate 1 96#32 none r rotates_S512x128_d1 (ix2 p l)
    else dynamicRotate 1 32#32 none r rotates_S512x128_d1 (ix2 p l)) = _
  rw [Nat.zero_mul, Nat.zero_add]
  unfold partner
  by_cases h : l.val < 32
  · rw [if_pos ((slt_ofNat l).mpr h), dif_pos h, ofBits_zero]
    refine congrArg (0 - ·) (dynamicRotate_apply _ _ _ _ _ _ fun b => ?_)
    match b with
    | ⟨0, _⟩ => rfl
    | ⟨1, _⟩ => show l.val + 32 = (l.val + 128 - 96) % 128; omega
  · rw [if_neg (fun e => h ((slt_ofNat l).mp e)), dif_neg h]
    refine dynamicRotate_apply _ _ _ _ _ _ fun b => ?_
    match b with
    | ⟨0, _⟩ => rfl
    | ⟨1, _⟩ => show l.val - 32 = (l.val + 128 - 32) % 128; omega

end Cert.Latent

end
-- ==== Proof.QueryBlock.lean ====
/- What the body of the query projection leaves in its output block: for each of the sixteen heads a store of the 128 lanes
   without positions and a store of the 128 lanes with them, read as one function of the block's row and lane. -/
module

public import proofs.«01_k».proof.Proof.Latent

@[expose] public section

noncomputable section

namespace Cert.QueryBlock

open Idealize.ShloMosaic Idealize.ShloMosaic.ValueIdx Cert.Kernel2Ideal Cert.Kernel2Ideal.Gen Cert.Rotary Cert.Latent

/-- A head's 256 lanes lie inside the matrix. -/
theorem weights_inb (n : ℕ) : ∀ a : Fin S512x4096.rank,
    (![0, 256 * (n % 16)] : Fin S512x4096.rank → ℕ) a + S512x256.size a ≤ S512x4096.size a := by
  intro a
  match a with
  | ⟨0, _⟩ => show 0 + 512 ≤ 512; omega
  | ⟨1, _⟩ => show 256 * (n % 16) + 256 ≤ 4096; omega

/-- The columns of head `n`. -/
def weights (w : Vec Ideal S512x4096 .bf16) (n : ℕ) : Vec Ideal S512x256 .bf16 :=
  View.ld w (Rect.unit (s := S512x4096) ![0, 256 * (n % 16)] S512x256.size (weights_inb n))

/-- A head's product over the loaded rows. -/
def product (x0 : Vec Ideal S512x2048 .bf16) (x1 : Vec Ideal S2048x512 .bf16) (x2 : Vec Ideal S1x512 .f32) (x3 : Vec Ideal S512x4096 .bf16)
    (n : ℕ) : FVec Ideal S512x256 .f32 :=
  head (latent (View.ld x0 r0_0) (View.ld x1 r0_1) (View.ld x2 r0_2)) (weights x3 n)

/-- The store of a head's lanes without positions. -/
def nope (x0 : Vec Ideal S512x2048 .bf16) (x1 : Vec Ideal S2048x512 .bf16) (x2 : Vec Ideal S1x512 .f32) (x3 : Vec Ideal S512x4096 .bf16)
    (n : ℕ) : FVec Ideal S512x128 .bf16 :=
  truncf .bf16 (mulf (extractStridedSlice S512x128 ![0, 0] (product x0 x1 x2 x3 n) slices_S512x256_o0_0_S512x128)
    (broadcast S512x128 (Named.named κ "qscale" 0x3DD53B95#32 : Ideal .f32))) bitsLt_bf16_f32

/-- The store of a head's lanes with positions. -/
def rope (x0 : Vec Ideal S512x2048 .bf16) (x1 : Vec Ideal S2048x512 .bf16) (x2 : Vec Ideal S1x512 .f32) (x3 : Vec Ideal S512x4096 .bf16)
    (x4 x5 : Vec Ideal S512x128 .f32) (n : ℕ) : FVec Ideal S512x128 .bf16 :=
  truncf .bf16 (mulf (turn (extractStridedSlice S512x128 ![0, 128] (product x0 x1 x2 x3 n) slices_S512x256_o0_128_S512x128)
    (shapeCast S512x128 (View.ld x4 r0_3) shapeCasts_S512x128_S512x128) (shapeCast S512x128 (View.ld x5 r0_3) shapeCasts_S512x128_S512x128))
    (broadcast S512x128 (Named.named κ "qscale" 0x3DD53B95#32 : Ideal .f32))) bitsLt_bf16_f32

variable (x0 : Vec Ideal S512x2048 .bf16) (x1 : Vec Ideal S2048x512 .bf16) (x2 : Vec Ideal S1x512 .f32) (x3 : Vec Ideal S512x4096 .bf16)
  (x4 x5 : Vec Ideal S512x128 .f32)

set_option maxRecDepth 20000 in
/-- The body's result is those stores. -/
theorem out_eq : out0_6 x0 x1 x2 x3 x4 x5 =
    View.canon [⟨r0_51, rope x0 x1 x2 x3 x4 x5 15⟩, ⟨r0_50, nope x0 x1 x2 x3 15⟩, ⟨r0_48, rope x0 x1 x2 x3 x4 x5 14⟩, ⟨r0_47, nope x0 x1 x2 x3 14⟩,
      ⟨r0_45, rope x0 x1 x2 x3 x4 x5 13⟩, ⟨r0_44, nope x0 x1 x2 x3 13⟩, ⟨r0_42, rope x0 x1 x2 x3 x4 x5 12⟩, ⟨r0_41, nope x0 x1 x2 x3 12⟩,
      ⟨r0_39, rope x0 x1 x2 x3 x4 x5 11⟩, ⟨r0_38, nope x0 x1 x2 x3 11⟩, ⟨r0_36, rope x0 x1 x2 x3 x4 x5 10⟩, ⟨r0_35, nope x0 x1 x2 x3 10⟩,
      ⟨r0_33, rope x0 x1 x2 x3 x4 x5 9⟩, ⟨r0_32, nope x0 x1 x2 x3 9⟩, ⟨r0_30, rope x0 x1 x2 x3 x4 x5 8⟩, ⟨r0_29, nope x0 x1 x2 x3 8⟩,
      ⟨r0_27, rope x0 x1 x2 x3 x4 x5 7⟩, ⟨r0_26, nope x0 x1 x2 x3 7⟩, ⟨r0_24, rope x0 x1 x2 x3 x4 x5 6⟩, ⟨r0_23, nope x0 x1 x2 x3 6⟩,
      ⟨r0_21, rope x0 x1 x2 x3 x4 x5 5⟩, ⟨r0_20, nope x0 x1 x2 x3 5⟩, ⟨r0_18, rope x0 x1 x2 x3 x4 x5 4⟩, ⟨r0_17, nope x0 x1 x2 x3 4⟩,
      ⟨r0_15, rope x0 x1 x2 x3 x4 x5 3⟩, ⟨r0_14, nope x0 x1 x2 x3 3⟩, ⟨r0_12, rope x0 x1 x2 x3 x4 x5 2⟩, ⟨r0_11, nope x0 x1 x2 x3 2⟩,
      ⟨r0_9, rope x0 x1 x2 x3 x4 x5 1⟩, ⟨r0_8, nope x0 x1 x2 x3 1⟩, ⟨r0_6, rope x0 x1 x2 x3 x4 x5 0⟩, ⟨r0_5, nope x0 x1 x2 x3 0⟩] := by
  simp only [out0_6, nope, rope, product, weights, turn, head, latent, inverse, down,
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72]

/-! ### The loads and the stores, entry by entry -/

theorem load_rows : (View.ld x0 r0_0 : Vec Ideal S512x2048 .bf16) = x0 :=
  funext fun i => congrArg x0 (funext fun a => Fin.ext (match a with
    | ⟨0, _⟩ => by show 0 + 1 * (i 0).val = (i 0).val; omega
    | ⟨1, _⟩ => by show 0 + 1 * (i 1).val = (i 1).val; omega))

theorem load_down : (View.ld x1 r0_1 : Vec Ideal S2048x512 .bf16) = x1 :=
  funext fun i => congrArg x1 (funext fun a => Fin.ext (match a with
    | ⟨0, _⟩ => by show 0 + 1 * (i 0).val = (i 0).val; omega
    | ⟨1, _⟩ => by show 0 + 1 * (i 1).val = (i 1).val; omega))

theorem load_norm : (View.ld x2 r0_2 : Vec Ideal S1x512 .f32) = x2 :=
  funext fun i => congrArg x2 (funext fun a => Fin.ext (match a with
    | ⟨0, _⟩ => by show 0 + 1 * (i 0).val = (i 0).val; omega
    | ⟨1, _⟩ => by show 0 + 1 * (i 1).val = (i 1).val; omega))

theorem load_table (x : Vec Ideal S512x128 .f32) :
    (shapeCast S512x128 (View.ld x r0_3) shapeCasts_S512x128_S512x128 : FVec Ideal S512x128 .f32) = x :=
  (shapeCast_self (s := S512x128) _ _).trans (funext fun i => congrArg x (funext fun a => Fin.ext (match a with
    | ⟨0, _⟩ => by show 0 + 1 * (i 0).val = (i 0).val; omega
    | ⟨1, _⟩ => by show 0 + 1 * (i 1).val = (i 1).val; omega)))

theorem load_weights (n : Fin 16) (r : Fin 512) (j : Fin 256) :
    weights x3 n.val (ix2 r j) = x3 (ix2 r ⟨256 * n.val + j.val, by omega⟩) :=
  congrArg x3 (funext fun a => Fin.ext (match a with
    | ⟨0, _⟩ => by show 0 + 1 * r.val = r.val; omega
    | ⟨1, _⟩ => by show 256 * (n.val % 16) + 1 * j.val = 256 * n.val + j.val; have := n.isLt; omega))

/-- Row `p`'s normalised entries. -/
def row (p r : Fin 512) : EReal :=
  normed (fun i => ∑ d : Fin 2048, x0 (ix2 p d) * x1 (ix2 d i)) (fun i => x2 (ix2 0 i)) r

/-- Lane `j` of head `n` before the turn. -/
def lane (p : Fin 512) (n : Fin 16) (j : Fin 256) : EReal :=
  ∑ r : Fin 512, row x0 x1 x2 p r * x3 (ix2 r ⟨256 * n.val + j.val, by omega⟩)

/-- Lane `j` of head `n` in the output block. -/
def value (p : Fin 512) (n : Fin 16) (j : Fin 256) : EReal :=
  (if h : j.val < 128 then lane x0 x1 x2 x3 p n j
    else turned (fun l => lane x0 x1 x2 x3 p n ⟨128 + l.val, by omega⟩) (fun l => x4 (ix2 p l)) (fun l => x5 (ix2 p l)) ⟨j.val - 128, by omega⟩)
    * factor

/-- The output block. -/
def result (y : S512x4096.Idx) : EReal :=
  value x0 x1 x2 x3 x4 x5 (y 0) ⟨(y 1).val / 256, by have := idx2_lt1 y; omega⟩ ⟨(y 1).val % 256, by omega⟩

/-- The named factor of the kernel is that number. -/
theorem named_factor : (Named.named κ "qscale" 0x3DD53B95#32 : Ideal .f32) = factor :=
  rfl

theorem product_eq (n : ℕ) : product x0 x1 x2 x3 n = head (latent x0 x1 x2) (weights x3 n) := by
  unfold product
  exact congrArg (fun l => head l (weights x3 n))
    ((congrArg (fun x => latent x _ _) (load_rows x0)).trans
      ((congrArg (fun w => latent x0 w _) (load_down x1)).trans (congrArg (fun g => latent x0 x1 g) (load_norm x2))))

theorem product_apply (p : Fin 512) (n : Fin 16) (j : Fin 256) :
    product x0 x1 x2 x3 n.val (ix2 p j) = lane x0 x1 x2 x3 p n j := by
  rw [product_eq, head_apply]
  refine Finset.sum_congr rfl fun r _ => ?_
  rw [latent_apply, load_weights]
  rfl

theorem nope_apply (p : Fin 512) (n : Fin 16) (l : Fin 128) :
    nope x0 x1 x2 x3 n.val (ix2 p l) = value x0 x1 x2 x3 x4 x5 p n ⟨l.val, by omega⟩ := by
  unfold nope value
  rw [dif_pos l.isLt, ← product_apply]
  refine congrArg₂ (fun y f : EReal => y * f) (extractStridedSlice_apply _ _ _ _ _ fun a => ?_) named_factor
  match a with
  | ⟨0, _⟩ => show p.val = 0 + p.val; omega
  | ⟨1, _⟩ => show l.val = 0 + l.val; omega

theorem rope_apply (p : Fin 512) (n : Fin 16) (l : Fin 128) :
    rope x0 x1 x2 x3 x4 x5 n.val (ix2 p l) = value x0 x1 x2 x3 x4 x5 p n ⟨128 + l.val, by omega⟩ := by
  unfold rope value
  rw [dif_neg (by show ¬ 128 + l.val < 128; omega), load_table x4, load_table x5]
  refine congrArg₂ (fun y f : EReal => y * f) ((turn_apply _ _ _ p l).trans ?_) named_factor
  have e : ∀ k : Fin 128, extractStridedSlice S512x128 ![0, 128] (product x0 x1 x2 x3 n.val) slices_S512x256_o0_128_S512x128 (ix2 p k)
      = lane x0 x1 x2 x3 p n ⟨128 + k.val, by omega⟩ := fun k => by
    rw [← product_apply]
    refine extractStridedSlice_apply _ _ _ _ _ fun a => ?_
    match a with
    | ⟨0, _⟩ => show p.val = 0 + p.val; omega
    | ⟨1, _⟩ => rfl
  simp only [e]
  exact congrArg _ (Fin.ext (by show l.val = 128 + l.val - 128; omega))

/-! ### The output block -/

theorem nope_inb (n : Fin 16) : ∀ a : Fin S512x4096.rank,
    (![0, 256 * n.val] : Fin S512x4096.rank → ℕ) a + S512x128.size a ≤ S512x4096.size a := by
  intro a
  match a with
  | ⟨0, _⟩ => show 0 + 512 ≤ 512; omega
  | ⟨1, _⟩ => show 256 * n.val + 128 ≤ 4096; omega

theorem rope_inb (n : Fin 16) : ∀ a : Fin S512x4096.rank,
    (![0, 256 * n.val + 128] : Fin S512x4096.rank → ℕ) a + S512x128.size a ≤ S512x4096.size a := by
  intro a
  match a with
  | ⟨0, _⟩ => show 0 + 512 ≤ 512; omega
  | ⟨1, _⟩ => show 256 * n.val + 128 + 128 ≤ 4096; omega

/-- An entry of the output block by its head and its lane in the head. -/
theorem result_at (p : Fin 512) (n : Fin 16) (j : Fin 256) (y : S512x4096.Idx) (h0 : (y 0).val = p.val) (h1 : (y 1).val = 256 * n.val + j.val) :
    result x0 x1 x2 x3 x4 x5 y = value x0 x1 x2 x3 x4 x5 p n j := by
  unfold result
  have e0 : y 0 = p := Fin.ext h0
  have e1 : ∀ h, (⟨(y 1).val / 256, h⟩ : Fin 16) = n := fun h => Fin.ext (by show (y 1).val / 256 = n.val; omega)
  have e2 : ∀ h, (⟨(y 1).val % 256, h⟩ : Fin 256) = j := fun h => Fin.ext (by show (y 1).val % 256 = j.val; omega)
  rw [e0, e1, e2]

theorem nope_piece (n : Fin 16) (x : S512x128.Idx) : nope x0 x1 x2 x3 n.val x
    = result x0 x1 x2 x3 x4 x5 ((Rect.unit (s := S512x4096) ![0, 256 * n.val] S512x128.size (nope_inb n)).emb x) := by
  obtain ⟨p, l, rfl⟩ : ∃ (p : Fin 512) (l : Fin 128), x = ix2 p l := ⟨x 0, x 1, eq_ix2 x⟩
  rw [nope_apply x0 x1 x2 x3 x4 x5, result_at x0 x1 x2 x3 x4 x5 p n ⟨l.val, by omega⟩]
  · show 0 + 1 * p.val = p.val; omega
  · show 256 * n.val + 1 * l.val = 256 * n.val + l.val; omega

theorem rope_piece (n : Fin 16) (x : S512x128.Idx) : rope x0 x1 x2 x3 x4 x5 n.val x
    = result x0 x1 x2 x3 x4 x5 ((Rect.unit (s := S512x4096) ![0, 256 * n.val + 128] S512x128.size (rope_inb n)).emb x) := by
  obtain ⟨p, l, rfl⟩ : ∃ (p : Fin 512) (l : Fin 128), x = ix2 p l := ⟨x 0, x 1, eq_ix2 x⟩
  rw [rope_apply, result_at x0 x1 x2 x3 x4 x5 p n ⟨128 + l.val, by omega⟩]
  · show 0 + 1 * p.val = p.val; omega
  · show 256 * n.val + 128 + 1 * l.val = 256 * n.val + (128 + l.val); omega

/-- **The body's result**, entry by entry. -/
theorem out_apply (y : S512x4096.Idx) : out0_6 x0 x1 x2 x3 x4 x5 y = result x0 x1 x2 x3 x4 x5 y := by
  rw [out_eq]
  refine View.canon_apply_of_pieces (Val := Elt Ideal) (S := S512x4096) (e := .bf16) (result x0 x1 x2 x3 x4 x5) _ ?_ y
    (cover0_6 _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact rope_piece x0 x1 x2 x3 x4 x5 15 x
  · exact nope_piece x0 x1 x2 x3 x4 x5 15 x
  · exact rope_piece x0 x1 x2 x3 x4 x5 14 x
  · exact nope_piece x0 x1 x2 x3 x4 x5 14 x
  · exact rope_piece x0 x1 x2 x3 x4 x5 13 x
  · exact nope_piece x0 x1 x2 x3 x4 x5 13 x
  · exact rope_piece x0 x1 x2 x3 x4 x5 12 x
  · exact nope_piece x0 x1 x2 x3 x4 x5 12 x
  · exact rope_piece x0 x1 x2 x3 x4 x5 11 x
  · exact nope_piece x0 x1 x2 x3 x4 x5 11 x
  · exact rope_piece x0 x1 x2 x3 x4 x5 10 x
  · exact nope_piece x0 x1 x2 x3 x4 x5 10 x
  · exact rope_piece x0 x1 x2 x3 x4 x5 9 x
  · exact nope_piece x0 x1 x2 x3 x4 x5 9 x
  · exact rope_piece x0 x1 x2 x3 x4 x5 8 x
  · exact nope_piece x0 x1 x2 x3 x4 x5 8 x
  · exact rope_piece x0 x1 x2 x3 x4 x5 7 x
  · exact nope_piece x0 x1 x2 x3 x4 x5 7 x
  · exact rope_piece x0 x1 x2 x3 x4 x5 6 x
  · exact nope_piece x0 x1 x2 x3 x4 x5 6 x
  · exact rope_piece x0 x1 x2 x3 x4 x5 5 x
  · exact nope_piece x0 x1 x2 x3 x4 x5 5 x
  · exact rope_piece x0 x1 x2 x3 x4 x5 4 x
  · exact nope_piece x0 x1 x2 x3 x4 x5 4 x
  · exact rope_piece x0 x1 x2 x3 x4 x5 3 x
  · exact nope_piece x0 x1 x2 x3 x4 x5 3 x
  · exact rope_piece x0 x1 x2 x3 x4 x5 2 x
  · exact nope_piece x0 x1 x2 x3 x4 x5 2 x
  · exact rope_piece x0 x1 x2 x3 x4 x5 1 x
  · exact nope_piece x0 x1 x2 x3 x4 x5 1 x
  · exact rope_piece x0 x1 x2 x3 x4 x5 0 x
  · exact nope_piece x0 x1 x2 x3 x4 x5 0 x

end Cert.QueryBlock

end
-- ==== Proof.QueryPrepared.lean ====
/- The arrays the query projection's call is given, as the host operations before it leave them, and their entries. -/
module

public import proofs.«01_k».proof.Proof.Latent
public import proofs.«01_k».proof.Proof.Prepared
public import proofs.«01_k».proof.Proof.Gen.Reference2Ideal.Read

@[expose] public section

noncomputable section

namespace Cert.QueryPrepared

open Idealize.ShloMosaic Idealize.ShloMosaic.ValueIdx Idealize.ShloMosaic.TcCoe Cert.Kernel2Ideal Cert.Kernel2Ideal.Gen Cert.Prepared

variable (m : (ℓ : Loc nD τ sig) → Buf (Elt Ideal) ℓ) (c : Dev nD)

/-- The angles of the positions: the reference's own. -/
def angle : FVec Ideal S2048x32 .f32 := Cert.Reference2Ideal.Read.val_main_v15 (F := Ideal)

/-- A table of 128 lanes: the 32 lanes twice, then 64 zeros. -/
def table (u : FVec Ideal S2048x32 .f32) : FVec Ideal S2048x128 .f32 :=
  concatenate S2048x128 1 [⟨S2048x32, u⟩, ⟨S2048x32, u⟩,
    ⟨S2048x64, broadcastInDim S2048x64 ![] bcast_S_S2048x64 (constant (F := Ideal) S_ .f32 0x00000000#32)⟩]
    concatenates_S2048x32_S2048x32_S2048x64_S2048x128_d1

/-- The second matrix with each head's 192 columns padded by 64 of zeros. -/
def padded (w : FVec Ideal S512x3072 .f32) : FVec Ideal S512x16x256 .f32 :=
  pad S512x16x256 ![0, 0, 0] ![0, 0, 64] ![0, 0, 0] (shapeCast S512x16x192 w shapeCasts_S512x3072_S512x16x192 : FVec Ideal S512x16x192 .f32)
    (sitofp (F := Ideal) .f32 (constantI S_ 32 0#32)) pads_S512x16x192_S512x16x256_000_000_0640 h_S_

theorem V_rows : V m c main_v26 = truncf .bf16 (shapeCast S16384x2048 (m (c.tc.loc main_arg0)) shapeCasts_S8x2048x2048_S16384x2048 : FVec Ideal S16384x2048 .f32) bitsLt_bf16_f32 := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_down : V m c main_v27 = (truncf .bf16 (m (c.tc.loc main_arg1) : FVec Ideal S2048x512 .f32) bitsLt_bf16_f32 : FVec Ideal S2048x512 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']

theorem V_norm : V m c main_v28 = (shapeCast S1x512 (m (c.tc.loc main_arg2)) shapeCasts_S512_S1x512 : FVec Ideal S1x512 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_weights : V m c main_v24 = truncf .bf16 (shapeCast S512x4096 (padded (m (c.tc.loc main_arg3))) shapeCasts_S512x16x256_S512x4096 : FVec Ideal S512x4096 .f32) bitsLt_bf16_f32 := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_cos : V m c main_v19 = table (Host.cos angle) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_sin : V m c main_v20 = table (Host.sin angle) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

/-! ### Their entries -/

/-- The pieces of a table side by side, read in each of them. -/
theorem table_low (u : FVec Ideal S2048x32 .f32) (q : Fin 2048) (l : Fin 32) : table u (ix2 q ⟨l.val, by omega⟩) = u (ix2 q l) := by
  unfold table
  exact concatenate_apply_piece (t := S2048x128) 1 _ _ _ 0 (by simp) S2048x32 u rfl rfl 0 rfl (ix2 q l)
    (fun a ha => match a with | ⟨0, _⟩ => rfl | ⟨1, _⟩ => absurd rfl ha) (Nat.zero_add _)

theorem table_high (u : FVec Ideal S2048x32 .f32) (q : Fin 2048) (l : Fin 32) : table u (ix2 q ⟨32 + l.val, by omega⟩) = u (ix2 q l) := by
  unfold table
  exact concatenate_apply_piece (t := S2048x128) 1 _ _ _ 1 (by simp) S2048x32 u rfl rfl 32 rfl (ix2 q l)
    (fun a ha => match a with | ⟨0, _⟩ => rfl | ⟨1, _⟩ => absurd rfl ha) rfl

theorem table_gap (u : FVec Ideal S2048x32 .f32) (q : Fin 2048) (l : Fin 64) : table u (ix2 q ⟨64 + l.val, by omega⟩) = 0 := by
  unfold table
  refine (concatenate_apply_piece (t := S2048x128) 1 _ _ _ 2 (by simp) S2048x64 _ rfl rfl 64 rfl (ix2 q l)
    (fun a ha => match a with | ⟨0, _⟩ => rfl | ⟨1, _⟩ => absurd rfl ha) rfl).trans ?_
  rw [broadcastInDim_apply _ _ _ _ (fun a => a.elim0) (fun a => a.elim0)]
  exact Cert.Latent.ofBits_zero

/-- A head's own columns of the padded matrix. -/
theorem padded_inside (w : FVec Ideal S512x3072 .f32) (r : Fin 512) (n : Fin 16) (j : Fin 192) :
    padded w (ix3 r n ⟨j.val, by omega⟩) = w (ix2 r ⟨192 * n.val + j.val, by omega⟩) := by
  unfold padded
  refine (pad_apply_of_inside _ _ _ _ _ _ _ _ (ix3 r n j) fun a => ?_).trans ?_
  · match a with
    | ⟨0, _⟩ => show r.val = 0 + r.val * (0 + 1); omega
    | ⟨1, _⟩ => show n.val = 0 + n.val * (0 + 1); omega
    | ⟨2, _⟩ => show j.val = 0 + j.val * (0 + 1); omega
  · refine shapeCast_apply _ _ _ _ ?_
    rewrite [Shape.rowMajor_val_two, Shape.rowMajor_val_three]
    show r.val * 3072 + (192 * n.val + j.val) = (r.val * 16 + n.val) * 192 + j.val
    omega

end Cert.QueryPrepared

end
-- ==== Proof.QueryBlocks.lean ====
/- The blocks of one grid point of the query projection: point `t` reads rows 512 t … 512 t + 511, which are positions
   512 (t mod 4) … of batch entry t / 4, the whole of both matrices, and the tables' rows of those positions. -/
module

public import proofs.«01_k».proof.Proof.QueryPrepared

@[expose] public section

noncomputable section

namespace Cert.QueryPrepared

open Idealize.ShloMosaic Idealize.ShloMosaic.ValueIdx Idealize.ShloMosaic.TcCoe Cert.Kernel2Ideal Cert.Kernel2Ideal.Gen

variable (m : (ℓ : Loc nD τ sig) → Buf (Elt Ideal) ℓ) (c : Dev nD)

/-- The batch entry of a grid point. -/
def batch (t : Fin cfg0.N) : Fin 8 := ⟨t.val / 4, by have : t.val < 32 := t.isLt; omega⟩

/-- The position of a grid point's row. -/
def pos (t : Fin cfg0.N) (p : Fin 512) : Fin 2048 := ⟨512 * (t.val % 4) + p.val, by omega⟩

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![t.val % 4, 0] := by decide +kernel
theorem index_5 : ∀ t : Fin grid0.N, win0_5.index t = ![t.val % 4, 0] := by decide +kernel
theorem index_6 : ∀ t : Fin grid0.N, win0_6.index t = ![t.val, 0] := by decide +kernel

theorem block_rows (t : Fin cfg0.N) (p : Fin 512) (d : Fin 2048) :
    iblk m c 0 t (ix2 p d) = m (c.tc.loc main_arg0) (ix3 (batch t) (pos t p) d) := by
  refine (congrFun (V_rows m c) _).trans ?_
  refine shapeCast_apply (s := S8x2048x2048) (t := S16384x2048) _ _ _ (ix3 (batch t) (pos t p) d) ?_
  rewrite [Shape.rowMajor_val_three, Shape.rowMajor_val_two]
  show (t.val / 4 * 2048 + (512 * (t.val % 4) + p.val)) * 2048 + d.val
    = (win0_0.index t 0 * 512 + 1 * p.val) * 2048 + (win0_0.index t 1 * 2048 + 1 * d.val)
  rw [index_0]
  show _ = (t.val * 512 + 1 * p.val) * 2048 + (0 * 2048 + 1 * d.val)
  omega

theorem block_down (t : Fin cfg0.N) (d : Fin 2048) (r : Fin 512) :
    iblk m c 1 t (ix2 d r) = m (c.tc.loc main_arg1) (ix2 d r) := by
  refine (congrFun (V_down m c) _).trans (congrArg (m (c.tc.loc main_arg1)) (funext fun a => Fin.ext ?_))
  match a with
  | ⟨0, _⟩ =>
    show win0_1.index t 0 * 2048 + 1 * d.val = d.val
    rw [index_1]; show 0 * 2048 + 1 * d.val = _; omega
  | ⟨1, _⟩ =>
    show win0_1.index t 1 * 512 + 1 * r.val = r.val
    rw [index_1]; show 0 * 512 + 1 * r.val = _; omega

theorem block_norm (t : Fin cfg0.N) (r : Fin 512) :
    iblk m c 2 t (ix2 (0 : Fin 1) r) = m (c.tc.loc main_arg2) (ix1 r) := by
  refine (congrFun (V_norm m c) _).trans ?_
  refine shapeCast_apply (s := S512) (t := S1x512) _ _ _ (ix1 r) ?_
  rewrite [Shape.rowMajor_val_one, Shape.rowMajor_val_two]
  show r.val = (win0_2.index t 0 * 1 + 1 * 0) * 512 + (win0_2.index t 1 * 512 + 1 * r.val)
  rw [index_2]
  show _ = (0 * 1 + 1 * 0) * 512 + (0 * 512 + 1 * r.val)
  omega

theorem block_weights (t : Fin cfg0.N) (r : Fin 512) (n : Fin 16) (j : Fin 256) :
    iblk m c 3 t (ix2 r ⟨256 * n.val + j.val, by omega⟩) = padded (m (c.tc.loc main_arg3)) (ix3 r n j) := by
  refine (congrFun (V_weights m c) _).trans ?_
  show shapeCast S512x4096 (padded (m (c.tc.loc main_arg3))) shapeCasts_S512x16x256_S512x4096 _ = _
  refine shapeCast_apply (s := S512x16x256) (t := S512x4096) _ _ _ (ix3 r n j) ?_
  rewrite [Shape.rowMajor_val_three, Shape.rowMajor_val_two]
  show (r.val * 16 + n.val) * 256 + j.val
    = (win0_3.index t 0 * 512 + 1 * r.val) * 4096 + (win0_3.index t 1 * 4096 + 1 * (256 * n.val + j.val))
  rw [index_3]
  show _ = (0 * 512 + 1 * r.val) * 4096 + (0 * 4096 + 1 * (256 * n.val + j.val))
  omega

theorem block_cos (t : Fin cfg0.N) (p : Fin 512) (l : Fin 128) :
    iblk m c 4 t (ix2 p l) = table (Host.cos angle) (ix2 (pos t p) l) := by
  refine (congrFun (V_cos m c) _).trans (congrArg _ (funext fun a => Fin.ext ?_))
  match a with
  | ⟨0, _⟩ =>
    show win0_4.index t 0 * 512 + 1 * p.val = 512 * (t.val % 4) + p.val
    rw [index_4]; show t.val % 4 * 512 + 1 * p.val = _; omega
  | ⟨1, _⟩ =>
    show win0_4.index t 1 * 128 + 1 * l.val = l.val
    rw [index_4]; show 0 * 128 + 1 * l.val = _; omega

theorem block_sin (t : Fin cfg0.N) (p : Fin 512) (l : Fin 128) :
    iblk m c 5 t (ix2 p l) = table (Host.sin angle) (ix2 (pos t p) l) := by
  refine (congrFun (V_sin m c) _).trans (congrArg _ (funext fun a => Fin.ext ?_))
  match a with
  | ⟨0, _⟩ =>
    show win0_5.index t 0 * 512 + 1 * p.val = 512 * (t.val % 4) + p.val
    rw [index_5]; show t.val % 4 * 512 + 1 * p.val = _; omega
  | ⟨1, _⟩ =>
    show win0_5.index t 1 * 128 + 1 * l.val = l.val
    rw [index_5]; show 0 * 128 + 1 * l.val = _; omega

end Cert.QueryPrepared

end
-- ==== Proof.QueryReference.lean ====
/- What the reference of the query projection computes, one entry at a time. -/
module

public import proofs.«01_k».proof.Proof.Rotary
public import proofs.«01_k».proof.Proof.Gen.Reference2Ideal.Read
public import Idealize.ShloMosaic.Lib.ValueIdx
public import Idealize.ShloMosaic.PureOps.Ideal.Laws

@[expose] public section

noncomputable section

namespace Cert.QueryReference

open Idealize.ShloMosaic Idealize.ShloMosaic.ValueIdx Cert.Reference2Ideal Cert.Reference2Ideal.Gen Cert.Reference2Ideal.Read Cert.Rotary

variable (x0 : FVec Ideal S8x2048x2048 .f32) (x1 : FVec Ideal S2048x512 .f32) (x2 : FVec Ideal S512 .f32) (x3 : FVec Ideal S512x3072 .f32)
  (b : Fin 8) (q : Fin 2048)

theorem ofBits_zero : (Ideal.ofBits .f32 0x00000000#32 : EReal) = 0 := by
  simp [Ideal.ofBits, Ideal.ieee, -EReal.coe_mul]

/-- A position's row of 512 before the normalisation. -/
def compressed (i : Fin 512) : EReal := ∑ d : Fin 2048, x0 (ix3 b q d) * x1 (ix2 d i)

/-- A position's normalised row. -/
def row (r : Fin 512) : EReal := normed (compressed x0 x1 b q) (fun i => x2 (ix1 i)) r

/-- Lane `j` of head `n` before the turn. -/
def lane (n : Fin 16) (j : Fin 192) : EReal := ∑ r : Fin 512, row x0 x1 x2 b q r * x3 (ix2 r ⟨192 * n.val + j.val, by omega⟩)

/-- The cosine and the sine of an angle. -/
def cosine (q : Fin 2048) (l : Fin 32) : EReal := val_main_v16 (F := Ideal) (ix2 q l)
def sine (q : Fin 2048) (l : Fin 32) : EReal := val_main_v18 (F := Ideal) (ix2 q l)

theorem val_main_v20_at (i : Fin 512) : val_main_v20 (F := Ideal) x0 x1 (ix3 b q i) = compressed x0 x1 b q i := by
  rw [val_main_v20_apply]
  refine Finset.sum_congr rfl fun d _ => congrArg₂ (· * ·) (congrArg x0 ?_) (congrArg x1 ?_)
  · exact funext fun a => match a with | ⟨0, _⟩ => rfl | ⟨1, _⟩ => rfl | ⟨2, _⟩ => rfl
  · exact funext fun a => match a with | ⟨0, _⟩ => rfl | ⟨1, _⟩ => rfl

theorem val_main_v22_at : val_main_v22 (F := Ideal) x0 x1 (ix2 b q) = ∑ i : Fin 512, compressed x0 x1 b q i * compressed x0 x1 b q i := by
  rw [val_main_v22_apply, val_main_cst_3_apply]
  show Ideal.ofBits .f32 0x00000000#32 + _ = _
  rw [ofBits_zero, zero_add]
  refine Finset.sum_congr rfl fun i _ => ?_
  have e : idx_main_v22 (ix2 b q) i = ix3 b q i := funext fun a => match a with | ⟨0, _⟩ => rfl | ⟨1, _⟩ => rfl | ⟨2, _⟩ => rfl
  rw [e, val_main_v21_apply, val_main_v20_at]
  rfl

theorem val_main_v33_at (r : Fin 512) : val_main_v33 (F := Ideal) x0 x1 x2 (ix3 b q r) = row x0 x1 x2 b q r := by
  have e1 : idx_main_v23 (idx_main_v29 (ix3 b q r)) = ix2 b q := funext fun a => match a with | ⟨0, _⟩ => rfl | ⟨1, _⟩ => rfl
  have e2 : idx_main_v31 (idx_main_v32 (ix3 b q r)) = ix1 r := funext fun a => match a with | ⟨0, _⟩ => rfl
  rw [val_main_v33_apply, val_main_v30_apply, val_main_v20_at, val_main_v29_apply, val_main_v28_apply, val_main_v27_apply,
    val_main_v25_apply, val_main_v23_apply, e1, val_main_v22_at, val_main_v24_apply, val_main_cst_4_apply, val_main_v26_apply,
    val_main_cst_5_apply, val_main_v32_apply, val_main_v31_apply, e2]
  rfl

theorem val_main_v35_at (n : Fin 16) (j : Fin 192) : val_main_v35 (F := Ideal) x0 x1 x2 x3 (ix4 b q n j) = lane x0 x1 x2 x3 b q n j := by
  have e : idx_main_v35 (ix4 b q n j) = ix3 b q (⟨192 * n.val + j.val, by omega⟩ : Fin 3072) := by
    funext a
    apply Fin.ext
    match a with
    | ⟨0, _⟩ => show (((b.val * 2048 + q.val) * 16 + n.val) * 192 + j.val) / 6291456 = b.val; omega
    | ⟨1, _⟩ => show (((b.val * 2048 + q.val) * 16 + n.val) * 192 + j.val) / 3072 % 2048 = q.val; omega
    | ⟨2, _⟩ => show (((b.val * 2048 + q.val) * 16 + n.val) * 192 + j.val) % 3072 = 192 * n.val + j.val; omega
  rw [val_main_v35_apply, e, val_main_v34_apply]
  refine Finset.sum_congr rfl fun r _ => congrArg₂ (· * ·) ?_ (congrArg x3 ?_)
  · rw [← val_main_v33_at]
    exact congrArg _ (funext fun a => match a with | ⟨0, _⟩ => rfl | ⟨1, _⟩ => rfl | ⟨2, _⟩ => rfl)
  · exact funext fun a => match a with | ⟨0, _⟩ => rfl | ⟨1, _⟩ => rfl

theorem val_main_v36_at (n : Fin 16) (l : Fin 32) :
    val_main_v36 (F := Ideal) x0 x1 x2 x3 (ix4 b q n l) = lane x0 x1 x2 x3 b q n ⟨128 + l.val, by omega⟩ := by
  rw [val_main_v36_apply, ← val_main_v35_at]
  exact congrArg _ (funext fun a => match a with | ⟨0, _⟩ => rfl | ⟨1, _⟩ => rfl | ⟨2, _⟩ => rfl | ⟨3, _⟩ => rfl)

theorem val_main_v37_at (n : Fin 16) (l : Fin 32) :
    val_main_v37 (F := Ideal) x0 x1 x2 x3 (ix4 b q n l) = lane x0 x1 x2 x3 b q n ⟨160 + l.val, by omega⟩ := by
  rw [val_main_v37_apply, ← val_main_v35_at]
  exact congrArg _ (funext fun a => match a with | ⟨0, _⟩ => rfl | ⟨1, _⟩ => rfl | ⟨2, _⟩ => rfl | ⟨3, _⟩ => rfl)

theorem val_main_v38_at (n : Fin 16) (j : Fin 128) :
    val_main_v38 (F := Ideal) x0 x1 x2 x3 (ix4 b q n j) = lane x0 x1 x2 x3 b q n ⟨j.val, by omega⟩ := by
  rw [val_main_v38_apply, ← val_main_v35_at]
  exact congrArg _ (funext fun a => match a with | ⟨0, _⟩ => rfl | ⟨1, _⟩ => rfl | ⟨2, _⟩ => rfl | ⟨3, _⟩ => rfl)

theorem val_main_v40_at (n : Fin 16) (l : Fin 32) : val_main_v40 (F := Ideal) (ix4 b q n l) = cosine q l := by
  rw [val_main_v40_apply, val_main_v39_apply, val_main_v17_apply]
  exact congrArg (val_main_v16 (F := Ideal)) (funext fun a => match a with | ⟨0, _⟩ => rfl | ⟨1, _⟩ => rfl)

theorem val_main_v47_at (n : Fin 16) (l : Fin 32) : val_main_v47 (F := Ideal) (ix4 b q n l) = cosine q l := by
  rw [val_main_v47_apply, val_main_v46_apply, val_main_v17_apply]
  exact congrArg (val_main_v16 (F := Ideal)) (funext fun a => match a with | ⟨0, _⟩ => rfl | ⟨1, _⟩ => rfl)

theorem val_main_v43_at (n : Fin 16) (l : Fin 32) : val_main_v43 (F := Ideal) (ix4 b q n l) = sine q l := by
  rw [val_main_v43_apply, val_main_v42_apply, val_main_v19_apply]
  exact congrArg (val_main_v18 (F := Ideal)) (funext fun a => match a with | ⟨0, _⟩ => rfl | ⟨1, _⟩ => rfl)

theorem val_main_v50_at (n : Fin 16) (l : Fin 32) : val_main_v50 (F := Ideal) (ix4 b q n l) = sine q l := by
  rw [val_main_v50_apply, val_main_v49_apply, val_main_v19_apply]
  exact congrArg (val_main_v18 (F := Ideal)) (funext fun a => match a with | ⟨0, _⟩ => rfl | ⟨1, _⟩ => rfl)

theorem val_main_v45_at (n : Fin 16) (l : Fin 32) : val_main_v45 (F := Ideal) x0 x1 x2 x3 (ix4 b q n l)
    = lane x0 x1 x2 x3 b q n ⟨128 + l.val, by omega⟩ * cosine q l - lane x0 x1 x2 x3 b q n ⟨160 + l.val, by omega⟩ * sine q l := by
  rw [val_main_v45_apply, val_main_v41_apply, val_main_v44_apply, val_main_v36_at, val_main_v37_at, val_main_v40_at, val_main_v43_at]
  rfl

theorem val_main_v52_at (n : Fin 16) (l : Fin 32) : val_main_v52 (F := Ideal) x0 x1 x2 x3 (ix4 b q n l)
    = lane x0 x1 x2 x3 b q n ⟨160 + l.val, by omega⟩ * cosine q l + lane x0 x1 x2 x3 b q n ⟨128 + l.val, by omega⟩ * sine q l := by
  rw [val_main_v52_apply, val_main_v48_apply, val_main_v51_apply, val_main_v36_at, val_main_v37_at, val_main_v47_at, val_main_v50_at]
  rfl

/-! ### The result, lane by lane -/

/-- The result at row `2048 b + q` and lane `256 n + j` is the padded array's entry. -/
theorem val_main_v63_at (n : Fin 16) (j : Fin 256) :
    val_main_v63 (F := Ideal) x0 x1 x2 x3 (ix2 ⟨2048 * b.val + q.val, by omega⟩ ⟨256 * n.val + j.val, by omega⟩)
      = val_main_v61 (F := Ideal) x0 x1 x2 x3 (ix4 b q n j) := by
  rw [val_main_v63_apply]
  show val_main_v62 (F := Ideal) x0 x1 x2 x3 _ = _
  rw [val_main_v62_apply]
  refine congrArg _ (funext fun a => Fin.ext ?_)
  match a with
  | ⟨0, _⟩ => show ((2048 * b.val + q.val) * 4096 + (256 * n.val + j.val)) / 8388608 = b.val; omega
  | ⟨1, _⟩ => show ((2048 * b.val + q.val) * 4096 + (256 * n.val + j.val)) / 4096 % 2048 = q.val; omega
  | ⟨2, _⟩ => show ((2048 * b.val + q.val) * 4096 + (256 * n.val + j.val)) / 256 % 16 = n.val; omega
  | ⟨3, _⟩ => show ((2048 * b.val + q.val) * 4096 + (256 * n.val + j.val)) % 256 = j.val; omega

theorem val_main_v57_at (i : S_.Idx) : val_main_v57 (F := Ideal) i = factor := by
  show Ideal.div (Ideal.ofBits .f32 0x3F800000#32)
    (Ideal.sqrt (Ideal.ofBits .f32 0x43400000#32) * Ideal.log (Ideal.ofBits .f32 0x40000000#32)) = _
  have e1 : (Ideal.ofBits .f32 0x43400000#32 : EReal) = ((192 : ℝ) : EReal) := by
    simp [Ideal.ofBits, Ideal.ieee, -EReal.coe_mul]; norm_num
  have e2 : (Ideal.ofBits .f32 0x40000000#32 : EReal) = ((2 : ℝ) : EReal) := by
    simp [Ideal.ofBits, Ideal.ieee, -EReal.coe_mul]; norm_num
  have e3 : (Ideal.ofBits .f32 0x3F800000#32 : EReal) = ((1 : ℝ) : EReal) := by
    simp [Ideal.ofBits, Ideal.ieee, -EReal.coe_mul]; norm_num
  have h2 : (0 : ℝ) < Real.log 2 := Real.log_pos (by norm_num)
  have h1 : (0 : ℝ) < Real.sqrt 192 := Real.sqrt_pos.mpr (by norm_num)
  rw [e1, e2, e3, Ideal.sqrt_coe, Ideal.log_coe, if_neg (by norm_num), if_neg (by norm_num), ← EReal.coe_mul,
    Ideal.div_coe (by positivity), ← EReal.coe_mul]
  unfold factor
  congr 1
  field_simp

/-- In a head's first 192 lanes the padded array is the scaled one. -/
theorem val_main_v61_at (n : Fin 16) (j : Fin 192) : val_main_v61 (F := Ideal) x0 x1 x2 x3 (ix4 b q n ⟨j.val, by omega⟩)
    = val_main_v53 (F := Ideal) x0 x1 x2 x3 (ix4 b q n j) * factor := by
  unfold val_main_v61
  refine (concatenate_apply_piece (t := S8x2048x16x256) 3 _ _ _ 0 (by simp) S8x2048x16x192 _ rfl rfl 0 rfl (ix4 b q n j)
    (fun a ha => match a with | ⟨0, _⟩ => rfl | ⟨1, _⟩ => rfl | ⟨2, _⟩ => rfl | ⟨3, _⟩ => absurd rfl ha) (Nat.zero_add _)).trans ?_
  rw [val_main_v59_apply, val_main_v58_apply, val_main_v57_at]
  rfl

theorem result_gap (n : Fin 16) (l : Fin 64) : val_main_v61 (F := Ideal) x0 x1 x2 x3 (ix4 b q n ⟨192 + l.val, by omega⟩) = 0 := by
  unfold val_main_v61
  refine (concatenate_apply_piece (t := S8x2048x16x256) 3 _ _ _ 1 (by simp) S8x2048x16x64 _ rfl rfl 192 rfl (ix4 b q n l)
    (fun a ha => match a with | ⟨0, _⟩ => rfl | ⟨1, _⟩ => rfl | ⟨2, _⟩ => rfl | ⟨3, _⟩ => absurd rfl ha) rfl).trans ?_
  rw [val_main_v60_apply, val_main_cst_9_apply]
  exact ofBits_zero

theorem result_nope (n : Fin 16) (j : Fin 128) : val_main_v61 (F := Ideal) x0 x1 x2 x3 (ix4 b q n ⟨j.val, by omega⟩)
    = lane x0 x1 x2 x3 b q n ⟨j.val, by omega⟩ * factor := by
  refine (val_main_v61_at x0 x1 x2 x3 b q n ⟨j.val, by omega⟩).trans (congrArg (· * _) ?_)
  rw [← val_main_v38_at]
  unfold val_main_v53
  exact concatenate_apply_piece (t := S8x2048x16x192) 3 _ _ _ 0 (by simp) S8x2048x16x128 _ rfl rfl 0 rfl (ix4 b q n j)
    (fun a ha => match a with | ⟨0, _⟩ => rfl | ⟨1, _⟩ => rfl | ⟨2, _⟩ => rfl | ⟨3, _⟩ => absurd rfl ha) (Nat.zero_add _)

theorem result_low (n : Fin 16) (l : Fin 32) : val_main_v61 (F := Ideal) x0 x1 x2 x3 (ix4 b q n ⟨128 + l.val, by omega⟩)
    = (lane x0 x1 x2 x3 b q n ⟨128 + l.val, by omega⟩ * cosine q l - lane x0 x1 x2 x3 b q n ⟨160 + l.val, by omega⟩ * sine q l)
      * factor := by
  refine (val_main_v61_at x0 x1 x2 x3 b q n ⟨128 + l.val, by omega⟩).trans (congrArg (· * _) ?_)
  rw [← val_main_v45_at]
  unfold val_main_v53
  exact concatenate_apply_piece (t := S8x2048x16x192) 3 _ _ _ 1 (by simp) S8x2048x16x32 _ rfl rfl 128 rfl (ix4 b q n l)
    (fun a ha => match a with | ⟨0, _⟩ => rfl | ⟨1, _⟩ => rfl | ⟨2, _⟩ => rfl | ⟨3, _⟩ => absurd rfl ha) rfl

theorem result_high (n : Fin 16) (l : Fin 32) : val_main_v61 (F := Ideal) x0 x1 x2 x3 (ix4 b q n ⟨160 + l.val, by omega⟩)
    = (lane x0 x1 x2 x3 b q n ⟨160 + l.val, by omega⟩ * cosine q l + lane x0 x1 x2 x3 b q n ⟨128 + l.val, by omega⟩ * sine q l)
      * factor := by
  refine (val_main_v61_at x0 x1 x2 x3 b q n ⟨160 + l.val, by omega⟩).trans (congrArg (· * _) ?_)
  rw [← val_main_v52_at]
  unfold val_main_v53
  exact concatenate_apply_piece (t := S8x2048x16x192) 3 _ _ _ 2 (by simp) S8x2048x16x32 _ rfl rfl 160 rfl (ix4 b q n l)
    (fun a ha => match a with | ⟨0, _⟩ => rfl | ⟨1, _⟩ => rfl | ⟨2, _⟩ => rfl | ⟨3, _⟩ => absurd rfl ha) rfl

end Cert.QueryReference

end
-- ==== Proof.QueryResult.lean ====
/- The query kernel's whole result array is its reference's. -/
module

public import proofs.«01_k».proof.Proof.QueryBlock
public import proofs.«01_k».proof.Proof.QueryBlocks
public import proofs.«01_k».proof.Proof.QueryReference

@[expose] public section

noncomputable section

namespace Cert.QueryResult

open Idealize.ShloMosaic Idealize.ShloMosaic.ValueIdx Idealize.ShloMosaic.TcCoe Cert.Kernel2Ideal Cert.Kernel2Ideal.Gen Cert.QueryBlock
  Cert.QueryPrepared Cert.Rotary

variable (m : (ℓ : Loc nD τ sig) → Buf (Elt Ideal) ℓ) (c : Dev nD) (t : Fin cfg0.N) (p : Fin 512) (n : Fin 16)

/-- The reference's result of the kernel's arguments. -/
def expected : S16384x4096.Idx → EReal :=
  Cert.Reference2Ideal.Read.val_main_v63 (F := Ideal) (m (c.tc.loc main_arg0)) (m (c.tc.loc main_arg1)) (m (c.tc.loc main_arg2))
    (m (c.tc.loc main_arg3))

/-- The reference's lane of a head before the turn. -/
def wanted (j : Fin 192) : EReal :=
  Cert.QueryReference.lane (m (c.tc.loc main_arg0)) (m (c.tc.loc main_arg1)) (m (c.tc.loc main_arg2)) (m (c.tc.loc main_arg3)) (batch t) (pos t p) n j

theorem row_eq (r : Fin 512) : row (iblk m c 0 t) (iblk m c 1 t) (iblk m c 2 t) p r
    = Cert.QueryReference.row (m (c.tc.loc main_arg0)) (m (c.tc.loc main_arg1)) (m (c.tc.loc main_arg2)) (batch t) (pos t p) r := by
  unfold row Cert.QueryReference.row
  refine congrArg₂ (fun y g => normed y g r) (funext fun i => ?_) (funext fun i => block_norm m c t i)
  exact Finset.sum_congr rfl fun d _ => congrArg₂ (· * ·) (block_rows m c t p d) (block_down m c t d i)

theorem lane_eq (j : Fin 192) :
    lane (iblk m c 0 t) (iblk m c 1 t) (iblk m c 2 t) (iblk m c 3 t) p n ⟨j.val, by omega⟩ = wanted m c t p n j := by
  unfold lane wanted Cert.QueryReference.lane
  exact Finset.sum_congr rfl fun r _ => congrArg₂ (· * ·) (row_eq m c t p r)
    ((block_weights m c t r n ⟨j.val, by omega⟩).trans (padded_inside _ r n j))

/-- What a grid point leaves at row `p`, lane `j` of head `n`. -/
def left (j : Fin 256) : EReal :=
  value (iblk m c 0 t) (iblk m c 1 t) (iblk m c 2 t) (iblk m c 3 t) (iblk m c 4 t) (iblk m c 5 t) p n j

theorem left_nope (j : Fin 128) : left m c t p n ⟨j.val, by omega⟩ = wanted m c t p n ⟨j.val, by omega⟩ * factor := by
  unfold left value
  rw [dif_pos j.isLt]
  exact congrArg (· * _) (lane_eq m c t p n ⟨j.val, by omega⟩)

/-- The lanes past the first 128 of a head: the turned lanes, scaled. -/
theorem left_rope (l : Fin 128) : left m c t p n ⟨128 + l.val, by omega⟩
    = turned (fun l => lane (iblk m c 0 t) (iblk m c 1 t) (iblk m c 2 t) (iblk m c 3 t) p n ⟨128 + l.val, by omega⟩)
        (fun l => iblk m c 4 t (ix2 p l)) (fun l => iblk m c 5 t (ix2 p l)) l * factor := by
  unfold left value
  rw [dif_neg (by show ¬ 128 + l.val < 128; omega)]
  refine congrArg (fun l => turned _ _ _ l * _) (Fin.ext ?_)
  show 128 + l.val - 128 = l.val
  omega

theorem cos_low (l : Fin 32) : iblk m c 4 t (ix2 p (⟨l.val, by omega⟩ : Fin 128)) = Cert.QueryReference.cosine (pos t p) l :=
  (block_cos m c t p _).trans (table_low _ _ l)

theorem cos_high (l : Fin 32) : iblk m c 4 t (ix2 p (⟨32 + l.val, by omega⟩ : Fin 128)) = Cert.QueryReference.cosine (pos t p) l :=
  (block_cos m c t p _).trans (table_high _ _ l)

theorem sin_low (l : Fin 32) : iblk m c 5 t (ix2 p (⟨l.val, by omega⟩ : Fin 128)) = Cert.QueryReference.sine (pos t p) l :=
  (block_sin m c t p _).trans (table_low _ _ l)

theorem sin_high (l : Fin 32) : iblk m c 5 t (ix2 p (⟨32 + l.val, by omega⟩ : Fin 128)) = Cert.QueryReference.sine (pos t p) l :=
  (block_sin m c t p _).trans (table_high _ _ l)

theorem left_low (l : Fin 32) : left m c t p n ⟨128 + l.val, by omega⟩
    = (wanted m c t p n ⟨128 + l.val, by omega⟩ * Cert.QueryReference.cosine (pos t p) l
        - wanted m c t p n ⟨160 + l.val, by omega⟩ * Cert.QueryReference.sine (pos t p) l) * factor := by
  refine (left_rope m c t p n ⟨l.val, by omega⟩).trans (congrArg (· * _) ?_)
  rw [turned_low _ _ _ _ l.isLt]
  refine congrArg₂ (· - ·) (congrArg₂ (· * ·) (lane_eq m c t p n ⟨128 + l.val, by omega⟩) (cos_low m c t p l))
    (congrArg₂ (· * ·) ?_ (sin_low m c t p l))
  refine Eq.trans (congrArg _ (Fin.ext ?_)) (lane_eq m c t p n ⟨160 + l.val, by omega⟩)
  show 128 + (l.val + 32) = 160 + l.val
  omega

theorem left_high (l : Fin 32) : left m c t p n ⟨160 + l.val, by omega⟩
    = (wanted m c t p n ⟨160 + l.val, by omega⟩ * Cert.QueryReference.cosine (pos t p) l
        + wanted m c t p n ⟨128 + l.val, by omega⟩ * Cert.QueryReference.sine (pos t p) l) * factor := by
  have e : (⟨160 + l.val, by omega⟩ : Fin 256) = ⟨128 + (32 + l.val), by omega⟩ :=
    Fin.ext (by show 160 + l.val = 128 + (32 + l.val); omega)
  rw [e]
  refine (left_rope m c t p n ⟨32 + l.val, by omega⟩).trans (congrArg (· * _) ?_)
  rw [turned_high _ _ _ _ (by show ¬ 32 + l.val < 32; omega)]
  refine congrArg₂ (· + ·) (congrArg₂ (· * ·) ?_ (cos_high m c t p l)) (congrArg₂ (· * ·) ?_ (sin_high m c t p l))
  · refine Eq.trans (congrArg _ (Fin.ext ?_)) (lane_eq m c t p n ⟨160 + l.val, by omega⟩)
    show 128 + (32 + l.val) = 160 + l.val
    omega
  · refine Eq.trans (congrArg _ (Fin.ext ?_)) (lane_eq m c t p n ⟨128 + l.val, by omega⟩)
    show 128 + (32 + l.val - 32) = 128 + l.val
    omega

theorem left_gap (l : Fin 64) : left m c t p n ⟨192 + l.val, by omega⟩ = 0 := by
  have e : (⟨192 + l.val, by omega⟩ : Fin 256) = ⟨128 + (64 + l.val), by omega⟩ :=
    Fin.ext (by show 192 + l.val = 128 + (64 + l.val); omega)
  rw [e]
  refine (left_rope m c t p n ⟨64 + l.val, by omega⟩).trans ?_
  rw [turned_zero _ _ _ _ ((block_cos m c t p _).trans (table_gap _ _ l)) ((block_sin m c t p _).trans (table_gap _ _ l)), zero_mul]

/-- What a grid point leaves is the reference's entry. -/
theorem left_eq (j : Fin 256) : left m c t p n j
    = expected m c (ix2 ⟨2048 * (batch t).val + (pos t p).val, by have := (batch t).isLt; have := (pos t p).isLt; omega⟩
        ⟨256 * n.val + j.val, by omega⟩) := by
  unfold expected
  rw [Cert.QueryReference.val_main_v63_at]
  by_cases h1 : j.val < 128
  · exact (left_nope m c t p n ⟨j.val, h1⟩).trans (Cert.QueryReference.result_nope _ _ _ _ _ _ n ⟨j.val, h1⟩).symm
  by_cases h2 : j.val < 160
  · obtain ⟨l, hl⟩ : ∃ l : Fin 32, 128 + l.val = j.val := ⟨⟨j.val - 128, by omega⟩, by show 128 + (j.val - 128) = j.val; omega⟩
    obtain rfl : (⟨128 + l.val, Nat.lt_of_lt_of_le (Nat.add_lt_add_left l.isLt 128) (by decide)⟩ : Fin 256) = j := Fin.ext hl
    exact (left_low m c t p n l).trans (Cert.QueryReference.result_low _ _ _ _ _ _ n l).symm
  by_cases h3 : j.val < 192
  · obtain ⟨l, hl⟩ : ∃ l : Fin 32, 160 + l.val = j.val := ⟨⟨j.val - 160, by omega⟩, by show 160 + (j.val - 160) = j.val; omega⟩
    obtain rfl : (⟨160 + l.val, Nat.lt_of_lt_of_le (Nat.add_lt_add_left l.isLt 160) (by decide)⟩ : Fin 256) = j := Fin.ext hl
    exact (left_high m c t p n l).trans (Cert.QueryReference.result_high _ _ _ _ _ _ n l).symm
  · obtain ⟨l, hl⟩ : ∃ l : Fin 64, 192 + l.val = j.val := ⟨⟨j.val - 192, by omega⟩, by show 192 + (j.val - 192) = j.val; omega⟩
    obtain rfl : (⟨192 + l.val, Nat.lt_of_lt_of_le (Nat.add_lt_add_left l.isLt 192) (by decide)⟩ : Fin 256) = j := Fin.ext hl
    exact (left_gap m c t p n l).trans (Cert.QueryReference.result_gap _ _ _ _ _ _ n l).symm

/-- A grid point's block of the result array, entry by entry. -/
theorem block_emb (l : Fin 4096) : ((cfg0.win 6).blk t).view.emb (ix2 p l)
    = ix2 ⟨2048 * (batch t).val + (pos t p).val, by have := (batch t).isLt; have := (pos t p).isLt; omega⟩ l := by
  funext a
  apply Fin.ext
  match a with
  | ⟨0, _⟩ =>
    show win0_6.index t 0 * 512 + 1 * p.val = 2048 * (t.val / 4) + (512 * (t.val % 4) + p.val)
    rw [index_6]; show t.val * 512 + 1 * p.val = _; omega
  | ⟨1, _⟩ =>
    show win0_6.index t 1 * 4096 + 1 * l.val = l.val
    rw [index_6]; show 0 * 4096 + 1 * l.val = _; omega

/-- Every entry of the result is in the block of one grid point. -/
theorem place_point (r : Fin 16384) (l : Fin 4096) (ht : r.val / 512 < cfg0.N) :
    (ix2 ⟨2048 * (batch ⟨r.val / 512, ht⟩).val + (pos ⟨r.val / 512, ht⟩ ⟨r.val % 512, by omega⟩).val, by
        have := (batch ⟨r.val / 512, ht⟩).isLt
        have := (pos ⟨r.val / 512, ht⟩ ⟨r.val % 512, by omega⟩).isLt
        omega⟩ l : S16384x4096.Idx) = ix2 r l := by
  refine congrArg (fun r => (ix2 r l : S16384x4096.Idx)) (Fin.ext ?_)
  show 2048 * (r.val / 512 / 4) + (512 * (r.val / 512 % 4) + r.val % 512) = r.val
  omega

/-- What a grid point leaves at an entry of its block is the reference's entry there. -/
theorem entry (l : Fin 4096) :
    out0_6 (iblk m c 0 t) (iblk m c 1 t) (iblk m c 2 t) (iblk m c 3 t) (iblk m c 4 t) (iblk m c 5 t) (ix2 p l)
      = expected m c (((cfg0.win 6).blk t).view.emb (ix2 p l)) := by
  rw [out_apply, block_emb]
  refine (left_eq m c t p ⟨l.val / 256, by omega⟩ ⟨l.val % 256, by omega⟩).trans (congrArg (fun l => expected m c (ix2 _ l)) (Fin.ext ?_))
  show 256 * (l.val / 256) + l.val % 256 = l.val
  omega

/-- The result array after the run. -/
theorem array : (dats m 0 c).arrAt 6 cfg0.N = expected m c := by
  refine Pipeline.Dat.arrAt_eq_of_cover (dats m 0 c) 6 (expected m c) (fun t _ => ?_) fun i => ?_
  · rw [Cert.Kernel2Ideal.Value.flushed6]
    funext x
    obtain ⟨p, l, rfl⟩ : ∃ (p : Fin 512) (l : Fin 4096), x = ix2 p l := ⟨x 0, x 1, eq_ix2 x⟩
    exact entry m c t p l
  · obtain ⟨r, l, rfl⟩ : ∃ (r : Fin 16384) (l : Fin 4096), i = ix2 r l := ⟨i 0, i 1, eq_ix2 i⟩
    have hN : cfg0.N = 32 := rfl
    have ht : r.val / 512 < cfg0.N := by rw [hN]; omega
    refine ⟨⟨r.val / 512, ht⟩, flush0_6 _, ?_⟩
    rw [← place_point r l ht, ← block_emb]
    exact View.emb_mem_set _ _

end Cert.QueryResult

end
-- ==== Proof.KvBlock.lean ====
/- What the body of the shared keys and values leaves in its two output blocks. For each of the sixteen heads the keys'
   block gets a store of the head's 128 lanes without positions and one of the 128 lanes the heads share; the values'
   block gets a store of the head's 128 values and one of ones. -/
module

public import proofs.«01_k».proof.Proof.Latent
public import proofs.«01_k».proof.Proof.Gen.Kernel3Ideal.Frame

@[expose] public section

noncomputable section

namespace Cert.KvBlock

open Idealize.ShloMosaic Idealize.ShloMosaic.ValueIdx Cert.Kernel3Ideal Cert.Kernel3Ideal.Gen Cert.Rotary Cert.Latent

/-- A head's 256 lanes lie inside the matrix. -/
theorem weights_inb (n : ℕ) : ∀ a : Fin S512x4096.rank,
    (![0, 256 * (n % 16)] : Fin S512x4096.rank → ℕ) a + S512x256.size a ≤ S512x4096.size a := by
  intro a
  match a with
  | ⟨0, _⟩ => show 0 + 512 ≤ 512; omega
  | ⟨1, _⟩ => show 256 * (n % 16) + 256 ≤ 4096; omega

/-- The columns of head `n`. -/
def weights (w : Vec Ideal S512x4096 .bf16) (n : ℕ) : Vec Ideal S512x256 .bf16 :=
  View.ld w (Rect.unit (s := S512x4096) ![0, 256 * (n % 16)] S512x256.size (weights_inb n))

/-- The rows times the matrix into the 128 lanes the heads share. -/
def shared (x : Vec Ideal S512x2048 .bf16) (w : Vec Ideal S2048x128 .bf16) : FVec Ideal S512x128 .f32 :=
  matmul dot_S512x2048_S2048x128_S512x128_1_0_0_1_n_n none (shapeCast S512x2048 x shapeCasts_S512x2048_S512x2048 : FVec Ideal S512x2048 .bf16)
    (shapeCast S2048x128 w shapeCasts_S2048x128_S2048x128 : FVec Ideal S2048x128 .bf16) (constant S512x128 .f32 0x00000000#32)

variable (x0 : Vec Ideal S512x2048 .bf16) (x1 : Vec Ideal S2048x512 .bf16) (x2 : Vec Ideal S2048x128 .bf16) (x3 : Vec Ideal S1x512 .f32)
  (x4 : Vec Ideal S512x4096 .bf16) (x5 x6 : Vec Ideal S512x128 .f32)

/-- A head's product over the loaded rows. -/
def product (n : ℕ) : FVec Ideal S512x256 .f32 :=
  head (latent (View.ld x0 r0_0) (View.ld x1 r0_1) (View.ld x3 r0_2)) (weights x4 n)

/-- The store of a head's keys without positions. -/
def nope (n : ℕ) : FVec Ideal S512x128 .bf16 :=
  truncf .bf16 (extractStridedSlice S512x128 ![0, 0] (product x0 x1 x3 x4 n) slices_S512x256_o0_0_S512x128) bitsLt_bf16_f32

/-- The store of a head's values. -/
def vals (n : ℕ) : FVec Ideal S512x128 .bf16 :=
  truncf .bf16 (extractStridedSlice S512x128 ![0, 128] (product x0 x1 x3 x4 n) slices_S512x256_o0_128_S512x128) bitsLt_bf16_f32

/-- The store of the keys with positions, one for all heads. -/
def rope : FVec Ideal S512x128 .bf16 :=
  truncf .bf16 (turn (shared (View.ld x0 r0_0) (View.ld x2 r0_3))
    (shapeCast S512x128 (View.ld x5 r0_4) shapeCasts_S512x128_S512x128) (shapeCast S512x128 (View.ld x6 r0_4) shapeCasts_S512x128_S512x128)) bitsLt_bf16_f32

/-- The store of ones. -/
def ones : FVec Ideal S512x128 .bf16 := broadcast S512x128 (Scalar.ofBits .bf16 0x3F80#16 : Ideal .bf16)

set_option maxRecDepth 20000 in
/-- The keys' block is those stores. -/
theorem keys_eq : out0_7 x0 x1 x2 x3 x4 x5 x6 =
    View.canon [⟨r0_52, rope x0 x2 x5 x6⟩, ⟨r0_51, nope x0 x1 x3 x4 15⟩,
      ⟨r0_49, rope x0 x2 x5 x6⟩, ⟨r0_48, nope x0 x1 x3 x4 14⟩,
      ⟨r0_46, rope x0 x2 x5 x6⟩, ⟨r0_45, nope x0 x1 x3 x4 13⟩,
      ⟨r0_43, rope x0 x2 x5 x6⟩, ⟨r0_42, nope x0 x1 x3 x4 12⟩,
      ⟨r0_40, rope x0 x2 x5 x6⟩, ⟨r0_39, nope x0 x1 x3 x4 11⟩,
      ⟨r0_37, rope x0 x2 x5 x6⟩, ⟨r0_36, nope x0 x1 x3 x4 10⟩,
      ⟨r0_34, rope x0 x2 x5 x6⟩, ⟨r0_33, nope x0 x1 x3 x4 9⟩,
      ⟨r0_31, rope x0 x2 x5 x6⟩, ⟨r0_30, nope x0 x1 x3 x4 8⟩,
      ⟨r0_28, rope x0 x2 x5 x6⟩, ⟨r0_27, nope x0 x1 x3 x4 7⟩,
      ⟨r0_25, rope x0 x2 x5 x6⟩, ⟨r0_24, nope x0 x1 x3 x4 6⟩,
      ⟨r0_22, rope x0 x2 x5 x6⟩, ⟨r0_21, nope x0 x1 x3 x4 5⟩,
      ⟨r0_19, rope x0 x2 x5 x6⟩, ⟨r0_18, nope x0 x1 x3 x4 4⟩,
      ⟨r0_16, rope x0 x2 x5 x6⟩, ⟨r0_15, nope x0 x1 x3 x4 3⟩,
      ⟨r0_13, rope x0 x2 x5 x6⟩, ⟨r0_12, nope x0 x1 x3 x4 2⟩,
      ⟨r0_10, rope x0 x2 x5 x6⟩, ⟨r0_9, nope x0 x1 x3 x4 1⟩,
      ⟨r0_7, rope x0 x2 x5 x6⟩, ⟨r0_6, nope x0 x1 x3 x4 0⟩] := rfl

set_option maxRecDepth 20000 in
/-- The values' block is those stores. -/
theorem values_eq : out0_8 x0 x1 x2 x3 x4 x5 x6 =
    View.canon [⟨r0_52, ones⟩, ⟨r0_51, vals x0 x1 x3 x4 15⟩,
      ⟨r0_49, ones⟩, ⟨r0_48, vals x0 x1 x3 x4 14⟩,
      ⟨r0_46, ones⟩, ⟨r0_45, vals x0 x1 x3 x4 13⟩,
      ⟨r0_43, ones⟩, ⟨r0_42, vals x0 x1 x3 x4 12⟩,
      ⟨r0_40, ones⟩, ⟨r0_39, vals x0 x1 x3 x4 11⟩,
      ⟨r0_37, ones⟩, ⟨r0_36, vals x0 x1 x3 x4 10⟩,
      ⟨r0_34, ones⟩, ⟨r0_33, vals x0 x1 x3 x4 9⟩,
      ⟨r0_31, ones⟩, ⟨r0_30, vals x0 x1 x3 x4 8⟩,
      ⟨r0_28, ones⟩, ⟨r0_27, vals x0 x1 x3 x4 7⟩,
      ⟨r0_25, ones⟩, ⟨r0_24, vals x0 x1 x3 x4 6⟩,
      ⟨r0_22, ones⟩, ⟨r0_21, vals x0 x1 x3 x4 5⟩,
      ⟨r0_19, ones⟩, ⟨r0_18, vals x0 x1 x3 x4 4⟩,
      ⟨r0_16, ones⟩, ⟨r0_15, vals x0 x1 x3 x4 3⟩,
      ⟨r0_13, ones⟩, ⟨r0_12, vals x0 x1 x3 x4 2⟩,
      ⟨r0_10, ones⟩, ⟨r0_9, vals x0 x1 x3 x4 1⟩,
      ⟨r0_7, ones⟩, ⟨r0_6, vals x0 x1 x3 x4 0⟩] := rfl

/-! ### The loads and the stores, entry by entry -/

theorem load_rows : (View.ld x0 r0_0 : Vec Ideal S512x2048 .bf16) = x0 :=
  funext fun i => congrArg x0 (funext fun a => Fin.ext (match a with
    | ⟨0, _⟩ => by show 0 + 1 * (i 0).val = (i 0).val; omega
    | ⟨1, _⟩ => by show 0 + 1 * (i 1).val = (i 1).val; omega))

theorem load_down : (View.ld x1 r0_1 : Vec Ideal S2048x512 .bf16) = x1 :=
  funext fun i => congrArg x1 (funext fun a => Fin.ext (match a with
    | ⟨0, _⟩ => by show 0 + 1 * (i 0).val = (i 0).val; omega
    | ⟨1, _⟩ => by show 0 + 1 * (i 1).val = (i 1).val; omega))

theorem load_norm : (View.ld x3 r0_2 : Vec Ideal S1x512 .f32) = x3 :=
  funext fun i => congrArg x3 (funext fun a => Fin.ext (match a with
    | ⟨0, _⟩ => by show 0 + 1 * (i 0).val = (i 0).val; omega
    | ⟨1, _⟩ => by show 0 + 1 * (i 1).val = (i 1).val; omega))

theorem load_rope : (View.ld x2 r0_3 : Vec Ideal S2048x128 .bf16) = x2 :=
  funext fun i => congrArg x2 (funext fun a => Fin.ext (match a with
    | ⟨0, _⟩ => by show 0 + 1 * (i 0).val = (i 0).val; omega
    | ⟨1, _⟩ => by show 0 + 1 * (i 1).val = (i 1).val; omega))

theorem load_table (x : Vec Ideal S512x128 .f32) :
    (shapeCast S512x128 (View.ld x r0_4) shapeCasts_S512x128_S512x128 : FVec Ideal S512x128 .f32) = x :=
  (shapeCast_self (s := S512x128) _ _).trans (funext fun i => congrArg x (funext fun a => Fin.ext (match a with
    | ⟨0, _⟩ => by show 0 + 1 * (i 0).val = (i 0).val; omega
    | ⟨1, _⟩ => by show 0 + 1 * (i 1).val = (i 1).val; omega)))

theorem load_weights (n : Fin 16) (r : Fin 512) (j : Fin 256) :
    weights x4 n.val (ix2 r j) = x4 (ix2 r ⟨256 * n.val + j.val, by omega⟩) :=
  congrArg x4 (funext fun a => Fin.ext (match a with
    | ⟨0, _⟩ => by show 0 + 1 * r.val = r.val; omega
    | ⟨1, _⟩ => by show 256 * (n.val % 16) + 1 * j.val = 256 * n.val + j.val; have := n.isLt; omega))

theorem shared_apply (x : Vec Ideal S512x2048 .bf16) (w : Vec Ideal S2048x128 .bf16) (p : Fin 512) (l : Fin 128) :
    shared x w (ix2 p l) = ∑ d : Fin 2048, x (ix2 p d) * w (ix2 d l) := by
  unfold shared
  rw [shapeCast_self, shapeCast_self]
  refine (Ideal.matmul_plain_apply (M := 512) (K := 2048) (N := 128) (φ₁ := .bf16) (φ₂ := .bf16) none x w _ p l).trans ?_
  rw [constant_apply]
  exact (congrArg (· + _) ofBits_zero).trans (zero_add _)

/-- Row `p`'s normalised entries. -/
def row (p r : Fin 512) : EReal :=
  normed (fun i => ∑ d : Fin 2048, x0 (ix2 p d) * x1 (ix2 d i)) (fun i => x3 (ix2 0 i)) r

/-- Lane `j` of head `n`. -/
def lane (p : Fin 512) (n : Fin 16) (j : Fin 256) : EReal :=
  ∑ r : Fin 512, row x0 x1 x3 p r * x4 (ix2 r ⟨256 * n.val + j.val, by omega⟩)

/-- A lane the heads share before the turn. -/
def mixed (p : Fin 512) (l : Fin 128) : EReal := ∑ d : Fin 2048, x0 (ix2 p d) * x2 (ix2 d l)

/-- A lane the heads share, turned. -/
def rotary (p : Fin 512) (l : Fin 128) : EReal :=
  turned (mixed x0 x2 p) (fun l => x5 (ix2 p l)) (fun l => x6 (ix2 p l)) l

/-- Lane `j` of head `n` in the keys' block. -/
def key (p : Fin 512) (n : Fin 16) (j : Fin 256) : EReal :=
  if j.val < 128 then lane x0 x1 x3 x4 p n j else rotary x0 x2 x5 x6 p ⟨j.val - 128, by omega⟩

/-- Lane `j` of head `n` in the values' block. -/
def val (p : Fin 512) (n : Fin 16) (j : Fin 256) : EReal :=
  if h : j.val < 128 then lane x0 x1 x3 x4 p n ⟨128 + j.val, by omega⟩ else Ideal.ofBits .bf16 0x3F80#16

/-- A block by its rows, heads and lanes. -/
def laid (f : Fin 512 → Fin 16 → Fin 256 → EReal) (y : S512x4096.Idx) : EReal :=
  f (y 0) ⟨(y 1).val / 256, by have := idx2_lt1 y; omega⟩ ⟨(y 1).val % 256, by omega⟩

/-- An entry of a block by its head and its lane in the head. -/
theorem laid_at (f : Fin 512 → Fin 16 → Fin 256 → EReal) (p : Fin 512) (n : Fin 16) (j : Fin 256) (y : S512x4096.Idx)
    (h0 : (y 0).val = p.val) (h1 : (y 1).val = 256 * n.val + j.val) : laid f y = f p n j := by
  unfold laid
  have e0 : y 0 = p := Fin.ext h0
  have e1 : ∀ h, (⟨(y 1).val / 256, h⟩ : Fin 16) = n := fun h => Fin.ext (by show (y 1).val / 256 = n.val; omega)
  have e2 : ∀ h, (⟨(y 1).val % 256, h⟩ : Fin 256) = j := fun h => Fin.ext (by show (y 1).val % 256 = j.val; omega)
  rw [e0, e1, e2]

theorem product_eq (n : ℕ) : product x0 x1 x3 x4 n = head (latent x0 x1 x3) (weights x4 n) := by
  unfold product
  exact congrArg (fun l => head l (weights x4 n))
    ((congrArg (fun x => latent x _ _) (load_rows x0)).trans
      ((congrArg (fun w => latent x0 w _) (load_down x1)).trans (congrArg (fun g => latent x0 x1 g) (load_norm x3))))

theorem product_apply (p : Fin 512) (n : Fin 16) (j : Fin 256) :
    product x0 x1 x3 x4 n.val (ix2 p j) = lane x0 x1 x3 x4 p n j := by
  rw [product_eq, head_apply]
  refine Finset.sum_congr rfl fun r _ => ?_
  rw [latent_apply, load_weights]
  rfl

theorem nope_apply (p : Fin 512) (n : Fin 16) (l : Fin 128) :
    nope x0 x1 x3 x4 n.val (ix2 p l) = key x0 x1 x2 x3 x4 x5 x6 p n ⟨l.val, by omega⟩ := by
  unfold nope key
  rw [if_pos l.isLt, ← product_apply]
  show extractStridedSlice S512x128 ![0, 0] (product x0 x1 x3 x4 n.val) slices_S512x256_o0_0_S512x128 _ = _
  refine extractStridedSlice_apply _ _ _ _ _ fun a => ?_
  match a with
  | ⟨0, _⟩ => show p.val = 0 + p.val; omega
  | ⟨1, _⟩ => show l.val = 0 + l.val; omega

theorem vals_apply (p : Fin 512) (n : Fin 16) (l : Fin 128) :
    vals x0 x1 x3 x4 n.val (ix2 p l) = val x0 x1 x3 x4 p n ⟨l.val, by omega⟩ := by
  unfold vals val
  rw [dif_pos l.isLt, ← product_apply]
  show extractStridedSlice S512x128 ![0, 128] (product x0 x1 x3 x4 n.val) slices_S512x256_o0_128_S512x128 _ = _
  refine extractStridedSlice_apply _ _ _ _ _ fun a => ?_
  match a with
  | ⟨0, _⟩ => show p.val = 0 + p.val; omega
  | ⟨1, _⟩ => rfl

theorem rope_apply (p : Fin 512) (n : Fin 16) (l : Fin 128) :
    rope x0 x2 x5 x6 (ix2 p l) = key x0 x1 x2 x3 x4 x5 x6 p n ⟨128 + l.val, by omega⟩ := by
  unfold rope key
  rw [if_neg (by show ¬ 128 + l.val < 128; omega), load_table x5, load_table x6]
  refine (turn_apply _ _ _ p l).trans ?_
  have e : ∀ k : Fin 128, shared (View.ld x0 r0_0) (View.ld x2 r0_3) (ix2 p k) = mixed x0 x2 p k := fun k =>
    (congrFun ((congrArg (fun x => shared x _) (load_rows x0)).trans (congrArg (fun w => shared x0 w) (load_rope x2))) _).trans (shared_apply x0 x2 p k)
  unfold rotary
  simp only [e]
  exact congrArg _ (Fin.ext (by show l.val = 128 + l.val - 128; omega))

/-! ### The output blocks -/

theorem nope_inb (n : Fin 16) : ∀ a : Fin S512x4096.rank,
    (![0, 256 * n.val] : Fin S512x4096.rank → ℕ) a + S512x128.size a ≤ S512x4096.size a := by
  intro a
  match a with
  | ⟨0, _⟩ => show 0 + 512 ≤ 512; omega
  | ⟨1, _⟩ => show 256 * n.val + 128 ≤ 4096; omega

theorem rope_inb (n : Fin 16) : ∀ a : Fin S512x4096.rank,
    (![0, 256 * n.val + 128] : Fin S512x4096.rank → ℕ) a + S512x128.size a ≤ S512x4096.size a := by
  intro a
  match a with
  | ⟨0, _⟩ => show 0 + 512 ≤ 512; omega
  | ⟨1, _⟩ => show 256 * n.val + 128 + 128 ≤ 4096; omega

theorem nope_piece (n : Fin 16) (x : S512x128.Idx) : nope x0 x1 x3 x4 n.val x
    = laid (key x0 x1 x2 x3 x4 x5 x6) ((Rect.unit (s := S512x4096) ![0, 256 * n.val] S512x128.size (nope_inb n)).emb x) := by
  obtain ⟨p, l, rfl⟩ : ∃ (p : Fin 512) (l : Fin 128), x = ix2 p l := ⟨x 0, x 1, eq_ix2 x⟩
  rw [nope_apply x0 x1 x2 x3 x4 x5 x6, laid_at _ p n ⟨l.val, by omega⟩]
  · show 0 + 1 * p.val = p.val; omega
  · show 256 * n.val + 1 * l.val = 256 * n.val + l.val; omega

theorem rope_piece (n : Fin 16) (x : S512x128.Idx) : rope x0 x2 x5 x6 x
    = laid (key x0 x1 x2 x3 x4 x5 x6) ((Rect.unit (s := S512x4096) ![0, 256 * n.val + 128] S512x128.size (rope_inb n)).emb x) := by
  obtain ⟨p, l, rfl⟩ : ∃ (p : Fin 512) (l : Fin 128), x = ix2 p l := ⟨x 0, x 1, eq_ix2 x⟩
  rw [rope_apply x0 x1 x2 x3 x4 x5 x6 p n, laid_at _ p n ⟨128 + l.val, by omega⟩]
  · show 0 + 1 * p.val = p.val; omega
  · show 256 * n.val + 128 + 1 * l.val = 256 * n.val + (128 + l.val); omega

theorem vals_piece (n : Fin 16) (x : S512x128.Idx) : vals x0 x1 x3 x4 n.val x
    = laid (val x0 x1 x3 x4) ((Rect.unit (s := S512x4096) ![0, 256 * n.val] S512x128.size (nope_inb n)).emb x) := by
  obtain ⟨p, l, rfl⟩ : ∃ (p : Fin 512) (l : Fin 128), x = ix2 p l := ⟨x 0, x 1, eq_ix2 x⟩
  rw [vals_apply x0 x1 x3 x4, laid_at _ p n ⟨l.val, by omega⟩]
  · show 0 + 1 * p.val = p.val; omega
  · show 256 * n.val + 1 * l.val = 256 * n.val + l.val; omega

theorem ones_piece (n : Fin 16) (x : S512x128.Idx) : ones x
    = laid (val x0 x1 x3 x4) ((Rect.unit (s := S512x4096) ![0, 256 * n.val + 128] S512x128.size (rope_inb n)).emb x) := by
  obtain ⟨p, l, rfl⟩ : ∃ (p : Fin 512) (l : Fin 128), x = ix2 p l := ⟨x 0, x 1, eq_ix2 x⟩
  rw [laid_at _ p n ⟨128 + l.val, by omega⟩]
  · unfold val
    rw [dif_neg (by show ¬ 128 + l.val < 128; omega)]
    rfl
  · show 0 + 1 * p.val = p.val; omega
  · show 256 * n.val + 128 + 1 * l.val = 256 * n.val + (128 + l.val); omega

/-- **The keys' block**, entry by entry. -/
theorem keys_apply (y : S512x4096.Idx) : out0_7 x0 x1 x2 x3 x4 x5 x6 y = laid (key x0 x1 x2 x3 x4 x5 x6) y := by
  rw [keys_eq]
  refine View.canon_apply_of_pieces (Val := Elt Ideal) (S := S512x4096) (e := .bf16) (laid (key x0 x1 x2 x3 x4 x5 x6)) _ ?_ y
    (cover0_7 _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact rope_piece x0 x1 x2 x3 x4 x5 x6 15 x
  · exact nope_piece x0 x1 x2 x3 x4 x5 x6 15 x
  · exact rope_piece x0 x1 x2 x3 x4 x5 x6 14 x
  · exact nope_piece x0 x1 x2 x3 x4 x5 x6 14 x
  · exact rope_piece x0 x1 x2 x3 x4 x5 x6 13 x
  · exact nope_piece x0 x1 x2 x3 x4 x5 x6 13 x
  · exact rope_piece x0 x1 x2 x3 x4 x5 x6 12 x
  · exact nope_piece x0 x1 x2 x3 x4 x5 x6 12 x
  · exact rope_piece x0 x1 x2 x3 x4 x5 x6 11 x
  · exact nope_piece x0 x1 x2 x3 x4 x5 x6 11 x
  · exact rope_piece x0 x1 x2 x3 x4 x5 x6 10 x
  · exact nope_piece x0 x1 x2 x3 x4 x5 x6 10 x
  · exact rope_piece x0 x1 x2 x3 x4 x5 x6 9 x
  · exact nope_piece x0 x1 x2 x3 x4 x5 x6 9 x
  · exact rope_piece x0 x1 x2 x3 x4 x5 x6 8 x
  · exact nope_piece x0 x1 x2 x3 x4 x5 x6 8 x
  · exact rope_piece x0 x1 x2 x3 x4 x5 x6 7 x
  · exact nope_piece x0 x1 x2 x3 x4 x5 x6 7 x
  · exact rope_piece x0 x1 x2 x3 x4 x5 x6 6 x
  · exact nope_piece x0 x1 x2 x3 x4 x5 x6 6 x
  · exact rope_piece x0 x1 x2 x3 x4 x5 x6 5 x
  · exact nope_piece x0 x1 x2 x3 x4 x5 x6 5 x
  · exact rope_piece x0 x1 x2 x3 x4 x5 x6 4 x
  · exact nope_piece x0 x1 x2 x3 x4 x5 x6 4 x
  · exact rope_piece x0 x1 x2 x3 x4 x5 x6 3 x
  · exact nope_piece x0 x1 x2 x3 x4 x5 x6 3 x
  · exact rope_piece x0 x1 x2 x3 x4 x5 x6 2 x
  · exact nope_piece x0 x1 x2 x3 x4 x5 x6 2 x
  · exact rope_piece x0 x1 x2 x3 x4 x5 x6 1 x
  · exact nope_piece x0 x1 x2 x3 x4 x5 x6 1 x
  · exact rope_piece x0 x1 x2 x3 x4 x5 x6 0 x
  · exact nope_piece x0 x1 x2 x3 x4 x5 x6 0 x

/-- **The values' block**, entry by entry. -/
theorem values_apply (y : S512x4096.Idx) : out0_8 x0 x1 x2 x3 x4 x5 x6 y = laid (val x0 x1 x3 x4) y := by
  rw [values_eq]
  refine View.canon_apply_of_pieces (Val := Elt Ideal) (S := S512x4096) (e := .bf16) (laid (val x0 x1 x3 x4)) _ ?_ y
    (cover0_8 _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact ones_piece x0 x1 x3 x4 15 x
  · exact vals_piece x0 x1 x3 x4 15 x
  · exact ones_piece x0 x1 x3 x4 14 x
  · exact vals_piece x0 x1 x3 x4 14 x
  · exact ones_piece x0 x1 x3 x4 13 x
  · exact vals_piece x0 x1 x3 x4 13 x
  · exact ones_piece x0 x1 x3 x4 12 x
  · exact vals_piece x0 x1 x3 x4 12 x
  · exact ones_piece x0 x1 x3 x4 11 x
  · exact vals_piece x0 x1 x3 x4 11 x
  · exact ones_piece x0 x1 x3 x4 10 x
  · exact vals_piece x0 x1 x3 x4 10 x
  · exact ones_piece x0 x1 x3 x4 9 x
  · exact vals_piece x0 x1 x3 x4 9 x
  · exact ones_piece x0 x1 x3 x4 8 x
  · exact vals_piece x0 x1 x3 x4 8 x
  · exact ones_piece x0 x1 x3 x4 7 x
  · exact vals_piece x0 x1 x3 x4 7 x
  · exact ones_piece x0 x1 x3 x4 6 x
  · exact vals_piece x0 x1 x3 x4 6 x
  · exact ones_piece x0 x1 x3 x4 5 x
  · exact vals_piece x0 x1 x3 x4 5 x
  · exact ones_piece x0 x1 x3 x4 4 x
  · exact vals_piece x0 x1 x3 x4 4 x
  · exact ones_piece x0 x1 x3 x4 3 x
  · exact vals_piece x0 x1 x3 x4 3 x
  · exact ones_piece x0 x1 x3 x4 2 x
  · exact vals_piece x0 x1 x3 x4 2 x
  · exact ones_piece x0 x1 x3 x4 1 x
  · exact vals_piece x0 x1 x3 x4 1 x
  · exact ones_piece x0 x1 x3 x4 0 x
  · exact vals_piece x0 x1 x3 x4 0 x

end Cert.KvBlock

end
-- ==== Proof.KvPrepared.lean ====
/- The arrays the shared keys' and values' call is given, as the host operations before it leave them, and their entries
   in a grid point's blocks. Point `t` reads rows 512 t … 512 t + 511, which are positions 512 (t mod 4) … of batch entry
   t / 4, the whole of the matrices, and the tables' rows of those positions. -/
module

public import proofs.«01_k».proof.Proof.QueryPrepared
public import proofs.«01_k».proof.Proof.Gen.Kernel3Ideal.Frame
public import proofs.«01_k».proof.Proof.Gen.Reference3Ideal.Read

@[expose] public section

noncomputable section

namespace Cert.KvPrepared

open Idealize.ShloMosaic Idealize.ShloMosaic.ValueIdx Idealize.ShloMosaic.TcCoe Cert.Kernel3Ideal Cert.Kernel3Ideal.Gen Cert.Prepared
  Cert.QueryPrepared

variable (m : (ℓ : Loc nD τ sig) → Buf (Elt Ideal) ℓ) (c : Dev nD)

/-- The angles of the positions: the reference's own. -/
def angles : FVec Ideal S2048x32 .f32 := Cert.Reference3Ideal.Read.val_main_v15 (F := Ideal)

/-- The first matrix's last 64 columns, followed by 64 of zeros. -/
def widened (w : FVec Ideal S2048x576 .f32) : FVec Ideal S2048x128 .bf16 :=
  pad S2048x128 ![0, 0] ![0, 64] ![0, 0]
    (extractStridedSlice S2048x64 ![0, 512] (truncf .bf16 w bitsLt_bf16_f32 : FVec Ideal S2048x576 .bf16) slices_S2048x576_S2048x64_0_512)
    (sitofp (F := Ideal) .bf16 (constantI S_ 32 0#32)) pads_S2048x64_S2048x128_000_0640 h_S_

theorem V_rows : V m c main_v25 = truncf .bf16 (shapeCast S16384x2048 (m (c.tc.loc main_arg0)) shapeCasts_S8x2048x2048_S16384x2048 : FVec Ideal S16384x2048 .f32) bitsLt_bf16_f32 := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_down : V m c main_v26 = extractStridedSlice S2048x512 ![0, 0] (truncf .bf16 (m (c.tc.loc main_arg1) : FVec Ideal S2048x576 .f32) bitsLt_bf16_f32 : FVec Ideal S2048x576 .bf16) slices_S2048x576_S2048x512_0_0 := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']

theorem V_rope : V m c main_v23 = widened (m (c.tc.loc main_arg1)) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_norm : V m c main_v28 = (shapeCast S1x512 (m (c.tc.loc main_arg2)) shapeCasts_S512_S1x512 : FVec Ideal S1x512 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_up : V m c main_v27 = (truncf .bf16 (m (c.tc.loc main_arg3) : FVec Ideal S512x4096 .f32) bitsLt_bf16_f32 : FVec Ideal S512x4096 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']

theorem V_cos : V m c main_v19 = table (Host.cos angles) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

theorem V_sin : V m c main_v20 = table (Host.sin angles) := by
  unfold_abbrev_sides
  simp (disch := decide) only [↓ StableHlo.readResult, ↓ StableHlo.readPieces, List.flatten_cons, List.flatten_nil, List.append_nil,
    List.cons_append, List.nil_append, StableHlo.TRef.unary, StableHlo.TRef.binary, StableHlo.TRef.ofBuf_toBuf, StableHlo.after_cons, StableHlo.after_nil, three_result, StableHlo.nullary_result', StableHlo.unary_result',
    StableHlo.binary_result', StableHlo.reshape_result', StableHlo.nullary_result_ne', StableHlo.unary_result_ne',
    StableHlo.binary_result_ne', StableHlo.nary_result_ne', StableHlo.reshape_result_ne']
  rfl

/-- The first matrix's last 64 columns. -/
theorem widened_inside (w : FVec Ideal S2048x576 .f32) (d : Fin 2048) (l : Fin 64) :
    widened w (ix2 d ⟨l.val, by omega⟩) = w (ix2 d ⟨512 + l.val, by omega⟩) := by
  unfold widened
  refine (pad_apply_of_inside _ _ _ _ _ _ _ _ (ix2 d l) fun a => ?_).trans ?_
  · match a with
    | ⟨0, _⟩ => show d.val = 0 + d.val * (0 + 1); omega
    | ⟨1, _⟩ => show l.val = 0 + l.val * (0 + 1); omega
  · refine extractStridedSlice_apply _ _ _ _ (ix2 d ⟨512 + l.val, by omega⟩) fun a => ?_
    match a with
    | ⟨0, _⟩ => show d.val = 0 + d.val; omega
    | ⟨1, _⟩ => rfl

/-! ### A grid point's blocks -/

/-- The batch entry of a grid point. -/
def entryOf (t : Fin cfg0.N) : Fin 8 := ⟨t.val / 4, by have : t.val < 32 := t.isLt; omega⟩

/-- The position of a grid point's row. -/
def place (t : Fin cfg0.N) (p : Fin 512) : Fin 2048 := ⟨512 * (t.val % 4) + p.val, by omega⟩

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![t.val % 4, 0] := by decide +kernel
theorem index_6 : ∀ t : Fin grid0.N, win0_6.index t = ![t.val % 4, 0] := by decide +kernel
theorem index_7 : ∀ t : Fin grid0.N, win0_7.index t = ![t.val, 0] := by decide +kernel
theorem index_8 : ∀ t : Fin grid0.N, win0_8.index t = ![t.val, 0] := by decide +kernel

theorem rows_at (t : Fin cfg0.N) (p : Fin 512) (d : Fin 2048) :
    iblk m c 0 t (ix2 p d) = m (c.tc.loc main_arg0) (ix3 (entryOf t) (place t p) d) := by
  refine (congrFun (V_rows m c) _).trans ?_
  refine shapeCast_apply (s := S8x2048x2048) (t := S16384x2048) _ _ _ (ix3 (entryOf t) (place t p) d) ?_
  rewrite [Shape.rowMajor_val_three, Shape.rowMajor_val_two]
  show (t.val / 4 * 2048 + (512 * (t.val % 4) + p.val)) * 2048 + d.val
    = (win0_0.index t 0 * 512 + 1 * p.val) * 2048 + (win0_0.index t 1 * 2048 + 1 * d.val)
  rw [index_0]
  show _ = (t.val * 512 + 1 * p.val) * 2048 + (0 * 2048 + 1 * d.val)
  omega

theorem down_at (t : Fin cfg0.N) (d : Fin 2048) (r : Fin 512) :
    iblk m c 1 t (ix2 d r) = m (c.tc.loc main_arg1) (ix2 d ⟨r.val, by omega⟩) := by
  refine (congrFun (V_down m c) _).trans (extractStridedSlice_apply _ _ _ _ (ix2 d ⟨r.val, by omega⟩) fun a => ?_)
  match a with
  | ⟨0, _⟩ =>
    show d.val = 0 + (win0_1.index t 0 * 2048 + 1 * d.val)
    rw [index_1]; show _ = 0 + (0 * 2048 + 1 * d.val); omega
  | ⟨1, _⟩ =>
    show r.val = 0 + (win0_1.index t 1 * 512 + 1 * r.val)
    rw [index_1]; show _ = 0 + (0 * 512 + 1 * r.val); omega

theorem rope_at (t : Fin cfg0.N) (d : Fin 2048) (l : Fin 64) :
    iblk m c 2 t (ix2 d (⟨l.val, by omega⟩ : Fin 128)) = m (c.tc.loc main_arg1) (ix2 d ⟨512 + l.val, by omega⟩) := by
  refine (congrFun (V_rope m c) _).trans (Eq.trans (congrArg _ (funext fun a => Fin.ext ?_)) (widened_inside (m (c.tc.loc main_arg1)) d l))
  match a with
  | ⟨0, _⟩ =>
    show win0_2.index t 0 * 2048 + 1 * d.val = d.val
    rw [index_2]; show 0 * 2048 + 1 * d.val = _; omega
  | ⟨1, _⟩ =>
    show win0_2.index t 1 * 128 + 1 * l.val = l.val
    rw [index_2]; show 0 * 128 + 1 * l.val = _; omega

theorem norm_at (t : Fin cfg0.N) (r : Fin 512) :
    iblk m c 3 t (ix2 (0 : Fin 1) r) = m (c.tc.loc main_arg2) (ix1 r) := by
  refine (congrFun (V_norm m c) _).trans ?_
  refine shapeCast_apply (s := S512) (t := S1x512) _ _ _ (ix1 r) ?_
  rewrite [Shape.rowMajor_val_one, Shape.rowMajor_val_two]
  show r.val = (win0_3.index t 0 * 1 + 1 * 0) * 512 + (win0_3.index t 1 * 512 + 1 * r.val)
  rw [index_3]
  show _ = (0 * 1 + 1 * 0) * 512 + (0 * 512 + 1 * r.val)
  omega

theorem up_at (t : Fin cfg0.N) (r : Fin 512) (l : Fin 4096) :
    iblk m c 4 t (ix2 r l) = m (c.tc.loc main_arg3) (ix2 r l) := by
  refine (congrFun (V_up m c) _).trans (congrArg (m (c.tc.loc main_arg3)) (funext fun a => Fin.ext ?_))
  match a with
  | ⟨0, _⟩ =>
    show win0_4.index t 0 * 512 + 1 * r.val = r.val
    rw [index_4]; show 0 * 512 + 1 * r.val = _; omega
  | ⟨1, _⟩ =>
    show win0_4.index t 1 * 4096 + 1 * l.val = l.val
    rw [index_4]; show 0 * 4096 + 1 * l.val = _; omega

theorem cos_at (t : Fin cfg0.N) (p : Fin 512) (l : Fin 128) :
    iblk m c 5 t (ix2 p l) = table (Host.cos angles) (ix2 (place t p) l) := by
  refine (congrFun (V_cos m c) _).trans (congrArg _ (funext fun a => Fin.ext ?_))
  match a with
  | ⟨0, _⟩ =>
    show win0_5.index t 0 * 512 + 1 * p.val = 512 * (t.val % 4) + p.val
    rw [index_5]; show t.val % 4 * 512 + 1 * p.val = _; omega
  | ⟨1, _⟩ =>
    show win0_5.index t 1 * 128 + 1 * l.val = l.val
    rw [index_5]; show 0 * 128 + 1 * l.val = _; omega

theorem sin_at (t : Fin cfg0.N) (p : Fin 512) (l : Fin 128) :
    iblk m c 6 t (ix2 p l) = table (Host.sin angles) (ix2 (place t p) l) := by
  refine (congrFun (V_sin m c) _).trans (congrArg _ (funext fun a => Fin.ext ?_))
  match a with
  | ⟨0, _⟩ =>
    show win0_6.index t 0 * 512 + 1 * p.val = 512 * (t.val % 4) + p.val
    rw [index_6]; show t.val % 4 * 512 + 1 * p.val = _; omega
  | ⟨1, _⟩ =>
    show win0_6.index t 1 * 128 + 1 * l.val = l.val
    rw [index_6]; show 0 * 128 + 1 * l.val = _; omega

end Cert.KvPrepared

end
-- ==== Proof.KvReference.lean ====
/- What the reference of the shared keys and values computes, one entry at a time. -/
module

public import proofs.«01_k».proof.Proof.Rotary
public import proofs.«01_k».proof.Proof.Gen.Reference3Ideal.Read
public import Idealize.ShloMosaic.Lib.ValueIdx
public import Idealize.ShloMosaic.PureOps.Ideal.Laws

@[expose] public section

noncomputable section

namespace Cert.KvReference

open Idealize.ShloMosaic Idealize.ShloMosaic.ValueIdx Cert.Reference3Ideal Cert.Reference3Ideal.Gen Cert.Reference3Ideal.Read Cert.Rotary

variable (x0 : FVec Ideal S8x2048x2048 .f32) (x1 : FVec Ideal S2048x576 .f32) (x2 : FVec Ideal S512 .f32) (x3 : FVec Ideal S512x4096 .f32)
  (b : Fin 8) (q : Fin 2048)

theorem ofBits_zero : (Ideal.ofBits .f32 0x00000000#32 : EReal) = 0 := by
  simp [Ideal.ofBits, Ideal.ieee, -EReal.coe_mul]

/-- The two formats' ones are one number. -/
theorem ofBits_one : (Ideal.ofBits .f32 0x3F800000#32 : EReal) = Ideal.ofBits .bf16 0x3F80#16 := by
  simp [Ideal.ofBits, Ideal.ieee, -EReal.coe_mul]
  norm_num

/-- A position's row of 576 after the first product. -/
def compressed (i : Fin 576) : EReal := ∑ d : Fin 2048, x0 (ix3 b q d) * x1 (ix2 d i)

/-- A position's normalised row: the first 512. -/
def row (r : Fin 512) : EReal := normed (fun i => compressed x0 x1 b q ⟨i.val, by omega⟩) (fun i => x2 (ix1 i)) r

/-- Lane `j` of head `n`. -/
def lane (n : Fin 16) (j : Fin 256) : EReal := ∑ r : Fin 512, row x0 x1 x2 b q r * x3 (ix2 r ⟨256 * n.val + j.val, by omega⟩)

/-- The cosine and the sine of an angle. -/
def cosine (q : Fin 2048) (l : Fin 32) : EReal := val_main_v16 (F := Ideal) (ix2 q l)
def sine (q : Fin 2048) (l : Fin 32) : EReal := val_main_v17 (F := Ideal) (ix2 q l)

theorem val_main_v18_at (i : Fin 576) : val_main_v18 (F := Ideal) x0 x1 (ix3 b q i) = compressed x0 x1 b q i := by
  rw [val_main_v18_apply]
  refine Finset.sum_congr rfl fun d _ => congrArg₂ (· * ·) (congrArg x0 ?_) (congrArg x1 ?_)
  · exact funext fun a => match a with | ⟨0, _⟩ => rfl | ⟨1, _⟩ => rfl | ⟨2, _⟩ => rfl
  · exact funext fun a => match a with | ⟨0, _⟩ => rfl | ⟨1, _⟩ => rfl

theorem val_main_v19_at (i : Fin 512) : val_main_v19 (F := Ideal) x0 x1 (ix3 b q i) = compressed x0 x1 b q ⟨i.val, by omega⟩ := by
  rw [val_main_v19_apply, ← val_main_v18_at]
  exact congrArg _ (funext fun a => match a with | ⟨0, _⟩ => rfl | ⟨1, _⟩ => rfl | ⟨2, _⟩ => rfl)

theorem val_main_v21_at : val_main_v21 (F := Ideal) x0 x1 (ix2 b q)
    = ∑ i : Fin 512, compressed x0 x1 b q ⟨i.val, by omega⟩ * compressed x0 x1 b q ⟨i.val, by omega⟩ := by
  rw [val_main_v21_apply, val_main_cst_3_apply]
  show Ideal.ofBits .f32 0x00000000#32 + _ = _
  rw [ofBits_zero, zero_add]
  refine Finset.sum_congr rfl fun i _ => ?_
  have e : idx_main_v21 (ix2 b q) i = ix3 b q i := funext fun a => match a with | ⟨0, _⟩ => rfl | ⟨1, _⟩ => rfl | ⟨2, _⟩ => rfl
  rw [e, val_main_v20_apply, val_main_v19_at]
  rfl

theorem val_main_v32_at (r : Fin 512) : val_main_v32 (F := Ideal) x0 x1 x2 (ix3 b q r) = row x0 x1 x2 b q r := by
  have e1 : idx_main_v22 (idx_main_v28 (ix3 b q r)) = ix2 b q := funext fun a => match a with | ⟨0, _⟩ => rfl | ⟨1, _⟩ => rfl
  have e2 : idx_main_v30 (idx_main_v31 (ix3 b q r)) = ix1 r := funext fun a => match a with | ⟨0, _⟩ => rfl
  rw [val_main_v32_apply, val_main_v29_apply, val_main_v19_at, val_main_v28_apply, val_main_v27_apply, val_main_v26_apply,
    val_main_v24_apply, val_main_v22_apply, e1, val_main_v21_at, val_main_v23_apply, val_main_cst_4_apply, val_main_v25_apply,
    val_main_cst_5_apply, val_main_v31_apply, val_main_v30_apply, e2]
  rfl

theorem val_main_v54_at (n : Fin 16) (j : Fin 256) : val_main_v54 (F := Ideal) x0 x1 x2 x3 (ix4 b q n j) = lane x0 x1 x2 x3 b q n j := by
  have e : idx_main_v54 (ix4 b q n j) = ix3 b q (⟨256 * n.val + j.val, by omega⟩ : Fin 4096) := by
    funext a
    apply Fin.ext
    match a with
    | ⟨0, _⟩ => show (((b.val * 2048 + q.val) * 16 + n.val) * 256 + j.val) / 8388608 = b.val; omega
    | ⟨1, _⟩ => show (((b.val * 2048 + q.val) * 16 + n.val) * 256 + j.val) / 4096 % 2048 = q.val; omega
    | ⟨2, _⟩ => show (((b.val * 2048 + q.val) * 16 + n.val) * 256 + j.val) % 4096 = 256 * n.val + j.val; omega
  rw [val_main_v54_apply, e, val_main_v53_apply]
  refine Finset.sum_congr rfl fun r _ => congrArg₂ (· * ·) ?_ (congrArg x3 ?_)
  · rw [← val_main_v32_at]
    exact congrArg _ (funext fun a => match a with | ⟨0, _⟩ => rfl | ⟨1, _⟩ => rfl | ⟨2, _⟩ => rfl)
  · exact funext fun a => match a with | ⟨0, _⟩ => rfl | ⟨1, _⟩ => rfl

/-! ### The turned lanes the heads share -/

theorem val_main_v33_at (l : Fin 32) : val_main_v33 (F := Ideal) x0 x1 (ix3 b q l) = compressed x0 x1 b q ⟨512 + l.val, by omega⟩ := by
  rw [val_main_v33_apply, ← val_main_v18_at]
  exact congrArg _ (funext fun a => match a with | ⟨0, _⟩ => rfl | ⟨1, _⟩ => rfl | ⟨2, _⟩ => rfl)

theorem val_main_v34_at (l : Fin 32) : val_main_v34 (F := Ideal) x0 x1 (ix3 b q l) = compressed x0 x1 b q ⟨544 + l.val, by omega⟩ := by
  rw [val_main_v34_apply, ← val_main_v18_at]
  exact congrArg _ (funext fun a => match a with | ⟨0, _⟩ => rfl | ⟨1, _⟩ => rfl | ⟨2, _⟩ => rfl)

theorem val_main_v37_at (l : Fin 32) : val_main_v37 (F := Ideal) (ix3 b q l) = cosine q l := by
  rw [val_main_v37_apply, val_main_v36_apply]
  exact congrArg (val_main_v16 (F := Ideal)) (funext fun a => match a with | ⟨0, _⟩ => rfl | ⟨1, _⟩ => rfl)

theorem val_main_v44_at (l : Fin 32) : val_main_v44 (F := Ideal) (ix3 b q l) = cosine q l := by
  rw [val_main_v44_apply, val_main_v43_apply]
  exact congrArg (val_main_v16 (F := Ideal)) (funext fun a => match a with | ⟨0, _⟩ => rfl | ⟨1, _⟩ => rfl)

theorem val_main_v40_at (l : Fin 32) : val_main_v40 (F := Ideal) (ix3 b q l) = sine q l := by
  rw [val_main_v40_apply, val_main_v39_apply]
  exact congrArg (val_main_v17 (F := Ideal)) (funext fun a => match a with | ⟨0, _⟩ => rfl | ⟨1, _⟩ => rfl)

theorem val_main_v47_at (l : Fin 32) : val_main_v47 (F := Ideal) (ix3 b q l) = sine q l := by
  rw [val_main_v47_apply, val_main_v46_apply]
  exact congrArg (val_main_v17 (F := Ideal)) (funext fun a => match a with | ⟨0, _⟩ => rfl | ⟨1, _⟩ => rfl)

theorem shared_low (l : Fin 32) : val_main_v50 (F := Ideal) x0 x1 (ix3 b q ⟨l.val, by omega⟩)
    = compressed x0 x1 b q ⟨512 + l.val, by omega⟩ * cosine q l - compressed x0 x1 b q ⟨544 + l.val, by omega⟩ * sine q l := by
  unfold val_main_v50
  refine (concatenate_apply_piece (t := S8x2048x128) 2 _ _ _ 0 (by simp) S8x2048x32 _ rfl rfl 0 rfl (ix3 b q l)
    (fun a ha => match a with | ⟨0, _⟩ => rfl | ⟨1, _⟩ => rfl | ⟨2, _⟩ => absurd rfl ha) (Nat.zero_add _)).trans ?_
  rw [val_main_v42_apply, val_main_v38_apply, val_main_v41_apply, val_main_v33_at, val_main_v34_at, val_main_v37_at, val_main_v40_at]
  rfl

theorem shared_high (l : Fin 32) : val_main_v50 (F := Ideal) x0 x1 (ix3 b q ⟨32 + l.val, by omega⟩)
    = compressed x0 x1 b q ⟨544 + l.val, by omega⟩ * cosine q l + compressed x0 x1 b q ⟨512 + l.val, by omega⟩ * sine q l := by
  unfold val_main_v50
  refine (concatenate_apply_piece (t := S8x2048x128) 2 _ _ _ 1 (by simp) S8x2048x32 _ rfl rfl 32 rfl (ix3 b q l)
    (fun a ha => match a with | ⟨0, _⟩ => rfl | ⟨1, _⟩ => rfl | ⟨2, _⟩ => absurd rfl ha) rfl).trans ?_
  rw [val_main_v49_apply, val_main_v45_apply, val_main_v48_apply, val_main_v33_at, val_main_v34_at, val_main_v44_at, val_main_v47_at]
  rfl

theorem shared_gap (l : Fin 64) : val_main_v50 (F := Ideal) x0 x1 (ix3 b q ⟨64 + l.val, by omega⟩) = 0 := by
  unfold val_main_v50
  refine (concatenate_apply_piece (t := S8x2048x128) 2 _ _ _ 2 (by simp) S8x2048x64 _ rfl rfl 64 rfl (ix3 b q l)
    (fun a ha => match a with | ⟨0, _⟩ => rfl | ⟨1, _⟩ => rfl | ⟨2, _⟩ => absurd rfl ha) rfl).trans ?_
  rw [val_main_v35_apply, val_main_cst_6_apply]
  exact ofBits_zero

/-! ### The results, lane by lane -/

/-- The keys at row `2048 b + q` and lane `256 n + j`. -/
theorem val_main_v61_at (n : Fin 16) (j : Fin 256) :
    val_main_v61 (F := Ideal) x0 x1 x2 x3 (ix2 ⟨2048 * b.val + q.val, by omega⟩ ⟨256 * n.val + j.val, by omega⟩)
      = val_main_v56 (F := Ideal) x0 x1 x2 x3 (ix4 b q n j) := by
  rw [val_main_v61_apply]
  show val_main_v60 (F := Ideal) x0 x1 x2 x3 _ = _
  rw [val_main_v60_apply]
  refine congrArg _ (funext fun a => Fin.ext ?_)
  match a with
  | ⟨0, _⟩ => show ((2048 * b.val + q.val) * 4096 + (256 * n.val + j.val)) / 8388608 = b.val; omega
  | ⟨1, _⟩ => show ((2048 * b.val + q.val) * 4096 + (256 * n.val + j.val)) / 4096 % 2048 = q.val; omega
  | ⟨2, _⟩ => show ((2048 * b.val + q.val) * 4096 + (256 * n.val + j.val)) / 256 % 16 = n.val; omega
  | ⟨3, _⟩ => show ((2048 * b.val + q.val) * 4096 + (256 * n.val + j.val)) % 256 = j.val; omega

/-- The values at row `2048 b + q` and lane `256 n + j`. -/
theorem val_main_v63_at (n : Fin 16) (j : Fin 256) :
    val_main_v63 (F := Ideal) x0 x1 x2 x3 (ix2 ⟨2048 * b.val + q.val, by omega⟩ ⟨256 * n.val + j.val, by omega⟩)
      = val_main_v59 (F := Ideal) x0 x1 x2 x3 (ix4 b q n j) := by
  rw [val_main_v63_apply]
  show val_main_v62 (F := Ideal) x0 x1 x2 x3 _ = _
  rw [val_main_v62_apply]
  refine congrArg _ (funext fun a => Fin.ext ?_)
  match a with
  | ⟨0, _⟩ => show ((2048 * b.val + q.val) * 4096 + (256 * n.val + j.val)) / 8388608 = b.val; omega
  | ⟨1, _⟩ => show ((2048 * b.val + q.val) * 4096 + (256 * n.val + j.val)) / 4096 % 2048 = q.val; omega
  | ⟨2, _⟩ => show ((2048 * b.val + q.val) * 4096 + (256 * n.val + j.val)) / 256 % 16 = n.val; omega
  | ⟨3, _⟩ => show ((2048 * b.val + q.val) * 4096 + (256 * n.val + j.val)) % 256 = j.val; omega

/-- A head's first 128 lanes of keys. -/
theorem keys_nope (n : Fin 16) (j : Fin 128) :
    val_main_v56 (F := Ideal) x0 x1 x2 x3 (ix4 b q n ⟨j.val, by omega⟩) = lane x0 x1 x2 x3 b q n ⟨j.val, by omega⟩ := by
  unfold val_main_v56
  refine (concatenate_apply_piece (t := S8x2048x16x256) 3 _ _ _ 0 (by simp) S8x2048x16x128 _ rfl rfl 0 rfl (ix4 b q n j)
    (fun a ha => match a with | ⟨0, _⟩ => rfl | ⟨1, _⟩ => rfl | ⟨2, _⟩ => rfl | ⟨3, _⟩ => absurd rfl ha) (Nat.zero_add _)).trans ?_
  rw [val_main_v55_apply, ← val_main_v54_at]
  exact congrArg _ (funext fun a => match a with | ⟨0, _⟩ => rfl | ⟨1, _⟩ => rfl | ⟨2, _⟩ => rfl | ⟨3, _⟩ => rfl)

/-- A head's last 128 lanes of keys are the shared ones. -/
theorem keys_shared (n : Fin 16) (j : Fin 128) :
    val_main_v56 (F := Ideal) x0 x1 x2 x3 (ix4 b q n ⟨128 + j.val, by omega⟩) = val_main_v50 (F := Ideal) x0 x1 (ix3 b q j) := by
  unfold val_main_v56
  refine (concatenate_apply_piece (t := S8x2048x16x256) 3 _ _ _ 1 (by simp) S8x2048x16x128 _ rfl rfl 128 rfl (ix4 b q n j)
    (fun a ha => match a with | ⟨0, _⟩ => rfl | ⟨1, _⟩ => rfl | ⟨2, _⟩ => rfl | ⟨3, _⟩ => absurd rfl ha) rfl).trans ?_
  rw [val_main_v52_apply, val_main_v51_apply]
  exact congrArg _ (funext fun a => match a with | ⟨0, _⟩ => rfl | ⟨1, _⟩ => rfl | ⟨2, _⟩ => rfl)

/-- A head's values. -/
theorem values_own (n : Fin 16) (j : Fin 128) :
    val_main_v59 (F := Ideal) x0 x1 x2 x3 (ix4 b q n ⟨j.val, by omega⟩) = lane x0 x1 x2 x3 b q n ⟨128 + j.val, by omega⟩ := by
  unfold val_main_v59
  refine (concatenate_apply_piece (t := S8x2048x16x256) 3 _ _ _ 0 (by simp) S8x2048x16x128 _ rfl rfl 0 rfl (ix4 b q n j)
    (fun a ha => match a with | ⟨0, _⟩ => rfl | ⟨1, _⟩ => rfl | ⟨2, _⟩ => rfl | ⟨3, _⟩ => absurd rfl ha) (Nat.zero_add _)).trans ?_
  rw [val_main_v57_apply, ← val_main_v54_at]
  exact congrArg _ (funext fun a => match a with | ⟨0, _⟩ => rfl | ⟨1, _⟩ => rfl | ⟨2, _⟩ => rfl | ⟨3, _⟩ => rfl)

/-- The ones after a head's values. -/
theorem values_ones (n : Fin 16) (j : Fin 128) :
    val_main_v59 (F := Ideal) x0 x1 x2 x3 (ix4 b q n ⟨128 + j.val, by omega⟩) = Ideal.ofBits .bf16 0x3F80#16 := by
  unfold val_main_v59
  refine (concatenate_apply_piece (t := S8x2048x16x256) 3 _ _ _ 1 (by simp) S8x2048x16x128 _ rfl rfl 128 rfl (ix4 b q n j)
    (fun a ha => match a with | ⟨0, _⟩ => rfl | ⟨1, _⟩ => rfl | ⟨2, _⟩ => rfl | ⟨3, _⟩ => absurd rfl ha) rfl).trans ?_
  rw [val_main_v58_apply, val_main_cst_7_apply]
  exact ofBits_one

end Cert.KvReference

end
-- ==== Proof.KvResult.lean ====
/- The two whole arrays of the shared keys and values are their reference's. -/
module

public import proofs.«01_k».proof.Proof.KvBlock
public import proofs.«01_k».proof.Proof.KvPrepared
public import proofs.«01_k».proof.Proof.KvReference
public import proofs.«01_k».proof.Proof.Gen.Kernel3Ideal.Value

@[expose] public section

noncomputable section

namespace Cert.KvResult

open Idealize.ShloMosaic Idealize.ShloMosaic.ValueIdx Idealize.ShloMosaic.TcCoe Cert.Kernel3Ideal Cert.Kernel3Ideal.Gen Cert.KvBlock
  Cert.KvPrepared Cert.QueryPrepared Cert.Rotary

variable (m : (ℓ : Loc nD τ sig) → Buf (Elt Ideal) ℓ) (c : Dev nD) (t : Fin cfg0.N) (p : Fin 512) (n : Fin 16)

/-- The reference's keys of the kernel's arguments. -/
def expectedKeys : S16384x4096.Idx → EReal :=
  Cert.Reference3Ideal.Read.val_main_v61 (F := Ideal) (m (c.tc.loc main_arg0)) (m (c.tc.loc main_arg1)) (m (c.tc.loc main_arg2))
    (m (c.tc.loc main_arg3))

/-- The reference's values of the kernel's arguments. -/
def expectedValues : S16384x4096.Idx → EReal :=
  Cert.Reference3Ideal.Read.val_main_v63 (F := Ideal) (m (c.tc.loc main_arg0)) (m (c.tc.loc main_arg1)) (m (c.tc.loc main_arg2))
    (m (c.tc.loc main_arg3))

/-- The reference's lane of a head. -/
def wanted (j : Fin 256) : EReal :=
  Cert.KvReference.lane (m (c.tc.loc main_arg0)) (m (c.tc.loc main_arg1)) (m (c.tc.loc main_arg2)) (m (c.tc.loc main_arg3)) (entryOf t) (place t p) n j

/-- The reference's row after the first product. -/
def first (i : Fin 576) : EReal :=
  Cert.KvReference.compressed (m (c.tc.loc main_arg0)) (m (c.tc.loc main_arg1)) (entryOf t) (place t p) i

theorem row_eq (r : Fin 512) : row (iblk m c 0 t) (iblk m c 1 t) (iblk m c 3 t) p r
    = Cert.KvReference.row (m (c.tc.loc main_arg0)) (m (c.tc.loc main_arg1)) (m (c.tc.loc main_arg2)) (entryOf t) (place t p) r := by
  unfold row Cert.KvReference.row
  refine congrArg₂ (fun y g => normed y g r) (funext fun i => ?_) (funext fun i => norm_at m c t i)
  exact Finset.sum_congr rfl fun d _ => congrArg₂ (· * ·) (rows_at m c t p d) (down_at m c t d i)

theorem lane_eq (j : Fin 256) :
    lane (iblk m c 0 t) (iblk m c 1 t) (iblk m c 3 t) (iblk m c 4 t) p n j = wanted m c t p n j := by
  unfold lane wanted Cert.KvReference.lane
  exact Finset.sum_congr rfl fun r _ => congrArg₂ (· * ·) (row_eq m c t p r) (up_at m c t r _)

/-- The lanes the heads share before the turn. -/
theorem first_eq (l : Fin 64) :
    mixed (iblk m c 0 t) (iblk m c 2 t) p ⟨l.val, by omega⟩ = first m c t p ⟨512 + l.val, by omega⟩ := by
  unfold mixed first Cert.KvReference.compressed
  exact Finset.sum_congr rfl fun d _ => congrArg₂ (· * ·) (rows_at m c t p d) (rope_at m c t d l)

theorem cos_low (l : Fin 32) : iblk m c 5 t (ix2 p (⟨l.val, by omega⟩ : Fin 128)) = Cert.KvReference.cosine (place t p) l :=
  (cos_at m c t p _).trans (table_low _ _ l)

theorem cos_high (l : Fin 32) : iblk m c 5 t (ix2 p (⟨32 + l.val, by omega⟩ : Fin 128)) = Cert.KvReference.cosine (place t p) l :=
  (cos_at m c t p _).trans (table_high _ _ l)

theorem sin_low (l : Fin 32) : iblk m c 6 t (ix2 p (⟨l.val, by omega⟩ : Fin 128)) = Cert.KvReference.sine (place t p) l :=
  (sin_at m c t p _).trans (table_low _ _ l)

theorem sin_high (l : Fin 32) : iblk m c 6 t (ix2 p (⟨32 + l.val, by omega⟩ : Fin 128)) = Cert.KvReference.sine (place t p) l :=
  (sin_at m c t p _).trans (table_high _ _ l)

/-- The kernel's shared lanes after the turn. -/
def turnedLane (l : Fin 128) : EReal := rotary (iblk m c 0 t) (iblk m c 2 t) (iblk m c 5 t) (iblk m c 6 t) p l

theorem turned_first (l : Fin 32) : turnedLane m c t p ⟨l.val, by omega⟩
    = first m c t p ⟨512 + l.val, by omega⟩ * Cert.KvReference.cosine (place t p) l
      - first m c t p ⟨544 + l.val, by omega⟩ * Cert.KvReference.sine (place t p) l := by
  unfold turnedLane rotary
  refine (turned_low _ _ _ ⟨l.val, by omega⟩ l.isLt).trans ?_
  refine congrArg₂ (· - ·) (congrArg₂ (· * ·) (first_eq m c t p ⟨l.val, by omega⟩) (cos_low m c t p l))
    (congrArg₂ (· * ·) ?_ (sin_low m c t p l))
  refine (first_eq m c t p ⟨l.val + 32, by omega⟩).trans (congrArg _ (Fin.ext ?_))
  show 512 + (l.val + 32) = 544 + l.val
  omega

theorem turned_second (l : Fin 32) : turnedLane m c t p ⟨32 + l.val, by omega⟩
    = first m c t p ⟨544 + l.val, by omega⟩ * Cert.KvReference.cosine (place t p) l
      + first m c t p ⟨512 + l.val, by omega⟩ * Cert.KvReference.sine (place t p) l := by
  unfold turnedLane rotary
  refine (turned_high _ _ _ ⟨32 + l.val, by omega⟩ (by show ¬ 32 + l.val < 32; omega)).trans ?_
  refine congrArg₂ (· + ·) (congrArg₂ (· * ·) ?_ (cos_high m c t p l)) (congrArg₂ (· * ·) ?_ (sin_high m c t p l))
  · refine (first_eq m c t p ⟨32 + l.val, by omega⟩).trans (congrArg _ (Fin.ext ?_))
    show 512 + (32 + l.val) = 544 + l.val
    omega
  · refine (first_eq m c t p ⟨32 + l.val - 32, by omega⟩).trans (congrArg _ (Fin.ext ?_))
    show 512 + (32 + l.val - 32) = 512 + l.val
    omega

theorem turned_gap (l : Fin 64) : turnedLane m c t p ⟨64 + l.val, by omega⟩ = 0 := by
  unfold turnedLane rotary
  exact turned_zero _ _ _ _ ((cos_at m c t p _).trans (table_gap _ _ l)) ((sin_at m c t p _).trans (table_gap _ _ l))

/-- The shared lanes are the reference's. -/
theorem turned_eq (l : Fin 128) : turnedLane m c t p l
    = Cert.Reference3Ideal.Read.val_main_v50 (F := Ideal) (m (c.tc.loc main_arg0)) (m (c.tc.loc main_arg1)) (ix3 (entryOf t) (place t p) l) := by
  by_cases h1 : l.val < 32
  · exact (turned_first m c t p ⟨l.val, h1⟩).trans (Cert.KvReference.shared_low _ _ _ _ ⟨l.val, h1⟩).symm
  by_cases h2 : l.val < 64
  · obtain ⟨k, hk⟩ : ∃ k : Fin 32, 32 + k.val = l.val := ⟨⟨l.val - 32, by omega⟩, by show 32 + (l.val - 32) = l.val; omega⟩
    obtain rfl : (⟨32 + k.val, Nat.lt_of_lt_of_le (Nat.add_lt_add_left k.isLt 32) (by decide)⟩ : Fin 128) = l := Fin.ext hk
    exact (turned_second m c t p k).trans (Cert.KvReference.shared_high _ _ _ _ k).symm
  · obtain ⟨k, hk⟩ : ∃ k : Fin 64, 64 + k.val = l.val := ⟨⟨l.val - 64, by omega⟩, by show 64 + (l.val - 64) = l.val; omega⟩
    obtain rfl : (⟨64 + k.val, Nat.lt_of_lt_of_le (Nat.add_lt_add_left k.isLt 64) (by decide)⟩ : Fin 128) = l := Fin.ext hk
    exact (turned_gap m c t p k).trans (Cert.KvReference.shared_gap _ _ _ _ k).symm

/-- What a grid point leaves in the keys' block is the reference's entry. -/
theorem key_eq (j : Fin 256) :
    key (iblk m c 0 t) (iblk m c 1 t) (iblk m c 2 t) (iblk m c 3 t) (iblk m c 4 t) (iblk m c 5 t) (iblk m c 6 t) p n j
    = expectedKeys m c (ix2 ⟨2048 * (entryOf t).val + (place t p).val, by have := (entryOf t).isLt; have := (place t p).isLt; omega⟩
        ⟨256 * n.val + j.val, by omega⟩) := by
  unfold expectedKeys key
  rw [Cert.KvReference.val_main_v61_at]
  by_cases h : j.val < 128
  · rw [if_pos h]
    exact (lane_eq m c t p n j).trans (Cert.KvReference.keys_nope _ _ _ _ _ _ n ⟨j.val, h⟩).symm
  · rw [if_neg h]
    obtain ⟨k, hk⟩ : ∃ k : Fin 128, 128 + k.val = j.val := ⟨⟨j.val - 128, by omega⟩, by show 128 + (j.val - 128) = j.val; omega⟩
    obtain rfl : (⟨128 + k.val, Nat.lt_of_lt_of_le (Nat.add_lt_add_left k.isLt 128) (by decide)⟩ : Fin 256) = j := Fin.ext hk
    refine Eq.trans (congrArg (turnedLane m c t p) (Fin.ext ?_)) ((turned_eq m c t p k).trans (Cert.KvReference.keys_shared _ _ _ _ _ _ n k).symm)
    show 128 + k.val - 128 = k.val
    omega

/-- What a grid point leaves in the values' block is the reference's entry. -/
theorem val_eq (j : Fin 256) :
    val (iblk m c 0 t) (iblk m c 1 t) (iblk m c 3 t) (iblk m c 4 t) p n j
    = expectedValues m c (ix2 ⟨2048 * (entryOf t).val + (place t p).val, by have := (entryOf t).isLt; have := (place t p).isLt; omega⟩
        ⟨256 * n.val + j.val, by omega⟩) := by
  unfold expectedValues val
  rw [Cert.KvReference.val_main_v63_at]
  by_cases h : j.val < 128
  · rw [dif_pos h]
    exact (lane_eq m c t p n ⟨128 + j.val, by omega⟩).trans (Cert.KvReference.values_own _ _ _ _ _ _ n ⟨j.val, h⟩).symm
  · rw [dif_neg h]
    obtain ⟨k, hk⟩ : ∃ k : Fin 128, 128 + k.val = j.val := ⟨⟨j.val - 128, by omega⟩, by show 128 + (j.val - 128) = j.val; omega⟩
    obtain rfl : (⟨128 + k.val, Nat.lt_of_lt_of_le (Nat.add_lt_add_left k.isLt 128) (by decide)⟩ : Fin 256) = j := Fin.ext hk
    exact (Cert.KvReference.values_ones _ _ _ _ _ _ n k).symm

/-- A grid point's block of the keys, entry by entry. -/
theorem keys_emb (l : Fin 4096) : ((cfg0.win 7).blk t).view.emb (ix2 p l)
    = ix2 ⟨2048 * (entryOf t).val + (place t p).val, by have := (entryOf t).isLt; have := (place t p).isLt; omega⟩ l := by
  funext a
  apply Fin.ext
  match a with
  | ⟨0, _⟩ =>
    show win0_7.index t 0 * 512 + 1 * p.val = 2048 * (t.val / 4) + (512 * (t.val % 4) + p.val)
    rw [index_7]; show t.val * 512 + 1 * p.val = _; omega
  | ⟨1, _⟩ =>
    show win0_7.index t 1 * 4096 + 1 * l.val = l.val
    rw [index_7]; show 0 * 4096 + 1 * l.val = _; omega

/-- A grid point's block of the values, entry by entry. -/
theorem values_emb (l : Fin 4096) : ((cfg0.win 8).blk t).view.emb (ix2 p l)
    = ix2 ⟨2048 * (entryOf t).val + (place t p).val, by have := (entryOf t).isLt; have := (place t p).isLt; omega⟩ l := by
  funext a
  apply Fin.ext
  match a with
  | ⟨0, _⟩ =>
    show win0_8.index t 0 * 512 + 1 * p.val = 2048 * (t.val / 4) + (512 * (t.val % 4) + p.val)
    rw [index_8]; show t.val * 512 + 1 * p.val = _; omega
  | ⟨1, _⟩ =>
    show win0_8.index t 1 * 4096 + 1 * l.val = l.val
    rw [index_8]; show 0 * 4096 + 1 * l.val = _; omega

/-- Every row of the results is in the block of one grid point. -/
theorem place_point (r : Fin 16384) (l : Fin 4096) (ht : r.val / 512 < cfg0.N) :
    (ix2 ⟨2048 * (entryOf ⟨r.val / 512, ht⟩).val + (place ⟨r.val / 512, ht⟩ ⟨r.val % 512, by omega⟩).val, by
        have := (entryOf ⟨r.val / 512, ht⟩).isLt
        have := (place ⟨r.val / 512, ht⟩ ⟨r.val % 512, by omega⟩).isLt
        omega⟩ l : S16384x4096.Idx) = ix2 r l := by
  refine congrArg (fun r => (ix2 r l : S16384x4096.Idx)) (Fin.ext ?_)
  show 2048 * (r.val / 512 / 4) + (512 * (r.val / 512 % 4) + r.val % 512) = r.val
  omega

theorem keys_entry (l : Fin 4096) :
    out0_7 (iblk m c 0 t) (iblk m c 1 t) (iblk m c 2 t) (iblk m c 3 t) (iblk m c 4 t) (iblk m c 5 t) (iblk m c 6 t) (ix2 p l)
      = expectedKeys m c (((cfg0.win 7).blk t).view.emb (ix2 p l)) := by
  rw [keys_apply, keys_emb]
  refine (key_eq m c t p ⟨l.val / 256, by omega⟩ ⟨l.val % 256, by omega⟩).trans (congrArg (fun l => expectedKeys m c (ix2 _ l)) (Fin.ext ?_))
  show 256 * (l.val / 256) + l.val % 256 = l.val
  omega

theorem values_entry (l : Fin 4096) :
    out0_8 (iblk m c 0 t) (iblk m c 1 t) (iblk m c 2 t) (iblk m c 3 t) (iblk m c 4 t) (iblk m c 5 t) (iblk m c 6 t) (ix2 p l)
      = expectedValues m c (((cfg0.win 8).blk t).view.emb (ix2 p l)) := by
  rw [values_apply, values_emb]
  refine (val_eq m c t p ⟨l.val / 256, by omega⟩ ⟨l.val % 256, by omega⟩).trans (congrArg (fun l => expectedValues m c (ix2 _ l)) (Fin.ext ?_))
  show 256 * (l.val / 256) + l.val % 256 = l.val
  omega

/-- The keys after the run. -/
theorem keys_array : (dats m 0 c).arrAt 7 cfg0.N = expectedKeys m c := by
  refine Pipeline.Dat.arrAt_eq_of_cover (dats m 0 c) 7 (expectedKeys m c) (fun t _ => ?_) fun i => ?_
  · rw [Cert.Kernel3Ideal.Value.flushed7]
    funext x
    obtain ⟨p, l, rfl⟩ : ∃ (p : Fin 512) (l : Fin 4096), x = ix2 p l := ⟨x 0, x 1, eq_ix2 x⟩
    exact keys_entry m c t p l
  · obtain ⟨r, l, rfl⟩ : ∃ (r : Fin 16384) (l : Fin 4096), i = ix2 r l := ⟨i 0, i 1, eq_ix2 i⟩
    have hN : cfg0.N = 32 := rfl
    have ht : r.val / 512 < cfg0.N := by rw [hN]; omega
    refine ⟨⟨r.val / 512, ht⟩, flush0_7 _, ?_⟩
    rw [← place_point r l ht, ← keys_emb]
    exact View.emb_mem_set _ _

/-- The values after the run. -/
theorem values_array : (dats m 0 c).arrAt 8 cfg0.N = expectedValues m c := by
  refine Pipeline.Dat.arrAt_eq_of_cover (dats m 0 c) 8 (expectedValues m c) (fun t _ => ?_) fun i => ?_
  · rw [Cert.Kernel3Ideal.Value.flushed8]
    funext x
    obtain ⟨p, l, rfl⟩ : ∃ (p : Fin 512) (l : Fin 4096), x = ix2 p l := ⟨x 0, x 1, eq_ix2 x⟩
    exact values_entry m c t p l
  · obtain ⟨r, l, rfl⟩ : ∃ (r : Fin 16384) (l : Fin 4096), i = ix2 r l := ⟨i 0, i 1, eq_ix2 i⟩
    have hN : cfg0.N = 32 := rfl
    have ht : r.val / 512 < cfg0.N := by rw [hN]; omega
    refine ⟨⟨r.val / 512, ht⟩, flush0_8 _, ?_⟩
    rw [← place_point r l ht, ← values_emb]
    exact View.emb_mem_set _ _

end Cert.KvResult

end
-- ==== Proof.MixSlabs.lean ====
/- A tile of 512 rows worked on in eight slabs of 64 rows: the slabs' places, a tile made slab by slab, and what eight
   stores of slabs leave. -/
module

public import proofs.«01_k».proof.Proof.Gen.Kernel4Ideal.Skeleton
public import proofs.«01_k».proof.Proof.Gen.Kernel4Ideal.Frame
public import Idealize.ShloMosaic.Lib.Pipeline.ReadBack

@[expose] public section

noncomputable section

namespace Cert.MixSlabs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal Cert.Kernel4Ideal.Gen

variable {F : FTy → Type} [FloatOps F]

/-- The second grid axis has one point, so a slab computed to start `w` rows below the axis' tile starts at row `w`. -/
theorem off_eq (i : grid0.Coords) (w : BitVec 32) : k0_off1 i w = ![w.toNat, 0] := by
  have h : (i 1).val = 0 := Nat.lt_one_iff.mp (i 1).isLt
  simp [k0_off1, h, Scalar.addi, Scalar.muli, Scalar.indexCast, IntOp.addi, IntOp.muli]

/-- Slab `p` lies inside a tile. (Its number is taken within its range, so that a slab is defined at every number.) -/
theorem slab_inb (p : ℕ) : ∀ a : Fin S512x2048.rank,
    (![64 * (p % 8), 0] : Fin S512x2048.rank → ℕ) a + S64x2048.size a ≤ S512x2048.size a := by
  intro a
  match a with
  | ⟨0, _⟩ => show 64 * (p % 8) + 64 ≤ 512; omega
  | ⟨1, _⟩ => show 0 + 2048 ≤ 2048; omega

/-- Slab `p` of a tile. -/
def slab (p : ℕ) : Rect S512x2048 := Rect.unit (s := S512x2048) ![64 * (p % 8), 0] S64x2048.size (slab_inb p)

/-- A position in a slab. -/
def place (y : S512x2048.Idx) : S64x2048.Idx :=
  fun a => match a with
  | ⟨0, _⟩ => ⟨(y 0).val % 64, Nat.mod_lt _ (by decide)⟩
  | ⟨1, _⟩ => ⟨(y 1).val, (y 1).isLt⟩

/-- The tile whose slabs are `f` of the slabs of two tiles. -/
def spread {e e' e'' : EltTy} (f : Vec F S64x2048 e → Vec F S64x2048 e' → Vec F S64x2048 e'')
    (a : Vec F S512x2048 e) (r : Vec F S512x2048 e') : Vec F S512x2048 e'' :=
  fun y => f (View.ld a (slab ((y 0).val / 64))) (View.ld r (slab ((y 0).val / 64))) (place y)

/-- Its slab at rows 64·p … is `f` of theirs. -/
theorem spread_emb {e e' e'' : EltTy} (f : Vec F S64x2048 e → Vec F S64x2048 e' → Vec F S64x2048 e'')
    (a : Vec F S512x2048 e) (r : Vec F S512x2048 e') (p : ℕ) (hp : p < 8) (off : Fin S512x2048.rank → ℕ) (hoff : off = ![64 * p, 0])
    (inb : ∀ k, off k + S64x2048.size k ≤ S512x2048.size k) (x : S64x2048.Idx) :
    spread f a r ((Rect.unit (s := S512x2048) off S64x2048.size inb).emb x)
      = f (View.ld a (Rect.unit (s := S512x2048) off S64x2048.size inb)) (View.ld r (Rect.unit (s := S512x2048) off S64x2048.size inb)) x := by
  subst hoff
  have e0 : (((Rect.unit (s := S512x2048) ![64 * p, 0] S64x2048.size inb).emb x) 0).val = 64 * p + 1 * (x 0).val := rfl
  have e1 : (((Rect.unit (s := S512x2048) ![64 * p, 0] S64x2048.size inb).emb x) 1).val = 0 + 1 * (x 1).val := rfl
  have hx : (x 0).val < 64 := (x 0).isLt
  have hq : (64 * p + 1 * (x 0).val) / 64 = p := by omega
  have hs : slab p = Rect.unit (s := S512x2048) ![64 * p, 0] S64x2048.size inb := by
    unfold slab; congr 2; rw [Nat.mod_eq_of_lt hp]
  have hx' : place ((Rect.unit (s := S512x2048) ![64 * p, 0] S64x2048.size inb).emb x) = x := by
    funext k
    match k with
    | ⟨0, _⟩ => exact Fin.ext (show (((Rect.unit (s := S512x2048) ![64 * p, 0] S64x2048.size inb).emb x) 0).val % 64 = (x 0).val by rw [e0]; omega)
    | ⟨1, _⟩ => exact Fin.ext (show (((Rect.unit (s := S512x2048) ![64 * p, 0] S64x2048.size inb).emb x) 1).val = (x 1).val by rw [e1]; omega)
  unfold spread
  rw [hx', e0, hq]
  exact congrArg (fun R : {R : Rect S512x2048 // R.shape = S64x2048} => f (cast (by rw [R.2]) (View.ld a R.1)) (cast (by rw [R.2]) (View.ld r R.1)) x)
    (Subtype.ext hs : (⟨slab p, rfl⟩ : {R : Rect S512x2048 // R.shape = S64x2048}) = ⟨_, rfl⟩)

/-- A slab stored at rows 64·p … as a piece of a tile. -/
def piece {e : EltTy} (off : Fin S512x2048.rank → ℕ) (inb : ∀ k, off k + S64x2048.size k ≤ S512x2048.size k) (w : Vec F S64x2048 e) :
    View.Piece (Elt F) S512x2048 e := ⟨Rect.unit (s := S512x2048) off S64x2048.size inb, w⟩

/-- The stores of the eight slabs `w` at the rows `off`, the last first, over earlier ones. -/
def eight {e : EltTy} (off : Fin 8 → Fin S512x2048.rank → ℕ) (inb : ∀ p k, off p k + S64x2048.size k ≤ S512x2048.size k)
    (w : Fin 8 → Vec F S64x2048 e) (L : List (View.Piece (Elt F) S512x2048 e)) : List (View.Piece (Elt F) S512x2048 e) :=
  piece (off 7) (inb 7) (w 7) :: piece (off 6) (inb 6) (w 6) :: piece (off 5) (inb 5) (w 5) ::
    piece (off 4) (inb 4) (w 4) :: piece (off 3) (inb 3) (w 3) :: piece (off 2) (inb 2) (w 2) :: piece (off 1) (inb 1) (w 1) ::
    piece (off 0) (inb 0) (w 0) :: L

/-- Eight stores of the slabs of a tile `G`, over anything, leave `G`. -/
theorem read_slabs {e : EltTy} {sig : RefSig} {κ : Kind} {sp : Space} (v : View sig κ sp S512x2048 e) (f : v.ty.Contents (Elt F))
    (G : Vec F S512x2048 e) (L : List (View.Piece (Elt F) S512x2048 e))
    (off : Fin 8 → Fin S512x2048.rank → ℕ) (inb : ∀ p k, off p k + S64x2048.size k ≤ S512x2048.size k) (w : Fin 8 → Vec F S64x2048 e)
    (hoff : ∀ p, off p = ![64 * p.val, 0])
    (hw : ∀ p x, w p x = G ((Rect.unit (s := S512x2048) (off p) S64x2048.size (inb p)).emb x)) :
    v.read (Elt F) (v.writes (Elt F) f (eight off inb w L)) = G := by
  have hc : ∀ y : S512x2048.Idx, ∃ p ∈ [piece (off 7) (inb 7) (w 7), piece (off 6) (inb 6) (w 6), piece (off 5) (inb 5) (w 5),
      piece (off 4) (inb 4) (w 4), piece (off 3) (inb 3) (w 3), piece (off 2) (inb 2) (w 2), piece (off 1) (inb 1) (w 1),
      piece (off 0) (inb 0) (w 0)], y ∈ p.1.set := by
    intro y
    have hy : (y 0).val < 512 := (y 0).isLt
    have hm : ∀ q : Fin 8, q.val = (y 0).val / 64 → y ∈ (piece (off q) (inb q) (w q)).1.set := fun q hq => by
      refine (Rect.mem_set_unit (s := S512x2048) (inb := inb q)).mpr fun k => ?_
      rw [hoff q]
      match k with
      | ⟨0, _⟩ => exact ⟨show 64 * q.val ≤ (y 0).val by omega, show (y 0).val < 64 * q.val + 64 by omega⟩
      | ⟨1, _⟩ => exact ⟨Nat.zero_le _, show (y 1).val < 0 + 2048 by have h1 : (y 1).val < 2048 := (y 1).isLt; omega⟩
    obtain ⟨q, hq⟩ : ∃ q : Fin 8, q.val = (y 0).val / 64 := ⟨⟨(y 0).val / 64, by omega⟩, rfl⟩
    refine ⟨_, ?_, hm q hq⟩
    clear hq hm
    fin_cases q <;> simp
  funext y
  rw [View.read_writes_apply_eq_canon v f y _ (by
    obtain ⟨p, hp, h⟩ := hc y
    exact ⟨p, List.mem_append_left L hp, h⟩)]
  exact View.canon_append_of_piecesOf G L [_, _, _, _, _, _, _, _] ⟨hw 7, hw 6, hw 5, hw 4, hw 3, hw 2, hw 1, hw 0, trivial⟩ y (hc y)

end Cert.MixSlabs

end
-- ==== Proof.MixRun.lean ====
/- One grid point of the mixing product run on whole tiles, in each of its four cases: what it leaves in its results'
   buffers and in the two accumulators. -/
module

public import proofs.«01_k».proof.Proof.MixSlabs

@[expose] public section

set_option maxRecDepth 16384

noncomputable section

namespace Cert.MixRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen Cert.MixSlabs

variable {F : FTy → Type} [FloatOps F] [Named F]

local notation "𝕄" => MT nD τ sig Unit (Elt F) ℕ (UR sig nD τ) ℕ

/-- A slab normalised: its accumulator slab `a`, its residual slab `r`, the gain and the bias. -/
def normSlab (g b : Vec F S1x2048 .f32) (a r : Vec F S64x2048 .f32) : Vec F S64x2048 .f32 :=
  k0_pay13 (k0_pay11 a r) (k0_pay12 a r) g b

/-- The same at half width. -/
def halfSlab (g b : Vec F S1x2048 .f32) (a r : Vec F S64x2048 .f32) : Vec F S64x2048 .bf16 :=
  k0_pay14 (k0_pay11 a r) (k0_pay12 a r) g b

/-- A tile normalised slab by slab. -/
def normed (a r : Vec F S512x2048 .f32) (g b : Vec F S1x2048 .f32) : Vec F S512x2048 .f32 := spread (normSlab g b) a r

/-- The same at half width. -/
def halved (a r : Vec F S512x2048 .f32) (g b : Vec F S1x2048 .f32) : Vec F S512x2048 .bf16 := spread (halfSlab g b) a r

/-- A cleared accumulator. -/
def cleared : Vec F S512x2048 .f32 := k0_pay1

/-- An accumulator with a product added. -/
def added (a : Vec F S512x2048 .f32) (h : Vec F S512x2048 .bf16) (w : Vec F S2048x2048 .bf16) : Vec F S512x2048 .f32 := k0_pay9 a h w

/-! ## Where the slabs start -/

instance closed1_0 (i : grid0.Coords) : ClosedOff (k0_off1 i 0#32) := ⟨![0, 0], off_eq i _⟩
instance closed1_1 (i : grid0.Coords) : ClosedOff (k0_off1 i 64#32) := ⟨![64, 0], off_eq i _⟩
instance closed1_2 (i : grid0.Coords) : ClosedOff (k0_off1 i 128#32) := ⟨![128, 0], off_eq i _⟩
instance closed1_3 (i : grid0.Coords) : ClosedOff (k0_off1 i 192#32) := ⟨![192, 0], off_eq i _⟩
instance closed1_4 (i : grid0.Coords) : ClosedOff (k0_off1 i 256#32) := ⟨![256, 0], off_eq i _⟩
instance closed1_5 (i : grid0.Coords) : ClosedOff (k0_off1 i 320#32) := ⟨![320, 0], off_eq i _⟩
instance closed1_6 (i : grid0.Coords) : ClosedOff (k0_off1 i 384#32) := ⟨![384, 0], off_eq i _⟩
instance closed1_7 (i : grid0.Coords) : ClosedOff (k0_off1 i 448#32) := ⟨![448, 0], off_eq i _⟩
instance closed2_0 (i : grid0.Coords) : ClosedOff (k0_off2 i 0#32) := ⟨![0, 0], off_eq i _⟩
instance closed2_1 (i : grid0.Coords) : ClosedOff (k0_off2 i 64#32) := ⟨![64, 0], off_eq i _⟩
instance closed2_2 (i : grid0.Coords) : ClosedOff (k0_off2 i 128#32) := ⟨![128, 0], off_eq i _⟩
instance closed2_3 (i : grid0.Coords) : ClosedOff (k0_off2 i 192#32) := ⟨![192, 0], off_eq i _⟩
instance closed2_4 (i : grid0.Coords) : ClosedOff (k0_off2 i 256#32) := ⟨![256, 0], off_eq i _⟩
instance closed2_5 (i : grid0.Coords) : ClosedOff (k0_off2 i 320#32) := ⟨![320, 0], off_eq i _⟩
instance closed2_6 (i : grid0.Coords) : ClosedOff (k0_off2 i 384#32) := ⟨![384, 0], off_eq i _⟩
instance closed2_7 (i : grid0.Coords) : ClosedOff (k0_off2 i 448#32) := ⟨![448, 0], off_eq i _⟩
instance closed3_0 (i : grid0.Coords) : ClosedOff (k0_off3 i 0#32) := ⟨![0, 0], off_eq i _⟩
instance closed3_1 (i : grid0.Coords) : ClosedOff (k0_off3 i 64#32) := ⟨![64, 0], off_eq i _⟩
instance closed3_2 (i : grid0.Coords) : ClosedOff (k0_off3 i 128#32) := ⟨![128, 0], off_eq i _⟩
instance closed3_3 (i : grid0.Coords) : ClosedOff (k0_off3 i 192#32) := ⟨![192, 0], off_eq i _⟩
instance closed3_4 (i : grid0.Coords) : ClosedOff (k0_off3 i 256#32) := ⟨![256, 0], off_eq i _⟩
instance closed3_5 (i : grid0.Coords) : ClosedOff (k0_off3 i 320#32) := ⟨![320, 0], off_eq i _⟩
instance closed3_6 (i : grid0.Coords) : ClosedOff (k0_off3 i 384#32) := ⟨![384, 0], off_eq i _⟩
instance closed3_7 (i : grid0.Coords) : ClosedOff (k0_off3 i 448#32) := ⟨![448, 0], off_eq i _⟩

/-- Slab `p` of the eight, counted in words. -/
def row (p : Fin 8) : BitVec 32 := BitVec.ofNat 32 (64 * p.val)

/-- It starts at row 64·p. -/
theorem off_row (i : grid0.Coords) (p : Fin 8) : k0_off1 i (row p) = ![64 * p.val, 0] := by
  rw [off_eq, row, BitVec.toNat_ofNat, Nat.mod_eq_of_lt (by have := p.isLt; omega)]

theorem off_inb (i : grid0.Coords) (p : Fin 8) : ∀ k, k0_off1 i (row p) k + S64x2048.size k ≤ S512x2048.size k := by
  rw [off_row]
  intro k
  match k with
  | ⟨0, _⟩ => show 64 * p.val + 64 ≤ 512; have := p.isLt; omega
  | ⟨1, _⟩ => show 0 + 2048 ≤ 2048; omega

/-- What a load of slab `p` reads off a tile. -/
abbrev cut {e : EltTy} (i : grid0.Coords) (x : Vec F S512x2048 e) (p : Fin 8) : Vec F S64x2048 e :=
  View.ld x (Rect.unit (s := S512x2048) (k0_off1 i (row p)) S64x2048.size (off_inb i p))

/-- What a load of the whole of a buffer reads off it. -/
abbrev whole {s : Shape} {e : EltTy} (m : Memref sig .tc .vmem s e) (hm : m.IsWhole) (x : Vec F s e) (off : Fin s.rank → Nat)
    (inb : ∀ a, off a + s.size a ≤ s.size a) : Vec F s e :=
  View.ld (m.view.read (Elt F) (hm.unread x)) (Rect.unit (s := s) off s.size inb)

theorem whole_eq {s : Shape} {e : EltTy} (m : Memref sig .tc .vmem s e) (hm : m.IsWhole) (x : Vec F s e) (off : Fin s.rank → Nat)
    (hoff : off = fun _ => 0) (inb : ∀ a, off a + s.size a ≤ s.size a) : whole m hm x off inb = x := by
  unfold whole
  rw [hm.read_unread]
  exact View.ld_unit_zero hoff _ _

/-- A row loaded whole is the row. -/
theorem row_eq (m : Memref sig .tc .vmem S1x2048 .f32) (hm : m.IsWhole) (x : Vec F S1x2048 .f32) :
    whole m hm x ![0, 0] inb_S1x2048_S1x2048_0_0 = x :=
  whole_eq m hm x _ (by decide) _

/-- A store of the whole of a buffer leaves what it stored. -/
theorem read_stored {s : Shape} {e : EltTy} {sig : RefSig} {κ : Kind} {sp : Space} (v : View sig κ sp s e) (f : v.ty.Contents (Elt F))
    (L : List (View.Piece (Elt F) s e)) (off : Fin s.rank → Nat) (hoff : off = fun _ => 0) (inb : ∀ a, off a + s.size a ≤ s.size a)
    (x : Vec F s e) : v.read (Elt F) (v.writes (Elt F) f (⟨Rect.unit off s.size inb, x⟩ :: L)) = x :=
  (View.read_writes_eq_canon v f _ (fun y => ⟨_, List.mem_cons_self, View.mem_set_unit_zero hoff inb y⟩)).trans
    (View.canon_cons_unit_zero hoff inb x L)

/-- The product stored over an accumulator: the accumulator's contents, the tile and the matrix each loaded whole. -/
theorem read_added {sig' : RefSig} {κ : Kind} {sp : Space} (v : View sig' κ sp S512x2048 .f32) (f : v.ty.Contents (Elt F))
    (L : List (View.Piece (Elt F) S512x2048 .f32)) (a a' : Vec F S512x2048 .f32) (ha : a' = a)
    (m₁ : Memref sig .tc .vmem S512x2048 .bf16) (h₁ : m₁.IsWhole) (h : Vec F S512x2048 .bf16)
    (m₂ : Memref sig .tc .vmem S2048x2048 .bf16) (h₂ : m₂.IsWhole) (w : Vec F S2048x2048 .bf16) :
    v.read (Elt F) (v.writes (Elt F) f
      (⟨Rect.unit ![0, 0] S512x2048.size inb_S512x2048_S512x2048_0_0,
        k0_pay9 a' (whole m₁ h₁ h ![0, 0] inb_S512x2048_S512x2048_0_0) (whole m₂ h₂ w ![0, 0] inb_S2048x2048_S2048x2048_0_0)⟩ :: L))
      = added a h w := by
  refine (read_stored v f L _ (by decide) _ _).trans ?_
  rw [ha, whole_eq m₁ h₁ h _ (by decide), whole_eq m₂ h₂ w _ (by decide)]
  rfl

/-- Eight stores of normalised slabs leave the tile normalised. -/
theorem read_normed {sig : RefSig} {κ : Kind} {sp : Space} (v : View sig κ sp S512x2048 .f32) (f : v.ty.Contents (Elt F))
    (L : List (View.Piece (Elt F) S512x2048 .f32)) (i : grid0.Coords) (a r : Vec F S512x2048 .f32) (g b : Vec F S1x2048 .f32) :
    v.read (Elt F) (v.writes (Elt F) f (eight (fun p => k0_off1 i (row p)) (off_inb i) (fun p => normSlab g b (cut i a p) (cut i r p)) L)) = normed a r g b :=
  read_slabs v f (normed a r g b) L (fun p => k0_off1 i (row p)) (off_inb i) (fun p => normSlab g b (cut i a p) (cut i r p)) (off_row i)
    fun p x => (spread_emb (normSlab g b) a r p.val p.isLt _ (off_row i p) _ x).symm

/-- The same at half width. -/
theorem read_halved {sig : RefSig} {κ : Kind} {sp : Space} (v : View sig κ sp S512x2048 .bf16) (f : v.ty.Contents (Elt F))
    (L : List (View.Piece (Elt F) S512x2048 .bf16)) (i : grid0.Coords) (a r : Vec F S512x2048 .f32) (g b : Vec F S1x2048 .f32) :
    v.read (Elt F) (v.writes (Elt F) f (eight (fun p => k0_off1 i (row p)) (off_inb i) (fun p => halfSlab g b (cut i a p) (cut i r p)) L)) = halved a r g b :=
  read_slabs v f (halved a r g b) L (fun p => k0_off1 i (row p)) (off_inb i) (fun p => halfSlab g b (cut i a p) (cut i r p)) (off_row i)
    fun p x => (spread_emb (halfSlab g b) a r p.val p.isLt _ (off_row i p) _ x).symm

/-- Eight stores of cleared slabs leave the accumulator cleared. -/
theorem read_cleared {sig : RefSig} {κ : Kind} {sp : Space} (v : View sig κ sp S512x2048 .f32) (f : v.ty.Contents (Elt F))
    (L : List (View.Piece (Elt F) S512x2048 .f32)) (i : grid0.Coords) :
    v.read (Elt F) (v.writes (Elt F) f (eight (fun p => k0_off1 i (row p)) (off_inb i) (fun _ => k0_pay10 (F := F)) L)) = cleared :=
  read_slabs v f cleared L (fun p => k0_off1 i (row p)) (off_inb i) (fun _ => k0_pay10 (F := F)) (off_row i) fun _ _ => rfl

/-- The stores behind a load of the first point's second accumulator: the whole of it cleared, then its first `n` slabs cleared again. -/
def clears (i : grid0.Coords) : ℕ → List (View.Piece (Elt F) S512x2048 .f32)
  | 0 => [⟨Rect.unit ![0, 0] S512x2048.size inb_S512x2048_S512x2048_0_0, k0_pay2⟩]
  | n + 1 => ⟨Rect.unit (k0_off1 i (row (Fin.ofNat 8 n))) S64x2048.size (off_inb i (Fin.ofNat 8 n)), k0_pay10⟩ :: clears i n

theorem clears_eq (i : grid0.Coords) : ∀ n, ∀ q ∈ clears (F := F) i n, ∀ x : q.1.shape.Idx, q.2 x = cleared (F := F) (q.1.emb x)
  | 0, q, hq, x => by obtain rfl := List.mem_singleton.mp hq; rfl
  | n + 1, q, hq, x => by
    rcases List.mem_cons.mp hq with rfl | hq
    · rfl
    · exact clears_eq i n q hq x

theorem clears_cover (i : grid0.Coords) (y : S512x2048.Idx) : ∀ n, ∃ q ∈ clears (F := F) i n, y ∈ q.1.set
  | 0 => ⟨_, List.mem_singleton_self _, View.mem_set_unit_zero (by decide) inb_S512x2048_S512x2048_0_0 y⟩
  | n + 1 => by
    obtain ⟨q, hq, h⟩ := clears_cover i y n
    exact ⟨q, List.mem_cons_of_mem _ hq, h⟩

/-- A load behind them reads a cleared slab. -/
theorem read_clears {sig : RefSig} {κ : Kind} {sp : Space} (v : View sig κ sp S512x2048 .f32) (i : grid0.Coords) (n : ℕ) (p : Fin 8) :
    v.readCov (Val := Elt F) (clears i n) (Rect.unit (s := S512x2048) (k0_off1 i (row p)) S64x2048.size (off_inb i p)).toLoadRect
      = cut i cleared p := by
  rw [View.readCov_eq_canon_ld _ _ _ (fun y => clears_cover i y n),
    show View.canon (clears (F := F) i n) = cleared from
      funext fun y => View.canon_apply_of_pieces cleared _ (clears_eq i n) y (clears_cover i y n)]

/-! ## A grid point's run -/

section

variable (c : Dev nD) (i : grid0.Coords)
  (arg2 : Memref sig .tc .vmem S512x2048 .bf16) (harg2 : arg2.IsWhole) (arg3 : Memref sig .tc .vmem S2048x2048 .bf16) (harg3 : arg3.IsWhole)
  (arg4 : Memref sig .tc .vmem S512x2048 .f32) (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S512x2048 .f32) (harg7 : arg7.IsWhole)
  (arg8 : Memref sig .tc .vmem S512x2048 .bf16) (harg8 : arg8.IsWhole) (arg9 : Memref sig .tc .vmem S512x2048 .f32) (harg9 : arg9.IsWhole)
  (arg10 : Memref sig .tc .vmem S512x2048 .f32) (harg10 : arg10.IsWhole)
  (h : Vec F S512x2048 .bf16) (w : Vec F S2048x2048 .bf16) (r : Vec F S512x2048 .f32) (g b : Vec F S1x2048 .f32)

/-- The body, run with the five inputs in their buffers, anything in the results' and the accumulators as `start` says,
    leaves the inputs, the tile normalised from the accumulator `a`, and the accumulators holding `s0` and `s1`. -/
def Runs (start : sProp 𝕄) (a s0 s1 : Vec F S512x2048 .f32) : Prop :=
  ∀ (E : Set ℕ) (K : PUnit → sProp 𝕄),
    iprop(owns (c : Thread nD τ) arg2 fullShare h ∗ owns (c : Thread nD τ) arg3 fullShare w ∗ owns (c : Thread nD τ) arg4 fullShare r
        ∗ owns (c : Thread nD τ) arg5 fullShare g ∗ owns (c : Thread nD τ) arg6 fullShare b
        ∗ (∃ d, owns (c : Thread nD τ) arg7 fullShare d) ∗ (∃ d, owns (c : Thread nD τ) arg8 fullShare d) ∗ start
        ∗ (iprop(owns (c : Thread nD τ) arg2 fullShare h ∗ owns (c : Thread nD τ) arg3 fullShare w ∗ owns (c : Thread nD τ) arg4 fullShare r
            ∗ owns (c : Thread nD τ) arg5 fullShare g ∗ owns (c : Thread nD τ) arg6 fullShare b
            ∗ owns (c : Thread nD τ) arg7 fullShare (normed a r g b) ∗ owns (c : Thread nD τ) arg8 fullShare (halved a r g b)
            ∗ owns (c : Thread nD τ) arg9 fullShare s0 ∗ owns (c : Thread nD τ) arg10 fullShare s1) -∗ K ⟨⟩))
      ⊢ wp frame (wpE (defs₀ (F := F)) Variants.none c none) E
        (cc0_mix_out_deepnorm_1 i arg2 harg2 arg3 harg3 arg4 harg4 arg5 harg5 arg6 harg6 arg7 harg7 arg8 harg8 arg9 harg9 arg10 harg10) K

/-- The first branch's condition: the grid's first point. -/
abbrev isFirst : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 1000000 in
/-- The last point: the second accumulator's tile is normalised and cleared. -/
theorem last (hc0 : ¬isFirst i) (hc1 : ¬k0_cond2 i = 1#1) (hc2 : ¬k0_cond3 i = 1#1) (hc3 : k0_cond4 i = 1#1) (xs0 xs1 : Vec F S512x2048 .f32) :
    Runs c i arg2 harg2 arg3 harg3 arg4 harg4 arg5 harg5 arg6 harg6 arg7 harg7 arg8 harg8 arg9 harg9 arg10 harg10 h w r g b
      iprop(owns (c : Thread nD τ) arg9 fullShare xs0 ∗ owns (c : Thread nD τ) arg10 fullShare xs1) xs1 xs0 cleared := by
  intro E K
  simp only [cc0_mix_out_deepnorm_1_eq_skeleton]; unfold cc0_mix_out_deepnorm_1_skel
  simp only [k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨⟨%fs0, %hfs0, HS0⟩, ⟨%fs1, %hfs1, HS1⟩⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_normed arg7.view _ [] i (arg10.view.read (Elt F) (harg10.unread xs1)) (arg4.view.read (Elt F) (harg4.unread r))
      (whole arg5 harg5 g _ _) (whole arg6 harg6 b _ _)).trans ?_
    rw [harg10.read_unread, harg4.read_unread, row_eq, row_eq]
  isplitl [H6]
  · iexists _; isplitr
    swap; · iexact H6
    ipureintro
    refine (read_halved arg8.view _ [] i (arg10.view.read (Elt F) (harg10.unread xs1)) (arg4.view.read (Elt F) (harg4.unread r))
      (whole arg5 harg5 g _ _) (whole arg6 harg6 b _ _)).trans ?_
    rw [harg10.read_unread, harg4.read_unread, row_eq, row_eq]
  isplitl [HS0]
  · iexists _; isplitr; · ipureintro; exact harg9.read_unread _
    iexact HS0
  iexists _; isplitr
  swap; · iexact HS1
  ipureintro
  exact read_cleared arg10.view _ [] i

set_option maxHeartbeats 1000000 in
/-- An even point after the first: its product is added to the first accumulator, the second's tile is normalised and cleared. -/
theorem even (hc0 : ¬isFirst i) (hc1 : k0_cond2 i = 1#1) (hc2 : ¬k0_cond3 i = 1#1) (hc3 : ¬k0_cond4 i = 1#1) (xs0 xs1 : Vec F S512x2048 .f32) :
    Runs c i arg2 harg2 arg3 harg3 arg4 harg4 arg5 harg5 arg6 harg6 arg7 harg7 arg8 harg8 arg9 harg9 arg10 harg10 h w r g b
      iprop(owns (c : Thread nD τ) arg9 fullShare xs0 ∗ owns (c : Thread nD τ) arg10 fullShare xs1) xs1 (added xs0 h w) cleared := by
  intro E K
  simp only [cc0_mix_out_deepnorm_1_eq_skeleton]; unfold cc0_mix_out_deepnorm_1_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨⟨%fs0, %hfs0, HS0⟩, ⟨%fs1, %hfs1, HS1⟩⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_normed arg7.view _ [] i (arg10.view.read (Elt F) (harg10.unread xs1)) (arg4.view.read (Elt F) (harg4.unread r))
      (whole arg5 harg5 g _ _) (whole arg6 harg6 b _ _)).trans ?_
    rw [harg10.read_unread, harg4.read_unread, row_eq, row_eq]
  isplitl [H6]
  · iexists _; isplitr
    swap; · iexact H6
    ipureintro
    refine (read_halved arg8.view _ [] i (arg10.view.read (Elt F) (harg10.unread xs1)) (arg4.view.read (Elt F) (harg4.unread r))
      (whole arg5 harg5 g _ _) (whole arg6 harg6 b _ _)).trans ?_
    rw [harg10.read_unread, harg4.read_unread, row_eq, row_eq]
  isplitl [HS0]
  · iexists _; isplitr
    swap; · iexact HS0
    ipureintro
    exact read_added arg9.view _ [] xs0 (whole arg9 harg9 xs0 ![0, 0] inb_S512x2048_S512x2048_0_0) (whole_eq arg9 harg9 xs0 _ (by decide) _) arg2 harg2 h arg3 harg3 w
  iexists _; isplitr
  swap; · iexact HS1
  ipureintro
  exact read_cleared arg10.view _ [] i

set_option maxHeartbeats 1000000 in
/-- An odd point: its product is added to the second accumulator, the first's tile is normalised and cleared. -/
theorem odd (hc0 : ¬isFirst i) (hc1 : ¬k0_cond2 i = 1#1) (hc2 : k0_cond3 i = 1#1) (hc3 : ¬k0_cond4 i = 1#1) (xs0 xs1 : Vec F S512x2048 .f32) :
    Runs c i arg2 harg2 arg3 harg3 arg4 harg4 arg5 harg5 arg6 harg6 arg7 harg7 arg8 harg8 arg9 harg9 arg10 harg10 h w r g b
      iprop(owns (c : Thread nD τ) arg9 fullShare xs0 ∗ owns (c : Thread nD τ) arg10 fullShare xs1) xs0 cleared (added xs1 h w) := by
  intro E K
  simp only [cc0_mix_out_deepnorm_1_eq_skeleton]; unfold cc0_mix_out_deepnorm_1_skel
  simp only [k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨⟨%fs0, %hfs0, HS0⟩, ⟨%fs1, %hfs1, HS1⟩⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_normed arg7.view _ [] i (arg9.view.read (Elt F) (harg9.unread xs0)) (arg4.view.read (Elt F) (harg4.unread r))
      (whole arg5 harg5 g _ _) (whole arg6 harg6 b _ _)).trans ?_
    rw [harg9.read_unread, harg4.read_unread, row_eq, row_eq]
  isplitl [H6]
  · iexists _; isplitr
    swap; · iexact H6
    ipureintro
    refine (read_halved arg8.view _ [] i (arg9.view.read (Elt F) (harg9.unread xs0)) (arg4.view.read (Elt F) (harg4.unread r))
      (whole arg5 harg5 g _ _) (whole arg6 harg6 b _ _)).trans ?_
    rw [harg9.read_unread, harg4.read_unread, row_eq, row_eq]
  isplitl [HS0]
  · iexists _; isplitr
    swap; · iexact HS0
    ipureintro
    exact read_cleared arg9.view _ [] i
  iexists _; isplitr
  swap; · iexact HS1
  ipureintro
  exact read_added arg10.view _ [] xs1 (whole arg10 harg10 xs1 ![0, 0] inb_S512x2048_S512x2048_0_0) (whole_eq arg10 harg10 xs1 _ (by decide) _) arg2 harg2 h arg3 harg3 w

set_option maxHeartbeats 1000000 in
/-- The first point: both accumulators are cleared, then as at an even point. -/
theorem first (hc0 : isFirst i) (hc1 : k0_cond2 i = 1#1) (hc2 : ¬k0_cond3 i = 1#1) (hc3 : ¬k0_cond4 i = 1#1) :
    Runs c i arg2 harg2 arg3 harg3 arg4 harg4 arg5 harg5 arg6 harg6 arg7 harg7 arg8 harg8 arg9 harg9 arg10 harg10 h w r g b
      iprop((∃ d, owns (c : Thread nD τ) arg9 fullShare d) ∗ (∃ d, owns (c : Thread nD τ) arg10 fullShare d)) cleared (added cleared h w) cleared := by
  intro E K
  simp only [cc0_mix_out_deepnorm_1_eq_skeleton]; unfold cc0_mix_out_deepnorm_1_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨⟨%ds0, %fs0, -, HS0⟩, ⟨%ds1, %fs1, -, HS1⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (congrArg (fun A : Fin 8 → Vec F S64x2048 .f32 => arg7.view.read (Elt F) (arg7.view.writes (Elt F) _
      (eight (fun p => k0_off1 i (row p)) (off_inb i) (fun p => normSlab (whole arg5 harg5 g _ _) (whole arg6 harg6 b _ _) (A p)
        (cut i (arg4.view.read (Elt F) (harg4.unread r)) p)) [])))
      (funext fun p : Fin 8 => read_clears arg10.view i p.val p)).trans ?_
    rw [harg4.read_unread, row_eq, row_eq]
    exact read_normed arg7.view _ [] i cleared r g b
  isplitl [H6]
  · iexists _; isplitr
    swap; · iexact H6
    ipureintro
    refine (congrArg (fun A : Fin 8 → Vec F S64x2048 .f32 => arg8.view.read (Elt F) (arg8.view.writes (Elt F) _
      (eight (fun p => k0_off1 i (row p)) (off_inb i) (fun p => halfSlab (whole arg5 harg5 g _ _) (whole arg6 harg6 b _ _) (A p)
        (cut i (arg4.view.read (Elt F) (harg4.unread r)) p)) [])))
      (funext fun p : Fin 8 => read_clears arg10.view i p.val p)).trans ?_
    rw [harg4.read_unread, row_eq, row_eq]
    exact read_halved arg8.view _ [] i cleared r g b
  isplitl [HS0]
  · iexists _; isplitr
    swap; · iexact HS0
    ipureintro
    exact read_added arg9.view _ _ cleared _ (View.readCov_unit_zero arg9.view (by decide) _ _) arg2 harg2 h arg3 harg3 w
  iexists _; isplitr
  swap; · iexact HS1
  ipureintro
  exact read_cleared arg10.view _ _ i

end

end Cert.MixRun

end
-- ==== Proof.MixFrame.lean ====
/- The mixing product's frame: what its accumulators hold between grid points and its results' tiles after each, in
   closed form, and the program's run from these. -/
module

public import proofs.«01_k».proof.Proof.MixRun
public import proofs.«01_k».proof.Proof.Gen.Kernel4Ideal.Frame
public import Idealize.ShloMosaic.Lib.Claim

@[expose] public section

set_option maxRecDepth 16384

noncomputable section

namespace Cert.MixFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.MixRun

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which case a grid point is in -/

theorem isFirst_iff : ∀ t : Fin cfg0.N, isFirst (grid0.coords t) ↔ t.val = 0 :=
  (by decide +kernel : ∀ t : Fin grid0.N, isFirst (grid0.coords t) ↔ t.val = 0)

theorem even_iff : ∀ t : Fin cfg0.N, k0_cond2 (grid0.coords t) = 1#1 ↔ t.val % 2 = 0 ∧ t.val < 32 :=
  (by decide +kernel : ∀ t : Fin grid0.N, k0_cond2 (grid0.coords t) = 1#1 ↔ t.val % 2 = 0 ∧ t.val < 32)

theorem odd_iff : ∀ t : Fin cfg0.N, k0_cond3 (grid0.coords t) = 1#1 ↔ t.val % 2 = 1 :=
  (by decide +kernel : ∀ t : Fin grid0.N, k0_cond3 (grid0.coords t) = 1#1 ↔ t.val % 2 = 1)

theorem last_iff : ∀ t : Fin cfg0.N, k0_cond4 (grid0.coords t) = 1#1 ↔ t.val = 32 :=
  (by decide +kernel : ∀ t : Fin grid0.N, k0_cond4 (grid0.coords t) = 1#1 ↔ t.val = 32)

/-- Every point writes both results. -/
theorem live5 : ∀ t : Fin cfg0.N, cfg0.idle 5 (grid0.coords t) = false := by decide +kernel
theorem live6 : ∀ t : Fin cfg0.N, cfg0.idle 6 (grid0.coords t) = false := by decide +kernel

theorem points (t : Fin cfg0.N) : t.val < 33 := lt_of_lt_of_eq t.isLt (show cfg0.N = 33 from N_0)

/-! ## What lies in the buffers -/

/-- The product a grid point adds, over a cleared accumulator. -/
def product (c : Dev nD) (n : ℕ) (hn : n < cfg0.N) : Vec F S512x2048 .f32 := added cleared (iblk m c 0 ⟨n, hn⟩) (iblk m c 1 ⟨n, hn⟩)

/-- The first accumulator after point `n`: an even point's product, else nothing. -/
def left0 (c : Dev nD) (n : ℕ) (hn : n < cfg0.N) : Vec F S512x2048 .f32 := if n % 2 = 0 ∧ n < 32 then product m c n hn else cleared

/-- The second: an odd point's product, else nothing. -/
def left1 (c : Dev nD) (n : ℕ) (hn : n < cfg0.N) : Vec F S512x2048 .f32 := if n % 2 = 1 then product m c n hn else cleared

/-- The product normalised at a point: the point before's, at the first point none. -/
def ready (c : Dev nD) : (n : ℕ) → n < cfg0.N → Vec F S512x2048 .f32
  | 0, _ => cleared
  | n + 1, hn => product m c n (Nat.lt_of_succ_lt hn)

/-- The first result's tile after a point, -/
def tile (c : Dev nD) (t : Fin cfg0.N) : Vec F S512x2048 .f32 := normed (ready m c t.val t.isLt) (iblk m c 2 t) (iblk m c 3 t) (iblk m c 4 t)

/-- and the second's. -/
def half (c : Dev nD) (t : Fin cfg0.N) : Vec F S512x2048 .bf16 := halved (ready m c t.val t.isLt) (iblk m c 2 t) (iblk m c 3 t) (iblk m c 4 t)

abbrev acc0 : Memref sig .tc .vmem S512x2048 .f32 := Memref.whole cc0_scratch0
abbrev acc1 : Memref sig .tc .vmem S512x2048 .f32 := Memref.whole cc0_scratch1

/-- The accumulators before a point: at anything before the first. -/
def start (c : Dev nD) : (n : ℕ) → n ≤ cfg0.N → sProp 𝕄
  | 0, _ => iprop((∃ d, owns (c : Thread nD τ) acc0 fullShare d) ∗ (∃ d, owns (c : Thread nD τ) acc1 fullShare d))
  | n + 1, hn => iprop(owns (c : Thread nD τ) acc0 fullShare (left0 m c n hn) ∗ owns (c : Thread nD τ) acc1 fullShare (left1 m c n hn))

theorem start_succ (c : Dev nD) (n : ℕ) (hn : n < cfg0.N) : start m c (n + 1) hn
    = iprop(owns (c : Thread nD τ) acc0 fullShare (left0 m c n hn) ∗ owns (c : Thread nD τ) acc1 fullShare (left1 m c n hn)) := rfl

theorem ready_succ (c : Dev nD) (n : ℕ) (hn : n + 1 < cfg0.N) : ready m c (n + 1) hn = product m c n (Nat.lt_of_succ_lt hn) := rfl

/-- What is kept between points: the accumulators, and the generator's register at anything. -/
def kept (c : Dev nD) (n : ℕ) (hn : n ≤ cfg0.N) : sProp 𝕄 := iprop(start m c n hn ∗ (∃ r, prngReg c r))

theorem launch_eq (c : Dev nD) : (Pipeline.ΦA spec0 c : sProp 𝕄) = kept m c 0 (Nat.zero_le _) := by
  unfold Pipeline.ΦA kept start; rw [scopedRest0_eq]; simp only [acc0, acc1, owns_whole]; rfl

/-- The run's data: each input's tile left in place, the results' tiles, and what is kept. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c t
    | ⟨6, _⟩ => half m c t
  Φ t := kept m c t.val (Nat.le_of_lt_succ t.isLt)
  q _ := fullShare
  owed _ := 0

theorem A_eq (c : Dev nD) (w : Fin cfg0.W) : (dats m 0 c).A w = V m c (Pipeline.arrRef spec0 w) := by dsimp only [dats]

theorem kept_at (c : Dev nD) (t : Fin cfg0.N) : (dats m 0 c).Φ t.castSucc = kept m c t.val (Nat.le_of_lt t.isLt) := by
  dsimp only [dats]; exact Pipeline.Dat.Φ_castSucc (kept m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = tile m c t := by dsimp only [dats]
theorem after6 (c : Dev nD) (t : Fin cfg0.N) : (dats m 0 c).after 6 t = half m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## A point's run -/

abbrev buf0 (t : Fin cfg0.N) : Memref sig .tc .vmem S512x2048 .bf16 := win0_0.stage (cfg0.slots t 0)
abbrev buf1 (t : Fin cfg0.N) : Memref sig .tc .vmem S2048x2048 .bf16 := win0_1.stage (cfg0.slots t 1)
abbrev buf2 (t : Fin cfg0.N) : Memref sig .tc .vmem S512x2048 .f32 := win0_2.stage (cfg0.slots t 2)
abbrev buf3 (t : Fin cfg0.N) : Memref sig .tc .vmem S1x2048 .f32 := win0_3.stage (cfg0.slots t 3)
abbrev buf4 (t : Fin cfg0.N) : Memref sig .tc .vmem S1x2048 .f32 := win0_4.stage (cfg0.slots t 4)
abbrev buf5 (t : Fin cfg0.N) : Memref sig .tc .vmem S512x2048 .f32 := win0_5.stage (cfg0.slots t 5)
abbrev buf6 (t : Fin cfg0.N) : Memref sig .tc .vmem S512x2048 .bf16 := win0_6.stage (cfg0.slots t 6)

set_option maxHeartbeats 1600000 in
/-- In every case a point takes what is kept before it to what is kept after it. -/
theorem ran (c : Dev nD) (t : Fin cfg0.N) :
    Runs c (grid0.coords t) (buf0 t) (hstage0_0 ((cfg0.slots t 0).cast nbuf0_0)) (buf1 t) (hstage0_1 ((cfg0.slots t 1).cast nbuf0_1))
      (buf2 t) (hstage0_2 ((cfg0.slots t 2).cast nbuf0_2)) (buf3 t) (hstage0_3 ((cfg0.slots t 3).cast nbuf0_3))
      (buf4 t) (hstage0_4 ((cfg0.slots t 4).cast nbuf0_4)) (buf5 t) (hstage0_5 ((cfg0.slots t 5).cast nbuf0_5))
      (buf6 t) (hstage0_6 ((cfg0.slots t 6).cast nbuf0_6)) acc0 (Memref.isWhole_whole _) acc1 (Memref.isWhole_whole _)
      (iblk m c 0 t) (iblk m c 1 t) (iblk m c 2 t) (iblk m c 3 t) (iblk m c 4 t)
      (start m c t.val (Nat.le_of_lt t.isLt)) (ready m c t.val t.isLt) (left0 m c t.val t.isLt) (left1 m c t.val t.isLt) := by
  have hN := points t
  have e0 := isFirst_iff t
  have e1 := even_iff t
  have e2 := odd_iff t
  have e3 := last_iff t
  obtain ⟨n, hn⟩ := t
  dsimp only at hN e0 e1 e2 e3 ⊢
  cases n with
  | zero =>
    rw [show left0 m c 0 hn = added cleared (iblk m c 0 ⟨0, hn⟩) (iblk m c 1 ⟨0, hn⟩) from if_pos (by omega),
      show left1 m c 0 hn = cleared from if_neg (by omega)]
    exact first c _ _ _ _ _ _ _ _ _ _ _ _ _ _ _ _ _ _ _ _ _ _ _ _ (e0.mpr rfl) (e1.mpr (by omega))
      (fun h => absurd (e2.mp h) (by omega)) (fun h => absurd (e3.mp h) (by omega))
  | succ n =>
    by_cases h : n % 2 = 0
    · have s0 : left0 m c n (Nat.lt_of_succ_lt hn) = product m c n (Nat.lt_of_succ_lt hn) := if_pos (by omega)
      have s1 : left1 m c n (Nat.lt_of_succ_lt hn) = cleared := if_neg (by omega)
      rw [show left0 m c (n + 1) hn = cleared from if_neg (by omega),
        show left1 m c (n + 1) hn = added cleared (iblk m c 0 ⟨n + 1, hn⟩) (iblk m c 1 ⟨n + 1, hn⟩) from if_pos (by omega)]
      rw [start_succ, ready_succ, s0, s1]
      exact odd c _ _ _ _ _ _ _ _ _ _ _ _ _ _ _ _ _ _ _ _ _ _ _ _ (fun h => absurd (e0.mp h) (by omega))
        (fun h => absurd (e1.mp h) (by omega)) (e2.mpr (by omega)) (fun h => absurd (e3.mp h) (by omega)) _ _
    · have s0 : left0 m c n (Nat.lt_of_succ_lt hn) = cleared := if_neg (by omega)
      have s1 : left1 m c n (Nat.lt_of_succ_lt hn) = product m c n (Nat.lt_of_succ_lt hn) := if_pos (by omega)
      rw [show left1 m c (n + 1) hn = cleared from if_neg (by omega)]
      rw [start_succ, ready_succ, s0, s1]
      by_cases h' : n + 1 = 32
      · rw [show left0 m c (n + 1) hn = cleared from if_neg (by omega)]
        exact last c _ _ _ _ _ _ _ _ _ _ _ _ _ _ _ _ _ _ _ _ _ _ _ _ (fun h => absurd (e0.mp h) (by omega))
          (fun h => absurd (e1.mp h) (by omega)) (fun h => absurd (e2.mp h) (by omega)) (e3.mpr h') _ _
      · rw [show left0 m c (n + 1) hn = added cleared (iblk m c 0 ⟨n + 1, hn⟩) (iblk m c 1 ⟨n + 1, hn⟩) from if_pos (by omega)]
        exact even c _ _ _ _ _ _ _ _ _ _ _ _ _ _ _ _ _ _ _ _ _ _ _ _ (fun h => absurd (e0.mp h) (by omega))
          (e1.mpr (by omega)) (fun h => absurd (e2.mp h) (by omega)) (fun h => absurd (e3.mp h) h') _ _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = kept m c (t.val + 1) t.isLt from rfl, kept_at]
  rw [show (dats m 0 c).leavesExact 0 t = owns (c : Thread nD τ) (buf0 t) fullShare ((dats m 0 c).after 0 t) from by
      unfold Dat.leavesExact; rfl, after0]
  rw [show (dats m 0 c).leavesExact 1 t = owns (c : Thread nD τ) (buf1 t) fullShare ((dats m 0 c).after 1 t) from by
      unfold Dat.leavesExact; rfl, after1]
  rw [show (dats m 0 c).leavesExact 2 t = owns (c : Thread nD τ) (buf2 t) fullShare ((dats m 0 c).after 2 t) from by
      unfold Dat.leavesExact; rfl, after2]
  rw [show (dats m 0 c).leavesExact 3 t = owns (c : Thread nD τ) (buf3 t) fullShare ((dats m 0 c).after 3 t) from by
      unfold Dat.leavesExact; rfl, after3]
  rw [show (dats m 0 c).leavesExact 4 t = owns (c : Thread nD τ) (buf4 t) fullShare ((dats m 0 c).after 4 t) from by
      unfold Dat.leavesExact; rfl, after4]
  rw [show (dats m 0 c).leavesExact 5 t = owns (c : Thread nD τ) (buf5 t) fullShare ((dats m 0 c).after 5 t) from by
      unfold Dat.leavesExact; rw [live5 t], after5]
  rw [show (dats m 0 c).leavesExact 6 t = owns (c : Thread nD τ) (buf6 t) fullShare ((dats m 0 c).after 6 t) from by
      unfold Dat.leavesExact; rw [live6 t], after6]
  unfold kept
  rw [show start m c (t.val + 1) t.isLt = iprop(owns (c : Thread nD τ) acc0 fullShare (left0 m c t.val t.isLt)
    ∗ owns (c : Thread nD τ) acc1 fullShare (left1 m c t.val t.isLt)) from rfl]
  unfold tile half
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (ran m c t Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS]; · iexact HS
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enters (c : Dev nD) : Pipeline.ΦA spec0 c ⊢ (dats m 0 c).Φ 0 := by
  rw [show (dats m 0 c).Φ 0 = kept m c 0 (Nat.zero_le _) from rfl, launch_eq m]

theorem leaves (c : Dev nD) : (dats m 0 c).Φ (Fin.last cfg0.N) ⊢ Pipeline.ΦA spec0 c := by
  rw [show (dats m 0 c).Φ (Fin.last cfg0.N) = kept m c (32 + 1) (by decide) from rfl, launch_eq m]
  unfold kept start
  iintro ⟨⟨HS0, HS1⟩, Hg⟩
  isplitl [HS0 HS1]
  · isplitl [HS0]
    · iexists _; iexact HS0
    iexists _; iexact HS1
  iexact Hg

/-! ## The program's run -/

set_option backward.isDefEq.respectTransparency.types false in
/-- The program runs to its end: every array as the data say, and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends with every argument as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.MixFrame

end
-- ==== Proof.MixProgram.lean ====
/- The mixing product as printed is its idealized printing with the named weight of the residual read as the literal that
   stands for it. So its frame is the idealized printing's, read so. -/
module

public import proofs.«01_k».proof.Proof.MixFrame
public import proofs.«01_k».proof.Proof.Gen.Kernel4

@[expose] public section

set_option maxRecDepth 65536

noncomputable section

namespace Cert.MixProgram

open Idealize.ShloMosaic Idealize.ShloMosaic.TcCoe
open Idealize.SL.Sem

variable {F : FTy → Type} [FloatOps F]

/-- A named number read as its literal. -/
local instance literals : Named F := ⟨fun _ _ _ bits => FloatOps.ofBits _ bits⟩

theorem main_eq : Cert.Kernel4.main (F := F) = Cert.Kernel4Ideal.main (F := F) := rfl

/-- The body tables agree row by row. -/
theorem bodies_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => rfl

theorem defs_eq : Cert.Kernel4.defs (F := F) = Cert.Kernel4Ideal.defs (F := F) :=
  congrArg (Pipeline.defs (Cert.Kernel4Ideal.pcfgs (F := F))) bodies_eq

/-- The frame of the program as printed. -/
theorem frame (m : (ℓ : Loc Cert.Kernel4.nD Cert.Kernel4.τ Cert.Kernel4.sig) → Buf (Elt F) ℓ) (ρ : Dev Cert.Kernel4.nD → PrngReg) :
    θ_run (Cert.Kernel4.defs (F := F)) (onTc (τ := Cert.Kernel4.τ) (Cert.Kernel4.main (F := F))) ⟨m, fun _ => 0, ρ⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0) := by
  rw [defs_eq]
  exact Cert.MixFrame.frame (F := F) m ρ

end Cert.MixProgram

end
-- ==== Proof.MixRow.lean ====
/- The layer norm of one row of 2048. -/
module

public import Idealize.ShloMosaic.PureOps.Ideal.Laws

@[expose] public section

noncomputable section

namespace Cert.MixRow

open Idealize.ShloMosaic

/-- The weight of the residual, the fourth root of four. -/
def alpha : EReal := ((Real.sqrt 2 : ℝ) : EReal)

/-- The mean of a row: its sum over 2048. -/
def mean (y : Fin 2048 → EReal) : EReal := Ideal.div (∑ i, y i) (Ideal.ofBits .f32 0x45000000#32)

/-- A row less its mean. -/
def centred (y : Fin 2048 → EReal) (j : Fin 2048) : EReal := y j - mean y

/-- Entry `j` of a row less its mean, over the root of its variance plus a small number, times the gain `g` and plus the
    bias `b`. -/
def layer (y g b : Fin 2048 → EReal) (j : Fin 2048) : EReal :=
  centred y j * Ideal.rsqrt (mean (fun i => centred y i * centred y i) + Ideal.ofBits .f32 0x3727C5AC#32) * g j + b j

theorem ofBits_zero : (Ideal.ofBits .f32 0x00000000#32 : EReal) = 0 := by
  simp [Ideal.ofBits, Ideal.ieee, -EReal.coe_mul]

theorem ofBits_four : (Ideal.ofBits .f32 0x40800000#32 : EReal) = ((4 : ℝ) : EReal) := by
  simp [Ideal.ofBits, Ideal.ieee, -EReal.coe_mul]
  norm_num

/-- The reference takes two square roots of four. -/
theorem alpha_eq : Ideal.sqrt (Ideal.sqrt (Ideal.ofBits .f32 0x40800000#32)) = alpha := by
  have h : Real.sqrt 4 = 2 := by
    rw [show (4 : ℝ) = 2 ^ 2 by norm_num, Real.sqrt_sq (by norm_num)]
  rw [ofBits_four, Ideal.sqrt_coe, if_neg (by norm_num), h, Ideal.sqrt_coe, if_neg (by norm_num)]
  rfl

end Cert.MixRow

end
-- ==== Proof.MixBlock.lean ====
/- The tiles of the mixing product over the extended reals, entry by entry. -/
module

public import proofs.«01_k».proof.Proof.MixRow
public import proofs.«01_k».proof.Proof.MixRun
public import Idealize.ShloMosaic.Lib.ValueIdx
public import Idealize.ShloMosaic.Lib.KernelVsHost
public import Idealize.ShloMosaic.Lib.MatmulPlain
public import Idealize.ShloMosaic.Lib.ValueLayoutCasts

@[expose] public section

noncomputable section

namespace Cert.MixBlock

open Idealize.ShloMosaic Idealize.ShloMosaic.ValueIdx Cert.Kernel4Ideal Cert.Kernel4Ideal.Gen Cert.MixRow Cert.MixSlabs Cert.MixRun

/-- The mean of each row of a slab. -/
def means (y : FVec Ideal S64x2048 .f32) : FVec Ideal S64x1 .f32 :=
  divf (shapeCast S64x1 (multiReduction .add [1] S64 y 0x00000000#32 reduces_S64x2048_S64 (.inl rfl) rfl : FVec Ideal S64 .f32) shapeCasts_S64_S64x1)
    (broadcast S64x1 (Scalar.ofBits .f32 0x45000000#32 : Ideal .f32))

theorem means_apply (y : FVec Ideal S64x2048 .f32) (q : Fin 64) : means y (ix2 q 0) = mean (fun i => y (ix2 q i)) := by
  have e : (shapeCast S64x1 (multiReduction .add [1] S64 y 0x00000000#32 reduces_S64x2048_S64 (.inl rfl) rfl : FVec Ideal S64 .f32) shapeCasts_S64_S64x1 : FVec Ideal S64x1 .f32) (ix2 q 0)
      = ∑ i : Fin 2048, y (ix2 q i) := by
    rw [shapeCast_a_a1_apply]
    refine (Ideal.multiReduction_add_single (a := 1) y _ _ _ _ _).trans ?_
    refine Finset.sum_congr rfl fun i _ => congrArg y (funext fun a => Fin.ext ?_)
    match a with
    | ⟨0, _⟩ => rfl
    | ⟨1, _⟩ => rfl
  unfold mean
  rw [← e]
  rfl

/-- A column over the lanes of a slab. -/
theorem over_lanes (y : FVec Ideal S64x1 .f32) (q : Fin 64) (j : Fin 2048) :
    broadcastTo S64x2048 y broadcasts_S64x1_S64x2048 (ix2 q j) = y (ix2 q 0) := by
  refine broadcastTo_apply _ _ _ _ fun a => ?_
  match a with
  | ⟨0, _⟩ => rfl
  | ⟨1, _⟩ => rfl

/-- A row over the rows of a slab. -/
theorem over_rows (y : FVec Ideal S1x2048 .f32) (q : Fin 64) (j : Fin 2048) :
    broadcastTo S64x2048 (shapeCast S1x2048 y shapeCasts_S1x2048_S1x2048 : FVec Ideal S1x2048 .f32) broadcasts_S1x2048_S64x2048 (ix2 q j) = y (ix2 0 j) := by
  rw [shapeCast_self]
  refine broadcastTo_apply _ _ _ _ fun a => ?_
  match a with
  | ⟨0, _⟩ => rfl
  | ⟨1, _⟩ => rfl

variable (a r : Vec Ideal S64x2048 .f32) (g b : Vec Ideal S1x2048 .f32) (q : Fin 64) (j : Fin 2048)

/-- The literal of the kernel is read as the weight that it names. -/
theorem named_weight : (Named.named κ "alpha" 0x3FB504F3#32 : Ideal .f32) = alpha := rfl

/-- The product and the weighted residual. -/
def summed : FVec Ideal S64x2048 .f32 := addf a (mulf (broadcast S64x2048 (Named.named κ "alpha" 0x3FB504F3#32 : Ideal .f32)) r)

/-- A row of it. -/
def entry (i : Fin 2048) : EReal := a (ix2 q i) + alpha * r (ix2 q i)

theorem centre_eq : k0_pay11 a r = subf (summed a r) (broadcastTo S64x2048 (means (summed a r)) broadcasts_S64x1_S64x2048) := rfl

theorem scale_eq : k0_pay12 a r = broadcastTo S64x2048 (rsqrt (addf (means (mulf (k0_pay11 a r) (k0_pay11 a r)))
    (broadcast S64x1 (Scalar.ofBits .f32 0x3727C5AC#32 : Ideal .f32)))) broadcasts_S64x1_S64x2048 := rfl

theorem centre_apply : k0_pay11 a r (ix2 q j) = centred (entry a r q) j := by
  rw [centre_eq]
  show summed a r (ix2 q j) - broadcastTo S64x2048 (means (summed a r)) broadcasts_S64x1_S64x2048 (ix2 q j) = _
  rw [over_lanes, means_apply]
  rfl

theorem scale_apply : k0_pay12 a r (ix2 q j)
    = Ideal.rsqrt (mean (fun i => centred (entry a r q) i * centred (entry a r q) i) + Ideal.ofBits .f32 0x3727C5AC#32) := by
  rw [scale_eq, over_lanes]
  show Ideal.rsqrt (means (mulf (k0_pay11 a r) (k0_pay11 a r)) (ix2 q 0) + _) = _
  rw [means_apply]
  refine congrArg (fun y => Ideal.rsqrt (mean y + _)) (funext fun i => ?_)
  rw [← centre_apply]
  rfl

theorem slab_apply : normSlab g b a r (ix2 q j) = layer (entry a r q) (fun i => g (ix2 0 i)) (fun i => b (ix2 0 i)) j := by
  unfold normSlab k0_pay13
  show k0_pay11 a r (ix2 q j) * k0_pay12 a r (ix2 q j)
      * broadcastTo S64x2048 (shapeCast S1x2048 g shapeCasts_S1x2048_S1x2048 : FVec Ideal S1x2048 .f32) broadcasts_S1x2048_S64x2048 (ix2 q j)
    + broadcastTo S64x2048 (shapeCast S1x2048 b shapeCasts_S1x2048_S1x2048 : FVec Ideal S1x2048 .f32) broadcasts_S1x2048_S64x2048 (ix2 q j) = _
  rw [centre_apply, scale_apply, over_rows, over_rows]
  rfl

/-! ### Whole tiles -/

variable (x y : Vec Ideal S512x2048 .f32) (p : Fin 512)

/-- A row of a tile. -/
theorem load_slab (i : Fin 2048) :
    View.ld x (slab (p.val / 64)) (ix2 (⟨p.val % 64, Nat.mod_lt _ (by decide)⟩ : Fin 64) i) = x (ix2 p i) := by
  refine congrArg x (funext fun k => Fin.ext ?_)
  match k with
  | ⟨0, _⟩ => show 64 * (p.val / 64 % 8) + 1 * (p.val % 64) = p.val; have := p.isLt; omega
  | ⟨1, _⟩ => show 0 + 1 * i.val = i.val; omega

theorem normed_apply : normed x y g b (ix2 p j)
    = layer (fun i => x (ix2 p i) + alpha * y (ix2 p i)) (fun i => g (ix2 0 i)) (fun i => b (ix2 0 i)) j := by
  have e : place (ix2 p j) = ix2 (⟨p.val % 64, Nat.mod_lt _ (by decide)⟩ : Fin 64) j :=
    funext fun k => match k with | ⟨0, _⟩ => rfl | ⟨1, _⟩ => rfl
  unfold normed spread
  rw [e]
  refine (slab_apply _ _ g b _ j).trans (congrArg (fun y => layer y _ _ j) (funext fun i => ?_))
  exact congrArg₂ (fun s t => s + alpha * t) (load_slab x p i) (load_slab y p i)

/-- The narrower tile is the same numbers. -/
theorem halved_eq (z : S512x2048.Idx) : halved x y g b z = normed x y g b z := rfl

/-- A product over a cleared accumulator. -/
theorem added_apply (h : Vec Ideal S512x2048 .bf16) (w : Vec Ideal S2048x2048 .bf16) :
    added cleared h w (ix2 p j) = ∑ k : Fin 2048, h (ix2 p k) * w (ix2 k j) := by
  unfold added cleared k0_pay9 k0_pay1
  simp only [shapeCast_self]
  show Ideal.ofBits .f32 0x00000000#32
    + matmul (F := Ideal) dot_S512x2048_S2048x2048_S512x2048_1_0_0_1_n_n none h w (constant S512x2048 .f32 0x00000000#32) (ix2 p j) = _
  rw [ofBits_zero, zero_add]
  refine (Ideal.matmul_plain_apply (M := 512) (K := 2048) (N := 2048) (φ₁ := .bf16) (φ₂ := .bf16) none h w _ p j).trans ?_
  rw [constant_apply]
  exact (congrArg (· + _) ofBits_zero).trans (zero_add _)

end Cert.MixBlock

end
-- ==== Proof.MixPrepared.lean ====
/- The arrays the mixing product's call is given, as the host operations before it leave them, and their entries in a
   grid point's blocks. Point `t` reads rows 512 t … of the mixed rows, at most the last block's, rows 512 (t - 1) … of the
   residual, and the whole of the matrix, the gain and the bias. -/
module

public import proofs.«01_k».proof.Proof.Gen.Kernel4Ideal.Frame
public import Idealize.ShloMosaic.Lib.Claim
public import Idealize.ShloMosaic.Lib.Pipeline.Value
public import Idealize.ShloMosaic.Lib.ValueIdx
public import Idealize.ShloMosaic.Lib.ValueLayoutCasts

@[expose] public section

noncomputable section

namespace Cert.MixPrepared

open Idealize.ShloMosaic Idealize.ShloMosaic.ValueIdx Idealize.ShloMosaic.TcCoe Cert.Kernel4Ideal Cert.Kernel4Ideal.Gen

variable (m : (ℓ : Loc nD τ sig) → Buf (Elt Ideal) ℓ) (c : Dev nD)

theorem V_rows : V m c main_v0 = (truncf .bf16 (m (c.tc.loc main_arg0) : FVec Ideal S16384x2048 .f32) bitsLt_bf16_f32 : FVec Ideal S16384x2048 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']

theorem V_matrix : V m c main_v1 = (truncf .bf16 (m (c.tc.loc main_arg2) : FVec Ideal S2048x2048 .f32) bitsLt_bf16_f32 : FVec Ideal S2048x2048 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']

theorem V_gain : V m c main_v2 = (shapeCast S1x2048 (m (c.tc.loc main_arg3)) shapeCasts_S2048_S1x2048 : FVec Ideal S1x2048 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']
  rfl

theorem V_bias : V m c main_v3 = (shapeCast S1x2048 (m (c.tc.loc main_arg4)) shapeCasts_S2048_S1x2048 : FVec Ideal S1x2048 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']
  rfl

/-! ### A grid point's blocks -/

theorem index_0 : ∀ t : Fin grid0.N, win0_0.index t = ![min t.val 31, 0] := by decide +kernel
theorem index_1 : ∀ t : Fin grid0.N, win0_1.index t = ![0, 0] := by decide +kernel
theorem index_2 : ∀ t : Fin grid0.N, win0_2.index t = ![t.val - 1, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![t.val - 1, 0] := by decide +kernel
theorem index_6 : ∀ t : Fin grid0.N, win0_6.index t = ![t.val - 1, 0] := by decide +kernel

/-- Every point but the first writes its tiles back. -/
theorem flush_5 : ∀ t : Fin cfg0.N, (cfg0.win 5).flush t = true ↔ t.val ≠ 0 := by decide +kernel
theorem flush_6 : ∀ t : Fin cfg0.N, (cfg0.win 6).flush t = true ↔ t.val ≠ 0 := by decide +kernel

/-- The row of the arrays at a place of tile `n`. -/
def at_row (n : Fin 32) (p : Fin 512) : Fin 16384 := ⟨512 * n.val + p.val, by omega⟩

/-- The grid point that multiplies tile `n`, and the one after it, that normalises it. -/
def during (n : Fin 32) : Fin cfg0.N := ⟨n.val, by have h : cfg0.N = 33 := N_0; omega⟩
def following (n : Fin 32) : Fin cfg0.N := ⟨n.val + 1, by have h : cfg0.N = 33 := N_0; omega⟩

variable (n : Fin 32) (p : Fin 512) (t : Fin cfg0.N)

theorem rows_at (k : Fin 2048) : iblk m c 0 (during n) (ix2 p k) = m (c.tc.loc main_arg0) (ix2 (at_row n p) k) := by
  refine (congrFun (V_rows m c) _).trans (congrArg (m (c.tc.loc main_arg0)) (funext fun a => Fin.ext ?_))
  match a with
  | ⟨0, _⟩ =>
    show win0_0.index (during n) 0 * 512 + 1 * p.val = 512 * n.val + p.val
    rw [index_0]; show min n.val 31 * 512 + 1 * p.val = _; omega
  | ⟨1, _⟩ =>
    show win0_0.index (during n) 1 * 2048 + 1 * k.val = k.val
    rw [index_0]; show 0 * 2048 + 1 * k.val = _; omega

theorem matrix_at (k j : Fin 2048) : iblk m c 1 t (ix2 k j) = m (c.tc.loc main_arg2) (ix2 k j) := by
  refine (congrFun (V_matrix m c) _).trans (congrArg (m (c.tc.loc main_arg2)) (funext fun a => Fin.ext ?_))
  match a with
  | ⟨0, _⟩ =>
    show win0_1.index t 0 * 2048 + 1 * k.val = k.val
    rw [index_1]; show 0 * 2048 + 1 * k.val = _; omega
  | ⟨1, _⟩ =>
    show win0_1.index t 1 * 2048 + 1 * j.val = j.val
    rw [index_1]; show 0 * 2048 + 1 * j.val = _; omega

theorem residual_at (j : Fin 2048) : iblk m c 2 (following n) (ix2 p j) = m (c.tc.loc main_arg1) (ix2 (at_row n p) j) := by
  refine (congrFun (V_main_arg1 m c) _).trans (congrArg (m (c.tc.loc main_arg1)) (funext fun a => Fin.ext ?_))
  match a with
  | ⟨0, _⟩ =>
    show win0_2.index (following n) 0 * 512 + 1 * p.val = 512 * n.val + p.val
    rw [index_2]; show (n.val + 1 - 1) * 512 + 1 * p.val = _; omega
  | ⟨1, _⟩ =>
    show win0_2.index (following n) 1 * 2048 + 1 * j.val = j.val
    rw [index_2]; show 0 * 2048 + 1 * j.val = _; omega

theorem gain_at (j : Fin 2048) : iblk m c 3 t (ix2 0 j) = m (c.tc.loc main_arg3) (ix1 j) := by
  refine (congrFun (V_gain m c) _).trans (shapeCast_apply (s := S2048) (t := S1x2048) _ _ _ (ix1 j) ?_)
  rewrite [Shape.rowMajor_val_one, Shape.rowMajor_val_two]
  show j.val = (win0_3.index t 0 * 1 + 1 * 0) * 2048 + (win0_3.index t 1 * 2048 + 1 * j.val)
  rw [index_3]
  show _ = (0 * 1 + 1 * 0) * 2048 + (0 * 2048 + 1 * j.val)
  omega

theorem bias_at (j : Fin 2048) : iblk m c 4 t (ix2 0 j) = m (c.tc.loc main_arg4) (ix1 j) := by
  refine (congrFun (V_bias m c) _).trans (shapeCast_apply (s := S2048) (t := S1x2048) _ _ _ (ix1 j) ?_)
  rewrite [Shape.rowMajor_val_one, Shape.rowMajor_val_two]
  show j.val = (win0_4.index t 0 * 1 + 1 * 0) * 2048 + (win0_4.index t 1 * 2048 + 1 * j.val)
  rw [index_4]
  show _ = (0 * 1 + 1 * 0) * 2048 + (0 * 2048 + 1 * j.val)
  omega

/-- The following point's block of the first result, entry by entry, -/
theorem result_emb (j : Fin 2048) : ((cfg0.win 5).blk (following n)).view.emb (ix2 p j) = ix2 (at_row n p) j := by
  funext a
  apply Fin.ext
  match a with
  | ⟨0, _⟩ =>
    show win0_5.index (following n) 0 * 512 + 1 * p.val = 512 * n.val + p.val
    rw [index_5]; show (n.val + 1 - 1) * 512 + 1 * p.val = _; omega
  | ⟨1, _⟩ =>
    show win0_5.index (following n) 1 * 2048 + 1 * j.val = j.val
    rw [index_5]; show 0 * 2048 + 1 * j.val = _; omega

/-- and of the second. -/
theorem half_emb (j : Fin 2048) : ((cfg0.win 6).blk (following n)).view.emb (ix2 p j) = ix2 (at_row n p) j := by
  funext a
  apply Fin.ext
  match a with
  | ⟨0, _⟩ =>
    show win0_6.index (following n) 0 * 512 + 1 * p.val = 512 * n.val + p.val
    rw [index_6]; show (n.val + 1 - 1) * 512 + 1 * p.val = _; omega
  | ⟨1, _⟩ =>
    show win0_6.index (following n) 1 * 2048 + 1 * j.val = j.val
    rw [index_6]; show 0 * 2048 + 1 * j.val = _; omega

/-- A point that isn't the first is the following one of a tile. -/
theorem is_following (ht : t.val ≠ 0) : ∃ n : Fin 32, t = following n := by
  have h : t.val < 33 := lt_of_lt_of_eq t.isLt (show cfg0.N = 33 from N_0)
  exact ⟨⟨t.val - 1, by omega⟩, Fin.ext (show t.val = t.val - 1 + 1 by omega)⟩

/-- Every row is in a tile. -/
theorem is_row (r : Fin 16384) : ∃ (n : Fin 32) (p : Fin 512), r = at_row n p :=
  ⟨⟨r.val / 512, by omega⟩, ⟨r.val % 512, by omega⟩, Fin.ext (show r.val = 512 * (r.val / 512) + r.val % 512 by omega)⟩

end Cert.MixPrepared

end
-- ==== Proof.MixReference.lean ====
/- What the reference of the mixing product computes, one entry at a time. -/
module

public import proofs.«01_k».proof.Proof.MixRow
public import proofs.«01_k».proof.Proof.Gen.Reference4Ideal.Read
public import Idealize.ShloMosaic.Lib.ValueIdx

@[expose] public section

noncomputable section

namespace Cert.MixReference

open Idealize.ShloMosaic Idealize.ShloMosaic.ValueIdx Cert.Reference4Ideal Cert.Reference4Ideal.Gen Cert.Reference4Ideal.Read Cert.MixRow

variable (x0 x1 : FVec Ideal S16384x2048 .f32) (x2 : FVec Ideal S2048x2048 .f32) (x3 x4 : FVec Ideal S2048 .f32)
  (p : Fin 16384) (j : Fin 2048)

/-- The product's entries. -/
def product (i : Fin 2048) : EReal := ∑ k : Fin 2048, x0 (ix2 p k) * x2 (ix2 k i)

/-- The weighted residual and the product. -/
def entry (i : Fin 2048) : EReal := alpha * x1 (ix2 p i) + product x0 x2 p i

theorem val_main_v1_eq (i : S_.Idx) : val_main_v1 (F := Ideal) i = alpha := by
  rw [val_main_v1_apply, val_main_v0_apply, val_main_cst_apply]
  exact alpha_eq

theorem val_main_v5_at : val_main_v5 (F := Ideal) x0 x1 x2 (ix2 p j) = entry x0 x1 x2 p j := by
  rw [val_main_v5_apply, val_main_v3_apply, val_main_v4_apply, val_main_v2_apply, val_main_v1_eq]
  refine congrArg (fun s => alpha * x1 (ix2 p j) + s) (Finset.sum_congr rfl fun k _ => congrArg₂ (· * ·) (congrArg x0 ?_) (congrArg x2 ?_))
  · exact funext fun a => match a with | ⟨0, _⟩ => rfl | ⟨1, _⟩ => rfl
  · exact funext fun a => match a with | ⟨0, _⟩ => rfl | ⟨1, _⟩ => rfl

theorem val_main_v9_at : val_main_v9 (F := Ideal) x0 x1 x2 (ix2 p 0) = mean (entry x0 x1 x2 p) := by
  have e : val_main_v6 (F := Ideal) x0 x1 x2 (ix1 p) = ∑ i, entry x0 x1 x2 p i := by
    rw [val_main_v6_apply, val_main_cst_0_apply]
    show Ideal.ofBits .f32 0x00000000#32 + _ = _
    rw [ofBits_zero, zero_add]
    refine Finset.sum_congr rfl fun i _ => ?_
    rw [← val_main_v5_at]
    exact congrArg _ (funext fun a => match a with | ⟨0, _⟩ => rfl | ⟨1, _⟩ => rfl)
  have e' : idx_main_v7 (ix2 p 0) = ix1 p := funext fun a => match a with | ⟨0, _⟩ => rfl
  rw [val_main_v9_apply, val_main_v7_apply, e', e, val_main_v8_apply, val_main_cst_1_apply]
  rfl

theorem val_main_v11_at : val_main_v11 (F := Ideal) x0 x1 x2 (ix2 p j) = centred (entry x0 x1 x2 p) j := by
  have e : idx_main_v10 (ix2 p j) = ix2 p 0 := funext fun a => match a with | ⟨0, _⟩ => rfl | ⟨1, _⟩ => rfl
  rw [val_main_v11_apply, val_main_v10_apply, val_main_v5_at, e, val_main_v9_at]
  rfl

theorem val_main_v18_at : val_main_v18 (F := Ideal) x0 x1 x2 (ix2 p j) = centred (entry x0 x1 x2 p) j := by
  have e : idx_main_v17 (ix2 p j) = ix2 p 0 := funext fun a => match a with | ⟨0, _⟩ => rfl | ⟨1, _⟩ => rfl
  rw [val_main_v18_apply, val_main_v17_apply, val_main_v5_at, e, val_main_v9_at]
  rfl

theorem val_main_v16_at : val_main_v16 (F := Ideal) x0 x1 x2 (ix2 p 0)
    = mean (fun i => centred (entry x0 x1 x2 p) i * centred (entry x0 x1 x2 p) i) := by
  have e : val_main_v13 (F := Ideal) x0 x1 x2 (ix1 p) = ∑ i, centred (entry x0 x1 x2 p) i * centred (entry x0 x1 x2 p) i := by
    rw [val_main_v13_apply, val_main_cst_2_apply]
    show Ideal.ofBits .f32 0x00000000#32 + _ = _
    rw [ofBits_zero, zero_add]
    refine Finset.sum_congr rfl fun i _ => ?_
    have e : idx_main_v13 (ix1 p) i = ix2 p i := funext fun a => match a with | ⟨0, _⟩ => rfl | ⟨1, _⟩ => rfl
    rw [e, val_main_v12_apply, val_main_v11_at]
    rfl
  have e' : idx_main_v14 (ix2 p 0) = ix1 p := funext fun a => match a with | ⟨0, _⟩ => rfl
  rw [val_main_v16_apply, val_main_v14_apply, e', e, val_main_v15_apply, val_main_cst_3_apply]
  rfl

/-- The reference's result, entry by entry. -/
theorem val_main_v29_at : val_main_v29 (F := Ideal) x0 x1 x2 x3 x4 (ix2 p j)
    = layer (entry x0 x1 x2 p) (fun i => x3 (ix1 i)) (fun i => x4 (ix1 i)) j := by
  have e1 : idx_main_v22 (ix2 p j) = ix2 p 0 := funext fun a => match a with | ⟨0, _⟩ => rfl | ⟨1, _⟩ => rfl
  have e2 : idx_main_v24 (idx_main_v25 (ix2 p j)) = ix1 j := funext fun a => match a with | ⟨0, _⟩ => rfl
  have e3 : idx_main_v27 (idx_main_v28 (ix2 p j)) = ix1 j := funext fun a => match a with | ⟨0, _⟩ => rfl
  rw [val_main_v29_apply, val_main_v26_apply, val_main_v23_apply, val_main_v18_at, val_main_v22_apply, e1, val_main_v21_apply,
    val_main_v20_apply, val_main_v16_at, val_main_v19_apply, val_main_cst_4_apply, val_main_v25_apply, val_main_v24_apply, e2,
    val_main_v28_apply, val_main_v27_apply, e3]
  rfl

end Cert.MixReference

end
-- ==== Proof.MixResult.lean ====
/- The two whole arrays of the mixing product are its reference's. -/
module

public import proofs.«01_k».proof.Proof.MixFrame
public import proofs.«01_k».proof.Proof.MixBlock
public import proofs.«01_k».proof.Proof.MixPrepared
public import proofs.«01_k».proof.Proof.MixReference

@[expose] public section

noncomputable section

namespace Cert.MixResult

open Idealize.ShloMosaic Idealize.ShloMosaic.ValueIdx Idealize.ShloMosaic.TcCoe Idealize.SL.Sem Cert.Kernel4Ideal Cert.Kernel4Ideal.Gen
  Cert.MixRow Cert.MixFrame Cert.MixPrepared

variable (m : (ℓ : Loc nD τ sig) → Buf (Elt Ideal) ℓ) (c : Dev nD) (n : Fin 32) (p : Fin 512)

/-- The reference's first result of the kernel's arguments, -/
def expected : S16384x2048.Idx → EReal :=
  Cert.Reference4Ideal.Read.val_main_v29 (F := Ideal) (m (c.tc.loc main_arg0)) (m (c.tc.loc main_arg1)) (m (c.tc.loc main_arg2))
    (m (c.tc.loc main_arg3)) (m (c.tc.loc main_arg4))

/-- and its second. -/
def expectedHalf : S16384x2048.Idx → EReal :=
  Cert.Reference4Ideal.Read.val_main_v30 (F := Ideal) (m (c.tc.loc main_arg0)) (m (c.tc.loc main_arg1)) (m (c.tc.loc main_arg2))
    (m (c.tc.loc main_arg3)) (m (c.tc.loc main_arg4))

/-- What a point normalises is the product of the tile before it. -/
theorem ready_apply (i : Fin 2048) : ready m c (following n).val (following n).isLt (ix2 p i)
    = Cert.MixReference.product (m (c.tc.loc main_arg0)) (m (c.tc.loc main_arg2)) (at_row n p) i := by
  refine (Cert.MixBlock.added_apply i p (iblk m c 0 (during n)) (iblk m c 1 (during n))).trans ?_
  unfold Cert.MixReference.product
  exact Finset.sum_congr rfl fun k _ => congrArg₂ (· * ·) (rows_at m c n p k) (matrix_at m c (during n) k i)

/-- A tile is the reference's entries. -/
theorem tile_apply (j : Fin 2048) : tile m c (following n) (ix2 p j) = expected m c (ix2 (at_row n p) j) := by
  unfold tile expected
  rw [Cert.MixReference.val_main_v29_at]
  refine (Cert.MixBlock.normed_apply (iblk m c 3 (following n)) (iblk m c 4 (following n)) j
    (ready m c (following n).val (following n).isLt) (iblk m c 2 (following n)) p).trans ?_
  rw [show (fun i => iblk m c 3 (following n) (ix2 0 i)) = fun i => m (c.tc.loc main_arg3) (ix1 i) from funext (gain_at m c _),
    show (fun i => iblk m c 4 (following n) (ix2 0 i)) = fun i => m (c.tc.loc main_arg4) (ix1 i) from funext (bias_at m c _)]
  refine congrArg (fun y => layer y _ _ j) (funext fun i => ?_)
  exact (congrArg₂ (fun s r => s + alpha * r) (ready_apply m c n p i) (residual_at m c n p i)).trans (add_comm _ _)

theorem half_apply (j : Fin 2048) : half m c (following n) (ix2 p j) = expectedHalf m c (ix2 (at_row n p) j) :=
  tile_apply m c n p j

/-- The first result after the run. -/
theorem array : (dats m 0 c).arrAt 5 cfg0.N = expected m c := by
  refine Pipeline.Dat.arrAt_eq_of_cover (dats m 0 c) 5 (expected m c) (fun t ht => ?_) fun i => ?_
  · obtain ⟨n, rfl⟩ := is_following t ((flush_5 t).mp ht)
    show (cfg0.win 5).cut (grid0.coords (following n)) ((dats m 0 c).after 5 (following n)) = _
    rw [after5]
    funext x
    obtain ⟨p, j, rfl⟩ : ∃ (p : Fin 512) (j : Fin 2048), x = ix2 p j := ⟨x 0, x 1, eq_ix2 x⟩
    exact (tile_apply m c n p j).trans (congrArg (expected m c) (result_emb n p j).symm)
  · obtain ⟨r, j, rfl⟩ : ∃ (r : Fin 16384) (j : Fin 2048), i = ix2 r j := ⟨i 0, i 1, eq_ix2 i⟩
    obtain ⟨n, p, rfl⟩ := is_row r
    refine ⟨following n, (flush_5 _).mpr (Nat.succ_ne_zero _), ?_⟩
    rw [← result_emb n p j]
    exact View.emb_mem_set _ _

/-- The second. -/
theorem half_array : (dats m 0 c).arrAt 6 cfg0.N = expectedHalf m c := by
  refine Pipeline.Dat.arrAt_eq_of_cover (dats m 0 c) 6 (expectedHalf m c) (fun t ht => ?_) fun i => ?_
  · obtain ⟨n, rfl⟩ := is_following t ((flush_6 t).mp ht)
    show (cfg0.win 6).cut (grid0.coords (following n)) ((dats m 0 c).after 6 (following n)) = _
    rw [after6]
    funext x
    obtain ⟨p, j, rfl⟩ : ∃ (p : Fin 512) (j : Fin 2048), x = ix2 p j := ⟨x 0, x 1, eq_ix2 x⟩
    exact (half_apply m c n p j).trans (congrArg (expectedHalf m c) (half_emb n p j).symm)
  · obtain ⟨r, j, rfl⟩ : ∃ (r : Fin 16384) (j : Fin 2048), i = ix2 r j := ⟨i 0, i 1, eq_ix2 i⟩
    obtain ⟨n, p, rfl⟩ := is_row r
    refine ⟨following n, (flush_6 _).mpr (Nat.succ_ne_zero _), ?_⟩
    rw [← half_emb n p j]
    exact View.emb_mem_set _ _

/-- The run ends with the two results in place and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v4_0) = expected m c
      ∧ r.2.mem ((c : Thread nD τ).loc main_v4_1) = expectedHalf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨((h.1 c).1 5).trans (array m c), ((h.1 c).1 6).trans (half_array m c), h.2 c⟩)
    (θ_run_and (run_main m ρ) (frame_of m ρ (dats m) (A_eq m) (run_main m ρ)))

end Cert.MixResult

end
-- ==== Proof.MlpNames.lean ====
/- The layer's network streams its residual in and its two results out by transfers of its own, each in flight from one
   grid point to the next. Here are the conditions of its body over the points, the pieces of the arrays and of the slots
   those transfers move, and the assertions of a slot, a piece and a transfer in flight. -/
module

public import proofs.«01_k».proof.Proof.Gen.Kernel5Ideal.Frame
public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.MlpNames

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F] [Named F]

local notation "𝕄" => MT nD τ sig Unit (Elt F) ℕ (Pipeline.UD sig nD τ) ℕ

/-! ## Which case a grid point is in -/

/-- The body clears both accumulators. -/
abbrev clears (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The body waits for its slab of the residual. -/
abbrev waitsResidual (i : grid0.Coords) : Prop := k0_cond2 i = 1#1
/-- It waits for the results of two points before. -/
abbrev waitsResults (i : grid0.Coords) : Prop := k0_cond3 i = 1#1
/-- It starts the next slab of the residual. -/
abbrev startsResidual (i : grid0.Coords) : Prop := k0_cond4 i = 1#1
/-- It is in the first row of the grid. -/
abbrev firstRow (i : grid0.Coords) : Prop := Scalar.cmpi .ne (Scalar.extui (Scalar.cmpi .eq (BitVec.ofNat 32 (i 0).val) 0#32)) 0#32 = 1#1
/-- It is in an even row, neither the first nor the last. -/
abbrev evenRow (i : grid0.Coords) : Prop := k0_cond6 i = 1#1
/-- It is in an odd row. -/
abbrev oddRow (i : grid0.Coords) : Prop := k0_cond7 i = 1#1
/-- It is in the last row. -/
abbrev lastRow (i : grid0.Coords) : Prop := k0_cond8 i = 1#1
/-- It starts its results' transfers. -/
abbrev startsResults (i : grid0.Coords) : Prop := k0_cond9 i = 1#1
/-- It is the last point. -/
abbrev drains (i : grid0.Coords) : Prop := k0_cond10 i = 1#1

theorem clears_iff : ∀ t : Fin grid0.N, clears (grid0.coords t) ↔ t.val = 0 := by decide +kernel
theorem waitsResidual_iff : ∀ t : Fin grid0.N, waitsResidual (grid0.coords t) ↔ 8 ≤ t.val := by decide +kernel
theorem waitsResults_iff : ∀ t : Fin grid0.N, waitsResults (grid0.coords t) ↔ 10 ≤ t.val := by decide +kernel
theorem startsResidual_iff : ∀ t : Fin grid0.N, startsResidual (grid0.coords t) ↔ 7 ≤ t.val ∧ t.val < 135 := by decide +kernel
theorem firstRow_iff : ∀ t : Fin grid0.N, firstRow (grid0.coords t) ↔ t.val < 8 := by decide +kernel
theorem evenRow_iff : ∀ t : Fin grid0.N, evenRow (grid0.coords t) ↔ (t.val / 8) % 2 = 0 ∧ 8 ≤ t.val ∧ t.val < 128 := by decide +kernel
theorem oddRow_iff : ∀ t : Fin grid0.N, oddRow (grid0.coords t) ↔ (t.val / 8) % 2 = 1 := by decide +kernel
theorem lastRow_iff : ∀ t : Fin grid0.N, lastRow (grid0.coords t) ↔ 128 ≤ t.val := by decide +kernel
theorem startsResults_iff : ∀ t : Fin grid0.N, startsResults (grid0.coords t) ↔ 8 ≤ t.val := by decide +kernel
theorem drains_iff : ∀ t : Fin grid0.N, drains (grid0.coords t) ↔ t.val = 135 := by decide +kernel

/-! ## The buffers -/

abbrev evenAcc : Memref sig .tc .vmem S1024x2048 .f32 := Memref.whole cc0_scratch0
abbrev oddAcc : Memref sig .tc .vmem S1024x2048 .f32 := Memref.whole cc0_scratch1
abbrev slots : Memref sig .tc .vmem S2x128x2048 .f32 := Memref.whole cc0_scratch2
abbrev tilesA : Memref sig .tc .vmem S2x128x2048 .f32 := Memref.whole cc0_scratch3
abbrev tilesB : Memref sig .tc .vmem S2x128x2048 .bf16 := Memref.whole cc0_scratch4
abbrev residual : Memref sig .tc .hbm S16384x2048 .f32 := Memref.whole main_arg0
abbrev resultA : Memref sig .tc .hbm S16384x2048 .f32 := Memref.whole main_v4_0
abbrev resultB : Memref sig .tc .hbm S16384x2048 .bf16 := Memref.whole main_v4_1

/-- What a buffer on core `c` holds. -/
abbrev Holds (c : Dev nD) {sp : Space} {S : Shape} {e : EltTy} (M : Memref sig .tc sp S e) : Type := Buf (Elt F) (M.view.loc (c : Thread nD τ))
/-- The buffer held whole at `f`. -/
abbrev held (c : Dev nD) {sp : Space} {S : Shape} {e : EltTy} (M : Memref sig .tc sp S e) (f : Holds (F := F) c M) : sProp 𝕄 :=
  M.view.loc (c : Thread nD τ) ↦{fullShare} f

instance : NeZero grid0.N := ⟨by rw [N_0]; decide⟩

theorem inb_slot (s : Fin 2) : ∀ a, (![s.val, 0, 0] : Fin 3 → Nat) a + S1x128x2048.size a ≤ S2x128x2048.size a := by
  have := s.isLt; intro a; fin_cases a <;> simp <;> omega
theorem inb_slab (b : Fin 128) : ∀ a, (![128 * b.val, 0] : Fin 2 → Nat) a + S128x2048.size a ≤ S16384x2048.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega

/-- Slot `s` of the residual's two. -/
def slot (s : Fin 2) : Memref sig .tc .vmem S128x2048 .f32 :=
  (slots.slice (Rect.unit (s := S2x128x2048) ![s.val, 0, 0] S1x128x2048.size (inb_slot s)) (fun _ => rfl)).squeeze S128x2048 squeezes_S1x128x2048_S128x2048
/-- Slab `b` of the residual. -/
def slab (b : Fin 128) : Memref sig .tc .hbm S128x2048 .f32 :=
  residual.slice (Rect.unit (s := S16384x2048) ![128 * b.val, 0] S128x2048.size (inb_slab b)) (fun _ => rfl)
/-- The semaphore a transfer into slot `s` is counted on. -/
def cell (s : Fin 2) : DmaSems sig S_ := (cc0_scratch5.slice (Rect.unit (s := S2) ![s.val] S1.size (inb_cell s))).squeeze S_ squeezes_S1_S_
abbrev cellAt (s : Fin 2) : SemLoc sig := SemLoc.dma (cell s).sem
theorem cellAt_0 : cellAt 0 = SemLoc.dma 8 := by decide
theorem cellAt_1 : cellAt 1 = SemLoc.dma 9 := by decide

/-- Slot `g` of the first result's two. -/
def tileA (g : Fin 2) : Memref sig .tc .vmem S128x2048 .f32 :=
  (tilesA.slice (Rect.unit (s := S2x128x2048) ![g.val, 0, 0] S1x128x2048.size (inb_slot g)) (fun _ => rfl)).squeeze S128x2048 squeezes_S1x128x2048_S128x2048
/-- Slab `u` of the first result. -/
def pieceA (u : Fin 128) : Memref sig .tc .hbm S128x2048 .f32 :=
  resultA.slice (Rect.unit (s := S16384x2048) ![128 * u.val, 0] S128x2048.size (inb_slab u)) (fun _ => rfl)
/-- The semaphore the transfer of slot `g` is counted on. -/
def cellA (g : Fin 2) : DmaSems sig S_ := (cc0_scratch6.slice (Rect.unit (s := S2) ![g.val] S1.size (inb_cell g))).squeeze S_ squeezes_S1_S_
abbrev cellAtA (g : Fin 2) : SemLoc sig := SemLoc.dma (cellA g).sem
theorem cellAtA_0 : cellAtA 0 = SemLoc.dma 10 := by decide
theorem cellAtA_1 : cellAtA 1 = SemLoc.dma 11 := by decide

/-- Slot `g` of the second result's two. -/
def tileB (g : Fin 2) : Memref sig .tc .vmem S128x2048 .bf16 :=
  (tilesB.slice (Rect.unit (s := S2x128x2048) ![g.val, 0, 0] S1x128x2048.size (inb_slot g)) (fun _ => rfl)).squeeze S128x2048 squeezes_S1x128x2048_S128x2048
/-- Slab `u` of the second result. -/
def pieceB (u : Fin 128) : Memref sig .tc .hbm S128x2048 .bf16 :=
  resultB.slice (Rect.unit (s := S16384x2048) ![128 * u.val, 0] S128x2048.size (inb_slab u)) (fun _ => rfl)
/-- The semaphore the transfer of slot `g` is counted on. -/
def cellB (g : Fin 2) : DmaSems sig S_ := (cc0_scratch7.slice (Rect.unit (s := S2) ![g.val] S1.size (inb_cell g))).squeeze S_ squeezes_S1_S_
abbrev cellAtB (g : Fin 2) : SemLoc sig := SemLoc.dma (cellB g).sem
theorem cellAtB_0 : cellAtB 0 = SemLoc.dma 12 := by decide
theorem cellAtB_1 : cellAtB 1 = SemLoc.dma 13 := by decide

/-! ## The residual's slots and transfers -/

section Residual

variable (c : Dev nD) (W : Holds (F := F) c residual)

/-- Each slot's transfer borrows its slab from its own half of the residual's share. -/
abbrev half (s : Fin 2) : PosShare TreeShare := if s.val = 0 then fullShare.left else fullShare.right
abbrev slotHeld (s : Fin 2) (f : Holds (F := F) c (slot s)) : sProp 𝕄 := (slot s).view.loc (c : Thread nD τ) ↦[(slot s).view.set]{fullShare} f
abbrev cellHeld (s : Fin 2) : sProp 𝕄 := semVal ((c : Thread nD τ), cellAt s) 0
abbrev slabHeld (s : Fin 2) (b : Fin 128) : sProp 𝕄 := (slab b).view.loc (c : Thread nD τ) ↦[(slab b).view.set]{half s} W
/-- The rest of slot `s`'s half once slab `b` is lent. -/
def restHeld (s : Fin 2) (b : Fin 128) : sProp 𝕄 := ((c : Thread nD τ).loc main_arg0) ↦[Finset.univ \ (slab b).view.set]{half s} W
abbrev halfHeld (s : Fin 2) : sProp 𝕄 := ((c : Thread nD τ).loc main_arg0) ↦[Finset.univ]{half s} W
/-- Slot `s` once slab `b` has landed in it. -/
abbrev landed (s : Fin 2) (b : Fin 128) (f : Holds (F := F) c (slot s)) : Holds (F := F) c (slot s) :=
  (slot s).view.writes (Elt F) f [⟨Rect.whole S128x2048, ReadAs.same.apply ((slab b).view.read (Elt F) W)⟩]
/-- Slab `b` in flight into slot `s`. -/
abbrev coming (s : Fin 2) (b : Fin 128) : sProp 𝕄 :=
  iprop(∃ f, Transfers.Flight countersEmb (c : Thread nD τ) (cellAt s) default ((slot s).view.amount (cellAt s))
    iprop(slotHeld c s (landed c W s b f) ∗ slabHeld c W s b) ∗ restHeld c W s b)
/-- Slot `s` with nothing in flight. -/
abbrev idle (s : Fin 2) : sProp 𝕄 := iprop(cellHeld (F := F) c s ∗ (∃ f, slotHeld c s f) ∗ halfHeld c W s)

omit [FloatOps F] [Named F] in
theorem cellHeld_0 : cellHeld (F := F) c 0 = semVal ((c : Thread nD τ), SemLoc.dma 8) 0 := congrArg (fun x => (semVal ((c : Thread nD τ), x) 0 : sProp 𝕄)) cellAt_0
omit [FloatOps F] [Named F] in
theorem cellHeld_1 : cellHeld (F := F) c 1 = semVal ((c : Thread nD τ), SemLoc.dma 9) 0 := congrArg (fun x => (semVal ((c : Thread nD τ), x) 0 : sProp 𝕄)) cellAt_1

end Residual

/-! ## The results' slots and transfers -/

section Results

variable (c : Dev nD)

abbrev tileHeldA (g : Fin 2) (e : Holds (F := F) c (tileA g)) : sProp 𝕄 := (tileA g).view.loc (c : Thread nD τ) ↦[(tileA g).view.set]{fullShare} e
abbrev cellHeldA (g : Fin 2) : sProp 𝕄 := semVal ((c : Thread nD τ), cellAtA g) 0
abbrev pieceHeldA (u : Fin 128) (f : Holds (F := F) c (pieceA u)) : sProp 𝕄 := (pieceA u).view.loc (c : Thread nD τ) ↦[(pieceA u).view.set]{fullShare} f
/-- Slot `g` in flight to slab `u` of the first result. -/
abbrev leavingA (g : Fin 2) (u : Fin 128) : sProp 𝕄 :=
  iprop(∃ f e, Transfers.Flight countersEmb (c : Thread nD τ) (cellAtA g) default ((pieceA u).view.amount (cellAtA g)) iprop(pieceHeldA c u f ∗ tileHeldA c g e))

omit [FloatOps F] [Named F] in
theorem cellHeldA_0 : cellHeldA (F := F) c 0 = semVal ((c : Thread nD τ), SemLoc.dma 10) 0 := congrArg (fun x => (semVal ((c : Thread nD τ), x) 0 : sProp 𝕄)) cellAtA_0
omit [FloatOps F] [Named F] in
theorem cellHeldA_1 : cellHeldA (F := F) c 1 = semVal ((c : Thread nD τ), SemLoc.dma 11) 0 := congrArg (fun x => (semVal ((c : Thread nD τ), x) 0 : sProp 𝕄)) cellAtA_1

abbrev tileHeldB (g : Fin 2) (e : Holds (F := F) c (tileB g)) : sProp 𝕄 := (tileB g).view.loc (c : Thread nD τ) ↦[(tileB g).view.set]{fullShare} e
abbrev cellHeldB (g : Fin 2) : sProp 𝕄 := semVal ((c : Thread nD τ), cellAtB g) 0
abbrev pieceHeldB (u : Fin 128) (f : Holds (F := F) c (pieceB u)) : sProp 𝕄 := (pieceB u).view.loc (c : Thread nD τ) ↦[(pieceB u).view.set]{fullShare} f
/-- Slot `g` in flight to slab `u` of the second result. -/
abbrev leavingB (g : Fin 2) (u : Fin 128) : sProp 𝕄 :=
  iprop(∃ f e, Transfers.Flight countersEmb (c : Thread nD τ) (cellAtB g) default ((pieceB u).view.amount (cellAtB g)) iprop(pieceHeldB c u f ∗ tileHeldB c g e))

omit [FloatOps F] [Named F] in
theorem cellHeldB_0 : cellHeldB (F := F) c 0 = semVal ((c : Thread nD τ), SemLoc.dma 12) 0 := congrArg (fun x => (semVal ((c : Thread nD τ), x) 0 : sProp 𝕄)) cellAtB_0
omit [FloatOps F] [Named F] in
theorem cellHeldB_1 : cellHeldB (F := F) c 1 = semVal ((c : Thread nD τ), SemLoc.dma 13) 0 := congrArg (fun x => (semVal ((c : Thread nD τ), x) 0 : sProp 𝕄)) cellAtB_1

/-- Slots `g` of both results with nothing in flight. -/
abbrev freeSlots (g : Fin 2) : sProp 𝕄 := iprop((cellHeldA (F := F) c g ∗ ∃ e, tileHeldA c g e) ∗ (cellHeldB (F := F) c g ∗ ∃ e, tileHeldB c g e))
/-- Both in flight to slabs `u`. -/
abbrev leaving (g : Fin 2) (u : Fin 128) : sProp 𝕄 := iprop(leavingA (F := F) c g u ∗ leavingB c g u)
/-- Slabs `u` of both results. -/
abbrev home (u : Fin 128) : sProp 𝕄 := iprop((∃ f, pieceHeldA (F := F) c u f) ∗ ∃ f, pieceHeldB c u f)
/-- The results before step `k` of their 128 steps, each step's transfers waited for two steps later. -/
def resultsAt (k : ℕ) : sProp 𝕄 := Ring.AtBΦ 2 (freeSlots (F := F) c) (leaving c) (home c) (home c) k
/-- The residual before grid point `t`: nothing in flight in the first row and at the end; between, one slab. -/
def residualAt (W : Holds (F := F) c residual) (t : ℕ) : sProp 𝕄 :=
  if 8 ≤ t ∧ t < 136 then iprop(coming c W (Ring.sl 2 t) (Ring.bk 128 (t - 8)) ∗ idle c W (Ring.sl 2 (t + 1)))
  else iprop(idle c W (Ring.sl 2 t) ∗ idle c W (Ring.sl 2 (t + 1)))

end Results

end Cert.MlpNames

end
-- ==== Proof.MlpPlaces.lean ====
/- Where the network's transfers and slabs lie, point by point: the places its body writes out are the slots and slabs by
   number. -/
module

public import proofs.«01_k».proof.Proof.MlpNames

@[expose] public section

set_option maxRecDepth 16384

noncomputable section

namespace Cert.MlpPlaces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames

variable {F : FTy → Type} [FloatOps F] [Named F]

local notation "𝕄" => MT nD τ sig Unit (Elt F) ℕ (Pipeline.UD sig nD τ) ℕ

omit [FloatOps F] [Named F]

/-! ## The residual -/

set_option synthInstance.maxSize 4096 in
theorem at1 : ∀ t : Fin grid0.N, k0_off1 (grid0.coords t) = ![(Ring.sl 2 t.val).val] := by decide +kernel
@[sl_canon] theorem cell_at1 (t : Fin grid0.N) (h : waitsResidual (grid0.coords t)) :
    (cc0_scratch5.slice (Rect.unit (s := S2) (k0_off1 (grid0.coords t)) S1.size (k0_off1_inb (grid0.coords t) h))).squeeze S_ squeezes_S1_S_ = cell (Ring.sl 2 t.val) :=
  congrArg (fun A : DmaSems sig S1 => A.squeeze S_ squeezes_S1_S_) (SemArray.slice_unit_congr _ (at1 t) _ _)
@[sl_canon] theorem cell_at1' (t : Fin grid0.N) (h : waitsResidual (grid0.coords t)) :
    (cc0_scratch5.slice (Rect.unit (s := S2) (k0_off1 (grid0.coords t)) ![1] (k0_off1_inb (grid0.coords t) h))).squeeze S_ squeezes_S1_S_ = cell (Ring.sl 2 t.val) :=
  cell_at1 t h

set_option synthInstance.maxSize 4096 in
theorem at2 : ∀ t : Fin grid0.N, k0_off2 (grid0.coords t) = ![(Ring.sl 2 t.val).val, 0, 0] := by decide +kernel
@[sl_canon] theorem slot_at2 (t : Fin grid0.N) (h : waitsResidual (grid0.coords t)) :
    (slots.slice (Rect.unit (s := S2x128x2048) (k0_off2 (grid0.coords t)) S1x128x2048.size (k0_off2_inb (grid0.coords t) h)) (fun _ => rfl)).squeeze S128x2048 squeezes_S1x128x2048_S128x2048 = slot (Ring.sl 2 t.val) :=
  congrArg (fun M : Memref sig .tc .vmem S1x128x2048 .f32 => M.squeeze S128x2048 squeezes_S1x128x2048_S128x2048) (Memref.slice_unit_congr _ (at2 t) _ _ (fun _ => rfl) (fun _ => rfl))
@[sl_canon] theorem slot_at2' (t : Fin grid0.N) (h : waitsResidual (grid0.coords t)) :
    (slots.slice (Rect.unit (s := S2x128x2048) (k0_off2 (grid0.coords t)) ![1, 128, 2048] (k0_off2_inb (grid0.coords t) h)) (fun _ => rfl)).squeeze S128x2048 squeezes_S1x128x2048_S128x2048 = slot (Ring.sl 2 t.val) :=
  slot_at2 t h

set_option synthInstance.maxSize 4096 in
theorem at3 : ∀ t : Fin grid0.N, waitsResidual (grid0.coords t) → k0_off3 (grid0.coords t) = ![128 * (Ring.bk 128 (t.val - 8)).val, 0] := by decide +kernel
@[sl_canon] theorem slab_at3 (t : Fin grid0.N) (h : waitsResidual (grid0.coords t)) :
    residual.slice (Rect.unit (s := S16384x2048) (k0_off3 (grid0.coords t)) S128x2048.size (k0_off3_inb (grid0.coords t) h)) (fun _ => rfl) = slab (Ring.bk 128 (t.val - 8)) :=
  congrArg (fun M : Memref sig .tc .hbm S128x2048 .f32 => M) (Memref.slice_unit_congr _ (at3 t h) _ _ (fun _ => rfl) (fun _ => rfl))
@[sl_canon] theorem slab_at3' (t : Fin grid0.N) (h : waitsResidual (grid0.coords t)) :
    residual.slice (Rect.unit (s := S16384x2048) (k0_off3 (grid0.coords t)) ![128, 2048] (k0_off3_inb (grid0.coords t) h)) (fun _ => rfl) = slab (Ring.bk 128 (t.val - 8)) :=
  slab_at3 t h

set_option synthInstance.maxSize 4096 in
theorem at7 : ∀ t : Fin grid0.N, k0_off7 (grid0.coords t) = ![(Ring.sl 2 (t.val + 1)).val] := by decide +kernel
@[sl_canon] theorem cell_at7 (t : Fin grid0.N) (h : startsResidual (grid0.coords t)) :
    (cc0_scratch5.slice (Rect.unit (s := S2) (k0_off7 (grid0.coords t)) S1.size (k0_off7_inb (grid0.coords t) h))).squeeze S_ squeezes_S1_S_ = cell (Ring.sl 2 (t.val + 1)) :=
  congrArg (fun A : DmaSems sig S1 => A.squeeze S_ squeezes_S1_S_) (SemArray.slice_unit_congr _ (at7 t) _ _)
@[sl_canon] theorem cell_at7' (t : Fin grid0.N) (h : startsResidual (grid0.coords t)) :
    (cc0_scratch5.slice (Rect.unit (s := S2) (k0_off7 (grid0.coords t)) ![1] (k0_off7_inb (grid0.coords t) h))).squeeze S_ squeezes_S1_S_ = cell (Ring.sl 2 (t.val + 1)) :=
  cell_at7 t h

set_option synthInstance.maxSize 4096 in
theorem at8 : ∀ t : Fin grid0.N, k0_off8 (grid0.coords t) = ![(Ring.sl 2 (t.val + 1)).val, 0, 0] := by decide +kernel
@[sl_canon] theorem slot_at8 (t : Fin grid0.N) (h : startsResidual (grid0.coords t)) :
    (slots.slice (Rect.unit (s := S2x128x2048) (k0_off8 (grid0.coords t)) S1x128x2048.size (k0_off8_inb (grid0.coords t) h)) (fun _ => rfl)).squeeze S128x2048 squeezes_S1x128x2048_S128x2048 = slot (Ring.sl 2 (t.val + 1)) :=
  congrArg (fun M : Memref sig .tc .vmem S1x128x2048 .f32 => M.squeeze S128x2048 squeezes_S1x128x2048_S128x2048) (Memref.slice_unit_congr _ (at8 t) _ _ (fun _ => rfl) (fun _ => rfl))
@[sl_canon] theorem slot_at8' (t : Fin grid0.N) (h : startsResidual (grid0.coords t)) :
    (slots.slice (Rect.unit (s := S2x128x2048) (k0_off8 (grid0.coords t)) ![1, 128, 2048] (k0_off8_inb (grid0.coords t) h)) (fun _ => rfl)).squeeze S128x2048 squeezes_S1x128x2048_S128x2048 = slot (Ring.sl 2 (t.val + 1)) :=
  slot_at8 t h

set_option synthInstance.maxSize 4096 in
theorem at9 : ∀ t : Fin grid0.N, startsResidual (grid0.coords t) → k0_off9 (grid0.coords t) = ![128 * (Ring.bk 128 (t.val - 7)).val, 0] := by decide +kernel
@[sl_canon] theorem slab_at9 (t : Fin grid0.N) (h : startsResidual (grid0.coords t)) :
    residual.slice (Rect.unit (s := S16384x2048) (k0_off9 (grid0.coords t)) S128x2048.size (k0_off9_inb (grid0.coords t) h)) (fun _ => rfl) = slab (Ring.bk 128 (t.val - 7)) :=
  congrArg (fun M : Memref sig .tc .hbm S128x2048 .f32 => M) (Memref.slice_unit_congr _ (at9 t h) _ _ (fun _ => rfl) (fun _ => rfl))
@[sl_canon] theorem slab_at9' (t : Fin grid0.N) (h : startsResidual (grid0.coords t)) :
    residual.slice (Rect.unit (s := S16384x2048) (k0_off9 (grid0.coords t)) ![128, 2048] (k0_off9_inb (grid0.coords t) h)) (fun _ => rfl) = slab (Ring.bk 128 (t.val - 7)) :=
  slab_at9 t h

/-! ## The results -/

set_option synthInstance.maxSize 4096 in
theorem at4 : ∀ t : Fin grid0.N, k0_off4 (grid0.coords t) = ![(Ring.sl 2 t.val).val] := by decide +kernel
@[sl_canon] theorem cellA_at4 (t : Fin grid0.N) (h : waitsResults (grid0.coords t)) :
    (cc0_scratch6.slice (Rect.unit (s := S2) (k0_off4 (grid0.coords t)) S1.size (k0_off4_inb (grid0.coords t) h))).squeeze S_ squeezes_S1_S_ = cellA (Ring.sl 2 t.val) :=
  congrArg (fun A : DmaSems sig S1 => A.squeeze S_ squeezes_S1_S_) (SemArray.slice_unit_congr _ (at4 t) _ _)
@[sl_canon] theorem cellA_at4' (t : Fin grid0.N) (h : waitsResults (grid0.coords t)) :
    (cc0_scratch6.slice (Rect.unit (s := S2) (k0_off4 (grid0.coords t)) ![1] (k0_off4_inb (grid0.coords t) h))).squeeze S_ squeezes_S1_S_ = cellA (Ring.sl 2 t.val) :=
  cellA_at4 t h
@[sl_canon] theorem cellB_at4 (t : Fin grid0.N) (h : waitsResults (grid0.coords t)) :
    (cc0_scratch7.slice (Rect.unit (s := S2) (k0_off4 (grid0.coords t)) S1.size (k0_off4_inb (grid0.coords t) h))).squeeze S_ squeezes_S1_S_ = cellB (Ring.sl 2 t.val) :=
  congrArg (fun A : DmaSems sig S1 => A.squeeze S_ squeezes_S1_S_) (SemArray.slice_unit_congr _ (at4 t) _ _)
@[sl_canon] theorem cellB_at4' (t : Fin grid0.N) (h : waitsResults (grid0.coords t)) :
    (cc0_scratch7.slice (Rect.unit (s := S2) (k0_off4 (grid0.coords t)) ![1] (k0_off4_inb (grid0.coords t) h))).squeeze S_ squeezes_S1_S_ = cellB (Ring.sl 2 t.val) :=
  cellB_at4 t h

set_option synthInstance.maxSize 4096 in
theorem at5 : ∀ t : Fin grid0.N, waitsResults (grid0.coords t) → k0_off5 (grid0.coords t) = ![128 * (Ring.bk 128 (t.val - 8)).val, 0] := by decide +kernel
@[sl_canon] theorem pieceA_at5 (t : Fin grid0.N) (h : waitsResults (grid0.coords t)) :
    resultA.slice (Rect.unit (s := S16384x2048) (k0_off5 (grid0.coords t)) S128x2048.size (k0_off5_inb (grid0.coords t) h)) (fun _ => rfl) = pieceA (Ring.bk 128 (t.val - 8)) :=
  congrArg (fun M : Memref sig .tc .hbm S128x2048 .f32 => M) (Memref.slice_unit_congr _ (at5 t h) _ _ (fun _ => rfl) (fun _ => rfl))
@[sl_canon] theorem pieceA_at5' (t : Fin grid0.N) (h : waitsResults (grid0.coords t)) :
    resultA.slice (Rect.unit (s := S16384x2048) (k0_off5 (grid0.coords t)) ![128, 2048] (k0_off5_inb (grid0.coords t) h)) (fun _ => rfl) = pieceA (Ring.bk 128 (t.val - 8)) :=
  pieceA_at5 t h
@[sl_canon] theorem pieceB_at5 (t : Fin grid0.N) (h : waitsResults (grid0.coords t)) :
    resultB.slice (Rect.unit (s := S16384x2048) (k0_off5 (grid0.coords t)) S128x2048.size (k0_off5_inb (grid0.coords t) h)) (fun _ => rfl) = pieceB (Ring.bk 128 (t.val - 8)) :=
  congrArg (fun M : Memref sig .tc .hbm S128x2048 .bf16 => M) (Memref.slice_unit_congr _ (at5 t h) _ _ (fun _ => rfl) (fun _ => rfl))
@[sl_canon] theorem pieceB_at5' (t : Fin grid0.N) (h : waitsResults (grid0.coords t)) :
    resultB.slice (Rect.unit (s := S16384x2048) (k0_off5 (grid0.coords t)) ![128, 2048] (k0_off5_inb (grid0.coords t) h)) (fun _ => rfl) = pieceB (Ring.bk 128 (t.val - 8)) :=
  pieceB_at5 t h

set_option synthInstance.maxSize 4096 in
theorem at6 : ∀ t : Fin grid0.N, k0_off6 (grid0.coords t) = ![(Ring.sl 2 t.val).val, 0, 0] := by decide +kernel
@[sl_canon] theorem tileA_at6 (t : Fin grid0.N) (h : waitsResults (grid0.coords t)) :
    (tilesA.slice (Rect.unit (s := S2x128x2048) (k0_off6 (grid0.coords t)) S1x128x2048.size (k0_off6_inb (grid0.coords t) h)) (fun _ => rfl)).squeeze S128x2048 squeezes_S1x128x2048_S128x2048 = tileA (Ring.sl 2 t.val) :=
  congrArg (fun M : Memref sig .tc .vmem S1x128x2048 .f32 => M.squeeze S128x2048 squeezes_S1x128x2048_S128x2048) (Memref.slice_unit_congr _ (at6 t) _ _ (fun _ => rfl) (fun _ => rfl))
@[sl_canon] theorem tileA_at6' (t : Fin grid0.N) (h : waitsResults (grid0.coords t)) :
    (tilesA.slice (Rect.unit (s := S2x128x2048) (k0_off6 (grid0.coords t)) ![1, 128, 2048] (k0_off6_inb (grid0.coords t) h)) (fun _ => rfl)).squeeze S128x2048 squeezes_S1x128x2048_S128x2048 = tileA (Ring.sl 2 t.val) :=
  tileA_at6 t h
@[sl_canon] theorem tileB_at6 (t : Fin grid0.N) (h : waitsResults (grid0.coords t)) :
    (tilesB.slice (Rect.unit (s := S2x128x2048) (k0_off6 (grid0.coords t)) S1x128x2048.size (k0_off6_inb (grid0.coords t) h)) (fun _ => rfl)).squeeze S128x2048 squeezes_S1x128x2048_S128x2048 = tileB (Ring.sl 2 t.val) :=
  congrArg (fun M : Memref sig .tc .vmem S1x128x2048 .bf16 => M.squeeze S128x2048 squeezes_S1x128x2048_S128x2048) (Memref.slice_unit_congr _ (at6 t) _ _ (fun _ => rfl) (fun _ => rfl))
@[sl_canon] theorem tileB_at6' (t : Fin grid0.N) (h : waitsResults (grid0.coords t)) :
    (tilesB.slice (Rect.unit (s := S2x128x2048) (k0_off6 (grid0.coords t)) ![1, 128, 2048] (k0_off6_inb (grid0.coords t) h)) (fun _ => rfl)).squeeze S128x2048 squeezes_S1x128x2048_S128x2048 = tileB (Ring.sl 2 t.val) :=
  tileB_at6 t h

set_option synthInstance.maxSize 4096 in
theorem at16 : ∀ t : Fin grid0.N, k0_off16 (grid0.coords t) = ![(Ring.sl 2 t.val).val] := by decide +kernel
@[sl_canon] theorem cellA_at16 (t : Fin grid0.N) (h : startsResults (grid0.coords t)) :
    (cc0_scratch6.slice (Rect.unit (s := S2) (k0_off16 (grid0.coords t)) S1.size (k0_off16_inb (grid0.coords t) h))).squeeze S_ squeezes_S1_S_ = cellA (Ring.sl 2 t.val) :=
  congrArg (fun A : DmaSems sig S1 => A.squeeze S_ squeezes_S1_S_) (SemArray.slice_unit_congr _ (at16 t) _ _)
@[sl_canon] theorem cellA_at16' (t : Fin grid0.N) (h : startsResults (grid0.coords t)) :
    (cc0_scratch6.slice (Rect.unit (s := S2) (k0_off16 (grid0.coords t)) ![1] (k0_off16_inb (grid0.coords t) h))).squeeze S_ squeezes_S1_S_ = cellA (Ring.sl 2 t.val) :=
  cellA_at16 t h
@[sl_canon] theorem cellB_at16 (t : Fin grid0.N) (h : startsResults (grid0.coords t)) :
    (cc0_scratch7.slice (Rect.unit (s := S2) (k0_off16 (grid0.coords t)) S1.size (k0_off16_inb (grid0.coords t) h))).squeeze S_ squeezes_S1_S_ = cellB (Ring.sl 2 t.val) :=
  congrArg (fun A : DmaSems sig S1 => A.squeeze S_ squeezes_S1_S_) (SemArray.slice_unit_congr _ (at16 t) _ _)
@[sl_canon] theorem cellB_at16' (t : Fin grid0.N) (h : startsResults (grid0.coords t)) :
    (cc0_scratch7.slice (Rect.unit (s := S2) (k0_off16 (grid0.coords t)) ![1] (k0_off16_inb (grid0.coords t) h))).squeeze S_ squeezes_S1_S_ = cellB (Ring.sl 2 t.val) :=
  cellB_at16 t h

set_option synthInstance.maxSize 4096 in
theorem at17 : ∀ t : Fin grid0.N, startsResults (grid0.coords t) → k0_off17 (grid0.coords t) = ![128 * (Ring.bk 128 (t.val - 8)).val, 0] := by decide +kernel
@[sl_canon] theorem pieceA_at17 (t : Fin grid0.N) (h : startsResults (grid0.coords t)) :
    resultA.slice (Rect.unit (s := S16384x2048) (k0_off17 (grid0.coords t)) S128x2048.size (k0_off17_inb (grid0.coords t) h)) (fun _ => rfl) = pieceA (Ring.bk 128 (t.val - 8)) :=
  congrArg (fun M : Memref sig .tc .hbm S128x2048 .f32 => M) (Memref.slice_unit_congr _ (at17 t h) _ _ (fun _ => rfl) (fun _ => rfl))
@[sl_canon] theorem pieceA_at17' (t : Fin grid0.N) (h : startsResults (grid0.coords t)) :
    resultA.slice (Rect.unit (s := S16384x2048) (k0_off17 (grid0.coords t)) ![128, 2048] (k0_off17_inb (grid0.coords t) h)) (fun _ => rfl) = pieceA (Ring.bk 128 (t.val - 8)) :=
  pieceA_at17 t h
@[sl_canon] theorem pieceB_at17 (t : Fin grid0.N) (h : startsResults (grid0.coords t)) :
    resultB.slice (Rect.unit (s := S16384x2048) (k0_off17 (grid0.coords t)) S128x2048.size (k0_off17_inb (grid0.coords t) h)) (fun _ => rfl) = pieceB (Ring.bk 128 (t.val - 8)) :=
  congrArg (fun M : Memref sig .tc .hbm S128x2048 .bf16 => M) (Memref.slice_unit_congr _ (at17 t h) _ _ (fun _ => rfl) (fun _ => rfl))
@[sl_canon] theorem pieceB_at17' (t : Fin grid0.N) (h : startsResults (grid0.coords t)) :
    resultB.slice (Rect.unit (s := S16384x2048) (k0_off17 (grid0.coords t)) ![128, 2048] (k0_off17_inb (grid0.coords t) h)) (fun _ => rfl) = pieceB (Ring.bk 128 (t.val - 8)) :=
  pieceB_at17 t h

set_option synthInstance.maxSize 4096 in
theorem at18 : ∀ t : Fin grid0.N, k0_off18 (grid0.coords t) = ![(Ring.sl 2 t.val).val, 0, 0] := by decide +kernel
@[sl_canon] theorem tileA_at18 (t : Fin grid0.N) (h : startsResults (grid0.coords t)) :
    (tilesA.slice (Rect.unit (s := S2x128x2048) (k0_off18 (grid0.coords t)) S1x128x2048.size (k0_off18_inb (grid0.coords t) h)) (fun _ => rfl)).squeeze S128x2048 squeezes_S1x128x2048_S128x2048 = tileA (Ring.sl 2 t.val) :=
  congrArg (fun M : Memref sig .tc .vmem S1x128x2048 .f32 => M.squeeze S128x2048 squeezes_S1x128x2048_S128x2048) (Memref.slice_unit_congr _ (at18 t) _ _ (fun _ => rfl) (fun _ => rfl))
@[sl_canon] theorem tileA_at18' (t : Fin grid0.N) (h : startsResults (grid0.coords t)) :
    (tilesA.slice (Rect.unit (s := S2x128x2048) (k0_off18 (grid0.coords t)) ![1, 128, 2048] (k0_off18_inb (grid0.coords t) h)) (fun _ => rfl)).squeeze S128x2048 squeezes_S1x128x2048_S128x2048 = tileA (Ring.sl 2 t.val) :=
  tileA_at18 t h
@[sl_canon] theorem tileB_at18 (t : Fin grid0.N) (h : startsResults (grid0.coords t)) :
    (tilesB.slice (Rect.unit (s := S2x128x2048) (k0_off18 (grid0.coords t)) S1x128x2048.size (k0_off18_inb (grid0.coords t) h)) (fun _ => rfl)).squeeze S128x2048 squeezes_S1x128x2048_S128x2048 = tileB (Ring.sl 2 t.val) :=
  congrArg (fun M : Memref sig .tc .vmem S1x128x2048 .bf16 => M.squeeze S128x2048 squeezes_S1x128x2048_S128x2048) (Memref.slice_unit_congr _ (at18 t) _ _ (fun _ => rfl) (fun _ => rfl))
@[sl_canon] theorem tileB_at18' (t : Fin grid0.N) (h : startsResults (grid0.coords t)) :
    (tilesB.slice (Rect.unit (s := S2x128x2048) (k0_off18 (grid0.coords t)) ![1, 128, 2048] (k0_off18_inb (grid0.coords t) h)) (fun _ => rfl)).squeeze S128x2048 squeezes_S1x128x2048_S128x2048 = tileB (Ring.sl 2 t.val) :=
  tileB_at18 t h

set_option synthInstance.maxSize 4096 in
theorem at19 : ∀ t : Fin grid0.N, k0_off19 (grid0.coords t) = ![(Ring.sl 2 t.val).val] := by decide +kernel
@[sl_canon] theorem cellA_at19 (t : Fin grid0.N) (h : drains (grid0.coords t)) :
    (cc0_scratch6.slice (Rect.unit (s := S2) (k0_off19 (grid0.coords t)) S1.size (k0_off19_inb (grid0.coords t) h))).squeeze S_ squeezes_S1_S_ = cellA (Ring.sl 2 t.val) :=
  congrArg (fun A : DmaSems sig S1 => A.squeeze S_ squeezes_S1_S_) (SemArray.slice_unit_congr _ (at19 t) _ _)
@[sl_canon] theorem cellA_at19' (t : Fin grid0.N) (h : drains (grid0.coords t)) :
    (cc0_scratch6.slice (Rect.unit (s := S2) (k0_off19 (grid0.coords t)) ![1] (k0_off19_inb (grid0.coords t) h))).squeeze S_ squeezes_S1_S_ = cellA (Ring.sl 2 t.val) :=
  cellA_at19 t h
@[sl_canon] theorem cellB_at19 (t : Fin grid0.N) (h : drains (grid0.coords t)) :
    (cc0_scratch7.slice (Rect.unit (s := S2) (k0_off19 (grid0.coords t)) S1.size (k0_off19_inb (grid0.coords t) h))).squeeze S_ squeezes_S1_S_ = cellB (Ring.sl 2 t.val) :=
  congrArg (fun A : DmaSems sig S1 => A.squeeze S_ squeezes_S1_S_) (SemArray.slice_unit_congr _ (at19 t) _ _)
@[sl_canon] theorem cellB_at19' (t : Fin grid0.N) (h : drains (grid0.coords t)) :
    (cc0_scratch7.slice (Rect.unit (s := S2) (k0_off19 (grid0.coords t)) ![1] (k0_off19_inb (grid0.coords t) h))).squeeze S_ squeezes_S1_S_ = cellB (Ring.sl 2 t.val) :=
  cellB_at19 t h

set_option synthInstance.maxSize 4096 in
theorem at20 : ∀ t : Fin grid0.N, drains (grid0.coords t) → k0_off20 (grid0.coords t) = ![128 * (Ring.bk 128 (t.val - 8)).val, 0] := by decide +kernel
@[sl_canon] theorem pieceA_at20 (t : Fin grid0.N) (h : drains (grid0.coords t)) :
    resultA.slice (Rect.unit (s := S16384x2048) (k0_off20 (grid0.coords t)) S128x2048.size (k0_off20_inb (grid0.coords t) h)) (fun _ => rfl) = pieceA (Ring.bk 128 (t.val - 8)) :=
  congrArg (fun M : Memref sig .tc .hbm S128x2048 .f32 => M) (Memref.slice_unit_congr _ (at20 t h) _ _ (fun _ => rfl) (fun _ => rfl))
@[sl_canon] theorem pieceA_at20' (t : Fin grid0.N) (h : drains (grid0.coords t)) :
    resultA.slice (Rect.unit (s := S16384x2048) (k0_off20 (grid0.coords t)) ![128, 2048] (k0_off20_inb (grid0.coords t) h)) (fun _ => rfl) = pieceA (Ring.bk 128 (t.val - 8)) :=
  pieceA_at20 t h
@[sl_canon] theorem pieceB_at20 (t : Fin grid0.N) (h : drains (grid0.coords t)) :
    resultB.slice (Rect.unit (s := S16384x2048) (k0_off20 (grid0.coords t)) S128x2048.size (k0_off20_inb (grid0.coords t) h)) (fun _ => rfl) = pieceB (Ring.bk 128 (t.val - 8)) :=
  congrArg (fun M : Memref sig .tc .hbm S128x2048 .bf16 => M) (Memref.slice_unit_congr _ (at20 t h) _ _ (fun _ => rfl) (fun _ => rfl))
@[sl_canon] theorem pieceB_at20' (t : Fin grid0.N) (h : drains (grid0.coords t)) :
    resultB.slice (Rect.unit (s := S16384x2048) (k0_off20 (grid0.coords t)) ![128, 2048] (k0_off20_inb (grid0.coords t) h)) (fun _ => rfl) = pieceB (Ring.bk 128 (t.val - 8)) :=
  pieceB_at20 t h

set_option synthInstance.maxSize 4096 in
theorem at21 : ∀ t : Fin grid0.N, k0_off21 (grid0.coords t) = ![(Ring.sl 2 t.val).val, 0, 0] := by decide +kernel
@[sl_canon] theorem tileA_at21 (t : Fin grid0.N) (h : drains (grid0.coords t)) :
    (tilesA.slice (Rect.unit (s := S2x128x2048) (k0_off21 (grid0.coords t)) S1x128x2048.size (k0_off21_inb (grid0.coords t) h)) (fun _ => rfl)).squeeze S128x2048 squeezes_S1x128x2048_S128x2048 = tileA (Ring.sl 2 t.val) :=
  congrArg (fun M : Memref sig .tc .vmem S1x128x2048 .f32 => M.squeeze S128x2048 squeezes_S1x128x2048_S128x2048) (Memref.slice_unit_congr _ (at21 t) _ _ (fun _ => rfl) (fun _ => rfl))
@[sl_canon] theorem tileA_at21' (t : Fin grid0.N) (h : drains (grid0.coords t)) :
    (tilesA.slice (Rect.unit (s := S2x128x2048) (k0_off21 (grid0.coords t)) ![1, 128, 2048] (k0_off21_inb (grid0.coords t) h)) (fun _ => rfl)).squeeze S128x2048 squeezes_S1x128x2048_S128x2048 = tileA (Ring.sl 2 t.val) :=
  tileA_at21 t h
@[sl_canon] theorem tileB_at21 (t : Fin grid0.N) (h : drains (grid0.coords t)) :
    (tilesB.slice (Rect.unit (s := S2x128x2048) (k0_off21 (grid0.coords t)) S1x128x2048.size (k0_off21_inb (grid0.coords t) h)) (fun _ => rfl)).squeeze S128x2048 squeezes_S1x128x2048_S128x2048 = tileB (Ring.sl 2 t.val) :=
  congrArg (fun M : Memref sig .tc .vmem S1x128x2048 .bf16 => M.squeeze S128x2048 squeezes_S1x128x2048_S128x2048) (Memref.slice_unit_congr _ (at21 t) _ _ (fun _ => rfl) (fun _ => rfl))
@[sl_canon] theorem tileB_at21' (t : Fin grid0.N) (h : drains (grid0.coords t)) :
    (tilesB.slice (Rect.unit (s := S2x128x2048) (k0_off21 (grid0.coords t)) ![1, 128, 2048] (k0_off21_inb (grid0.coords t) h)) (fun _ => rfl)).squeeze S128x2048 squeezes_S1x128x2048_S128x2048 = tileB (Ring.sl 2 t.val) :=
  tileB_at21 t h

set_option synthInstance.maxSize 4096 in
theorem at22 : ∀ t : Fin grid0.N, k0_off22 (grid0.coords t) = ![(Ring.sl 2 (t.val + 1)).val] := by decide +kernel
@[sl_canon] theorem cellA_at22 (t : Fin grid0.N) (h : drains (grid0.coords t)) :
    (cc0_scratch6.slice (Rect.unit (s := S2) (k0_off22 (grid0.coords t)) S1.size (k0_off22_inb (grid0.coords t) h))).squeeze S_ squeezes_S1_S_ = cellA (Ring.sl 2 (t.val + 1)) :=
  congrArg (fun A : DmaSems sig S1 => A.squeeze S_ squeezes_S1_S_) (SemArray.slice_unit_congr _ (at22 t) _ _)
@[sl_canon] theorem cellA_at22' (t : Fin grid0.N) (h : drains (grid0.coords t)) :
    (cc0_scratch6.slice (Rect.unit (s := S2) (k0_off22 (grid0.coords t)) ![1] (k0_off22_inb (grid0.coords t) h))).squeeze S_ squeezes_S1_S_ = cellA (Ring.sl 2 (t.val + 1)) :=
  cellA_at22 t h
@[sl_canon] theorem cellB_at22 (t : Fin grid0.N) (h : drains (grid0.coords t)) :
    (cc0_scratch7.slice (Rect.unit (s := S2) (k0_off22 (grid0.coords t)) S1.size (k0_off22_inb (grid0.coords t) h))).squeeze S_ squeezes_S1_S_ = cellB (Ring.sl 2 (t.val + 1)) :=
  congrArg (fun A : DmaSems sig S1 => A.squeeze S_ squeezes_S1_S_) (SemArray.slice_unit_congr _ (at22 t) _ _)
@[sl_canon] theorem cellB_at22' (t : Fin grid0.N) (h : drains (grid0.coords t)) :
    (cc0_scratch7.slice (Rect.unit (s := S2) (k0_off22 (grid0.coords t)) ![1] (k0_off22_inb (grid0.coords t) h))).squeeze S_ squeezes_S1_S_ = cellB (Ring.sl 2 (t.val + 1)) :=
  cellB_at22 t h

set_option synthInstance.maxSize 4096 in
theorem at23 : ∀ t : Fin grid0.N, drains (grid0.coords t) → k0_off23 (grid0.coords t) = ![128 * (Ring.bk 128 (t.val - 8 - 1)).val, 0] := by decide +kernel
@[sl_canon] theorem pieceA_at23 (t : Fin grid0.N) (h : drains (grid0.coords t)) :
    resultA.slice (Rect.unit (s := S16384x2048) (k0_off23 (grid0.coords t)) S128x2048.size (k0_off23_inb (grid0.coords t) h)) (fun _ => rfl) = pieceA (Ring.bk 128 (t.val - 8 - 1)) :=
  congrArg (fun M : Memref sig .tc .hbm S128x2048 .f32 => M) (Memref.slice_unit_congr _ (at23 t h) _ _ (fun _ => rfl) (fun _ => rfl))
@[sl_canon] theorem pieceA_at23' (t : Fin grid0.N) (h : drains (grid0.coords t)) :
    resultA.slice (Rect.unit (s := S16384x2048) (k0_off23 (grid0.coords t)) ![128, 2048] (k0_off23_inb (grid0.coords t) h)) (fun _ => rfl) = pieceA (Ring.bk 128 (t.val - 8 - 1)) :=
  pieceA_at23 t h
@[sl_canon] theorem pieceB_at23 (t : Fin grid0.N) (h : drains (grid0.coords t)) :
    resultB.slice (Rect.unit (s := S16384x2048) (k0_off23 (grid0.coords t)) S128x2048.size (k0_off23_inb (grid0.coords t) h)) (fun _ => rfl) = pieceB (Ring.bk 128 (t.val - 8 - 1)) :=
  congrArg (fun M : Memref sig .tc .hbm S128x2048 .bf16 => M) (Memref.slice_unit_congr _ (at23 t h) _ _ (fun _ => rfl) (fun _ => rfl))
@[sl_canon] theorem pieceB_at23' (t : Fin grid0.N) (h : drains (grid0.coords t)) :
    resultB.slice (Rect.unit (s := S16384x2048) (k0_off23 (grid0.coords t)) ![128, 2048] (k0_off23_inb (grid0.coords t) h)) (fun _ => rfl) = pieceB (Ring.bk 128 (t.val - 8 - 1)) :=
  pieceB_at23 t h

set_option synthInstance.maxSize 4096 in
theorem at24 : ∀ t : Fin grid0.N, k0_off24 (grid0.coords t) = ![(Ring.sl 2 (t.val + 1)).val, 0, 0] := by decide +kernel
@[sl_canon] theorem tileA_at24 (t : Fin grid0.N) (h : drains (grid0.coords t)) :
    (tilesA.slice (Rect.unit (s := S2x128x2048) (k0_off24 (grid0.coords t)) S1x128x2048.size (k0_off24_inb (grid0.coords t) h)) (fun _ => rfl)).squeeze S128x2048 squeezes_S1x128x2048_S128x2048 = tileA (Ring.sl 2 (t.val + 1)) :=
  congrArg (fun M : Memref sig .tc .vmem S1x128x2048 .f32 => M.squeeze S128x2048 squeezes_S1x128x2048_S128x2048) (Memref.slice_unit_congr _ (at24 t) _ _ (fun _ => rfl) (fun _ => rfl))
@[sl_canon] theorem tileA_at24' (t : Fin grid0.N) (h : drains (grid0.coords t)) :
    (tilesA.slice (Rect.unit (s := S2x128x2048) (k0_off24 (grid0.coords t)) ![1, 128, 2048] (k0_off24_inb (grid0.coords t) h)) (fun _ => rfl)).squeeze S128x2048 squeezes_S1x128x2048_S128x2048 = tileA (Ring.sl 2 (t.val + 1)) :=
  tileA_at24 t h
@[sl_canon] theorem tileB_at24 (t : Fin grid0.N) (h : drains (grid0.coords t)) :
    (tilesB.slice (Rect.unit (s := S2x128x2048) (k0_off24 (grid0.coords t)) S1x128x2048.size (k0_off24_inb (grid0.coords t) h)) (fun _ => rfl)).squeeze S128x2048 squeezes_S1x128x2048_S128x2048 = tileB (Ring.sl 2 (t.val + 1)) :=
  congrArg (fun M : Memref sig .tc .vmem S1x128x2048 .bf16 => M.squeeze S128x2048 squeezes_S1x128x2048_S128x2048) (Memref.slice_unit_congr _ (at24 t) _ _ (fun _ => rfl) (fun _ => rfl))
@[sl_canon] theorem tileB_at24' (t : Fin grid0.N) (h : drains (grid0.coords t)) :
    (tilesB.slice (Rect.unit (s := S2x128x2048) (k0_off24 (grid0.coords t)) ![1, 128, 2048] (k0_off24_inb (grid0.coords t) h)) (fun _ => rfl)).squeeze S128x2048 squeezes_S1x128x2048_S128x2048 = tileB (Ring.sl 2 (t.val + 1)) :=
  tileB_at24 t h

/-! ## The slot a point normalises -/

set_option synthInstance.maxSize 4096 in
theorem at11 : ∀ t : Fin grid0.N, k0_off11 (grid0.coords t) = ![(Ring.sl 2 t.val).val, 0, 0] := by decide +kernel
instance (priority := high) closed11 (t : Fin grid0.N) : ClosedOff (k0_off11 (grid0.coords t)) := ⟨![(Ring.sl 2 t.val).val, 0, 0], at11 t⟩

set_option synthInstance.maxSize 4096 in
theorem at13 : ∀ t : Fin grid0.N, k0_off13 (grid0.coords t) = ![(Ring.sl 2 t.val).val, 0, 0] := by decide +kernel
instance (priority := high) closed13 (t : Fin grid0.N) : ClosedOff (k0_off13 (grid0.coords t)) := ⟨![(Ring.sl 2 t.val).val, 0, 0], at13 t⟩

set_option synthInstance.maxSize 4096 in
theorem at15 : ∀ t : Fin grid0.N, k0_off15 (grid0.coords t) = ![(Ring.sl 2 t.val).val, 0, 0] := by decide +kernel
instance (priority := high) closed15 (t : Fin grid0.N) : ClosedOff (k0_off15 (grid0.coords t)) := ⟨![(Ring.sl 2 t.val).val, 0, 0], at15 t⟩

end Cert.MlpPlaces

end
-- ==== Proof.MlpSlots.lean ====
/- Slots and slabs joined and parted: what the network's launch hands its transfers and takes back. -/
module

public import proofs.«01_k».proof.Proof.MlpPlaces

@[expose] public section

set_option maxRecDepth 16384

noncomputable section

namespace Cert.MlpSlots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames

variable {F : FTy → Type} [FloatOps F] [Named F]

local notation "𝕄" => MT nD τ sig Unit (Elt F) ℕ (Pipeline.UD sig nD τ) ℕ

abbrev slotBox (s : Fin 2) : Finset S2x128x2048.Idx := (Rect.unit (s := S2x128x2048) ![s.val, 0, 0] S1x128x2048.size (inb_slot s)).set
abbrev slabBox (b : Fin 128) : Finset S16384x2048.Idx := (Rect.unit (s := S16384x2048) ![128 * b.val, 0] S128x2048.size (inb_slab b)).set
omit [FloatOps F] [Named F] in
/-- A slot's half of the residual is one slab of it and the rest. -/
theorem half_split (c : Dev nD) (W : Holds (F := F) c residual) (s : Fin 2) (b : Fin 128) : halfHeld c W s ⊣⊢ iprop(slabHeld c W s b ∗ restHeld c W s b) := by
  unfold restHeld; exact pointsTo_split_subset (Finset.subset_univ _)

/-! ## The boxes are apart, and the slots are all there is -/

/-- The box's number along each axis, and the box of a number. -/
def slotsNumber (i : Fin 2) : Fin 3 → ℕ := ![i.val, 0, 0]
def slotsOf (v : Fin 3 → ℕ) : Fin 2 := Fin.ofNat 2 (v 0)
theorem slotsOf_number : ∀ i : Fin 2, slotsOf (slotsNumber i) = i := by decide +kernel
theorem slots_disjoint (i i' : Fin 2) (h : i ≠ i') : Disjoint (slotBox i) (slotBox i') :=
  Ring.boxes_disjoint (s := S2x128x2048) S1x128x2048.size (fun i : Fin 2 => (![i.val, 0, 0] : Fin 3 → Nat)) inb_slot slotsNumber
    (fun i a => by fin_cases a <;> simp [slotsNumber] <;> omega) slotsOf slotsOf_number i i' h

/-- The box's number along each axis, and the box of a number. -/
def slabsNumber (i : Fin 128) : Fin 2 → ℕ := ![i.val, 0]
def slabsOf (v : Fin 2 → ℕ) : Fin 128 := Fin.ofNat 128 (v 0)
theorem slabsOf_number : ∀ i : Fin 128, slabsOf (slabsNumber i) = i := by decide +kernel
theorem slabs_disjoint (i i' : Fin 128) (h : i ≠ i') : Disjoint (slabBox i) (slabBox i') :=
  Ring.boxes_disjoint (s := S16384x2048) S128x2048.size (fun i : Fin 128 => (![128 * i.val, 0] : Fin 2 → Nat)) inb_slab slabsNumber
    (fun i a => by fin_cases a <;> simp [slabsNumber] <;> omega) slabsOf slabsOf_number i i' h

theorem slots_cover : Finset.univ.biUnion slotBox = Finset.univ :=
  Ring.lead_cover (s := S2x128x2048) (0 : Fin 3) 1 (fun s : Fin 2 => (![s.val, 0, 0] : Fin 3 → Nat)) S1x128x2048.size inb_slot (fun s => by simp)
    (fun s a ha => by fin_cases a <;> first | exact absurd rfl ha | rfl) rfl (fun a ha => by fin_cases a <;> first | exact absurd rfl ha | rfl) rfl

theorem slot_set (s : Fin 2) : (slot s).view.set = slotBox s := by
  simp only [slot, Memref.view_squeeze, View.set_reshape]; exact View.set_slice_whole _ _

theorem tileA_set (g : Fin 2) : (tileA g).view.set = slotBox g := by
  simp only [tileA, Memref.view_squeeze, View.set_reshape]; exact View.set_slice_whole _ _
theorem pieceA_set (u : Fin 128) : (pieceA u).view.set = slabBox u := by
  simp only [pieceA]; exact View.set_slice_whole _ _

theorem tileB_set (g : Fin 2) : (tileB g).view.set = slotBox g := by
  simp only [tileB, Memref.view_squeeze, View.set_reshape]; exact View.set_slice_whole _ _
theorem pieceB_set (u : Fin 128) : (pieceB u).view.set = slabBox u := by
  simp only [pieceB]; exact View.set_slice_whole _ _

section InOut

variable (c : Dev nD) (W : Holds (F := F) c residual)

omit [FloatOps F] [Named F]

theorem slotHeld_eq (s : Fin 2) (f) : slotHeld (F := F) c s f = (((c : Thread nD τ).loc cc0_scratch2) ↦[slotBox s]{fullShare} f : sProp 𝕄) := by
  unfold slotHeld; rw [slot_set]; rfl

theorem tileHeldA_eq (g : Fin 2) (e) : tileHeldA (F := F) c g e = (((c : Thread nD τ).loc cc0_scratch3) ↦[slotBox g]{fullShare} e : sProp 𝕄) := by
  unfold tileHeldA; rw [tileA_set]; rfl
theorem pieceHeldA_eq (u : Fin 128) (f) : pieceHeldA (F := F) c u f = (((c : Thread nD τ).loc main_v4_0) ↦[slabBox u]{fullShare} f : sProp 𝕄) := by
  unfold pieceHeldA; rw [pieceA_set]; rfl

theorem tileHeldB_eq (g : Fin 2) (e) : tileHeldB (F := F) c g e = (((c : Thread nD τ).loc cc0_scratch4) ↦[slotBox g]{fullShare} e : sProp 𝕄) := by
  unfold tileHeldB; rw [tileB_set]; rfl
theorem pieceHeldB_eq (u : Fin 128) (f) : pieceHeldB (F := F) c u f = (((c : Thread nD τ).loc main_v4_1) ↦[slabBox u]{fullShare} f : sProp 𝕄) := by
  unfold pieceHeldB; rw [pieceB_set]; rfl

/-- The residual whole is its two halves. -/
theorem halves : (held c residual W : sProp 𝕄) ⊣⊢ iprop(halfHeld c W 0 ∗ halfHeld c W 1) :=
  pointsTo_share (PosShare.mem_left_op_right fullShare)

/-! ## The residual -/

set_option maxHeartbeats 1000000 in
theorem slots_in : iprop(∃ d, owns (c : Thread nD τ) slots fullShare d) ⊢ (iprop((∃ f, slotHeld (F := F) c 0 f) ∗ ∃ f, slotHeld (F := F) c 1 f) : sProp 𝕄) := by
  simp only [slots, owns_whole]
  exact Ring.slots2_split (U := Pipeline.UD sig nD τ) (ℓ := (c : Thread nD τ).loc cc0_scratch2) (q := fullShare) slotBox slots_disjoint slots_cover
    (slotHeld c 0) (slotHeld c 1) (slotHeld_eq c 0) (slotHeld_eq c 1)
set_option maxHeartbeats 1000000 in
theorem slots_out : (iprop((∃ f, slotHeld (F := F) c 0 f) ∗ ∃ f, slotHeld (F := F) c 1 f) : sProp 𝕄) ⊢ iprop(∃ d, owns (c : Thread nD τ) slots fullShare d) := by
  simp only [slots, owns_whole]
  exact Ring.slots2_join (U := Pipeline.UD sig nD τ) (ℓ := (c : Thread nD τ).loc cc0_scratch2) (q := fullShare) slotBox slots_disjoint slots_cover
    (slotHeld c 0) (slotHeld c 1) (slotHeld_eq c 0) (slotHeld_eq c 1)

/-- What the launch hands the residual's transfers: the slots, their semaphores, the residual. -/
abbrev residualGiven : sProp 𝕄 :=
  iprop((∃ d, owns (c : Thread nD τ) slots fullShare d) ∗ (semVal ((c : Thread nD τ), SemLoc.dma 8) 0 ∗ semVal ((c : Thread nD τ), SemLoc.dma 9) 0) ∗ held c residual W)

theorem residual_in : residualGiven c W ⊢ residualAt c W 0 := by
  unfold residualAt; rw [if_neg (by decide), show Ring.sl 2 0 = 0 from rfl, show Ring.sl 2 (0 + 1) = 1 from rfl]
  simp only [idle, cellHeld_0, cellHeld_1]
  iintro ⟨HS, ⟨H0, H1⟩, HW⟩
  ihave HS' := (slots_in (F := F) c) $$ HS
  icases HS' with ⟨HS0, HS1⟩
  ihave HW' := (halves (F := F) c W).1 $$ HW
  icases HW' with ⟨HW0, HW1⟩
  isplitl [H0 HS0 HW0]
  · isplitl [H0]; · iexact H0
    isplitl [HS0]; · iexact HS0
    iexact HW0
  · isplitl [H1]; · iexact H1
    isplitl [HS1]; · iexact HS1
    iexact HW1
theorem residual_out : residualAt c W 136 ⊢ residualGiven c W := by
  unfold residualAt; rw [if_neg (by decide), show Ring.sl 2 136 = 0 from rfl, show Ring.sl 2 (136 + 1) = 1 from rfl]
  simp only [idle, cellHeld_0, cellHeld_1]
  iintro ⟨⟨H0, HS0, HW0⟩, ⟨H1, HS1, HW1⟩⟩
  isplitl [HS0 HS1]
  · iapply (slots_out (F := F) c); isplitl [HS0]; · iexact HS0
    iexact HS1
  isplitl [H0 H1]
  · isplitl [H0]; · iexact H0
    iexact H1
  · iapply (halves (F := F) c W).2; isplitl [HW0]; · iexact HW0
    iexact HW1

/-! ## The results -/

/-- What lies outside every slot of the two, and outside every slab of the result. -/
abbrev spareTilesA : sProp 𝕄 := iprop(∃ f : Buf (Elt F) ((c : Thread nD τ).loc cc0_scratch3), ((c : Thread nD τ).loc cc0_scratch3) ↦[Finset.univ \ Finset.univ.biUnion slotBox]{fullShare} f)
abbrev sparePiecesA : sProp 𝕄 := iprop(∃ f : Buf (Elt F) ((c : Thread nD τ).loc main_v4_0), ((c : Thread nD τ).loc main_v4_0) ↦[Finset.univ \ Finset.univ.biUnion slabBox]{fullShare} f)

theorem tilesA_in : iprop(∃ d, owns (c : Thread nD τ) tilesA fullShare d) ⊢ (iprop(bigSep Finset.univ (fun g : Fin 2 => iprop(∃ e, tileHeldA (F := F) c g e)) ∗ spareTilesA c) : sProp 𝕄) := by
  simp only [tilesA, owns_whole]
  exact Ring.pieces_split_spare (U := Pipeline.UD sig nD τ) (ℓ := (c : Thread nD τ).loc cc0_scratch3) (q := fullShare) slotBox slots_disjoint
    (fun g e => tileHeldA c g e) (fun g e => tileHeldA_eq c g e)
theorem tilesA_out : (iprop(bigSep Finset.univ (fun g : Fin 2 => iprop(∃ e, tileHeldA (F := F) c g e)) ∗ spareTilesA c) : sProp 𝕄) ⊢ iprop(∃ d, owns (c : Thread nD τ) tilesA fullShare d) := by
  simp only [tilesA, owns_whole]
  exact Ring.pieces_join_spare (U := Pipeline.UD sig nD τ) (ℓ := (c : Thread nD τ).loc cc0_scratch3) (q := fullShare) slotBox slots_disjoint
    (fun g e => tileHeldA c g e) (fun g e => tileHeldA_eq c g e)
theorem piecesA_in : iprop(∃ f, held c resultA f) ⊢ (iprop(bigSep Finset.univ (fun u : Fin 128 => iprop(∃ f, pieceHeldA (F := F) c u f)) ∗ sparePiecesA c) : sProp 𝕄) := by
  unfold held
  exact Ring.pieces_split_spare (U := Pipeline.UD sig nD τ) (ℓ := (c : Thread nD τ).loc main_v4_0) (q := fullShare) slabBox slabs_disjoint
    (fun u f => pieceHeldA c u f) (fun u f => pieceHeldA_eq c u f)
theorem piecesA_out : (iprop(bigSep Finset.univ (fun u : Fin 128 => iprop(∃ f, pieceHeldA (F := F) c u f)) ∗ sparePiecesA c) : sProp 𝕄) ⊢ iprop(∃ f, held c resultA f) := by
  unfold held
  exact Ring.pieces_join_spare (U := Pipeline.UD sig nD τ) (ℓ := (c : Thread nD τ).loc main_v4_0) (q := fullShare) slabBox slabs_disjoint
    (fun u f => pieceHeldA c u f) (fun u f => pieceHeldA_eq c u f)
/-- Its semaphores. -/
theorem cellsA_eq : (bigSep Finset.univ (fun g : Fin 2 => cellHeldA (F := F) c g) : sProp 𝕄) = iprop(semVal ((c : Thread nD τ), SemLoc.dma 10) 0 ∗ semVal ((c : Thread nD τ), SemLoc.dma 11) 0) := by
  rw [Ring.bigSep_fin2, cellHeldA_0, cellHeldA_1]

/-- What lies outside every slot of the two, and outside every slab of the result. -/
abbrev spareTilesB : sProp 𝕄 := iprop(∃ f : Buf (Elt F) ((c : Thread nD τ).loc cc0_scratch4), ((c : Thread nD τ).loc cc0_scratch4) ↦[Finset.univ \ Finset.univ.biUnion slotBox]{fullShare} f)
abbrev sparePiecesB : sProp 𝕄 := iprop(∃ f : Buf (Elt F) ((c : Thread nD τ).loc main_v4_1), ((c : Thread nD τ).loc main_v4_1) ↦[Finset.univ \ Finset.univ.biUnion slabBox]{fullShare} f)

theorem tilesB_in : iprop(∃ d, owns (c : Thread nD τ) tilesB fullShare d) ⊢ (iprop(bigSep Finset.univ (fun g : Fin 2 => iprop(∃ e, tileHeldB (F := F) c g e)) ∗ spareTilesB c) : sProp 𝕄) := by
  simp only [tilesB, owns_whole]
  exact Ring.pieces_split_spare (U := Pipeline.UD sig nD τ) (ℓ := (c : Thread nD τ).loc cc0_scratch4) (q := fullShare) slotBox slots_disjoint
    (fun g e => tileHeldB c g e) (fun g e => tileHeldB_eq c g e)
theorem tilesB_out : (iprop(bigSep Finset.univ (fun g : Fin 2 => iprop(∃ e, tileHeldB (F := F) c g e)) ∗ spareTilesB c) : sProp 𝕄) ⊢ iprop(∃ d, owns (c : Thread nD τ) tilesB fullShare d) := by
  simp only [tilesB, owns_whole]
  exact Ring.pieces_join_spare (U := Pipeline.UD sig nD τ) (ℓ := (c : Thread nD τ).loc cc0_scratch4) (q := fullShare) slotBox slots_disjoint
    (fun g e => tileHeldB c g e) (fun g e => tileHeldB_eq c g e)
theorem piecesB_in : iprop(∃ f, held c resultB f) ⊢ (iprop(bigSep Finset.univ (fun u : Fin 128 => iprop(∃ f, pieceHeldB (F := F) c u f)) ∗ sparePiecesB c) : sProp 𝕄) := by
  unfold held
  exact Ring.pieces_split_spare (U := Pipeline.UD sig nD τ) (ℓ := (c : Thread nD τ).loc main_v4_1) (q := fullShare) slabBox slabs_disjoint
    (fun u f => pieceHeldB c u f) (fun u f => pieceHeldB_eq c u f)
theorem piecesB_out : (iprop(bigSep Finset.univ (fun u : Fin 128 => iprop(∃ f, pieceHeldB (F := F) c u f)) ∗ sparePiecesB c) : sProp 𝕄) ⊢ iprop(∃ f, held c resultB f) := by
  unfold held
  exact Ring.pieces_join_spare (U := Pipeline.UD sig nD τ) (ℓ := (c : Thread nD τ).loc main_v4_1) (q := fullShare) slabBox slabs_disjoint
    (fun u f => pieceHeldB c u f) (fun u f => pieceHeldB_eq c u f)
/-- Its semaphores. -/
theorem cellsB_eq : (bigSep Finset.univ (fun g : Fin 2 => cellHeldB (F := F) c g) : sProp 𝕄) = iprop(semVal ((c : Thread nD τ), SemLoc.dma 12) 0 ∗ semVal ((c : Thread nD τ), SemLoc.dma 13) 0) := by
  rw [Ring.bigSep_fin2, cellHeldB_0, cellHeldB_1]

/-- What the launch hands the results' transfers. -/
abbrev resultsGiven : sProp 𝕄 :=
  iprop(((∃ d, owns (c : Thread nD τ) tilesA fullShare d) ∗ (semVal ((c : Thread nD τ), SemLoc.dma 10) 0 ∗ semVal ((c : Thread nD τ), SemLoc.dma 11) 0) ∗ (∃ f, held (F := F) c resultA f))
    ∗ (∃ d, owns (c : Thread nD τ) tilesB fullShare d) ∗ (semVal ((c : Thread nD τ), SemLoc.dma 12) 0 ∗ semVal ((c : Thread nD τ), SemLoc.dma 13) 0) ∗ (∃ f, held (F := F) c resultB f))
/-- What is carried beside them. -/
abbrev spares : sProp 𝕄 := iprop((spareTilesA (F := F) c ∗ sparePiecesA (F := F) c) ∗ spareTilesB (F := F) c ∗ sparePiecesB (F := F) c)

theorem freeSlots_all : (bigSep Finset.univ (freeSlots (F := F) c) : sProp 𝕄)
    = iprop((bigSep Finset.univ (fun g : Fin 2 => cellHeldA (F := F) c g) ∗ bigSep Finset.univ (fun g : Fin 2 => iprop(∃ e, tileHeldA (F := F) c g e)))
      ∗ (bigSep Finset.univ (fun g : Fin 2 => cellHeldB (F := F) c g) ∗ bigSep Finset.univ (fun g : Fin 2 => iprop(∃ e, tileHeldB (F := F) c g e)))) := by
  exact (BI.bigSep_sep Finset.univ (fun g : Fin 2 => iprop(cellHeldA (F := F) c g ∗ ∃ e, tileHeldA c g e)) (fun g : Fin 2 => iprop(cellHeldB (F := F) c g ∗ ∃ e, tileHeldB c g e))).trans
    (congrArg₂ (fun P Q : sProp 𝕄 => iprop(P ∗ Q))
      (BI.bigSep_sep Finset.univ (fun g : Fin 2 => cellHeldA (F := F) c g) (fun g : Fin 2 => iprop(∃ e, tileHeldA (F := F) c g e)))
      (BI.bigSep_sep Finset.univ (fun g : Fin 2 => cellHeldB (F := F) c g) (fun g : Fin 2 => iprop(∃ e, tileHeldB (F := F) c g e))))
theorem home_all : (bigSep Finset.univ (home (F := F) c) : sProp 𝕄)
    = iprop(bigSep Finset.univ (fun u : Fin 128 => iprop(∃ f, pieceHeldA (F := F) c u f)) ∗ bigSep Finset.univ (fun u : Fin 128 => iprop(∃ f, pieceHeldB (F := F) c u f))) := by
  exact BI.bigSep_sep Finset.univ (fun u : Fin 128 => iprop(∃ f, pieceHeldA (F := F) c u f)) (fun u : Fin 128 => iprop(∃ f, pieceHeldB (F := F) c u f))

theorem results_in : resultsGiven (F := F) c ⊢ iprop(resultsAt (F := F) c 0 ∗ spares c) := by
  unfold resultsAt; rw [Ring.AtBΦ_lt _ _ _ _ _ 0 (by decide), Ring.AtB_zero]; unfold Ring.AtB₀
  rw [home_all, freeSlots_all, cellsA_eq, cellsB_eq]
  iintro ⟨⟨HSA, HQA, HDA⟩, HSB, HQB, HDB⟩
  ihave HSA' := (tilesA_in (F := F) c) $$ HSA
  icases HSA' with ⟨HTA, HUA⟩
  ihave HDA' := (piecesA_in (F := F) c) $$ HDA
  icases HDA' with ⟨HPA, HVA⟩
  ihave HSB' := (tilesB_in (F := F) c) $$ HSB
  icases HSB' with ⟨HTB, HUB⟩
  ihave HDB' := (piecesB_in (F := F) c) $$ HDB
  icases HDB' with ⟨HPB, HVB⟩
  isplitl [HPA HPB HQA HTA HQB HTB]
  · isplitl [HPA HPB]
    · isplitl [HPA]; · iexact HPA
      iexact HPB
    isplitl [HQA HTA]
    · isplitl [HQA]; · iexact HQA
      iexact HTA
    isplitl [HQB]; · iexact HQB
    iexact HTB
  isplitl [HUA HVA]
  · isplitl [HUA]; · iexact HUA
    iexact HVA
  isplitl [HUB]; · iexact HUB
  iexact HVB
theorem results_out : iprop(resultsAt (F := F) c 128 ∗ spares c) ⊢ resultsGiven (F := F) c := by
  unfold resultsAt; rw [Ring.AtBΦ_ge _ _ _ _ _ 128 (by decide), Ring.AtBEnd_frame]; unfold Ring.AtB₀
  rw [home_all, freeSlots_all, cellsA_eq, cellsB_eq]
  iintro ⟨⟨⟨HPA, HPB⟩, ⟨HQA, HTA⟩, HQB, HTB⟩, ⟨HUA, HVA⟩, HUB, HVB⟩
  isplitl [HTA HUA HQA HPA HVA]
  · isplitl [HTA HUA]
    · iapply (tilesA_out (F := F) c); isplitl [HTA]; · iexact HTA
      iexact HUA
    isplitl [HQA]; · iexact HQA
    iapply (piecesA_out (F := F) c); isplitl [HPA]; · iexact HPA
    iexact HVA
  isplitl [HTB HUB]
  · iapply (tilesB_out (F := F) c); isplitl [HTB]; · iexact HTB
    iexact HUB
  isplitl [HQB]; · iexact HQB
  iapply (piecesB_out (F := F) c); isplitl [HPB]; · iexact HPB
  iexact HVB

end InOut

end Cert.MlpSlots

end
-- ==== Proof.MlpFirst.lean ====
/- The network's body, run on the first row: what it holds before and what it leaves. -/
module

public import proofs.«01_k».proof.Proof.MlpSlots

@[expose] public section

set_option maxRecDepth 16384

noncomputable section

namespace Cert.MlpFirst

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- The first point: both accumulators cleared, the first product added. -/
theorem opens (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : clears (grid0.coords t)) (h1 : ¬waitsResidual (grid0.coords t)) (h2 : ¬waitsResults (grid0.coords t)) (h3 : ¬startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (clears (grid0.coords t)) := ⟨h0⟩
    haveI : Fact (¬waitsResidual (grid0.coords t)) := ⟨h1⟩
    haveI : Fact (¬waitsResults (grid0.coords t)) := ⟨h2⟩
    haveI : Fact (¬startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    iexists _; iexact HW

set_option maxHeartbeats 4000000 in
/-- The other points of the first row but its last: a product added. -/
theorem fills (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : ¬waitsResidual (grid0.coords t)) (h2 : ¬waitsResults (grid0.coords t)) (h3 : ¬startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (¬waitsResidual (grid0.coords t)) := ⟨h1⟩
    haveI : Fact (¬waitsResults (grid0.coords t)) := ⟨h2⟩
    haveI : Fact (¬startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    iexists _; iexact HW

set_option maxHeartbeats 4000000 in
/-- The last point of the first row: the first slab of the residual started. -/
theorem fetches (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : ¬waitsResidual (grid0.coords t)) (h2 : ¬waitsResults (grid0.coords t)) (h3 : startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ idle c W₀ (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 (t.val + 1)) (Ring.bk 128 (t.val - 7)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (¬waitsResidual (grid0.coords t)) := ⟨h1⟩
    haveI : Fact (¬waitsResults (grid0.coords t)) := ⟨h2⟩
    haveI : Fact (startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨HN, ⟨%fn, HNs⟩, HNw⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HN HNr]
    · iexists _; isplitl [HN]; · iexact HN
      iexact HNr
    iexists _; iexact HW

end Cert.MlpFirst

end
-- ==== Proof.MlpBegins.lean ====
/- The network's body, run on the first points with results: what it holds before and what it leaves. -/
module

public import proofs.«01_k».proof.Proof.MlpFirst

@[expose] public section

set_option maxRecDepth 16384

noncomputable section

namespace Cert.MlpBegins

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- The first two points of the second row: nothing of the results in flight yet. -/
theorem begins (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : ¬waitsResults (grid0.coords t)) (h3 : startsResidual (grid0.coords t)) (h4 : ¬firstRow (grid0.coords t)) (h5 : ¬evenRow (grid0.coords t)) (h6 : oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 t.val) (Ring.bk 128 (t.val - 8)) ∗ idle c W₀ (Ring.sl 2 (t.val + 1)) ∗ freeSlots c (Ring.sl 2 t.val) ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 (t.val + 1)) (Ring.bk 128 (t.val - 7)) ∗ idle c W₀ (Ring.sl 2 t.val) ∗ leaving c (Ring.sl 2 t.val) (Ring.bk 128 (t.val - 8)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (¬waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ff, HF, HFr⟩, ⟨HN, ⟨%fn, HNs⟩, HNw⟩, ⟨⟨HA, ⟨%ea, HAe⟩⟩, ⟨HB, ⟨%eb, HBe⟩⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA HB]
    · isplitl [HA]; · iexists _, _; iexact HA
      iexists _, _; iexact HB
    iexists _; iexact HW

end Cert.MlpBegins

end
-- ==== Proof.MlpOdd.lean ====
/- The network's body, run on an odd row: what it holds before and what it leaves. -/
module

public import proofs.«01_k».proof.Proof.MlpBegins

@[expose] public section

set_option maxRecDepth 16384

noncomputable section

namespace Cert.MlpOdd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- An odd row: the slots of two points before waited for. -/
theorem odd (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : ¬evenRow (grid0.coords t)) (h6 : oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 t.val) (Ring.bk 128 (t.val - 8)) ∗ idle c W₀ (Ring.sl 2 (t.val + 1)) ∗ leaving c (Ring.sl 2 t.val) (Ring.bk 128 (t.val - 8 - 2)) ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 (t.val + 1)) (Ring.bk 128 (t.val - 7)) ∗ idle c W₀ (Ring.sl 2 t.val) ∗ home c (Ring.bk 128 (t.val - 8 - 2)) ∗ leaving c (Ring.sl 2 t.val) (Ring.bk 128 (t.val - 8)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ff, HF, HFr⟩, ⟨HN, ⟨%fn, HNs⟩, HNw⟩, ⟨⟨%fa, %ea, HA⟩, ⟨%fb, %eb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]; · iexists _; iexact HA_dst
      iexists _; iexact HB_dst
    isplitl [HA HB]
    · isplitl [HA]; · iexists _, _; iexact HA
      iexists _, _; iexact HB
    iexists _; iexact HW

end Cert.MlpOdd

end
-- ==== Proof.MlpEven.lean ====
/- The network's body, run on an even row: what it holds before and what it leaves. -/
module

public import proofs.«01_k».proof.Proof.MlpOdd

@[expose] public section

set_option maxRecDepth 16384

noncomputable section

namespace Cert.MlpEven

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- An even row between: the same with the accumulators in exchange. -/
theorem even (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : evenRow (grid0.coords t)) (h6 : ¬oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 t.val) (Ring.bk 128 (t.val - 8)) ∗ idle c W₀ (Ring.sl 2 (t.val + 1)) ∗ leaving c (Ring.sl 2 t.val) (Ring.bk 128 (t.val - 8 - 2)) ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 (t.val + 1)) (Ring.bk 128 (t.val - 7)) ∗ idle c W₀ (Ring.sl 2 t.val) ∗ home c (Ring.bk 128 (t.val - 8 - 2)) ∗ leaving c (Ring.sl 2 t.val) (Ring.bk 128 (t.val - 8)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (evenRow (grid0.coords t)) := ⟨h5⟩
    haveI : Fact (¬oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ff, HF, HFr⟩, ⟨HN, ⟨%fn, HNs⟩, HNw⟩, ⟨⟨%fa, %ea, HA⟩, ⟨%fb, %eb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]; · iexists _; iexact HA_dst
      iexists _; iexact HB_dst
    isplitl [HA HB]
    · isplitl [HA]; · iexists _, _; iexact HA
      iexists _, _; iexact HB
    iexists _; iexact HW

end Cert.MlpEven

end
-- ==== Proof.MlpFinal.lean ====
/- The network's body, run on the last row: what it holds before and what it leaves. -/
module

public import proofs.«01_k».proof.Proof.MlpEven

@[expose] public section

set_option maxRecDepth 16384

noncomputable section

namespace Cert.MlpFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- The last row but its last point: no product. -/
theorem final (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : ¬evenRow (grid0.coords t)) (h6 : ¬oddRow (grid0.coords t)) (h7 : lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 t.val) (Ring.bk 128 (t.val - 8)) ∗ idle c W₀ (Ring.sl 2 (t.val + 1)) ∗ leaving c (Ring.sl 2 t.val) (Ring.bk 128 (t.val - 8 - 2)) ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 (t.val + 1)) (Ring.bk 128 (t.val - 7)) ∗ idle c W₀ (Ring.sl 2 t.val) ∗ home c (Ring.bk 128 (t.val - 8 - 2)) ∗ leaving c (Ring.sl 2 t.val) (Ring.bk 128 (t.val - 8)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (¬oddRow (grid0.coords t)) := ⟨h6⟩
    haveI : Fact (lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ff, HF, HFr⟩, ⟨HN, ⟨%fn, HNs⟩, HNw⟩, ⟨⟨%fa, %ea, HA⟩, ⟨%fb, %eb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]; · iexists _; iexact HA_dst
      iexists _; iexact HB_dst
    isplitl [HA HB]
    · isplitl [HA]; · iexists _, _; iexact HA
      iexists _, _; iexact HB
    iexists _; iexact HW

end Cert.MlpFinal

end
-- ==== Proof.MlpCloses.lean ====
/- The network's body, run on the last point: what it holds before and what it leaves. -/
module

public import proofs.«01_k».proof.Proof.MlpFinal

@[expose] public section

set_option maxRecDepth 16384

noncomputable section

namespace Cert.MlpCloses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

set_option maxHeartbeats 4000000 in
/-- The last point: every transfer waited for. -/
theorem closes (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : ¬startsResidual (grid0.coords t)) (h4 : ¬firstRow (grid0.coords t)) (h5 : ¬evenRow (grid0.coords t)) (h6 : ¬oddRow (grid0.coords t)) (h7 : lastRow (grid0.coords t)) (h8 : startsResults (grid0.coords t)) (h9 : drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ coming c W₀ (Ring.sl 2 t.val) (Ring.bk 128 (t.val - 8)) ∗ leaving c (Ring.sl 2 t.val) (Ring.bk 128 (t.val - 8 - 2)) ∗ home c (Ring.bk 128 (t.val - 8)) ∗ leaving c (Ring.sl 2 (t.val + 1)) (Ring.bk 128 (t.val - 8 - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ idle c W₀ (Ring.sl 2 t.val) ∗ home c (Ring.bk 128 (t.val - 8 - 2)) ∗ home c (Ring.bk 128 (t.val - 8)) ∗ home c (Ring.bk 128 (t.val - 8 - 1)) ∗ freeSlots c (Ring.sl 2 t.val) ∗ freeSlots c (Ring.sl 2 (t.val + 1)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (¬startsResidual (grid0.coords t)) := ⟨h3⟩
    haveI : Fact (¬firstRow (grid0.coords t)) := ⟨h4⟩
    haveI : Fact (¬evenRow (grid0.coords t)) := ⟨h5⟩
    haveI : Fact (¬oddRow (grid0.coords t)) := ⟨h6⟩
    haveI : Fact (lastRow (grid0.coords t)) := ⟨h7⟩
    haveI : Fact (startsResults (grid0.coords t)) := ⟨h8⟩
    haveI : Fact (drains (grid0.coords t)) := ⟨h9⟩
    simp only [cc0_mlp_deepnorm_1_eq_skeleton]; unfold cc0_mlp_deepnorm_1_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ff, HF, HFr⟩, ⟨⟨%fa, %ea, HA⟩, ⟨%fb, %eb, HB⟩⟩, ⟨⟨%pa, HPA⟩, ⟨%pb, HPB⟩⟩, ⟨⟨%fc, %ec, HC⟩, ⟨%fd, %ed, HD⟩⟩, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _, _; isplitr; swap; · iexact HS0
      ipureintro; rfl
    isplitl [HS1]
    · iexists _, _; isplitr; swap; · iexact HS1
      ipureintro; rfl
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]; · iexists _; iexact HA_dst
      iexists _; iexact HB_dst
    isplitl [HPA HPB]
    · isplitl [HPA]; · iexists _; iexact HPA
      iexists _; iexact HPB
    isplitl [HC_dst HD_dst]
    · isplitl [HC_dst]; · iexists _; iexact HC_dst
      iexists _; iexact HD_dst
    isplitl [HA HA_src HB HB_src]
    · isplitl [HA HA_src]
      · isplitl [HA]; · iexact HA
        iexists _; iexact HA_src
      isplitl [HB]; · iexact HB
      iexists _; iexact HB_src
    isplitl [HC HC_src HD HD_src]
    · isplitl [HC HC_src]
      · isplitl [HC]; · iexact HC
        iexists _; iexact HC_src
      isplitl [HD]; · iexact HD
      iexists _; iexact HD_src
    iexists _; iexact HW

end Cert.MlpCloses

end
-- ==== Proof.MlpFrame.lean ====
/- The frame of the layer's network: its transfers taken across the grid, then its run. -/
module

public import proofs.«01_k».proof.Proof.MlpCloses
public import Idealize.ShloMosaic.Lib.Claim

@[expose] public section

set_option maxRecDepth 16384

noncomputable section

namespace Cert.MlpFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the launch hands the region -/

/-- The semaphores of the body's own transfers. -/
abbrev ownSem : Fin 6 → SemLoc sig := fun j => (![SemLoc.dma 8, SemLoc.dma 9, SemLoc.dma 10, SemLoc.dma 11, SemLoc.dma 12, SemLoc.dma 13] : Fin 6 → SemLoc sig) j
theorem ownSem_facts : Pipeline.OwnSemFacts spec0 ownSem := by decide
/-- The buffers the body reads by transfers and those it writes by them. -/
def readRefs : Finset (Ref sig .tc) := {main_arg0}
def writtenRefs : Finset (Ref sig .tc) := {main_v4_0, main_v4_1}
theorem readRefs_sub : readRefs ⊆ Pipeline.restRefs sig spec0 := by decide
theorem writtenRefs_sub : writtenRefs ⊆ Pipeline.restRefs sig spec0 \ readRefs := by decide

theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c ownSem [0, 1, 2, 3, 4, 5] (by decide) (by decide)]; rfl
theorem read_eq (c : Dev nD) :
    (bigSep readRefs (fun b => ((c : Thread nD τ).loc b) ↦{fullShare} V m c b) : sProp 𝕄) = held c residual (V m c main_arg0) := by
  rw [BI.bigSep_eq_bigSepL_of_eq [main_arg0] (by decide) (by decide)]; rfl
theorem written_eq (c : Dev nD) :
    (Pipeline.owned writtenRefs c : sProp 𝕄) = iprop((∃ f, held (F := F) c resultA f) ∗ ∃ f, held (F := F) c resultB f) := by
  unfold Pipeline.owned; rw [BI.bigSep_eq_bigSepL_of_eq [main_v4_0, main_v4_1] (by decide) (by decide)]; rfl

/-- What the launch hands the region, part by part. -/
theorem given_eq (c : Dev nD) :
    (Pipeline.ΦDR ownSem spec0 readRefs writtenRefs (V m) c : sProp 𝕄)
      = iprop(iprop((∃ d, owns (c : Thread nD τ) evenAcc fullShare d) ∗ (∃ d, owns (c : Thread nD τ) oddAcc fullShare d) ∗ (∃ d, owns (c : Thread nD τ) slots fullShare d) ∗ (∃ d, owns (c : Thread nD τ) tilesA fullShare d) ∗ (∃ d, owns (c : Thread nD τ) tilesB fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ held c residual (V m c main_arg0) ∗ iprop((∃ f, held (F := F) c resultA f) ∗ ∃ f, held (F := F) c resultB f)) := by
  rw [Pipeline.ΦDR_eq, scopedRest0_eq, ownSems_eq, read_eq, written_eq]; simp only [evenAcc, oddAcc, slots, tilesA, tilesB, owns_whole]; try rfl

/-! ## The invariant -/

/-- Before grid point `k`: the accumulators at anything, the generator, and the transfers. -/
def before (c : Dev nD) (k : ℕ) : sProp 𝕄 :=
  iprop((∃ d, owns (c : Thread nD τ) evenAcc fullShare d) ∗ (∃ d, owns (c : Thread nD τ) oddAcc fullShare d) ∗ (∃ r, prngReg c r)
    ∗ residualAt c (V m c main_arg0) k ∗ resultsAt c (k - 8) ∗ spares c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := before m c t.val
  q _ := fullShare
  owed _ := 0

theorem arrays_eq (c : Dev nD) (w : Fin cfg0.W) : (dats m 0 c).A w = V m c (Pipeline.arrRef spec0 w) := by
  dsimp only [dats]
theorem before_castSucc (c : Dev nD) (t : Fin cfg0.N) : (dats m 0 c).Φ t.castSucc = before m c t.val := by
  dsimp only [dats]; simp only [Fin.coe_castSucc]
theorem before_succ (c : Dev nD) (t : Fin cfg0.N) : (dats m 0 c).Φ t.succ = before m c (t.val + 1) := by
  dsimp only [dats]; simp only [Fin.val_succ]
theorem after_zero (c : Dev nD) (t : Fin cfg0.N) : (dats m 0 c).after 0 t = iblk m c 0 t := by dsimp only [dats]
theorem after_one (c : Dev nD) (t : Fin cfg0.N) : (dats m 0 c).after 1 t = iblk m c 1 t := by dsimp only [dats]
theorem after_two (c : Dev nD) (t : Fin cfg0.N) : (dats m 0 c).after 2 t = iblk m c 2 t := by dsimp only [dats]
theorem after_three (c : Dev nD) (t : Fin cfg0.N) : (dats m 0 c).after 3 t = iblk m c 3 t := by dsimp only [dats]
theorem after_four (c : Dev nD) (t : Fin cfg0.N) : (dats m 0 c).after 4 t = iblk m c 4 t := by dsimp only [dats]
theorem staged_zero (c : Dev nD) (t : Fin cfg0.N) (d) : (dats m 0 c).before 0 t d = iblk m c 0 t :=
  ((dats m 0 c).before_in_eq_fetched 0 rfl (fun _ => rfl) (fun _ _ _ => rfl) (fun t => by rw [after_zero]; unfold Dat.blockOf iblk; rw [arrays_eq]; try rfl) t d).trans
    (by unfold Dat.fetched Dat.blockOf iblk; rw [arrays_eq]; try rfl)
theorem staged_one (c : Dev nD) (t : Fin cfg0.N) (d) : (dats m 0 c).before 1 t d = iblk m c 1 t :=
  ((dats m 0 c).before_in_eq_fetched 1 rfl (fun _ => rfl) (fun _ _ _ => rfl) (fun t => by rw [after_one]; unfold Dat.blockOf iblk; rw [arrays_eq]; try rfl) t d).trans
    (by unfold Dat.fetched Dat.blockOf iblk; rw [arrays_eq]; try rfl)
theorem staged_two (c : Dev nD) (t : Fin cfg0.N) (d) : (dats m 0 c).before 2 t d = iblk m c 2 t :=
  ((dats m 0 c).before_in_eq_fetched 2 rfl (fun _ => rfl) (fun _ _ _ => rfl) (fun t => by rw [after_two]; unfold Dat.blockOf iblk; rw [arrays_eq]; try rfl) t d).trans
    (by unfold Dat.fetched Dat.blockOf iblk; rw [arrays_eq]; try rfl)
theorem staged_three (c : Dev nD) (t : Fin cfg0.N) (d) : (dats m 0 c).before 3 t d = iblk m c 3 t :=
  ((dats m 0 c).before_in_eq_fetched 3 rfl (fun _ => rfl) (fun _ _ _ => rfl) (fun t => by rw [after_three]; unfold Dat.blockOf iblk; rw [arrays_eq]; try rfl) t d).trans
    (by unfold Dat.fetched Dat.blockOf iblk; rw [arrays_eq]; try rfl)
theorem staged_four (c : Dev nD) (t : Fin cfg0.N) (d) : (dats m 0 c).before 4 t d = iblk m c 4 t :=
  ((dats m 0 c).before_in_eq_fetched 4 rfl (fun _ => rfl) (fun _ _ _ => rfl) (fun t => by rw [after_four]; unfold Dat.blockOf iblk; rw [arrays_eq]; try rfl) t d).trans
    (by unfold Dat.fetched Dat.blockOf iblk; rw [arrays_eq]; try rfl)

/-! ## The body at every point -/

abbrev stage_zero (t : Fin cfg0.N) : Memref sig .tc .vmem S1024x2048 .bf16 := win0_0.stage (cfg0.slots t 0)
abbrev stage_one (t : Fin cfg0.N) : Memref sig .tc .vmem S1x2048x1024 .f32 := win0_1.stage (cfg0.slots t 1)
abbrev stage_two (t : Fin cfg0.N) : Memref sig .tc .vmem S1024x2048 .bf16 := win0_2.stage (cfg0.slots t 2)
abbrev stage_three (t : Fin cfg0.N) : Memref sig .tc .vmem S1x2048 .f32 := win0_3.stage (cfg0.slots t 3)
abbrev stage_four (t : Fin cfg0.N) : Memref sig .tc .vmem S1x2048 .f32 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (stage_zero t) fullShare ((dats m 0 c).before 0 t d))
    ∗ (∃ d, owns (c : Thread nD τ) (stage_one t) fullShare ((dats m 0 c).before 1 t d))
    ∗ (∃ d, owns (c : Thread nD τ) (stage_two t) fullShare ((dats m 0 c).before 2 t d))
    ∗ (∃ d, owns (c : Thread nD τ) (stage_three t) fullShare ((dats m 0 c).before 3 t d))
    ∗ (∃ d, owns (c : Thread nD τ) (stage_four t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (stage_zero t) fullShare ((dats m 0 c).after 0 t)
    ∗ owns (c : Thread nD τ) (stage_one t) fullShare ((dats m 0 c).after 1 t)
    ∗ owns (c : Thread nD τ) (stage_two t) fullShare ((dats m 0 c).after 2 t)
    ∗ owns (c : Thread nD τ) (stage_three t) fullShare ((dats m 0 c).after 3 t)
    ∗ owns (c : Thread nD τ) (stage_four t) fullShare ((dats m 0 c).after 4 t))

theorem turn (k : ℕ) (h : 8 ≤ k) : Ring.sl 2 (k - 8) = Ring.sl 2 k := Fin.ext (by simp only [Ring.sl, Fin.val_ofNat]; omega)
theorem turn_next (k : ℕ) (h : 8 ≤ k) : Ring.sl 2 (k - 8 + 1) = Ring.sl 2 (k + 1) := Fin.ext (by simp only [Ring.sl, Fin.val_ofNat]; omega)
theorem turn_twice (k : ℕ) : Ring.sl 2 (k + 1 + 1) = Ring.sl 2 k := Fin.ext (by simp only [Ring.sl, Fin.val_ofNat]; omega)

set_option maxHeartbeats 4000000 in
theorem at_opens (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8) from congrArg _ (by omega)]
  unfold residualAt resultsAt
  rw [if_neg (show ¬(8 ≤ t.val ∧ t.val < 136) by omega)]
  rw [if_neg (show ¬(8 ≤ t.val + 1 ∧ t.val + 1 < 136) by omega), turn_twice]
  iintro ⟨⟨HS0, HS1, Hg, ⟨HI0, HI1⟩, HT, Hsp⟩, ⟨%W, -, HW⟩, ⟨%d0, H0⟩, ⟨%d1, H1⟩, ⟨%d2, H2⟩, ⟨%d3, H3⟩, ⟨%d4, H4⟩⟩
  iapply (Cert.MlpFirst.opens c t _ _ _ _ _ _ _ _ _ _ _ _ _ _ ((clears_iff t).mpr (by omega)) (fun h => absurd ((waitsResidual_iff t).mp h) (by omega)) (fun h => absurd ((waitsResults_iff t).mp h) (by omega)) (fun h => absurd ((startsResidual_iff t).mp h) (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HW]; · iexact HW
  iintro ⟨H0, H1, H2, H3, H4, HS0, HS1, ⟨%W', HW'⟩⟩
  isplitl [HS0 HS1 Hg HI0 HI1 HT Hsp]
  · isplitl [HS0]; · iexact HS0
    isplitl [HS1]; · iexact HS1
    isplitl [Hg]; · iexact Hg
    isplitl [HI0 HI1]
    · isplitl [HI1]; · iexact HI1
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_fills (c : Dev nD) (t : Fin cfg0.N) (ht : 1 ≤ t.val ∧ t.val < 7) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8) from congrArg _ (by omega)]
  unfold residualAt resultsAt
  rw [if_neg (show ¬(8 ≤ t.val ∧ t.val < 136) by omega)]
  rw [if_neg (show ¬(8 ≤ t.val + 1 ∧ t.val + 1 < 136) by omega), turn_twice]
  iintro ⟨⟨HS0, HS1, Hg, ⟨HI0, HI1⟩, HT, Hsp⟩, ⟨%W, -, HW⟩, ⟨%d0, H0⟩, ⟨%d1, H1⟩, ⟨%d2, H2⟩, ⟨%d3, H3⟩, ⟨%d4, H4⟩⟩
  iapply (Cert.MlpFirst.fills c t _ _ _ _ _ _ _ _ _ _ _ _ _ _ (fun h => absurd ((clears_iff t).mp h) (by omega)) (fun h => absurd ((waitsResidual_iff t).mp h) (by omega)) (fun h => absurd ((waitsResults_iff t).mp h) (by omega)) (fun h => absurd ((startsResidual_iff t).mp h) (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HW]; · iexact HW
  iintro ⟨H0, H1, H2, H3, H4, HS0, HS1, ⟨%W', HW'⟩⟩
  isplitl [HS0 HS1 Hg HI0 HI1 HT Hsp]
  · isplitl [HS0]; · iexact HS0
    isplitl [HS1]; · iexact HS1
    isplitl [Hg]; · iexact Hg
    isplitl [HI0 HI1]
    · isplitl [HI1]; · iexact HI1
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_fetches (c : Dev nD) (t : Fin cfg0.N) (ht : t.val = 7) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8) from congrArg _ (by omega)]
  unfold residualAt resultsAt
  rw [if_neg (show ¬(8 ≤ t.val ∧ t.val < 136) by omega)]
  rw [if_pos (show 8 ≤ t.val + 1 ∧ t.val + 1 < 136 by omega), show t.val + 1 - 8 = t.val - 7 by omega, turn_twice]
  iintro ⟨⟨HS0, HS1, Hg, ⟨HI0, HI⟩, HT, Hsp⟩, ⟨%W, -, HW⟩, ⟨%d0, H0⟩, ⟨%d1, H1⟩, ⟨%d2, H2⟩, ⟨%d3, H3⟩, ⟨%d4, H4⟩⟩
  iapply (Cert.MlpFirst.fetches c t _ _ _ _ _ _ _ _ _ _ _ _ _ _ (fun h => absurd ((clears_iff t).mp h) (by omega)) (fun h => absurd ((waitsResidual_iff t).mp h) (by omega)) (fun h => absurd ((waitsResults_iff t).mp h) (by omega)) ((startsResidual_iff t).mpr (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HI]; · iexact HI
  isplitl [HW]; · iexact HW
  iintro ⟨H0, H1, H2, H3, H4, HS0, HS1, HC, ⟨%W', HW'⟩⟩
  isplitl [HS0 HS1 Hg HC HI0 HT Hsp]
  · isplitl [HS0]; · iexact HS0
    isplitl [HS1]; · iexact HS1
    isplitl [Hg]; · iexact Hg
    isplitl [HC HI0]
    · isplitl [HC]; · iexact HC
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_eight (c : Dev nD) (t : Fin cfg0.N) (ht : t.val = 8) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB2_zero' 2 _ _ _ _ (t.val - 8) (by omega), Ring.AtBΦ_lt _ _ _ _ _ (t.val - 8 + 1) (by omega), Ring.AtB22_next_zero' _ _ _ _ (t.val - 8) (by omega), turn t.val (by omega), turn_next t.val (by omega)]
  iintro ⟨⟨HS0, HS1, Hg, ⟨HC, HI⟩, ⟨⟨HH, HA⟩, HF, HF1⟩, Hsp⟩, ⟨%W, -, HW⟩, ⟨%d0, H0⟩, ⟨%d1, H1⟩, ⟨%d2, H2⟩, ⟨%d3, H3⟩, ⟨%d4, H4⟩⟩
  iapply (Cert.MlpBegins.begins c t _ _ _ _ _ _ _ _ _ _ _ _ _ _ (fun h => absurd ((clears_iff t).mp h) (by omega)) ((waitsResidual_iff t).mpr (by omega)) (fun h => absurd ((waitsResults_iff t).mp h) (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HF]; · iexact HF
  isplitl [HH]; · iexact HH
  isplitl [HW]; · iexact HW
  iintro ⟨H0, H1, H2, H3, H4, HS0, HS1, HC, HI, HL, ⟨%W', HW'⟩⟩
  isplitl [HS0 HS1 Hg HC HI HA HF1 HL Hsp]
  · isplitl [HS0]; · iexact HS0
    isplitl [HS1]; · iexact HS1
    isplitl [Hg]; · iexact Hg
    isplitl [HC HI]
    · isplitl [HC]; · iexact HC
      iexact HI
    isplitl [HA HF1 HL]
    · isplitl [HA]; · iexact HA
      isplitl [HF1]; · iexact HF1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_nine (c : Dev nD) (t : Fin cfg0.N) (ht : t.val = 9) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_one' _ _ _ _ (t.val - 8) (by omega) (by decide), Ring.AtBΦ_lt _ _ _ _ _ (t.val - 8 + 1) (by omega), Ring.AtB22_next_one' _ _ _ _ (t.val - 8) (by omega), turn t.val (by omega), turn_next t.val (by omega)]
  iintro ⟨⟨HS0, HS1, Hg, ⟨HC, HI⟩, ⟨⟨HH, HA⟩, HF, HL1⟩, Hsp⟩, ⟨%W, -, HW⟩, ⟨%d0, H0⟩, ⟨%d1, H1⟩, ⟨%d2, H2⟩, ⟨%d3, H3⟩, ⟨%d4, H4⟩⟩
  iapply (Cert.MlpBegins.begins c t _ _ _ _ _ _ _ _ _ _ _ _ _ _ (fun h => absurd ((clears_iff t).mp h) (by omega)) ((waitsResidual_iff t).mpr (by omega)) (fun h => absurd ((waitsResults_iff t).mp h) (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HF]; · iexact HF
  isplitl [HH]; · iexact HH
  isplitl [HW]; · iexact HW
  iintro ⟨H0, H1, H2, H3, H4, HS0, HS1, HC, HI, HL, ⟨%W', HW'⟩⟩
  isplitl [HS0 HS1 Hg HC HI HA HL1 HL Hsp]
  · isplitl [HS0]; · iexact HS0
    isplitl [HS1]; · iexact HS1
    isplitl [Hg]; · iexact Hg
    isplitl [HC HI]
    · isplitl [HC]; · iexact HC
      iexact HI
    isplitl [HA HL1 HL]
    · isplitl [HA]; · iexact HA
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_odd (c : Dev nD) (t : Fin cfg0.N) (ht : 10 ≤ t.val ∧ t.val < 128 ∧ (t.val / 8) % 2 = 1) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  iintro ⟨⟨HS0, HS1, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpOdd.odd c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0]; · iexact HS0
    isplitl [HS1]; · iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_even (c : Dev nD) (t : Fin cfg0.N) (ht : 10 ≤ t.val ∧ t.val < 128 ∧ (t.val / 8) % 2 = 0) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  iintro ⟨⟨HS0, HS1, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpEven.even c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) ((evenRow_iff t).mpr (by omega)) (fun h => absurd ((oddRow_iff t).mp h) (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0]; · iexact HS0
    isplitl [HS1]; · iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_final (c : Dev nD) (t : Fin cfg0.N) (ht : 128 ≤ t.val ∧ t.val < 135) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  iintro ⟨⟨HS0, HS1, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpFinal.final c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) (fun h => absurd ((evenRow_iff t).mp h) (by omega)) (fun h => absurd ((oddRow_iff t).mp h) (by omega)) ((lastRow_iff t).mpr (by omega)) ((startsResults_iff t).mpr (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0]; · iexact HS0
    isplitl [HS1]; · iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_closes (c : Dev nD) (t : Fin cfg0.N) (ht : t.val = 135) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show resultsAt (F := F) c (t.val + 1 - 8) = resultsAt c (t.val - 8 + 1) from congrArg _ (by omega)]
  unfold residualAt resultsAt
  rw [if_pos (show 8 ≤ t.val ∧ t.val < 136 by omega)]
  rw [if_neg (show ¬(8 ≤ t.val + 1 ∧ t.val + 1 < 136) by omega), turn_twice]
  rw [Ring.AtBΦ_lt _ _ _ _ _ (t.val - 8) (by omega), Ring.AtB22_here_last _ _ _ _ (t.val - 8) (by omega) (by omega), Ring.AtBΦ_ge _ _ _ _ _ (t.val - 8 + 1) (by omega), Ring.AtB22_drained _ _ (t.val - 8) (by omega) (by omega), turn t.val (by omega), turn_next t.val (by omega)]
  iintro ⟨⟨HS0, HS1, Hg, ⟨HC, HI1⟩, ⟨HH, HB, HL0, HL1⟩, Hsp⟩, ⟨%W, -, HW⟩, ⟨%d0, H0⟩, ⟨%d1, H1⟩, ⟨%d2, H2⟩, ⟨%d3, H3⟩, ⟨%d4, H4⟩⟩
  iapply (Cert.MlpCloses.closes c t _ _ _ _ _ _ _ _ _ _ _ _ _ _ (fun h => absurd ((clears_iff t).mp h) (by omega)) ((waitsResidual_iff t).mpr (by omega)) ((waitsResults_iff t).mpr (by omega)) (fun h => absurd ((startsResidual_iff t).mp h) (by omega)) (fun h => absurd ((firstRow_iff t).mp h) (by omega)) (fun h => absurd ((evenRow_iff t).mp h) (by omega)) (fun h => absurd ((oddRow_iff t).mp h) (by omega)) ((lastRow_iff t).mpr (by omega)) ((startsResults_iff t).mpr (by omega)) ((drains_iff t).mpr (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HL0]; · iexact HL0
  isplitl [HH]; · iexact HH
  isplitl [HL1]; · iexact HL1
  isplitl [HW]; · iexact HW
  iintro ⟨H0, H1, H2, H3, H4, HS0, HS1, HI, HN, HN0, HN1, HF0, HF1, ⟨%W', HW'⟩⟩
  isplitl [HS0 HS1 Hg HI HI1 HN HN0 HN1 HB HF0 HF1 Hsp]
  · isplitl [HS0]; · iexact HS0
    isplitl [HS1]; · iexact HS1
    isplitl [Hg]; · iexact Hg
    isplitl [HI HI1]
    · isplitl [HI1]; · iexact HI1
      iexact HI
    isplitl [HN HN0 HN1 HB HF0 HF1]
    · isplitl [HN HN0 HN1 HB]
      · isplitl [HN0]; · iexact HN0
        isplitl [HN]; · iexact HN
        isplitl [HN1]; · iexact HN1
        iexact HB
      isplitl [HF0]; · iexact HF0
      iexact HF1
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body at any point. -/
theorem body_sound (c : Dev nD) (t : Fin cfg0.N) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  by_cases h0 : t.val = 0
  · exact at_opens m c t h0
  by_cases h7 : t.val < 7
  · exact at_fills m c t ⟨by omega, h7⟩
  by_cases h8 : t.val = 7
  · exact at_fetches m c t h8
  by_cases h9 : t.val = 8
  · exact at_eight m c t h9
  by_cases h10 : t.val = 9
  · exact at_nine m c t h10
  by_cases h128 : t.val < 128
  · by_cases hp : (t.val / 8) % 2 = 1
    · exact at_odd m c t ⟨by omega, h128, hp⟩
    · exact at_even m c t ⟨by omega, h128, by omega⟩
  by_cases h135 : t.val < 135
  · exact at_final m c t ⟨by omega, h135⟩
  · exact at_closes m c t (by omega)

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## Into the grid and out of it -/

theorem enters (c : Dev nD) : Pipeline.ΦDR ownSem spec0 readRefs writtenRefs (V m) c ⊢ (dats m 0 c).Φ 0 := by
  rw [given_eq, show (dats m 0 c).Φ 0 = before m c 0 from rfl]
  unfold before
  iintro ⟨⟨HS0, HS1, HR, HA, HB⟩, Hg, ⟨Hq0, Hq1, Hq2, Hq3, Hq4, Hq5⟩, Hh, Ho0, Ho1⟩
  isplitl [HS0]; · iexact HS0
  isplitl [HS1]; · iexact HS1
  isplitl [Hg]; · iexact Hg
  isplitl [HR Hq0 Hq1 Hh]
  · iapply (residual_in (F := F) c (V m c main_arg0))
    isplitl [HR]; · iexact HR
    isplitl [Hq0 Hq1]
    · isplitl [Hq0]; · iexact Hq0
      iexact Hq1
    iexact Hh
  iapply (results_in (F := F) c)
  isplitl [HA Hq2 Hq3 Ho0]
  · isplitl [HA]; · iexact HA
    isplitl [Hq2 Hq3]
    · isplitl [Hq2]; · iexact Hq2
      iexact Hq3
    iexact Ho0
  isplitl [HB]; · iexact HB
  isplitl [Hq4 Hq5]
  · isplitl [Hq4]; · iexact Hq4
    iexact Hq5
  iexact Ho1
theorem leaves (c : Dev nD) : (dats m 0 c).Φ (Fin.last cfg0.N) ⊢ Pipeline.ΦDR ownSem spec0 readRefs writtenRefs (V m) c := by
  rw [given_eq, show (dats m 0 c).Φ (Fin.last cfg0.N) = before m c grid0.N from rfl]
  unfold before
  rw [show grid0.N = 136 by rw [N_0]]
  iintro ⟨HS0, HS1, Hg, HR, HT⟩
  ihave HX := (residual_out (F := F) c (V m c main_arg0)) $$ HR
  icases HX with ⟨HR, ⟨Hq0, Hq1⟩, Hh⟩
  ihave HY := (results_out (F := F) c) $$ HT
  icases HY with ⟨⟨HA, ⟨Hq2, Hq3⟩, Ho0⟩, HB, ⟨Hq4, Hq5⟩, Ho1⟩
  isplitl [HS0 HS1 HR HA HB]
  · isplitl [HS0]; · iexact HS0
    isplitl [HS1]; · iexact HS1
    isplitl [HR]; · iexact HR
    isplitl [HA]; · iexact HA
    iexact HB
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh]; · iexact Hh
  isplitl [Ho0]; · iexact Ho0
  iexact Ho1

/-! ## The run -/

set_option maxHeartbeats 800000 in
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with every staged array as the proof data compute it, every buffer the body does not write as it was
    found, and every semaphore at zero. -/
theorem runs : θ_run defs (onTc (τ := τ) (main (F := F))) (s₀ m ρ) (fun r => (Pipeline.FramePostR cfgs (dats m) 0 writtenRefs (V m)) r ∧ r.2.sem = fun _ => 0) :=
  Pipeline.θ_run_frame_dmaR (Q' := _) cfgs (dats m) (0 : Fin 1) launch0 ownSem defs₀ Variants.none ownSem_facts readRefs writtenRefs readRefs_sub writtenRefs_sub m ρ main
    (hbody := fun c => (obligation m c).loose) (hshare := fun c => (dats m 0 c).share_full fun _ => rfl)
    (howed := fun _ _ => rfl) (V := V m) (hmain := main_prefix m Variants.none) (hA := arrays_eq m)
    (hin := enters m) (hout := leaves m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).1 1).trans (((dats m 0 c).arrAt_in 1 rfl _).trans ((arrays_eq m c 1).trans (V_main_arg1 m c))),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (runs m ρ)

end Cert.MlpFrame

end
-- ==== Proof.MlpProgram.lean ====
/- The network as printed is its idealized printing with the named weight of the residual read as the literal that
   stands for it. So its frame is the idealized printing's, read so. -/
module

public import proofs.«01_k».proof.Proof.MlpFrame
public import proofs.«01_k».proof.Proof.Gen.Kernel5

@[expose] public section

set_option maxRecDepth 65536

noncomputable section

namespace Cert.MlpProgram

open Idealize.ShloMosaic Idealize.ShloMosaic.TcCoe
open Idealize.SL.Sem

variable {F : FTy → Type} [FloatOps F]

/-- A named number read as its literal. -/
local instance literals : Named F := ⟨fun _ _ _ bits => FloatOps.ofBits _ bits⟩

theorem main_eq : Cert.Kernel5.main (F := F) = Cert.Kernel5Ideal.main (F := F) := rfl

/-- The body tables agree row by row. -/
theorem bodies_eq : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | 0, (t, s) => rfl

theorem defs_eq : Cert.Kernel5.defs (F := F) = Cert.Kernel5Ideal.defs (F := F) :=
  congrArg (Pipeline.defs (Cert.Kernel5Ideal.pcfgs (F := F))) bodies_eq

/-- The frame of the program as printed. -/
theorem frame (m : (ℓ : Loc Cert.Kernel5.nD Cert.Kernel5.τ Cert.Kernel5.sig) → Buf (Elt F) ℓ) (ρ : Dev Cert.Kernel5.nD → PrngReg) :
    θ_run (Cert.Kernel5.defs (F := F)) (onTc (τ := Cert.Kernel5.τ) (Cert.Kernel5.main (F := F))) ⟨m, fun _ => 0, ρ⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0) := by
  rw [defs_eq]
  exact Cert.MlpFrame.frame (F := F) m ρ

end Cert.MlpProgram

end
-- ==== Proof.MlpValue.lean ====
/- What the network's points leave: their accumulators, and the slabs they normalise and send off. -/
module

public import proofs.«01_k».proof.Proof.MlpCloses
public import proofs.«01_k».proof.Proof.MixRun
public import Idealize.ShloMosaic.Lib.WritesUnit

@[expose] public section

set_option maxRecDepth 16384

noncomputable section

namespace Cert.MlpValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots

variable {F : FTy → Type} [FloatOps F] [Named F]

local notation "𝕄" => MT nD τ sig Unit (Elt F) ℕ (Pipeline.UD sig nD τ) ℕ

/-! ## Values -/

/-- Slab `k` of an accumulator, `k` counted in turns of eight. -/
theorem inb_part (k : ℕ) : ∀ a, (![128 * (k % 8), 0] : Fin 2 → ℕ) a + S128x2048.size a ≤ S1024x2048.size a := by
  intro a
  match a with
  | ⟨0, _⟩ => show 128 * (k % 8) + 128 ≤ 1024; omega
  | ⟨1, _⟩ => show 0 + 2048 ≤ 2048; omega
def accSlab (d : Vec F S1024x2048 .f32) (k : ℕ) : Vec F S128x2048 .f32 :=
  View.ld d (Rect.unit (s := S1024x2048) ![128 * (k % 8), 0] S128x2048.size (inb_part k))
/-- An accumulator with slab `k` cleared. -/
def cleared (d : Vec F S1024x2048 .f32) (k : ℕ) : Vec F S1024x2048 .f32 := fun y =>
  if 128 * (k % 8) ≤ (y (0 : Fin 2)).val ∧ (y (0 : Fin 2)).val < 128 * (k % 8) + 128 then Scalar.ofBits .f32 0x00000000#32 else d y
/-- A cleared accumulator. -/
def zeros : Vec F S1024x2048 .f32 := k0_pay20
/-- An accumulator with a block's product added. -/
def added (x : Vec F S1024x2048 .bf16) (w : Vec F S1x2048x1024 .f32) (d : Vec F S1024x2048 .f32) (y : Vec F S1024x2048 .bf16) : Vec F S1024x2048 .f32 :=
  k0_pay1 x w d y
/-- Slab `b` of the residual, as a load off a slot reads it. -/
def resSlab (c : Dev nD) (W : Holds (F := F) c residual) (b : Fin 128) : Vec F S1x128x2048 .f32 :=
  shapeCast S1x128x2048 ((slab b).view.read (Elt F) W) shapeCasts_S128x2048_S1x128x2048
/-- A slab normalised: from its accumulator slab, its residual slab, the gain and the bias. -/
def out (a : Vec F S128x2048 .f32) (r : Vec F S1x128x2048 .f32) (g b : Vec F S1x2048 .f32) : Vec F S128x2048 .f32 :=
  k0_pay2 (k0_pay11 a r) (k0_pay13 a r) (Scalar.ofBits .f32 0x45000000#32) g b
/-- The same at half width. -/
def outHalf (a : Vec F S128x2048 .f32) (r : Vec F S1x128x2048 .f32) (g b : Vec F S1x2048 .f32) : Vec F S128x2048 .bf16 :=
  truncf .bf16 (out a r g b) bitsLt_bf16_f32

/-! ## Loads and stores -/

theorem at10 : ∀ t : Fin grid0.N, k0_off10 (grid0.coords t) = ![128 * (t.val % 8), 0] := by decide +kernel
theorem at12 : ∀ t : Fin grid0.N, k0_off12 (grid0.coords t) = ![128 * (t.val % 8), 0] := by decide +kernel
theorem at14 : ∀ t : Fin grid0.N, k0_off14 (grid0.coords t) = ![128 * (t.val % 8), 0] := by decide +kernel

theorem load_all {s : Shape} {e : EltTy} (m : Memref sig .tc .vmem s e) (hm : m.IsWhole) (x : Vec F s e) (off : Fin s.rank → Nat)
    (hoff : off = fun _ => 0) (inb : ∀ a, off a + s.size a ≤ s.size a) :
    View.readAt (Elt F) m.view (Rect.unit (s := s) off s.size inb).toLoadRect (hm.unread x) = x := by
  rw [View.readAt_eq_ld, hm.read_unread]
  exact View.ld_unit_zero hoff _ _

theorem load_cleared (m : Memref sig .tc .vmem S1024x2048 .f32) (f : m.view.ty.Contents (Elt F)) :
    View.readAt (Elt F) m.view (Rect.unit (s := S1024x2048) ![0, 0] S1024x2048.size inb_S1024x2048_S1024x2048_0_0).toLoadRect
      (m.view.writes (Elt F) f [⟨Rect.unit ![0, 0] S1024x2048.size inb_S1024x2048_S1024x2048_0_0, k0_pay20⟩]) = zeros := by
  rw [View.readAt_eq_ld, Cert.MixRun.read_stored _ _ _ _ (by decide)]
  exact View.ld_unit_zero (by decide) _ _

theorem load_slab (m : Memref sig .tc .vmem S1024x2048 .f32) (hm : m.IsWhole) (d : Vec F S1024x2048 .f32) (k : ℕ) (off : Fin 2 → Nat)
    (hoff : off = ![128 * (k % 8), 0]) (inb : ∀ a, off a + S128x2048.size a ≤ S1024x2048.size a) :
    View.readAt (Elt F) m.view (Rect.unit (s := S1024x2048) off S128x2048.size inb).toLoadRect (hm.unread d) = accSlab d k := by
  subst hoff
  rw [View.readAt_eq_ld, hm.read_unread]
  rfl

theorem read_cleared (m : Memref sig .tc .vmem S1024x2048 .f32) (hm : m.IsWhole) (d : Vec F S1024x2048 .f32) (k : ℕ) (off : Fin 2 → Nat)
    (hoff : off = ![128 * (k % 8), 0]) (inb : ∀ a, off a + S128x2048.size a ≤ S1024x2048.size a) (w : Vec F S128x2048 .f32)
    (hw : w = fun _ => Scalar.ofBits .f32 0x00000000#32) :
    m.view.read (Elt F) (m.view.writes (Elt F) (hm.unread d) [⟨Rect.unit (s := S1024x2048) off S128x2048.size inb, w⟩]) = cleared d k := by
  subst hw
  funext y
  refine (View.read_writes_cons_rows (d := S1024x2048.size) m.view (hm.unread d) inb _ [] y hoff (W := 128) rfl rfl).trans ?_
  unfold cleared
  split
  · rfl
  · exact congrFun (hm.read_unread d) y

theorem slot_load (c : Dev nD) (W : Holds (F := F) c residual) (s : Fin 2) (b : Fin 128) (f : Holds (F := F) c (slot s)) (off : Fin 3 → Nat)
    (hoff : off = ![s.val, 0, 0]) (inb : ∀ a, off a + S1x128x2048.size a ≤ S2x128x2048.size a) :
    View.readAt (Elt F) slots.view (Rect.unit (s := S2x128x2048) off S1x128x2048.size inb).toLoadRect (landed c W s b f) = resSlab c W b := by
  subst hoff
  have e : (slot s).view.read (Elt F) (landed c W s b f) = (slab b).view.read (Elt F) W := View.read_writes_whole _ _ _
  have h : ∀ x, (slot s).view.read (Elt F) (landed c W s b f) x
      = View.readAt (Elt F) slots.view (Rect.unit (s := S2x128x2048) ![s.val, 0, 0] S1x128x2048.size inb).toLoadRect (landed c W s b f)
        (Shape.reshapeEquiv squeezes_S1x128x2048_S128x2048.numel_eq x) := fun _ => rfl
  unfold resSlab
  rw [← e]
  have hh : (slot s).view.read (Elt F) (landed c W s b f)
      = shapeCast S128x2048 (View.readAt (Elt F) slots.view (Rect.unit (s := S2x128x2048) ![s.val, 0, 0] S1x128x2048.size inb).toLoadRect (landed c W s b f))
        shapeCasts_S1x128x2048_S128x2048 := funext h
  rw [hh, shapeCast_shapeCast]

theorem tile_storedA (g : Fin 2) (off : Fin 3 → Nat) (hoff : off = ![g.val, 0, 0]) (inb : ∀ a, off a + S1x128x2048.size a ≤ S2x128x2048.size a)
    (f : (tileA g).view.ty.Contents (Elt F)) (w : Vec F S128x2048 .f32) :
    (tileA g).view.read (Elt F) (View.write (Elt F) (tilesA.access (Rect.unit (s := S2x128x2048) off S1x128x2048.size inb)) f
      (shapeCast S1x128x2048 w shapeCasts_S128x2048_S1x128x2048) Finset.univ) = w := by
  subst hoff
  funext x
  have h : (tileA g).view.read (Elt F) (View.write (Elt F) (tilesA.access (Rect.unit (s := S2x128x2048) ![g.val, 0, 0] S1x128x2048.size inb)) f
      (shapeCast S1x128x2048 w shapeCasts_S128x2048_S1x128x2048) Finset.univ) x
    = (tilesA.access (Rect.unit (s := S2x128x2048) ![g.val, 0, 0] S1x128x2048.size inb)).read (Elt F)
      (View.write (Elt F) (tilesA.access (Rect.unit (s := S2x128x2048) ![g.val, 0, 0] S1x128x2048.size inb)) f
      (shapeCast S1x128x2048 w shapeCasts_S128x2048_S1x128x2048) Finset.univ) (Shape.reshapeEquiv squeezes_S1x128x2048_S128x2048.numel_eq x) := rfl
  refine h.trans ((congrFun (View.read_write_univ _ _) _).trans ?_)
  exact congrFun (shapeCast_shapeCast w shapeCasts_S128x2048_S1x128x2048 shapeCasts_S1x128x2048_S128x2048) x

theorem tile_storedB (g : Fin 2) (off : Fin 3 → Nat) (hoff : off = ![g.val, 0, 0]) (inb : ∀ a, off a + S1x128x2048.size a ≤ S2x128x2048.size a)
    (f : (tileB g).view.ty.Contents (Elt F)) (w : Vec F S128x2048 .bf16) :
    (tileB g).view.read (Elt F) (View.write (Elt F) (tilesB.access (Rect.unit (s := S2x128x2048) off S1x128x2048.size inb)) f
      (shapeCast S1x128x2048 w shapeCasts_S128x2048_S1x128x2048) Finset.univ) = w := by
  subst hoff
  funext x
  have h : (tileB g).view.read (Elt F) (View.write (Elt F) (tilesB.access (Rect.unit (s := S2x128x2048) ![g.val, 0, 0] S1x128x2048.size inb)) f
      (shapeCast S1x128x2048 w shapeCasts_S128x2048_S1x128x2048) Finset.univ) x
    = (tilesB.access (Rect.unit (s := S2x128x2048) ![g.val, 0, 0] S1x128x2048.size inb)).read (Elt F)
      (View.write (Elt F) (tilesB.access (Rect.unit (s := S2x128x2048) ![g.val, 0, 0] S1x128x2048.size inb)) f
      (shapeCast S1x128x2048 w shapeCasts_S128x2048_S1x128x2048) Finset.univ) (Shape.reshapeEquiv squeezes_S1x128x2048_S128x2048.numel_eq x) := rfl
  refine h.trans ((congrFun (View.read_write_univ _ _) _).trans ?_)
  exact congrFun (shapeCast_shapeCast w shapeCasts_S128x2048_S1x128x2048 shapeCasts_S1x128x2048_S128x2048) x

theorem sentEvenA (u : Fin 128) (p : (pieceA u).view.ty.Contents (Elt F)) (s : Fin 2) (off : Fin 3 → Nat) (hoff : off = ![s.val, 0, 0])
    (inb : ∀ a, off a + S1x128x2048.size a ≤ S2x128x2048.size a) (f : (tileA s).view.ty.Contents (Elt F))
    (a a' : Vec F S128x2048 .f32) (r r' : Vec F S1x128x2048 .f32) (g g' b b' : Vec F S1x2048 .f32) (ha : a = a') (hr : r = r') (hg : g = g') (hb : b = b') :
    (pieceA u).view.read (Elt F) ((pieceA u).view.writes (Elt F) p [⟨Rect.whole S128x2048, ReadAs.same.apply ((tileA s).view.read (Elt F)
      (View.write (Elt F) (tilesA.access (Rect.unit (s := S2x128x2048) off S1x128x2048.size inb)) f
      (k0_pay3 (k0_pay11 a r) (k0_pay13 a r) (Scalar.ofBits .f32 0x45000000#32) g b) Finset.univ))⟩]) = out a' r' g' b' := by
  subst ha; subst hr; subst hg; subst hb
  exact (View.read_writes_whole _ _ _).trans (tile_storedA s off hoff inb f (out a r g b))

theorem sentEvenB (u : Fin 128) (p : (pieceB u).view.ty.Contents (Elt F)) (s : Fin 2) (off : Fin 3 → Nat) (hoff : off = ![s.val, 0, 0])
    (inb : ∀ a, off a + S1x128x2048.size a ≤ S2x128x2048.size a) (f : (tileB s).view.ty.Contents (Elt F))
    (a a' : Vec F S128x2048 .f32) (r r' : Vec F S1x128x2048 .f32) (g g' b b' : Vec F S1x2048 .f32) (ha : a = a') (hr : r = r') (hg : g = g') (hb : b = b') :
    (pieceB u).view.read (Elt F) ((pieceB u).view.writes (Elt F) p [⟨Rect.whole S128x2048, ReadAs.same.apply ((tileB s).view.read (Elt F)
      (View.write (Elt F) (tilesB.access (Rect.unit (s := S2x128x2048) off S1x128x2048.size inb)) f
      (k0_pay4 (k0_pay11 a r) (k0_pay13 a r) (Scalar.ofBits .f32 0x45000000#32) g b) Finset.univ))⟩]) = outHalf a' r' g' b' := by
  subst ha; subst hr; subst hg; subst hb
  exact (View.read_writes_whole _ _ _).trans (tile_storedB s off hoff inb f (outHalf a r g b))

theorem sentOddA (u : Fin 128) (p : (pieceA u).view.ty.Contents (Elt F)) (s : Fin 2) (off : Fin 3 → Nat) (hoff : off = ![s.val, 0, 0])
    (inb : ∀ a, off a + S1x128x2048.size a ≤ S2x128x2048.size a) (f : (tileA s).view.ty.Contents (Elt F))
    (a a' : Vec F S128x2048 .f32) (r r' : Vec F S1x128x2048 .f32) (g g' b b' : Vec F S1x2048 .f32) (ha : a = a') (hr : r = r') (hg : g = g') (hb : b = b') :
    (pieceA u).view.read (Elt F) ((pieceA u).view.writes (Elt F) p [⟨Rect.whole S128x2048, ReadAs.same.apply ((tileA s).view.read (Elt F)
      (View.write (Elt F) (tilesA.access (Rect.unit (s := S2x128x2048) off S1x128x2048.size inb)) f
      (k0_pay6 (k0_pay15 a r) (k0_pay17 a r) (Scalar.ofBits .f32 0x45000000#32) g b) Finset.univ))⟩]) = out a' r' g' b' := by
  subst ha; subst hr; subst hg; subst hb
  exact (View.read_writes_whole _ _ _).trans (tile_storedA s off hoff inb f (out a r g b))

theorem sentOddB (u : Fin 128) (p : (pieceB u).view.ty.Contents (Elt F)) (s : Fin 2) (off : Fin 3 → Nat) (hoff : off = ![s.val, 0, 0])
    (inb : ∀ a, off a + S1x128x2048.size a ≤ S2x128x2048.size a) (f : (tileB s).view.ty.Contents (Elt F))
    (a a' : Vec F S128x2048 .f32) (r r' : Vec F S1x128x2048 .f32) (g g' b b' : Vec F S1x2048 .f32) (ha : a = a') (hr : r = r') (hg : g = g') (hb : b = b') :
    (pieceB u).view.read (Elt F) ((pieceB u).view.writes (Elt F) p [⟨Rect.whole S128x2048, ReadAs.same.apply ((tileB s).view.read (Elt F)
      (View.write (Elt F) (tilesB.access (Rect.unit (s := S2x128x2048) off S1x128x2048.size inb)) f
      (k0_pay7 (k0_pay15 a r) (k0_pay17 a r) (Scalar.ofBits .f32 0x45000000#32) g b) Finset.univ))⟩]) = outHalf a' r' g' b' := by
  subst ha; subst hr; subst hg; subst hb
  exact (View.read_writes_whole _ _ _).trans (tile_storedB s off hoff inb f (outHalf a r g b))

theorem sentLastA (u : Fin 128) (p : (pieceA u).view.ty.Contents (Elt F)) (s : Fin 2) (off : Fin 3 → Nat) (hoff : off = ![s.val, 0, 0])
    (inb : ∀ a, off a + S1x128x2048.size a ≤ S2x128x2048.size a) (f : (tileA s).view.ty.Contents (Elt F))
    (a a' : Vec F S128x2048 .f32) (r r' : Vec F S1x128x2048 .f32) (g g' b b' : Vec F S1x2048 .f32) (ha : a = a') (hr : r = r') (hg : g = g') (hb : b = b') :
    (pieceA u).view.read (Elt F) ((pieceA u).view.writes (Elt F) p [⟨Rect.whole S128x2048, ReadAs.same.apply ((tileA s).view.read (Elt F)
      (View.write (Elt F) (tilesA.access (Rect.unit (s := S2x128x2048) off S1x128x2048.size inb)) f
      (k0_pay8 (k0_pay19 a r g b)) Finset.univ))⟩]) = out a' r' g' b' := by
  subst ha; subst hr; subst hg; subst hb
  exact (View.read_writes_whole _ _ _).trans (tile_storedA s off hoff inb f (out a r g b))

theorem sentLastB (u : Fin 128) (p : (pieceB u).view.ty.Contents (Elt F)) (s : Fin 2) (off : Fin 3 → Nat) (hoff : off = ![s.val, 0, 0])
    (inb : ∀ a, off a + S1x128x2048.size a ≤ S2x128x2048.size a) (f : (tileB s).view.ty.Contents (Elt F))
    (a a' : Vec F S128x2048 .f32) (r r' : Vec F S1x128x2048 .f32) (g g' b b' : Vec F S1x2048 .f32) (ha : a = a') (hr : r = r') (hg : g = g') (hb : b = b') :
    (pieceB u).view.read (Elt F) ((pieceB u).view.writes (Elt F) p [⟨Rect.whole S128x2048, ReadAs.same.apply ((tileB s).view.read (Elt F)
      (View.write (Elt F) (tilesB.access (Rect.unit (s := S2x128x2048) off S1x128x2048.size inb)) f
      (k0_pay9 (k0_pay19 a r g b)) Finset.univ))⟩]) = outHalf a' r' g' b' := by
  subst ha; subst hr; subst hg; subst hb
  exact (View.read_writes_whole _ _ _).trans (tile_storedB s off hoff inb f (outHalf a r g b))

theorem readFirst {κ : Kind} {sp : Space} (v : View sig κ sp S1024x2048 .f32) (f : v.ty.Contents (Elt F)) (L : List (View.Piece (Elt F) S1024x2048 .f32))
    (x x' : Vec F S1024x2048 .bf16) (w w' : Vec F S1x2048x1024 .f32) (d d' : Vec F S1024x2048 .f32) (y y' : Vec F S1024x2048 .bf16)
    (hx : x = x') (hw : w = w') (hd : d = d') (hy : y = y') :
    v.read (Elt F) (v.writes (Elt F) f (⟨Rect.unit ![0, 0] S1024x2048.size inb_S1024x2048_S1024x2048_0_0, k0_pay1 x w d y⟩ :: L)) = added x' w' d' y' := by
  subst hx; subst hw; subst hd; subst hy
  exact Cert.MixRun.read_stored v f L _ (by decide) _ _

theorem readEven {κ : Kind} {sp : Space} (v : View sig κ sp S1024x2048 .f32) (f : v.ty.Contents (Elt F)) (L : List (View.Piece (Elt F) S1024x2048 .f32))
    (x x' : Vec F S1024x2048 .bf16) (w w' : Vec F S1x2048x1024 .f32) (d d' : Vec F S1024x2048 .f32) (y y' : Vec F S1024x2048 .bf16)
    (hx : x = x') (hw : w = w') (hd : d = d') (hy : y = y') :
    v.read (Elt F) (v.writes (Elt F) f (⟨Rect.unit ![0, 0] S1024x2048.size inb_S1024x2048_S1024x2048_0_0, k0_pay10 x w d y⟩ :: L)) = added x' w' d' y' := by
  subst hx; subst hw; subst hd; subst hy
  exact Cert.MixRun.read_stored v f L _ (by decide) _ _

theorem readOdd {κ : Kind} {sp : Space} (v : View sig κ sp S1024x2048 .f32) (f : v.ty.Contents (Elt F)) (L : List (View.Piece (Elt F) S1024x2048 .f32))
    (x x' : Vec F S1024x2048 .bf16) (w w' : Vec F S1x2048x1024 .f32) (d d' : Vec F S1024x2048 .f32) (y y' : Vec F S1024x2048 .bf16)
    (hx : x = x') (hw : w = w') (hd : d = d') (hy : y = y') :
    v.read (Elt F) (v.writes (Elt F) f (⟨Rect.unit ![0, 0] S1024x2048.size inb_S1024x2048_S1024x2048_0_0, k0_pay14 x w d y⟩ :: L)) = added x' w' d' y' := by
  subst hx; subst hw; subst hd; subst hy
  exact Cert.MixRun.read_stored v f L _ (by decide) _ _

/-! ## What is held, with its contents -/

section Held

variable (c : Dev nD)

/-- Slot `g` in flight to slab `u`, which will read as `d`. -/
abbrev leavingAsA (g : Fin 2) (u : Fin 128) (d : Vec F S128x2048 .f32) : sProp 𝕄 :=
  iprop(∃ f e, ⌜(pieceA u).view.read (Elt F) f = d⌝ ∗ Transfers.Flight countersEmb (c : Thread nD τ) (cellAtA g) default ((pieceA u).view.amount (cellAtA g)) iprop(pieceHeldA c u f ∗ tileHeldA c g e))
/-- Slab `u`, reading as `d`. -/
abbrev homeAsA (u : Fin 128) (d : Vec F S128x2048 .f32) : sProp 𝕄 := iprop(∃ f, ⌜(pieceA u).view.read (Elt F) f = d⌝ ∗ pieceHeldA (F := F) c u f)

/-- Slot `g` in flight to slab `u`, which will read as `d`. -/
abbrev leavingAsB (g : Fin 2) (u : Fin 128) (d : Vec F S128x2048 .bf16) : sProp 𝕄 :=
  iprop(∃ f e, ⌜(pieceB u).view.read (Elt F) f = d⌝ ∗ Transfers.Flight countersEmb (c : Thread nD τ) (cellAtB g) default ((pieceB u).view.amount (cellAtB g)) iprop(pieceHeldB c u f ∗ tileHeldB c g e))
/-- Slab `u`, reading as `d`. -/
abbrev homeAsB (u : Fin 128) (d : Vec F S128x2048 .bf16) : sProp 𝕄 := iprop(∃ f, ⌜(pieceB u).view.read (Elt F) f = d⌝ ∗ pieceHeldB (F := F) c u f)

abbrev leavingAs (g : Fin 2) (u : Fin 128) (d : Vec F S128x2048 .f32) (d' : Vec F S128x2048 .bf16) : sProp 𝕄 :=
  iprop(leavingAsA (F := F) c g u d ∗ leavingAsB c g u d')
abbrev homeAs (u : Fin 128) (d : Vec F S128x2048 .f32) (d' : Vec F S128x2048 .bf16) : sProp 𝕄 :=
  iprop(homeAsA (F := F) c u d ∗ homeAsB c u d')

end Held

end Cert.MlpValue

end
-- ==== Proof.MlpValueFirst.lean ====
/- The network's body, run on the first row: what its buffers then hold. -/
module

public import proofs.«01_k».proof.Proof.MlpValue

@[expose] public section

set_option maxRecDepth 16384

noncomputable section

namespace Cert.MlpValueFirst

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- The first point: both accumulators cleared, the first product added. -/
theorem opens (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : clears (grid0.coords t)) (h1 : ¬waitsResidual (grid0.coords t)) (h2 : ¬waitsResults (grid0.coords t)) (h3 : ¬startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ (∃ d, owns (c : Thread nD τ) arg11 fullShare d) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (added x0 x1 zeros x2) ∗ owns (c : Thread nD τ) arg11 fullShare (zeros) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (clears (grid0.coords t)) := ⟨h0⟩
    haveI : Fact (¬waitsResidual (grid0.coords t)) := ⟨h1⟩
    haveI : Fact (¬waitsResults (grid0.coords t)) := ⟨h2⟩
    haveI : Fact (¬startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, HW, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact readFirst _ _ _ _ _ _ _ _ _ _ _ (load_all arg2 harg2 _ _ (by decide) _) (load_all arg3 harg3 _ _ (by decide) _) (load_cleared arg10 _) (load_all arg4 harg4 _ _ (by decide) _)
    isplitl [HS1]
    · iexists _; isplitr; swap; · iexact HS1
      ipureintro; exact Cert.MixRun.read_stored _ _ _ _ (by decide) _ _
    iexists _; iexact HW

set_option maxHeartbeats 4000000 in
/-- The other points of the first row but its last: a product added. -/
theorem fills (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : ¬waitsResidual (grid0.coords t)) (h2 : ¬waitsResults (grid0.coords t)) (h3 : ¬startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (added x0 x1 d0 x2) ∗ owns (c : Thread nD τ) arg11 fullShare (d1) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (¬waitsResidual (grid0.coords t)) := ⟨h1⟩
    haveI : Fact (¬waitsResults (grid0.coords t)) := ⟨h2⟩
    haveI : Fact (¬startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact readFirst _ _ _ _ _ _ _ _ _ _ _ (load_all arg2 harg2 _ _ (by decide) _) (load_all arg3 harg3 _ _ (by decide) _) (load_all arg10 harg10 _ _ (by decide) _) (load_all arg4 harg4 _ _ (by decide) _)
    isplitl [HS1]
    · iexists _; isplitr; swap; · iexact HS1
      ipureintro; exact harg11.read_unread _
    iexists _; iexact HW

set_option maxHeartbeats 4000000 in
/-- The last point of the first row: the first slab of the residual started. -/
theorem fetches (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : ¬waitsResidual (grid0.coords t)) (h2 : ¬waitsResults (grid0.coords t)) (h3 : startsResidual (grid0.coords t)) (h4 : firstRow (grid0.coords t)) (h5 : ¬evenRow (grid0.coords t)) (h6 : ¬oddRow (grid0.coords t)) (h7 : ¬lastRow (grid0.coords t)) (h8 : ¬startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ idle c W₀ (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (added x0 x1 d0 x2) ∗ owns (c : Thread nD τ) arg11 fullShare (d1) ∗ coming c W₀ (Ring.sl 2 (t.val + 1)) (Ring.bk 128 (t.val - 7)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (¬waitsResidual (grid0.coords t)) := ⟨h1⟩
    haveI : Fact (¬waitsResults (grid0.coords t)) := ⟨h2⟩
    haveI : Fact (startsResidual (grid0.coords t)) := ⟨h3⟩
    haveI : Fact (firstRow (grid0.coords t)) := ⟨h4⟩
    haveI : Fact (¬evenRow (grid0.coords t)) := ⟨h5⟩
    haveI : Fact (¬oddRow (grid0.coords t)) := ⟨h6⟩
    haveI : Fact (¬lastRow (grid0.coords t)) := ⟨h7⟩
    haveI : Fact (¬startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨HN, ⟨%fn, HNs⟩, HNw⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact readFirst _ _ _ _ _ _ _ _ _ _ _ (load_all arg2 harg2 _ _ (by decide) _) (load_all arg3 harg3 _ _ (by decide) _) (load_all arg10 harg10 _ _ (by decide) _) (load_all arg4 harg4 _ _ (by decide) _)
    isplitl [HS1]
    · iexists _; isplitr; swap; · iexact HS1
      ipureintro; exact harg11.read_unread _
    isplitl [HN HNr]
    · iexists _; isplitl [HN]; · iexact HN
      iexact HNr
    iexists _; iexact HW

end Cert.MlpValueFirst

end
-- ==== Proof.MlpValueBegins.lean ====
/- The network's body, run on the first points with results: what its buffers then hold. -/
module

public import proofs.«01_k».proof.Proof.MlpValue

@[expose] public section

set_option maxRecDepth 16384

noncomputable section

namespace Cert.MlpValueBegins

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- The first two points of the second row: nothing of the results in flight yet. -/
theorem begins (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : ¬waitsResults (grid0.coords t)) (h3 : startsResidual (grid0.coords t)) (h4 : ¬firstRow (grid0.coords t)) (h5 : ¬evenRow (grid0.coords t)) (h6 : oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ coming c W₀ (Ring.sl 2 t.val) (Ring.bk 128 (t.val - 8)) ∗ idle c W₀ (Ring.sl 2 (t.val + 1)) ∗ freeSlots c (Ring.sl 2 t.val) ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (cleared d0 t.val) ∗ owns (c : Thread nD τ) arg11 fullShare (added x0 x1 d1 x2) ∗ coming c W₀ (Ring.sl 2 (t.val + 1)) (Ring.bk 128 (t.val - 7)) ∗ idle c W₀ (Ring.sl 2 t.val) ∗ leavingAs c (Ring.sl 2 t.val) (Ring.bk 128 (t.val - 8)) (out (accSlab d0 t.val) (resSlab c W₀ (Ring.bk 128 (t.val - 8))) x3 x4) (outHalf (accSlab d0 t.val) (resSlab c W₀ (Ring.bk 128 (t.val - 8))) x3 x4) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (¬waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ff, HF, HFr⟩, ⟨HN, ⟨%fn, HNs⟩, HNw⟩, ⟨⟨HA, ⟨%ea, HAe⟩⟩, ⟨HB, ⟨%eb, HBe⟩⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact read_cleared arg10 harg10 _ _ _ (at12 t) _ _ rfl
    isplitl [HS1]
    · iexists _; isplitr; swap; · iexact HS1
      ipureintro; exact readOdd _ _ _ _ _ _ _ _ _ _ _ (load_all arg2 harg2 _ _ (by decide) _) (load_all arg3 harg3 _ _ (by decide) _) (load_all arg11 harg11 _ _ (by decide) _) (load_all arg4 harg4 _ _ (by decide) _)
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA HB]
    · isplitl [HA]
      · iexists _, _; isplitr; swap; · iexact HA
        ipureintro; exact sentOddA _ _ _ _ (Cert.MlpPlaces.at13 t) _ _ _ _ _ _ _ _ _ _ (load_slab arg10 harg10 _ _ _ (at12 t) _) (slot_load c W₀ _ _ _ _ (Cert.MlpPlaces.at13 t) _) (load_all arg5 harg5 _ _ (by decide) _) (load_all arg6 harg6 _ _ (by decide) _)
      iexists _, _; isplitr; swap; · iexact HB
      ipureintro; exact sentOddB _ _ _ _ (Cert.MlpPlaces.at13 t) _ _ _ _ _ _ _ _ _ _ (load_slab arg10 harg10 _ _ _ (at12 t) _) (slot_load c W₀ _ _ _ _ (Cert.MlpPlaces.at13 t) _) (load_all arg5 harg5 _ _ (by decide) _) (load_all arg6 harg6 _ _ (by decide) _)
    iexists _; iexact HW

end Cert.MlpValueBegins

end
-- ==== Proof.MlpValueOdd.lean ====
/- The network's body, run on an odd row: what its buffers then hold. -/
module

public import proofs.«01_k».proof.Proof.MlpValue

@[expose] public section

set_option maxRecDepth 16384

noncomputable section

namespace Cert.MlpValueOdd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- An odd row: the slots of two points before waited for. -/
theorem odd (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : ¬evenRow (grid0.coords t)) (h6 : oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (ya : Vec F S128x2048 .f32) (yb : Vec F S128x2048 .bf16) (yc : Vec F S128x2048 .f32) (yd : Vec F S128x2048 .bf16) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ coming c W₀ (Ring.sl 2 t.val) (Ring.bk 128 (t.val - 8)) ∗ idle c W₀ (Ring.sl 2 (t.val + 1)) ∗ leavingAs c (Ring.sl 2 t.val) (Ring.bk 128 (t.val - 8 - 2)) ya yb ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (cleared d0 t.val) ∗ owns (c : Thread nD τ) arg11 fullShare (added x0 x1 d1 x2) ∗ coming c W₀ (Ring.sl 2 (t.val + 1)) (Ring.bk 128 (t.val - 7)) ∗ idle c W₀ (Ring.sl 2 t.val) ∗ homeAs c (Ring.bk 128 (t.val - 8 - 2)) ya yb ∗ leavingAs c (Ring.sl 2 t.val) (Ring.bk 128 (t.val - 8)) (out (accSlab d0 t.val) (resSlab c W₀ (Ring.bk 128 (t.val - 8))) x3 x4) (outHalf (accSlab d0 t.val) (resSlab c W₀ (Ring.bk 128 (t.val - 8))) x3 x4) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ff, HF, HFr⟩, ⟨HN, ⟨%fn, HNs⟩, HNw⟩, ⟨⟨%fa, %ea, %hfa, HA⟩, ⟨%fb, %eb, %hfb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact read_cleared arg10 harg10 _ _ _ (at12 t) _ _ rfl
    isplitl [HS1]
    · iexists _; isplitr; swap; · iexact HS1
      ipureintro; exact readOdd _ _ _ _ _ _ _ _ _ _ _ (load_all arg2 harg2 _ _ (by decide) _) (load_all arg3 harg3 _ _ (by decide) _) (load_all arg11 harg11 _ _ (by decide) _) (load_all arg4 harg4 _ _ (by decide) _)
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]
      · iexists _; isplitr; swap; · iexact HA_dst
        ipureintro; exact hfa
      iexists _; isplitr; swap; · iexact HB_dst
      ipureintro; exact hfb
    isplitl [HA HB]
    · isplitl [HA]
      · iexists _, _; isplitr; swap; · iexact HA
        ipureintro; exact sentOddA _ _ _ _ (Cert.MlpPlaces.at13 t) _ _ _ _ _ _ _ _ _ _ (load_slab arg10 harg10 _ _ _ (at12 t) _) (slot_load c W₀ _ _ _ _ (Cert.MlpPlaces.at13 t) _) (load_all arg5 harg5 _ _ (by decide) _) (load_all arg6 harg6 _ _ (by decide) _)
      iexists _, _; isplitr; swap; · iexact HB
      ipureintro; exact sentOddB _ _ _ _ (Cert.MlpPlaces.at13 t) _ _ _ _ _ _ _ _ _ _ (load_slab arg10 harg10 _ _ _ (at12 t) _) (slot_load c W₀ _ _ _ _ (Cert.MlpPlaces.at13 t) _) (load_all arg5 harg5 _ _ (by decide) _) (load_all arg6 harg6 _ _ (by decide) _)
    iexists _; iexact HW

end Cert.MlpValueOdd

end
-- ==== Proof.MlpValueEven.lean ====
/- The network's body, run on an even row: what its buffers then hold. -/
module

public import proofs.«01_k».proof.Proof.MlpValue

@[expose] public section

set_option maxRecDepth 16384

noncomputable section

namespace Cert.MlpValueEven

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- An even row between: the same with the accumulators in exchange. -/
theorem even (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : evenRow (grid0.coords t)) (h6 : ¬oddRow (grid0.coords t)) (h7 : ¬lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (ya : Vec F S128x2048 .f32) (yb : Vec F S128x2048 .bf16) (yc : Vec F S128x2048 .f32) (yd : Vec F S128x2048 .bf16) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ coming c W₀ (Ring.sl 2 t.val) (Ring.bk 128 (t.val - 8)) ∗ idle c W₀ (Ring.sl 2 (t.val + 1)) ∗ leavingAs c (Ring.sl 2 t.val) (Ring.bk 128 (t.val - 8 - 2)) ya yb ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (added x0 x1 d0 x2) ∗ owns (c : Thread nD τ) arg11 fullShare (cleared d1 t.val) ∗ coming c W₀ (Ring.sl 2 (t.val + 1)) (Ring.bk 128 (t.val - 7)) ∗ idle c W₀ (Ring.sl 2 t.val) ∗ homeAs c (Ring.bk 128 (t.val - 8 - 2)) ya yb ∗ leavingAs c (Ring.sl 2 t.val) (Ring.bk 128 (t.val - 8)) (out (accSlab d1 t.val) (resSlab c W₀ (Ring.bk 128 (t.val - 8))) x3 x4) (outHalf (accSlab d1 t.val) (resSlab c W₀ (Ring.bk 128 (t.val - 8))) x3 x4) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (evenRow (grid0.coords t)) := ⟨h5⟩
    haveI : Fact (¬oddRow (grid0.coords t)) := ⟨h6⟩
    haveI : Fact (¬lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ff, HF, HFr⟩, ⟨HN, ⟨%fn, HNs⟩, HNw⟩, ⟨⟨%fa, %ea, %hfa, HA⟩, ⟨%fb, %eb, %hfb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact readEven _ _ _ _ _ _ _ _ _ _ _ (load_all arg2 harg2 _ _ (by decide) _) (load_all arg3 harg3 _ _ (by decide) _) (load_all arg10 harg10 _ _ (by decide) _) (load_all arg4 harg4 _ _ (by decide) _)
    isplitl [HS1]
    · iexists _; isplitr; swap; · iexact HS1
      ipureintro; exact read_cleared arg11 harg11 _ _ _ (at10 t) _ _ rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]
      · iexists _; isplitr; swap; · iexact HA_dst
        ipureintro; exact hfa
      iexists _; isplitr; swap; · iexact HB_dst
      ipureintro; exact hfb
    isplitl [HA HB]
    · isplitl [HA]
      · iexists _, _; isplitr; swap; · iexact HA
        ipureintro; exact sentEvenA _ _ _ _ (Cert.MlpPlaces.at11 t) _ _ _ _ _ _ _ _ _ _ (load_slab arg11 harg11 _ _ _ (at10 t) _) (slot_load c W₀ _ _ _ _ (Cert.MlpPlaces.at11 t) _) (load_all arg5 harg5 _ _ (by decide) _) (load_all arg6 harg6 _ _ (by decide) _)
      iexists _, _; isplitr; swap; · iexact HB
      ipureintro; exact sentEvenB _ _ _ _ (Cert.MlpPlaces.at11 t) _ _ _ _ _ _ _ _ _ _ (load_slab arg11 harg11 _ _ _ (at10 t) _) (slot_load c W₀ _ _ _ _ (Cert.MlpPlaces.at11 t) _) (load_all arg5 harg5 _ _ (by decide) _) (load_all arg6 harg6 _ _ (by decide) _)
    iexists _; iexact HW

end Cert.MlpValueEven

end
-- ==== Proof.MlpValueFinal.lean ====
/- The network's body, run on the last row: what its buffers then hold. -/
module

public import proofs.«01_k».proof.Proof.MlpValue

@[expose] public section

set_option maxRecDepth 16384

noncomputable section

namespace Cert.MlpValueFinal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- The last row but its last point: no product. -/
theorem final (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : startsResidual (grid0.coords t)) (h4 : ¬firstRow (grid0.coords t)) (h5 : ¬evenRow (grid0.coords t)) (h6 : ¬oddRow (grid0.coords t)) (h7 : lastRow (grid0.coords t)) (h8 : startsResults (grid0.coords t)) (h9 : ¬drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (ya : Vec F S128x2048 .f32) (yb : Vec F S128x2048 .bf16) (yc : Vec F S128x2048 .f32) (yd : Vec F S128x2048 .bf16) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ coming c W₀ (Ring.sl 2 t.val) (Ring.bk 128 (t.val - 8)) ∗ idle c W₀ (Ring.sl 2 (t.val + 1)) ∗ leavingAs c (Ring.sl 2 t.val) (Ring.bk 128 (t.val - 8 - 2)) ya yb ∗ home c (Ring.bk 128 (t.val - 8)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (d0) ∗ owns (c : Thread nD τ) arg11 fullShare (cleared d1 t.val) ∗ coming c W₀ (Ring.sl 2 (t.val + 1)) (Ring.bk 128 (t.val - 7)) ∗ idle c W₀ (Ring.sl 2 t.val) ∗ homeAs c (Ring.bk 128 (t.val - 8 - 2)) ya yb ∗ leavingAs c (Ring.sl 2 t.val) (Ring.bk 128 (t.val - 8)) (out (accSlab d1 t.val) (resSlab c W₀ (Ring.bk 128 (t.val - 8))) x3 x4) (outHalf (accSlab d1 t.val) (resSlab c W₀ (Ring.bk 128 (t.val - 8))) x3 x4) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (startsResidual (grid0.coords t)) := ⟨h3⟩
    haveI : Fact (¬firstRow (grid0.coords t)) := ⟨h4⟩
    haveI : Fact (¬evenRow (grid0.coords t)) := ⟨h5⟩
    haveI : Fact (¬oddRow (grid0.coords t)) := ⟨h6⟩
    haveI : Fact (lastRow (grid0.coords t)) := ⟨h7⟩
    haveI : Fact (startsResults (grid0.coords t)) := ⟨h8⟩
    haveI : Fact (¬drains (grid0.coords t)) := ⟨h9⟩
    simp only [cc0_mlp_deepnorm_1_eq_skeleton]; unfold cc0_mlp_deepnorm_1_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ff, HF, HFr⟩, ⟨HN, ⟨%fn, HNs⟩, HNw⟩, ⟨⟨%fa, %ea, %hfa, HA⟩, ⟨%fb, %eb, %hfb, HB⟩⟩, ⟨⟨%pa, HPA⟩, ⟨%pb, HPB⟩⟩, HW, Hk⟩
    ihave HNp := (half_split c W₀ (Ring.sl 2 (t.val + 1)) (Ring.bk 128 (t.val - 7))).1 $$ HNw
    icases HNp with ⟨HNh, HNr⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact harg10.read_unread _
    isplitl [HS1]
    · iexists _; isplitr; swap; · iexact HS1
      ipureintro; exact read_cleared arg11 harg11 _ _ _ (at14 t) _ _ rfl
    isplitl [HN HNr]
    · iexists _; isplitl [HN]; · iexact HN
      iexact HNr
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]
      · iexists _; isplitr; swap; · iexact HA_dst
        ipureintro; exact hfa
      iexists _; isplitr; swap; · iexact HB_dst
      ipureintro; exact hfb
    isplitl [HA HB]
    · isplitl [HA]
      · iexists _, _; isplitr; swap; · iexact HA
        ipureintro; exact sentLastA _ _ _ _ (Cert.MlpPlaces.at15 t) _ _ _ _ _ _ _ _ _ _ (load_slab arg11 harg11 _ _ _ (at14 t) _) (slot_load c W₀ _ _ _ _ (Cert.MlpPlaces.at15 t) _) (load_all arg5 harg5 _ _ (by decide) _) (load_all arg6 harg6 _ _ (by decide) _)
      iexists _, _; isplitr; swap; · iexact HB
      ipureintro; exact sentLastB _ _ _ _ (Cert.MlpPlaces.at15 t) _ _ _ _ _ _ _ _ _ _ (load_slab arg11 harg11 _ _ _ (at14 t) _) (slot_load c W₀ _ _ _ _ (Cert.MlpPlaces.at15 t) _) (load_all arg5 harg5 _ _ (by decide) _) (load_all arg6 harg6 _ _ (by decide) _)
    iexists _; iexact HW

end Cert.MlpValueFinal

end
-- ==== Proof.MlpValueCloses.lean ====
/- The network's body, run on the last point: what its buffers then hold. -/
module

public import proofs.«01_k».proof.Proof.MlpValue

@[expose] public section

set_option maxRecDepth 16384

noncomputable section

namespace Cert.MlpValueCloses

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

set_option maxHeartbeats 4000000 in
/-- The last point: every transfer waited for. -/
theorem closes (c : Dev nD) (t : Fin cfg0.N) (arg2 : Memref sig .tc .vmem S1024x2048 .bf16) (harg2 : arg2.IsWhole) (arg3 : Memref sig .tc .vmem S1x2048x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x2048 .f32) (harg6 : arg6.IsWhole) (arg10 : Memref sig .tc .vmem S1024x2048 .f32) (harg10 : arg10.IsWhole) (arg11 : Memref sig .tc .vmem S1024x2048 .f32) (harg11 : arg11.IsWhole)
    (h0 : ¬clears (grid0.coords t)) (h1 : waitsResidual (grid0.coords t)) (h2 : waitsResults (grid0.coords t)) (h3 : ¬startsResidual (grid0.coords t)) (h4 : ¬firstRow (grid0.coords t)) (h5 : ¬evenRow (grid0.coords t)) (h6 : ¬oddRow (grid0.coords t)) (h7 : lastRow (grid0.coords t)) (h8 : startsResults (grid0.coords t)) (h9 : drains (grid0.coords t))
    (x0 : Vec F S1024x2048 .bf16) (x1 : Vec F S1x2048x1024 .f32) (x2 : Vec F S1024x2048 .bf16) (x3 : Vec F S1x2048 .f32) (x4 : Vec F S1x2048 .f32) (d0 d1 : Vec F S1024x2048 .f32) (ya : Vec F S128x2048 .f32) (yb : Vec F S128x2048 .bf16) (yc : Vec F S128x2048 .f32) (yd : Vec F S128x2048 .bf16) (W₀ : Holds (F := F) c residual) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare d0 ∗ owns (c : Thread nD τ) arg11 fullShare d1 ∗ coming c W₀ (Ring.sl 2 t.val) (Ring.bk 128 (t.val - 8)) ∗ leavingAs c (Ring.sl 2 t.val) (Ring.bk 128 (t.val - 8 - 2)) ya yb ∗ home c (Ring.bk 128 (t.val - 8)) ∗ leavingAs c (Ring.sl 2 (t.val + 1)) (Ring.bk 128 (t.val - 8 - 1)) yc yd ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg10 fullShare (d0) ∗ owns (c : Thread nD τ) arg11 fullShare (cleared d1 t.val) ∗ idle c W₀ (Ring.sl 2 t.val) ∗ homeAs c (Ring.bk 128 (t.val - 8 - 2)) ya yb ∗ homeAs c (Ring.bk 128 (t.val - 8)) (out (accSlab d1 t.val) (resSlab c W₀ (Ring.bk 128 (t.val - 8))) x3 x4) (outHalf (accSlab d1 t.val) (resSlab c W₀ (Ring.bk 128 (t.val - 8))) x3 x4) ∗ homeAs c (Ring.bk 128 (t.val - 8 - 1)) yc yd ∗ freeSlots c (Ring.sl 2 t.val) ∗ freeSlots c (Ring.sl 2 (t.val + 1)) ∗ (∃ W', owes (c : Thread nD τ) 0 W')) -∗ K ⟨⟩))
          ⊢ wp frame (wpE (defs₀ (F := F)) Variants.none c none) Set.univ (cc0_mlp_deepnorm_1 (grid0.coords t) arg2 harg2 arg3 harg3 arg4 harg4 arg5 harg5 arg6 harg6 residual (Memref.isWhole_whole _) resultA (Memref.isWhole_whole _) resultB (Memref.isWhole_whole _) arg10 harg10 arg11 harg11 slots (Memref.isWhole_whole _) tilesA (Memref.isWhole_whole _) tilesB (Memref.isWhole_whole _) cc0_scratch5 cc0_scratch6 cc0_scratch7) K := by
    intro W K
    haveI : Fact (¬clears (grid0.coords t)) := ⟨h0⟩
    haveI : Fact (waitsResidual (grid0.coords t)) := ⟨h1⟩
    haveI : Fact (waitsResults (grid0.coords t)) := ⟨h2⟩
    haveI : Fact (¬startsResidual (grid0.coords t)) := ⟨h3⟩
    haveI : Fact (¬firstRow (grid0.coords t)) := ⟨h4⟩
    haveI : Fact (¬evenRow (grid0.coords t)) := ⟨h5⟩
    haveI : Fact (¬oddRow (grid0.coords t)) := ⟨h6⟩
    haveI : Fact (lastRow (grid0.coords t)) := ⟨h7⟩
    haveI : Fact (startsResults (grid0.coords t)) := ⟨h8⟩
    haveI : Fact (drains (grid0.coords t)) := ⟨h9⟩
    simp only [cc0_mlp_deepnorm_1_eq_skeleton]; unfold cc0_mlp_deepnorm_1_skel
    simp only [k0_part4_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ff, HF, HFr⟩, ⟨⟨%fa, %ea, %hfa, HA⟩, ⟨%fb, %eb, %hfb, HB⟩⟩, ⟨⟨%pa, HPA⟩, ⟨%pb, HPB⟩⟩, ⟨⟨%fc, %ec, %hfc, HC⟩, ⟨%fd, %ed, %hfd, HD⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | sl_exact h0 | sl_exact h1 | sl_exact h2 | sl_exact h3 | sl_exact h4 | sl_exact h5 | sl_exact h6 | sl_exact h7 | sl_exact h8 | sl_exact h9)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; swap; · iexact HS0
      ipureintro; exact harg10.read_unread _
    isplitl [HS1]
    · iexists _; isplitr; swap; · iexact HS1
      ipureintro; exact read_cleared arg11 harg11 _ _ _ (at14 t) _ _ rfl
    isplitl [HF HF_dst HF_src HFr]
    · isplitl [HF]; · iexact HF
      isplitl [HF_dst]; · iexists _; iexact HF_dst
      iapply (half_split c W₀ (Ring.sl 2 t.val) (Ring.bk 128 (t.val - 8))).2; isplitl [HF_src]; · iexact HF_src
      iexact HFr
    isplitl [HA_dst HB_dst]
    · isplitl [HA_dst]
      · iexists _; isplitr; swap; · iexact HA_dst
        ipureintro; exact hfa
      iexists _; isplitr; swap; · iexact HB_dst
      ipureintro; exact hfb
    isplitl [HPA HPB]
    · isplitl [HPA]
      · iexists _; isplitr; swap; · iexact HPA
        ipureintro; exact sentLastA _ _ _ _ (Cert.MlpPlaces.at15 t) _ _ _ _ _ _ _ _ _ _ (load_slab arg11 harg11 _ _ _ (at14 t) _) (slot_load c W₀ _ _ _ _ (Cert.MlpPlaces.at15 t) _) (load_all arg5 harg5 _ _ (by decide) _) (load_all arg6 harg6 _ _ (by decide) _)
      iexists _; isplitr; swap; · iexact HPB
      ipureintro; exact sentLastB _ _ _ _ (Cert.MlpPlaces.at15 t) _ _ _ _ _ _ _ _ _ _ (load_slab arg11 harg11 _ _ _ (at14 t) _) (slot_load c W₀ _ _ _ _ (Cert.MlpPlaces.at15 t) _) (load_all arg5 harg5 _ _ (by decide) _) (load_all arg6 harg6 _ _ (by decide) _)
    isplitl [HC_dst HD_dst]
    · isplitl [HC_dst]
      · iexists _; isplitr; swap; · iexact HC_dst
        ipureintro; exact hfc
      iexists _; isplitr; swap; · iexact HD_dst
      ipureintro; exact hfd
    isplitl [HA HA_src HB HB_src]
    · isplitl [HA HA_src]
      · isplitl [HA]; · iexact HA
        iexists _; iexact HA_src
      isplitl [HB]; · iexact HB
      iexists _; iexact HB_src
    isplitl [HC HC_src HD HD_src]
    · isplitl [HC HC_src]
      · isplitl [HC]; · iexact HC
        iexists _; iexact HC_src
      isplitl [HD]; · iexact HD
      iexists _; iexact HD_src
    iexists _; iexact HW

end Cert.MlpValueCloses

end
-- ==== Proof.MlpCarried.lean ====
/- What the network's transfers carry across the grid: each slab sent off with its value. -/
module

public import proofs.«01_k».proof.Proof.MlpFrame
public import proofs.«01_k».proof.Proof.MlpValueFirst
public import proofs.«01_k».proof.Proof.MlpValueBegins
public import proofs.«01_k».proof.Proof.MlpValueOdd
public import proofs.«01_k».proof.Proof.MlpValueEven
public import proofs.«01_k».proof.Proof.MlpValueFinal
public import proofs.«01_k».proof.Proof.MlpValueCloses

@[expose] public section

set_option maxRecDepth 16384

noncomputable section

namespace Cert.MlpCarried

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue

variable {F : FTy → Type} [FloatOps F] [Named F]

local notation "𝕄" => MT nD τ sig Unit (Elt F) ℕ (Pipeline.UD sig nD τ) ℕ

open Cert.MlpFrame (ownSem ownSem_facts readRefs writtenRefs readRefs_sub writtenRefs_sub ownSems_eq read_eq given_eq turn turn_next turn_twice main_prefix stage_zero stage_one stage_two stage_three stage_four)

variable (m : (ℓ : Loc nD τ sig) → Buf (Elt F) ℓ) (ρ : Dev nD → PrngReg)

/-! ## The values -/

/-- What a point makes of the two accumulators. -/
def step (c : Dev nD) (t : Fin cfg0.N) (d : Vec F S1024x2048 .f32 × Vec F S1024x2048 .f32) : Vec F S1024x2048 .f32 × Vec F S1024x2048 .f32 :=
  if t.val < 8 then (added (iblk m c 0 t) (iblk m c 1 t) d.1 (iblk m c 2 t), d.2)
  else if 128 ≤ t.val then (d.1, cleared d.2 t.val)
  else if (t.val / 8) % 2 = 1 then (cleared d.1 t.val, added (iblk m c 0 t) (iblk m c 1 t) d.2 (iblk m c 2 t))
  else (added (iblk m c 0 t) (iblk m c 1 t) d.1 (iblk m c 2 t), cleared d.2 t.val)
def point (k : ℕ) : Fin cfg0.N := ⟨k % 136, lt_of_lt_of_eq (Nat.mod_lt _ (by decide)) (show cfg0.N = 136 from N_0).symm⟩
theorem point_val (t : Fin cfg0.N) : point t.val = t :=
  Fin.ext (Nat.mod_eq_of_lt (lt_of_lt_of_eq t.isLt (show cfg0.N = 136 from N_0)))
/-- The two accumulators before point `k`, cleared at first. -/
def accs (c : Dev nD) : ℕ → Vec F S1024x2048 .f32 × Vec F S1024x2048 .f32
  | 0 => (zeros, zeros)
  | k + 1 => step m c (point k) (accs c k)
theorem accs_succ (c : Dev nD) (t : Fin cfg0.N) : accs m c (t.val + 1) = step m c t (accs m c t.val) := by
  show step m c (point t.val) _ = _; rw [point_val]
/-- The accumulator a point normalises a slab of. -/
def source (c : Dev nD) (t : Fin cfg0.N) : Vec F S1024x2048 .f32 :=
  if 128 ≤ t.val ∨ (t.val / 8) % 2 = 0 then (accs m c t.val).2 else (accs m c t.val).1
/-- The slab a point sends off. -/
def sent (c : Dev nD) (t : Fin cfg0.N) : Vec F S128x2048 .f32 :=
  out (accSlab (source m c t) t.val) (resSlab c (V m c main_arg0) (Ring.bk 128 (t.val - 8))) (iblk m c 3 t) (iblk m c 4 t)
def sentHalf (c : Dev nD) (t : Fin cfg0.N) : Vec F S128x2048 .bf16 :=
  outHalf (accSlab (source m c t) t.val) (resSlab c (V m c main_arg0) (Ring.bk 128 (t.val - 8))) (iblk m c 3 t) (iblk m c 4 t)
def slabOut (c : Dev nD) (u : Fin 128) : Vec F S128x2048 .f32 := sent m c (point (u.val + 8))
def slabHalf (c : Dev nD) (u : Fin 128) : Vec F S128x2048 .bf16 := sentHalf m c (point (u.val + 8))
theorem point_of (t : Fin cfg0.N) (h : 8 ≤ t.val) : point ((Ring.bk 128 (t.val - 8)).val + 8) = t := by
  have := lt_of_lt_of_eq t.isLt (show cfg0.N = 136 from N_0)
  refine Fin.ext ?_
  show ((t.val - 8) % 128 + 8) % 136 = t.val
  omega
theorem slabOut_at (c : Dev nD) (t : Fin cfg0.N) (h : 8 ≤ t.val) : slabOut m c (Ring.bk 128 (t.val - 8)) = sent m c t := by
  unfold slabOut; rw [point_of t h]
theorem slabHalf_at (c : Dev nD) (t : Fin cfg0.N) (h : 8 ≤ t.val) : slabHalf m c (Ring.bk 128 (t.val - 8)) = sentHalf m c t := by
  unfold slabHalf; rw [point_of t h]

/-! ## The invariant -/

def flying (c : Dev nD) (g : Fin 2) (u : Fin 128) : sProp 𝕄 := leavingAs c g u (slabOut m c u) (slabHalf m c u)
def arrived (c : Dev nD) (u : Fin 128) : sProp 𝕄 := homeAs c u (slabOut m c u) (slabHalf m c u)
def results (c : Dev nD) (k : ℕ) : sProp 𝕄 := Ring.AtBΦ 2 (freeSlots (F := F) c) (flying m c) (home c) (arrived m c) k
def accumulators (c : Dev nD) (k : ℕ) : sProp 𝕄 :=
  if k = 0 then iprop((∃ d, owns (c : Thread nD τ) evenAcc fullShare d) ∗ (∃ d, owns (c : Thread nD τ) oddAcc fullShare d))
  else iprop(owns (c : Thread nD τ) evenAcc fullShare (accs m c k).1 ∗ owns (c : Thread nD τ) oddAcc fullShare (accs m c k).2)
theorem flying_eq (c : Dev nD) (g : Fin 2) (u : Fin 128) : flying m c g u = leavingAs c g u (slabOut m c u) (slabHalf m c u) := rfl
theorem arrived_eq (c : Dev nD) (u : Fin 128) : arrived m c u = homeAs c u (slabOut m c u) (slabHalf m c u) := rfl
theorem flying_at (c : Dev nD) (g : Fin 2) (t : Fin cfg0.N) (h : 8 ≤ t.val) (a : Vec F S1024x2048 .f32) (ha : source m c t = a) :
    flying m c g (Ring.bk 128 (t.val - 8)) = leavingAs c g (Ring.bk 128 (t.val - 8))
      (out (accSlab a t.val) (resSlab c (V m c main_arg0) (Ring.bk 128 (t.val - 8))) (iblk m c 3 t) (iblk m c 4 t))
      (outHalf (accSlab a t.val) (resSlab c (V m c main_arg0) (Ring.bk 128 (t.val - 8))) (iblk m c 3 t) (iblk m c 4 t)) := by
  unfold flying; rw [slabOut_at m c t h, slabHalf_at m c t h]; unfold sent sentHalf; rw [ha]
theorem arrived_at (c : Dev nD) (t : Fin cfg0.N) (h : 8 ≤ t.val) (a : Vec F S1024x2048 .f32) (ha : source m c t = a) :
    arrived m c (Ring.bk 128 (t.val - 8)) = homeAs c (Ring.bk 128 (t.val - 8))
      (out (accSlab a t.val) (resSlab c (V m c main_arg0) (Ring.bk 128 (t.val - 8))) (iblk m c 3 t) (iblk m c 4 t))
      (outHalf (accSlab a t.val) (resSlab c (V m c main_arg0) (Ring.bk 128 (t.val - 8))) (iblk m c 3 t) (iblk m c 4 t)) := by
  unfold arrived; rw [slabOut_at m c t h, slabHalf_at m c t h]; unfold sent sentHalf; rw [ha]
theorem accumulators_at (c : Dev nD) (k : ℕ) (h : k ≠ 0) : accumulators m c k
    = iprop(owns (c : Thread nD τ) evenAcc fullShare (accs m c k).1 ∗ owns (c : Thread nD τ) oddAcc fullShare (accs m c k).2) := if_neg h
theorem accumulators_next (c : Dev nD) (t : Fin cfg0.N) (d : Vec F S1024x2048 .f32 × Vec F S1024x2048 .f32) (h : step m c t (accs m c t.val) = d) : accumulators m c (t.val + 1)
    = iprop(owns (c : Thread nD τ) evenAcc fullShare d.1 ∗ owns (c : Thread nD τ) oddAcc fullShare d.2) := by
  rw [accumulators_at m c _ (Nat.succ_ne_zero _), accs_succ, h]

/-- Before grid point `k`: the accumulators, the generator, and the transfers. -/
def before (c : Dev nD) (k : ℕ) : sProp 𝕄 :=
  iprop(accumulators m c k ∗ (∃ r, prngReg c r)
    ∗ residualAt c (V m c main_arg0) k ∗ results m c (k - 8) ∗ spares c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := before m c t.val
  q _ := fullShare
  owed _ := 0

theorem arrays_eq (c : Dev nD) (w : Fin cfg0.W) : (dats m 0 c).A w = V m c (Pipeline.arrRef spec0 w) := by
  dsimp only [dats]
theorem before_castSucc (c : Dev nD) (t : Fin cfg0.N) : (dats m 0 c).Φ t.castSucc = before m c t.val := by
  dsimp only [dats]; simp only [Fin.coe_castSucc]
theorem before_succ (c : Dev nD) (t : Fin cfg0.N) : (dats m 0 c).Φ t.succ = before m c (t.val + 1) := by
  dsimp only [dats]; simp only [Fin.val_succ]
theorem after_zero (c : Dev nD) (t : Fin cfg0.N) : (dats m 0 c).after 0 t = iblk m c 0 t := by dsimp only [dats]
theorem after_one (c : Dev nD) (t : Fin cfg0.N) : (dats m 0 c).after 1 t = iblk m c 1 t := by dsimp only [dats]
theorem after_two (c : Dev nD) (t : Fin cfg0.N) : (dats m 0 c).after 2 t = iblk m c 2 t := by dsimp only [dats]
theorem after_three (c : Dev nD) (t : Fin cfg0.N) : (dats m 0 c).after 3 t = iblk m c 3 t := by dsimp only [dats]
theorem after_four (c : Dev nD) (t : Fin cfg0.N) : (dats m 0 c).after 4 t = iblk m c 4 t := by dsimp only [dats]
theorem staged_zero (c : Dev nD) (t : Fin cfg0.N) (d) : (dats m 0 c).before 0 t d = iblk m c 0 t :=
  ((dats m 0 c).before_in_eq_fetched 0 rfl (fun _ => rfl) (fun _ _ _ => rfl) (fun t => by rw [after_zero]; unfold Dat.blockOf iblk; rw [arrays_eq]; try rfl) t d).trans
    (by unfold Dat.fetched Dat.blockOf iblk; rw [arrays_eq]; try rfl)
theorem staged_one (c : Dev nD) (t : Fin cfg0.N) (d) : (dats m 0 c).before 1 t d = iblk m c 1 t :=
  ((dats m 0 c).before_in_eq_fetched 1 rfl (fun _ => rfl) (fun _ _ _ => rfl) (fun t => by rw [after_one]; unfold Dat.blockOf iblk; rw [arrays_eq]; try rfl) t d).trans
    (by unfold Dat.fetched Dat.blockOf iblk; rw [arrays_eq]; try rfl)
theorem staged_two (c : Dev nD) (t : Fin cfg0.N) (d) : (dats m 0 c).before 2 t d = iblk m c 2 t :=
  ((dats m 0 c).before_in_eq_fetched 2 rfl (fun _ => rfl) (fun _ _ _ => rfl) (fun t => by rw [after_two]; unfold Dat.blockOf iblk; rw [arrays_eq]; try rfl) t d).trans
    (by unfold Dat.fetched Dat.blockOf iblk; rw [arrays_eq]; try rfl)
theorem staged_three (c : Dev nD) (t : Fin cfg0.N) (d) : (dats m 0 c).before 3 t d = iblk m c 3 t :=
  ((dats m 0 c).before_in_eq_fetched 3 rfl (fun _ => rfl) (fun _ _ _ => rfl) (fun t => by rw [after_three]; unfold Dat.blockOf iblk; rw [arrays_eq]; try rfl) t d).trans
    (by unfold Dat.fetched Dat.blockOf iblk; rw [arrays_eq]; try rfl)
theorem staged_four (c : Dev nD) (t : Fin cfg0.N) (d) : (dats m 0 c).before 4 t d = iblk m c 4 t :=
  ((dats m 0 c).before_in_eq_fetched 4 rfl (fun _ => rfl) (fun _ _ _ => rfl) (fun t => by rw [after_four]; unfold Dat.blockOf iblk; rw [arrays_eq]; try rfl) t d).trans
    (by unfold Dat.fetched Dat.blockOf iblk; rw [arrays_eq]; try rfl)

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (stage_zero t) fullShare ((dats m 0 c).before 0 t d))
    ∗ (∃ d, owns (c : Thread nD τ) (stage_one t) fullShare ((dats m 0 c).before 1 t d))
    ∗ (∃ d, owns (c : Thread nD τ) (stage_two t) fullShare ((dats m 0 c).before 2 t d))
    ∗ (∃ d, owns (c : Thread nD τ) (stage_three t) fullShare ((dats m 0 c).before 3 t d))
    ∗ (∃ d, owns (c : Thread nD τ) (stage_four t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (stage_zero t) fullShare ((dats m 0 c).after 0 t)
    ∗ owns (c : Thread nD τ) (stage_one t) fullShare ((dats m 0 c).after 1 t)
    ∗ owns (c : Thread nD τ) (stage_two t) fullShare ((dats m 0 c).after 2 t)
    ∗ owns (c : Thread nD τ) (stage_three t) fullShare ((dats m 0 c).after 3 t)
    ∗ owns (c : Thread nD τ) (stage_four t) fullShare ((dats m 0 c).after 4 t))

set_option maxHeartbeats 4000000 in
theorem at_opens (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8) from congrArg _ (by omega)]
  unfold residualAt results
  rw [if_neg (show ¬(8 ≤ t.val ∧ t.val < 136) by omega)]
  rw [if_neg (show ¬(8 ≤ t.val + 1 ∧ t.val + 1 < 136) by omega), turn_twice]
  rw [accumulators_next m c t (added (iblk m c 0 t) (iblk m c 1 t) zeros (iblk m c 2 t), zeros) (by unfold step; rw [if_pos (by omega), ht]; rfl)]
  rw [show accumulators m c t.val = iprop((∃ d, owns (c : Thread nD τ) evenAcc fullShare d) ∗ (∃ d, owns (c : Thread nD τ) oddAcc fullShare d)) from if_pos ht]
  iintro ⟨⟨⟨HS0, HS1⟩, Hg, ⟨HI0, HI1⟩, HT, Hsp⟩, ⟨%W, -, HW⟩, ⟨%d0, H0⟩, ⟨%d1, H1⟩, ⟨%d2, H2⟩, ⟨%d3, H3⟩, ⟨%d4, H4⟩⟩
  iapply (Cert.MlpValueFirst.opens c t _ _ _ _ _ _ _ _ _ _ _ _ _ _ ((clears_iff t).mpr (by omega)) (fun h => absurd ((waitsResidual_iff t).mp h) (by omega)) (fun h => absurd ((waitsResults_iff t).mp h) (by omega)) (fun h => absurd ((startsResidual_iff t).mp h) (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HW]; · iexact HW
  iintro ⟨H0, H1, H2, H3, H4, HS0, HS1, ⟨%W', HW'⟩⟩
  isplitl [HS0 HS1 Hg HI0 HI1 HT Hsp]
  · isplitl [HS0 HS1]
    · isplitl [HS0]; · iexact HS0
      iexact HS1
    isplitl [Hg]; · iexact Hg
    isplitl [HI0 HI1]
    · isplitl [HI1]; · iexact HI1
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_fills (c : Dev nD) (t : Fin cfg0.N) (ht : 1 ≤ t.val ∧ t.val < 7) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8) from congrArg _ (by omega)]
  unfold residualAt results
  rw [if_neg (show ¬(8 ≤ t.val ∧ t.val < 136) by omega)]
  rw [if_neg (show ¬(8 ≤ t.val + 1 ∧ t.val + 1 < 136) by omega), turn_twice]
  rw [accumulators_next m c t ((added (iblk m c 0 t) (iblk m c 1 t) (accs m c t.val).1 (iblk m c 2 t)), (accs m c t.val).2) (by unfold step; rw [if_pos (by omega)])]
  rw [accumulators_at m c t.val (by omega)]
  iintro ⟨⟨⟨HS0, HS1⟩, Hg, ⟨HI0, HI1⟩, HT, Hsp⟩, ⟨%W, -, HW⟩, ⟨%d0, H0⟩, ⟨%d1, H1⟩, ⟨%d2, H2⟩, ⟨%d3, H3⟩, ⟨%d4, H4⟩⟩
  iapply (Cert.MlpValueFirst.fills c t _ _ _ _ _ _ _ _ _ _ _ _ _ _ (fun h => absurd ((clears_iff t).mp h) (by omega)) (fun h => absurd ((waitsResidual_iff t).mp h) (by omega)) (fun h => absurd ((waitsResults_iff t).mp h) (by omega)) (fun h => absurd ((startsResidual_iff t).mp h) (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (accs m c t.val).1 (accs m c t.val).2 (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HW]; · iexact HW
  iintro ⟨H0, H1, H2, H3, H4, HS0, HS1, ⟨%W', HW'⟩⟩
  isplitl [HS0 HS1 Hg HI0 HI1 HT Hsp]
  · isplitl [HS0 HS1]
    · isplitl [HS0]; · iexact HS0
      iexact HS1
    isplitl [Hg]; · iexact Hg
    isplitl [HI0 HI1]
    · isplitl [HI1]; · iexact HI1
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_fetches (c : Dev nD) (t : Fin cfg0.N) (ht : t.val = 7) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8) from congrArg _ (by omega)]
  unfold residualAt results
  rw [if_neg (show ¬(8 ≤ t.val ∧ t.val < 136) by omega)]
  rw [if_pos (show 8 ≤ t.val + 1 ∧ t.val + 1 < 136 by omega), show t.val + 1 - 8 = t.val - 7 by omega, turn_twice]
  rw [accumulators_next m c t ((added (iblk m c 0 t) (iblk m c 1 t) (accs m c t.val).1 (iblk m c 2 t)), (accs m c t.val).2) (by unfold step; rw [if_pos (by omega)])]
  rw [accumulators_at m c t.val (by omega)]
  iintro ⟨⟨⟨HS0, HS1⟩, Hg, ⟨HI0, HI⟩, HT, Hsp⟩, ⟨%W, -, HW⟩, ⟨%d0, H0⟩, ⟨%d1, H1⟩, ⟨%d2, H2⟩, ⟨%d3, H3⟩, ⟨%d4, H4⟩⟩
  iapply (Cert.MlpValueFirst.fetches c t _ _ _ _ _ _ _ _ _ _ _ _ _ _ (fun h => absurd ((clears_iff t).mp h) (by omega)) (fun h => absurd ((waitsResidual_iff t).mp h) (by omega)) (fun h => absurd ((waitsResults_iff t).mp h) (by omega)) ((startsResidual_iff t).mpr (by omega)) ((firstRow_iff t).mpr (by omega)) (fun h => absurd ((evenRow_iff t).mp h) (by omega)) (fun h => absurd ((oddRow_iff t).mp h) (by omega)) (fun h => absurd ((lastRow_iff t).mp h) (by omega)) (fun h => absurd ((startsResults_iff t).mp h) (by omega)) (fun h => absurd ((drains_iff t).mp h) (by omega)) (iblk m c 0 t) (iblk m c 1 t) (iblk m c 2 t) (iblk m c 3 t) (iblk m c 4 t) (accs m c t.val).1 (accs m c t.val).2 (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HI]; · iexact HI
  isplitl [HW]; · iexact HW
  iintro ⟨H0, H1, H2, H3, H4, HS0, HS1, HC, ⟨%W', HW'⟩⟩
  isplitl [HS0 HS1 Hg HC HI0 HT Hsp]
  · isplitl [HS0 HS1]
    · isplitl [HS0]; · iexact HS0
      iexact HS1
    isplitl [Hg]; · iexact Hg
    isplitl [HC HI0]
    · isplitl [HC]; · iexact HC
      iexact HI0
    isplitl [HT]
    · iexact HT
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_eight (c : Dev nD) (t : Fin cfg0.N) (ht : t.val = 8) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB2_zero' 2 _ _ _ _ (t.val - 8) (by omega), Ring.AtBΦ_lt _ _ _ _ _ (t.val - 8 + 1) (by omega), Ring.AtB22_next_zero' _ _ _ _ (t.val - 8) (by omega), turn t.val (by omega), turn_next t.val (by omega)]
  rw [accumulators_next m c t (cleared (accs m c t.val).1 t.val, (added (iblk m c 0 t) (iblk m c 1 t) (accs m c t.val).2 (iblk m c 2 t))) (by unfold step; rw [if_neg (by omega), if_neg (by omega), if_pos (by omega)])]
  rw [accumulators_at m c t.val (by omega)]
  rw [flying_at m c _ t (by omega) (accs m c t.val).1 (by unfold source; rw [if_neg (by omega)])]
  iintro ⟨⟨⟨HS0, HS1⟩, Hg, ⟨HC, HI⟩, ⟨⟨HH, HA⟩, HF, HF1⟩, Hsp⟩, ⟨%W, -, HW⟩, ⟨%d0, H0⟩, ⟨%d1, H1⟩, ⟨%d2, H2⟩, ⟨%d3, H3⟩, ⟨%d4, H4⟩⟩
  iapply (Cert.MlpValueBegins.begins c t _ _ _ _ _ _ _ _ _ _ _ _ _ _ (fun h => absurd ((clears_iff t).mp h) (by omega)) ((waitsResidual_iff t).mpr (by omega)) (fun h => absurd ((waitsResults_iff t).mp h) (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (accs m c t.val).1 (accs m c t.val).2 (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HF]; · iexact HF
  isplitl [HH]; · iexact HH
  isplitl [HW]; · iexact HW
  iintro ⟨H0, H1, H2, H3, H4, HS0, HS1, HC, HI, HL, ⟨%W', HW'⟩⟩
  isplitl [HS0 HS1 Hg HC HI HA HF1 HL Hsp]
  · isplitl [HS0 HS1]
    · isplitl [HS0]; · iexact HS0
      iexact HS1
    isplitl [Hg]; · iexact Hg
    isplitl [HC HI]
    · isplitl [HC]; · iexact HC
      iexact HI
    isplitl [HA HF1 HL]
    · isplitl [HA]; · iexact HA
      isplitl [HF1]; · iexact HF1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_nine (c : Dev nD) (t : Fin cfg0.N) (ht : t.val = 9) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_one' _ _ _ _ (t.val - 8) (by omega) (by decide), Ring.AtBΦ_lt _ _ _ _ _ (t.val - 8 + 1) (by omega), Ring.AtB22_next_one' _ _ _ _ (t.val - 8) (by omega), turn t.val (by omega), turn_next t.val (by omega)]
  rw [accumulators_next m c t (cleared (accs m c t.val).1 t.val, (added (iblk m c 0 t) (iblk m c 1 t) (accs m c t.val).2 (iblk m c 2 t))) (by unfold step; rw [if_neg (by omega), if_neg (by omega), if_pos (by omega)])]
  rw [accumulators_at m c t.val (by omega)]
  rw [flying_at m c _ t (by omega) (accs m c t.val).1 (by unfold source; rw [if_neg (by omega)])]
  iintro ⟨⟨⟨HS0, HS1⟩, Hg, ⟨HC, HI⟩, ⟨⟨HH, HA⟩, HF, HL1⟩, Hsp⟩, ⟨%W, -, HW⟩, ⟨%d0, H0⟩, ⟨%d1, H1⟩, ⟨%d2, H2⟩, ⟨%d3, H3⟩, ⟨%d4, H4⟩⟩
  iapply (Cert.MlpValueBegins.begins c t _ _ _ _ _ _ _ _ _ _ _ _ _ _ (fun h => absurd ((clears_iff t).mp h) (by omega)) ((waitsResidual_iff t).mpr (by omega)) (fun h => absurd ((waitsResults_iff t).mp h) (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (accs m c t.val).1 (accs m c t.val).2 (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HF]; · iexact HF
  isplitl [HH]; · iexact HH
  isplitl [HW]; · iexact HW
  iintro ⟨H0, H1, H2, H3, H4, HS0, HS1, HC, HI, HL, ⟨%W', HW'⟩⟩
  isplitl [HS0 HS1 Hg HC HI HA HL1 HL Hsp]
  · isplitl [HS0 HS1]
    · isplitl [HS0]; · iexact HS0
      iexact HS1
    isplitl [Hg]; · iexact Hg
    isplitl [HC HI]
    · isplitl [HC]; · iexact HC
      iexact HI
    isplitl [HA HL1 HL]
    · isplitl [HA]; · iexact HA
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_odd (c : Dev nD) (t : Fin cfg0.N) (ht : 10 ≤ t.val ∧ t.val < 128 ∧ (t.val / 8) % 2 = 1) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  rw [flying_eq m c (Ring.sl 2 t.val) (Ring.bk 128 (t.val - 8 - 2)), arrived_eq m c (Ring.bk 128 (t.val - 8 - 2))]
  rw [accumulators_next m c t (cleared (accs m c t.val).1 t.val, (added (iblk m c 0 t) (iblk m c 1 t) (accs m c t.val).2 (iblk m c 2 t))) (by unfold step; rw [if_neg (by omega), if_neg (by omega), if_pos (by omega)])]
  rw [accumulators_at m c t.val (by omega)]
  rw [flying_at m c _ t (by omega) (accs m c t.val).1 (by unfold source; rw [if_neg (by omega)])]
  iintro ⟨⟨⟨HS0, HS1⟩, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpValueOdd.odd c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) (fun h => absurd ((evenRow_iff t).mp h) (by omega)) ((oddRow_iff t).mpr (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (accs m c t.val).1 (accs m c t.val).2 (slabOut m c (Ring.bk 128 (t.val - 8 - 2))) (slabHalf m c (Ring.bk 128 (t.val - 8 - 2))) (slabOut m c (Ring.bk 128 (t.val - 8 - 1))) (slabHalf m c (Ring.bk 128 (t.val - 8 - 1))) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0 HS1]
    · isplitl [HS0]; · iexact HS0
      iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_even (c : Dev nD) (t : Fin cfg0.N) (ht : 10 ≤ t.val ∧ t.val < 128 ∧ (t.val / 8) % 2 = 0) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  rw [flying_eq m c (Ring.sl 2 t.val) (Ring.bk 128 (t.val - 8 - 2)), arrived_eq m c (Ring.bk 128 (t.val - 8 - 2))]
  rw [accumulators_next m c t ((added (iblk m c 0 t) (iblk m c 1 t) (accs m c t.val).1 (iblk m c 2 t)), cleared (accs m c t.val).2 t.val) (by unfold step; rw [if_neg (by omega), if_neg (by omega), if_neg (by omega)])]
  rw [accumulators_at m c t.val (by omega)]
  rw [flying_at m c _ t (by omega) (accs m c t.val).2 (by unfold source; rw [if_pos (by omega)])]
  iintro ⟨⟨⟨HS0, HS1⟩, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpValueEven.even c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) ((evenRow_iff t).mpr (by omega)) (fun h => absurd ((oddRow_iff t).mp h) (by omega)) (fun h => absurd ((lastRow_iff t).mp h) (by omega)) ((startsResults_iff t).mpr (by omega)) (fun h => absurd ((drains_iff t).mp h) (by omega)) (iblk m c 0 t) (iblk m c 1 t) (iblk m c 2 t) (iblk m c 3 t) (iblk m c 4 t) (accs m c t.val).1 (accs m c t.val).2 (slabOut m c (Ring.bk 128 (t.val - 8 - 2))) (slabHalf m c (Ring.bk 128 (t.val - 8 - 2))) (slabOut m c (Ring.bk 128 (t.val - 8 - 1))) (slabHalf m c (Ring.bk 128 (t.val - 8 - 1))) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0 HS1]
    · isplitl [HS0]; · iexact HS0
      iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_final (c : Dev nD) (t : Fin cfg0.N) (ht : 128 ≤ t.val ∧ t.val < 135) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_pos (show 8 ≤ t.val + 1 ∧ t.val + 1 < 136 by omega), show t.val + 1 - 8 = t.val - 7 by omega, turn_twice]
  rw [Ring.AtBΦ_lt _ _ _ _ _ (t.val - 8) (by omega), Ring.AtB22_here _ _ _ _ (t.val - 8) (by omega) (by omega), Ring.AtBΦ_lt _ _ _ _ _ (t.val - 8 + 1) (by omega), Ring.AtB22_next _ _ _ _ (t.val - 8) (by omega), turn t.val (by omega), turn_next t.val (by omega)]
  on_goal 2 => omega
  rw [flying_eq m c (Ring.sl 2 t.val) (Ring.bk 128 (t.val - 8 - 2)), arrived_eq m c (Ring.bk 128 (t.val - 8 - 2))]
  rw [accumulators_next m c t ((accs m c t.val).1, cleared (accs m c t.val).2 t.val) (by unfold step; rw [if_neg (by omega), if_pos (by omega)])]
  rw [accumulators_at m c t.val (by omega)]
  rw [flying_at m c _ t (by omega) (accs m c t.val).2 (by unfold source; rw [if_pos (by omega)])]
  iintro ⟨⟨⟨HS0, HS1⟩, Hg, ⟨HC, HI⟩, ⟨⟨HH, HA⟩, HB, HL0, HL1⟩, Hsp⟩, ⟨%W, -, HW⟩, ⟨%d0, H0⟩, ⟨%d1, H1⟩, ⟨%d2, H2⟩, ⟨%d3, H3⟩, ⟨%d4, H4⟩⟩
  iapply (Cert.MlpValueFinal.final c t _ _ _ _ _ _ _ _ _ _ _ _ _ _ (fun h => absurd ((clears_iff t).mp h) (by omega)) ((waitsResidual_iff t).mpr (by omega)) ((waitsResults_iff t).mpr (by omega)) ((startsResidual_iff t).mpr (by omega)) (fun h => absurd ((firstRow_iff t).mp h) (by omega)) (fun h => absurd ((evenRow_iff t).mp h) (by omega)) (fun h => absurd ((oddRow_iff t).mp h) (by omega)) ((lastRow_iff t).mpr (by omega)) ((startsResults_iff t).mpr (by omega)) (fun h => absurd ((drains_iff t).mp h) (by omega)) (iblk m c 0 t) (iblk m c 1 t) (iblk m c 2 t) (iblk m c 3 t) (iblk m c 4 t) (accs m c t.val).1 (accs m c t.val).2 (slabOut m c (Ring.bk 128 (t.val - 8 - 2))) (slabHalf m c (Ring.bk 128 (t.val - 8 - 2))) (slabOut m c (Ring.bk 128 (t.val - 8 - 1))) (slabHalf m c (Ring.bk 128 (t.val - 8 - 1))) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HI]; · iexact HI
  isplitl [HL0]; · iexact HL0
  isplitl [HH]; · iexact HH
  isplitl [HW]; · iexact HW
  iintro ⟨H0, H1, H2, H3, H4, HS0, HS1, HC, HI, HN, HL, ⟨%W', HW'⟩⟩
  isplitl [HS0 HS1 Hg HC HI HA HN HB HL1 HL Hsp]
  · isplitl [HS0 HS1]
    · isplitl [HS0]; · iexact HS0
      iexact HS1
    isplitl [Hg]; · iexact Hg
    isplitl [HC HI]
    · isplitl [HC]; · iexact HC
      iexact HI
    isplitl [HA HN HB HL1 HL]
    · isplitl [HA]; · iexact HA
      isplitl [HN HB]
      · isplitl [HN]; · iexact HN
        iexact HB
      isplitl [HL1]; · iexact HL1
      iexact HL
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

set_option maxHeartbeats 4000000 in
theorem at_closes (c : Dev nD) (t : Fin cfg0.N) (ht : t.val = 135) :
    bodyPre m c t ⊢ wp frame (wpE (defs₀ (F := F)) Variants.none c none) Set.univ (bodyAt0 t) (fun _ => bodyPost m c t) := by
  unfold bodyPre bodyPost bodyAt0
  simp only [staged_zero, staged_one, staged_two, staged_three, staged_four]
  rw [after_zero, after_one, after_two, after_three, after_four]
  rw [before_castSucc m c t, before_succ m c t]
  unfold Dat.owesAt Pipeline.owesWithin
  rw [show (dats m 0 c).owed t.castSucc = 0 from rfl, show (dats m 0 c).owed t.succ = 0 from rfl]
  unfold before
  rw [show results m c (t.val + 1 - 8) = results m c (t.val - 8 + 1) from congrArg _ (by omega)]
  unfold residualAt results
  rw [if_pos (show 8 ≤ t.val ∧ t.val < 136 by omega)]
  rw [if_neg (show ¬(8 ≤ t.val + 1 ∧ t.val + 1 < 136) by omega), turn_twice]
  rw [Ring.AtBΦ_lt _ _ _ _ _ (t.val - 8) (by omega), Ring.AtB22_here_last _ _ _ _ (t.val - 8) (by omega) (by omega), Ring.AtBΦ_ge _ _ _ _ _ (t.val - 8 + 1) (by omega), Ring.AtB22_drained _ _ (t.val - 8) (by omega) (by omega), turn t.val (by omega), turn_next t.val (by omega)]
  rw [flying_eq m c (Ring.sl 2 t.val) (Ring.bk 128 (t.val - 8 - 2)), arrived_eq m c (Ring.bk 128 (t.val - 8 - 2))]
  rw [flying_eq m c (Ring.sl 2 (t.val + 1)) (Ring.bk 128 (t.val - 8 - 1)), arrived_eq m c (Ring.bk 128 (t.val - 8 - 1))]
  rw [accumulators_next m c t ((accs m c t.val).1, cleared (accs m c t.val).2 t.val) (by unfold step; rw [if_neg (by omega), if_pos (by omega)])]
  rw [accumulators_at m c t.val (by omega)]
  rw [arrived_at m c t (by omega) (accs m c t.val).2 (by unfold source; rw [if_pos (by omega)])]
  iintro ⟨⟨⟨HS0, HS1⟩, Hg, ⟨HC, HI1⟩, ⟨HH, HB, HL0, HL1⟩, Hsp⟩, ⟨%W, -, HW⟩, ⟨%d0, H0⟩, ⟨%d1, H1⟩, ⟨%d2, H2⟩, ⟨%d3, H3⟩, ⟨%d4, H4⟩⟩
  iapply (Cert.MlpValueCloses.closes c t _ _ _ _ _ _ _ _ _ _ _ _ _ _ (fun h => absurd ((clears_iff t).mp h) (by omega)) ((waitsResidual_iff t).mpr (by omega)) ((waitsResults_iff t).mpr (by omega)) (fun h => absurd ((startsResidual_iff t).mp h) (by omega)) (fun h => absurd ((firstRow_iff t).mp h) (by omega)) (fun h => absurd ((evenRow_iff t).mp h) (by omega)) (fun h => absurd ((oddRow_iff t).mp h) (by omega)) ((lastRow_iff t).mpr (by omega)) ((startsResults_iff t).mpr (by omega)) ((drains_iff t).mpr (by omega)) (iblk m c 0 t) (iblk m c 1 t) (iblk m c 2 t) (iblk m c 3 t) (iblk m c 4 t) (accs m c t.val).1 (accs m c t.val).2 (slabOut m c (Ring.bk 128 (t.val - 8 - 2))) (slabHalf m c (Ring.bk 128 (t.val - 8 - 2))) (slabOut m c (Ring.bk 128 (t.val - 8 - 1))) (slabHalf m c (Ring.bk 128 (t.val - 8 - 1))) (V m c main_arg0) W _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HC]; · iexact HC
  isplitl [HL0]; · iexact HL0
  isplitl [HH]; · iexact HH
  isplitl [HL1]; · iexact HL1
  isplitl [HW]; · iexact HW
  iintro ⟨H0, H1, H2, H3, H4, HS0, HS1, HI, HN, HN0, HN1, HF0, HF1, ⟨%W', HW'⟩⟩
  isplitl [HS0 HS1 Hg HI HI1 HN HN0 HN1 HB HF0 HF1 Hsp]
  · isplitl [HS0 HS1]
    · isplitl [HS0]; · iexact HS0
      iexact HS1
    isplitl [Hg]; · iexact Hg
    isplitl [HI HI1]
    · isplitl [HI1]; · iexact HI1
      iexact HI
    isplitl [HN HN0 HN1 HB HF0 HF1]
    · isplitl [HN HN0 HN1 HB]
      · isplitl [HN0]; · iexact HN0
        isplitl [HN]; · iexact HN
        isplitl [HN1]; · iexact HN1
        iexact HB
      isplitl [HF0]; · iexact HF0
      iexact HF1
    iexact Hsp
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body at any point. -/
theorem body_sound (c : Dev nD) (t : Fin cfg0.N) :
    bodyPre m c t ⊢ wp frame (wpE (defs₀ (F := F)) Variants.none c none) Set.univ (bodyAt0 t) (fun _ => bodyPost m c t) := by
  have hN : t.val < 136 := lt_of_lt_of_eq t.isLt (show cfg0.N = 136 from N_0)
  by_cases h0 : t.val = 0
  · exact at_opens m c t h0
  by_cases h7 : t.val < 7
  · exact at_fills m c t ⟨by omega, h7⟩
  by_cases h8 : t.val = 7
  · exact at_fetches m c t h8
  by_cases h9 : t.val = 8
  · exact at_eight m c t h9
  by_cases h10 : t.val = 9
  · exact at_nine m c t h10
  by_cases h128 : t.val < 128
  · by_cases hp : (t.val / 8) % 2 = 1
    · exact at_odd m c t ⟨by omega, h128, hp⟩
    · exact at_even m c t ⟨by omega, h128, by omega⟩
  by_cases h135 : t.val < 135
  · exact at_final m c t ⟨by omega, h135⟩
  · exact at_closes m c t (by omega)

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

end Cert.MlpCarried

end
-- ==== Proof.MlpEnds.lean ====
/- The network's run from its start to its end: the slabs, put together, are the two results. -/
module

public import proofs.«01_k».proof.Proof.MlpCarried
public import Idealize.ShloMosaic.Lib.Pipeline.FrameValue
public import Idealize.ShloMosaic.Lib.ValueIdx

@[expose] public section

set_option maxRecDepth 16384

noncomputable section

namespace Cert.MlpEnds

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.MlpNames Cert.MlpSlots Cert.MlpValue Cert.MlpCarried

variable {F : FTy → Type} [FloatOps F] [Named F]

local notation "𝕄" => MT nD τ sig Unit (Elt F) ℕ (Pipeline.UD sig nD τ) ℕ

open Cert.MlpFrame (ownSem ownSem_facts readRefs writtenRefs readRefs_sub writtenRefs_sub ownSems_eq read_eq main_prefix)

variable (m : (ℓ : Loc nD τ sig) → Buf (Elt F) ℓ) (ρ : Dev nD → PrngReg) (c : Dev nD)

/-! ## The results put together -/

theorem slabs_cover : Finset.univ.biUnion slabBox = Finset.univ :=
  Ring.lead_cover (s := S16384x2048) (0 : Fin 2) 128 (fun u : Fin 128 => (![128 * u.val, 0] : Fin 2 → Nat)) S128x2048.size inb_slab (fun u => by simp [Nat.mul_comm])
    (fun u a ha => by fin_cases a <;> first | exact absurd rfl ha | rfl) rfl (fun a ha => by fin_cases a <;> first | exact absurd rfl ha | rfl) rfl

/-- The slab a row is in, and its row there. -/
def slabIn (r : Fin 16384) : Fin 128 := ⟨r.val / 128, by omega⟩
def rowIn (r : Fin 16384) : Fin 128 := ⟨r.val % 128, by omega⟩

/-- The two results, slab by slab. -/
def wholeA : Vec F S16384x2048 .f32 := fun i => slabOut m c (slabIn (i 0)) (ix2 (rowIn (i 0)) (i 1))
def wholeB : Vec F S16384x2048 .bf16 := fun i => slabHalf m c (slabIn (i 0)) (ix2 (rowIn (i 0)) (i 1))

theorem slab_index (u : Fin 128) (x : S128x2048.Idx) (i : S16384x2048.Idx) (h0 : (i 0).val = 128 * u.val + 1 * (x 0).val) (h1 : (i 1).val = 0 + 1 * (x 1).val) :
    slabIn (i 0) = u ∧ (ix2 (rowIn (i 0)) (i 1) : S128x2048.Idx) = x := by
  have hx : (x 0).val < 128 := (x 0).isLt
  refine ⟨Fin.ext (show (i 0).val / 128 = u.val by omega), funext fun a => Fin.ext ?_⟩
  match a with
  | ⟨0, _⟩ => show (i 0).val % 128 = (x 0).val; omega
  | ⟨1, _⟩ => show (i 1).val = (x 1).val; omega

theorem joinedA (u : Fin 128) : homeAsA c u (slabOut m c u) ⊢ (((c : Thread nD τ).loc main_v4_0) ↦[slabBox u]{fullShare} wholeA m c : sProp 𝕄) := by
  iintro ⟨%f, %hf, H⟩
  ihave H' := (show pieceHeldA c u f ⊢ (((c : Thread nD τ).loc main_v4_0) ↦[slabBox u]{fullShare} wholeA m c : sProp 𝕄) from by
    rw [pieceHeldA_eq]
    refine Entails.of_eq (pointsTo_congr fun i hi => ?_)
    obtain ⟨x, hx⟩ : ∃ x, (pieceA u).view.emb x = i := by
      rw [← pieceA_set] at hi
      obtain ⟨x, -, hx⟩ := Finset.mem_map.mp hi
      exact ⟨x, hx⟩
    subst hx
    refine (congrFun hf x).trans ?_
    obtain ⟨e, e'⟩ := slab_index u x ((pieceA u).view.emb x) rfl rfl
    exact (congrArg₂ (fun a y => slabOut m c a y) e e').symm) $$ H
  iexact H'
theorem joinedB (u : Fin 128) : homeAsB c u (slabHalf m c u) ⊢ (((c : Thread nD τ).loc main_v4_1) ↦[slabBox u]{fullShare} wholeB m c : sProp 𝕄) := by
  iintro ⟨%f, %hf, H⟩
  ihave H' := (show pieceHeldB c u f ⊢ (((c : Thread nD τ).loc main_v4_1) ↦[slabBox u]{fullShare} wholeB m c : sProp 𝕄) from by
    rw [pieceHeldB_eq]
    refine Entails.of_eq (pointsTo_congr fun i hi => ?_)
    obtain ⟨x, hx⟩ : ∃ x, (pieceB u).view.emb x = i := by
      rw [← pieceB_set] at hi
      obtain ⟨x, -, hx⟩ := Finset.mem_map.mp hi
      exact ⟨x, hx⟩
    subst hx
    refine (congrFun hf x).trans ?_
    obtain ⟨e, e'⟩ := slab_index u x ((pieceB u).view.emb x) rfl rfl
    exact (congrArg₂ (fun a y => slabHalf m c a y) e e').symm) $$ H
  iexact H'
theorem allA : bigSep Finset.univ (fun u : Fin 128 => homeAsA c u (slabOut m c u)) ⊢ (held c resultA (wholeA m c) : sProp 𝕄) :=
  (BI.bigSep_mono fun u _ => joinedA m c u).trans
    (Entails.of_eq (Ring.pointsTo_blocks (ℓ := (c : Thread nD τ).loc main_v4_0) (q := fullShare) slabBox slabs_disjoint slabs_cover (wholeA m c)).symm)
theorem allB : bigSep Finset.univ (fun u : Fin 128 => homeAsB c u (slabHalf m c u)) ⊢ (held c resultB (wholeB m c) : sProp 𝕄) :=
  (BI.bigSep_mono fun u _ => joinedB m c u).trans
    (Entails.of_eq (Ring.pointsTo_blocks (ℓ := (c : Thread nD τ).loc main_v4_1) (q := fullShare) slabBox slabs_disjoint slabs_cover (wholeB m c)).symm)
theorem arrived_all : (bigSep Finset.univ (arrived m c) : sProp 𝕄)
    = iprop(bigSep Finset.univ (fun u : Fin 128 => homeAsA c u (slabOut m c u)) ∗ bigSep Finset.univ (fun u : Fin 128 => homeAsB c u (slabHalf m c u))) :=
  BI.bigSep_sep Finset.univ (fun u : Fin 128 => homeAsA c u (slabOut m c u)) (fun u : Fin 128 => homeAsB c u (slabHalf m c u))

/-! ## Into the grid and out of it -/

theorem results_start : results m c 0 = resultsAt c 0 := by
  unfold results resultsAt
  rw [Ring.AtBΦ_lt _ _ _ _ _ 0 (by decide), Ring.AtBΦ_lt _ _ _ _ _ 0 (by decide), Ring.AtB_zero, Ring.AtB_zero]

/-- What the results' transfers give back. -/
abbrev resultsBack : sProp 𝕄 :=
  iprop(((∃ d, owns (c : Thread nD τ) tilesA fullShare d) ∗ (semVal ((c : Thread nD τ), SemLoc.dma 10) 0 ∗ semVal ((c : Thread nD τ), SemLoc.dma 11) 0) ∗ held c resultA (wholeA m c))
    ∗ (∃ d, owns (c : Thread nD τ) tilesB fullShare d) ∗ (semVal ((c : Thread nD τ), SemLoc.dma 12) 0 ∗ semVal ((c : Thread nD τ), SemLoc.dma 13) 0) ∗ held c resultB (wholeB m c))

theorem results_end : iprop(results m c 128 ∗ spares c) ⊢ resultsBack m c := by
  unfold results; rw [Ring.AtBΦ_ge _ _ _ _ _ 128 (by decide), Ring.AtBEnd_frame]; unfold Ring.AtB₀
  rw [arrived_all, freeSlots_all, cellsA_eq, cellsB_eq]
  iintro ⟨⟨⟨HPA, HPB⟩, ⟨HQA, HTA⟩, HQB, HTB⟩, ⟨HUA, HVA⟩, HUB, HVB⟩
  isplitl [HTA HUA HQA HPA]
  · isplitl [HTA HUA]
    · iapply (tilesA_out (F := F) c); isplitl [HTA]; · iexact HTA
      iexact HUA
    isplitl [HQA]; · iexact HQA
    iapply (allA m c); iexact HPA
  isplitl [HTB HUB]
  · iapply (tilesB_out (F := F) c); isplitl [HTB]; · iexact HTB
    iexact HUB
  isplitl [HQB]; · iexact HQB
  iapply (allB m c); iexact HPB

/-- What the written buffers hold at the end. -/
def ending (c : Dev nD) : (b : Ref sig .tc) → Buf (Elt F) ((c : Thread nD τ).loc b) :=
  Function.update (Function.update (V m c) main_v4_0 (wholeA m c)) main_v4_1 (wholeB m c)
theorem ending_A : ending m c main_v4_0 = wholeA m c := by
  unfold ending
  rw [Function.update_of_ne (by decide), Function.update_self]
theorem ending_B : ending m c main_v4_1 = wholeB m c := by
  unfold ending
  rw [Function.update_self]

theorem written_as (W : (b : Ref sig .tc) → Buf (Elt F) ((c : Thread nD τ).loc b)) :
    (Pipeline.routed writtenRefs c W : sProp 𝕄) = iprop(held c resultA (W main_v4_0) ∗ held c resultB (W main_v4_1)) := by
  unfold Pipeline.routed; rw [BI.bigSep_eq_bigSepL_of_eq [main_v4_0, main_v4_1] (by decide) (by decide)]; rfl

theorem given_as (G : (c : Dev nD) → (b : Ref sig .tc) → Buf (Elt F) ((c : Thread nD τ).loc b)) :
    (Pipeline.ΦDRG ownSem spec0 readRefs writtenRefs (V m) G c : sProp 𝕄)
      = iprop(iprop((∃ d, owns (c : Thread nD τ) evenAcc fullShare d) ∗ (∃ d, owns (c : Thread nD τ) oddAcc fullShare d) ∗ (∃ d, owns (c : Thread nD τ) slots fullShare d) ∗ (∃ d, owns (c : Thread nD τ) tilesA fullShare d) ∗ (∃ d, owns (c : Thread nD τ) tilesB fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ held c residual (V m c main_arg0) ∗ iprop(held c resultA (G c main_v4_0) ∗ held c resultB (G c main_v4_1))) := by
  rw [Pipeline.ΦDRG_eq, scopedRest0_eq, ownSems_eq, read_eq, written_as]; simp only [evenAcc, oddAcc, slots, tilesA, tilesB, owns_whole]; try rfl

theorem enters : Pipeline.ΦDRG ownSem spec0 readRefs writtenRefs (V m) (V m) c ⊢ (dats m 0 c).Φ 0 := by
  rw [given_as, show (dats m 0 c).Φ 0 = before m c 0 from rfl]
  unfold before
  rw [show results m c (0 - 8) = resultsAt c 0 from results_start m c,
    show accumulators m c 0 = iprop((∃ d, owns (c : Thread nD τ) evenAcc fullShare d) ∗ (∃ d, owns (c : Thread nD τ) oddAcc fullShare d)) from if_pos rfl]
  iintro ⟨⟨HS0, HS1, HR, HA, HB⟩, Hg, ⟨Hq0, Hq1, Hq2, Hq3, Hq4, Hq5⟩, Hh, Ho0, Ho1⟩
  isplitl [HS0 HS1]
  · isplitl [HS0]; · iexact HS0
    iexact HS1
  isplitl [Hg]; · iexact Hg
  isplitl [HR Hq0 Hq1 Hh]
  · iapply (residual_in (F := F) c (V m c main_arg0))
    isplitl [HR]; · iexact HR
    isplitl [Hq0 Hq1]
    · isplitl [Hq0]; · iexact Hq0
      iexact Hq1
    iexact Hh
  iapply (results_in (F := F) c)
  isplitl [HA Hq2 Hq3 Ho0]
  · isplitl [HA]; · iexact HA
    isplitl [Hq2 Hq3]
    · isplitl [Hq2]; · iexact Hq2
      iexact Hq3
    iexists _; iexact Ho0
  isplitl [HB]; · iexact HB
  isplitl [Hq4 Hq5]
  · isplitl [Hq4]; · iexact Hq4
    iexact Hq5
  iexists _; iexact Ho1
theorem leaves : (dats m 0 c).Φ (Fin.last cfg0.N) ⊢ Pipeline.ΦDRG ownSem spec0 readRefs writtenRefs (V m) (ending m) c := by
  rw [given_as, ending_A, ending_B, show (dats m 0 c).Φ (Fin.last cfg0.N) = before m c grid0.N from rfl]
  unfold before
  rw [show grid0.N = 136 by rw [N_0], accumulators_at m c 136 (by decide)]
  iintro ⟨⟨HS0, HS1⟩, Hg, HR, HT⟩
  ihave HX := (residual_out (F := F) c (V m c main_arg0)) $$ HR
  icases HX with ⟨HR, ⟨Hq0, Hq1⟩, Hh⟩
  ihave HY := (results_end m c) $$ HT
  icases HY with ⟨⟨HA, ⟨Hq2, Hq3⟩, Ho0⟩, HB, ⟨Hq4, Hq5⟩, Ho1⟩
  isplitl [HS0 HS1 HR HA HB]
  · isplitl [HS0]; · iexists _; iexact HS0
    isplitl [HS1]; · iexists _; iexact HS1
    isplitl [HR]; · iexact HR
    isplitl [HA]; · iexact HA
    iexact HB
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh]; · iexact Hh
  isplitl [Ho0]; · iexact Ho0
  iexact Ho1

/-! ## The run -/

set_option backward.isDefEq.respectTransparency.types false in
theorem runs : θ_run defs (onTc (τ := τ) (main (F := F))) (s₀ m ρ) (fun r => (Pipeline.FramePostRG cfgs (dats m) 0 writtenRefs (V m) (ending m)) r ∧ r.2.sem = fun _ => 0) :=
  Pipeline.θ_run_frame_dmaRG (Q' := _) cfgs (dats m) (0 : Fin 1) launch0 ownSem defs₀ Variants.none ownSem_facts readRefs writtenRefs readRefs_sub writtenRefs_sub m ρ main
    (hbody := fun c => (obligation m c).loose) (hshare := fun c => (dats m 0 c).share_full fun _ => rfl)
    (howed := fun _ _ => rfl) (V := V m) (hmain := main_prefix m Variants.none) (hA := arrays_eq m) (G := ending m)
    (hin := enters m) (hout := leaves m)

/-- The run ends with the two results as their slabs say and the arguments as they were. -/
theorem run : θ_run defs (onTc (τ := τ) (main (F := F))) ⟨m, fun _ => 0, ρ⟩ (fun r => ∀ c : Dev nD,
      r.2.mem ((c.tc : Thread nD τ).loc main_v4_0) = wholeA m c
      ∧ r.2.mem ((c.tc : Thread nD τ).loc main_v4_1) = wholeB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.2 c main_v4_0 (by decide)).trans (ending_A m c), (h.1.2 c main_v4_1 (by decide)).trans (ending_B m c),
      ((h.1.1 c).2 main_arg0 (Finset.mem_sdiff.mpr ⟨Pipeline.mem_restRefs_of main_arg0 (by decide) (by decide), by decide⟩)).trans (V_main_arg0 m c),
      ((h.1.1 c).1 1).trans (((dats m 0 c).arrAt_in 1 rfl _).trans ((arrays_eq m c 1).trans (V_main_arg1 m c))),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩) (runs m ρ)

end Cert.MlpEnds

end
-- ==== Proof.MlpBlock.lean ====
/- What the network's slabs and products are, one entry at a time. -/
module

public import proofs.«01_k».proof.Proof.MlpValue
public import proofs.«01_k».proof.Proof.MixRow
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.MlpBlock

open Idealize.ShloMosaic Idealize.ShloMosaic.ValueIdx Idealize.ShloMosaic.TcCoe Cert.Kernel5Ideal Cert.Kernel5Ideal.Gen Cert.MlpNames Cert.MlpValue Cert.MixRow

/-- A column over the lanes of a slab. -/
theorem over_lanes (y : FVec Ideal S128x1 .f32) (q : Fin 128) (j : Fin 2048) :
    broadcastTo S128x2048 y broadcasts_S128x1_S128x2048 (ix2 q j) = y (ix2 q 0) := by
  refine broadcastTo_apply _ _ _ _ fun a => ?_
  match a with
  | ⟨0, _⟩ => rfl
  | ⟨1, _⟩ => rfl

/-- A row over the rows of a slab. -/
theorem over_rows (y : FVec Ideal S1x2048 .f32) (q : Fin 128) (j : Fin 2048) :
    broadcastTo S128x2048 (shapeCast S1x2048 y shapeCasts_S1x2048_S1x2048 : FVec Ideal S1x2048 .f32) broadcasts_S1x2048_S128x2048 (ix2 q j) = y (ix2 0 j) := by
  rw [shapeCast_self]
  refine broadcastTo_apply _ _ _ _ fun a => ?_
  match a with
  | ⟨0, _⟩ => rfl
  | ⟨1, _⟩ => rfl

/-- The sums of each row of a slab. -/
def sums (y : FVec Ideal S128x2048 .f32) : FVec Ideal S128x1 .f32 :=
  shapeCast S128x1 (multiReduction .add [1] S128 y 0x00000000#32 reduces_S128x2048_S128 (.inl rfl) rfl : FVec Ideal S128 .f32) shapeCasts_S128_S128x1

theorem sums_apply (y : FVec Ideal S128x2048 .f32) (q : Fin 128) : sums y (ix2 q 0) = ∑ i : Fin 2048, y (ix2 q i) := by
  unfold sums
  rw [shapeCast_a_a1_apply]
  refine (Ideal.multiReduction_add_single (a := 1) y _ _ _ _ _).trans ?_
  refine Finset.sum_congr rfl fun i _ => congrArg y (funext fun a => Fin.ext ?_)
  match a with
  | ⟨0, _⟩ => rfl
  | ⟨1, _⟩ => rfl

/-- The means. -/
def means (y : FVec Ideal S128x2048 .f32) : FVec Ideal S128x1 .f32 := divf (sums y) (broadcast S128x1 (Scalar.ofBits .f32 0x45000000#32 : Ideal .f32))

theorem means_apply (y : FVec Ideal S128x2048 .f32) (q : Fin 128) : means y (ix2 q 0) = mean (fun i => y (ix2 q i)) := by
  unfold mean; rw [← sums_apply]; rfl

variable (a : Vec Ideal S128x2048 .f32) (r : Vec Ideal S1x128x2048 .f32) (g b : Vec Ideal S1x2048 .f32) (q : Fin 128) (j : Fin 2048)

/-- A row of the product and the weighted residual. -/
def entry (i : Fin 2048) : EReal := a (ix2 q i) + alpha * shapeCast S128x2048 r shapeCasts_S1x128x2048_S128x2048 (ix2 q i)

def centre (y : FVec Ideal S128x2048 .f32) : FVec Ideal S128x2048 .f32 := subf y (broadcastTo S128x2048 (means y) broadcasts_S128x1_S128x2048)

theorem centre_apply (y : FVec Ideal S128x2048 .f32) : centre y (ix2 q j) = centred (fun i => y (ix2 q i)) j := by
  show y (ix2 q j) - broadcastTo S128x2048 (means y) broadcasts_S128x1_S128x2048 (ix2 q j) = _
  rw [over_lanes, means_apply]; rfl

theorem out_apply : out a r g b (ix2 q j) = layer (entry a r q) (fun i => g (ix2 0 i)) (fun i => b (ix2 0 i)) j := by
  show centre (k0_pay11 a r) (ix2 q j)
      * broadcastTo S128x2048 (rsqrt (addf (means (mulf (centre (k0_pay11 a r)) (centre (k0_pay11 a r))))
          (broadcast S128x1 (Scalar.ofBits .f32 0x3727C5AC#32 : Ideal .f32)))) broadcasts_S128x1_S128x2048 (ix2 q j)
      * broadcastTo S128x2048 (shapeCast S1x2048 g shapeCasts_S1x2048_S1x2048 : FVec Ideal S1x2048 .f32) broadcasts_S1x2048_S128x2048 (ix2 q j)
    + broadcastTo S128x2048 (shapeCast S1x2048 b shapeCasts_S1x2048_S1x2048 : FVec Ideal S1x2048 .f32) broadcasts_S1x2048_S128x2048 (ix2 q j) = _
  rw [over_lanes, over_rows, over_rows, centre_apply]
  show _ * Ideal.rsqrt (means (mulf (centre (k0_pay11 a r)) (centre (k0_pay11 a r))) (ix2 q 0) + _) * _ + _ = _
  rw [means_apply]
  have e : (fun i => mulf (centre (k0_pay11 a r)) (centre (k0_pay11 a r)) (ix2 q i))
      = fun i => centred (entry a r q) i * centred (entry a r q) i := by
    funext i
    show centre (k0_pay11 a r) (ix2 q i) * centre (k0_pay11 a r) (ix2 q i) = _
    rw [centre_apply]; rfl
  rw [e]
  rfl

/-- An accumulator with a block's product added. -/
theorem added_apply (x : Vec Ideal S1024x2048 .bf16) (w : Vec Ideal S1x2048x1024 .f32) (d : Vec Ideal S1024x2048 .f32) (y : Vec Ideal S1024x2048 .bf16) (p : Fin 1024) :
    added x w d y (ix2 p j) = d (ix2 p j) + ∑ l : Fin 1024,
      (max (∑ k : Fin 2048, x (ix2 p k) * w (ix3 0 k l)) 0 * max (∑ k : Fin 2048, x (ix2 p k) * w (ix3 0 k l)) 0) * y (ix2 l j) := by
  unfold added k0_pay1
  simp only [shapeCast_self]
  show d (ix2 p j) + matmul (F := Ideal) dot_S1024x1024_S1024x2048_S1024x2048_1_0_0_1_n_n none _ y (constant S1024x2048 .f32 0x00000000#32) (ix2 p j) = _
  refine congrArg (d (ix2 p j) + ·) ?_
  refine (Ideal.matmul_plain_apply (M := 1024) (K := 1024) (N := 2048) (φ₁ := .bf16) (φ₂ := .bf16) none _ y _ p j).trans ?_
  rw [constant_apply]
  refine (congrArg (· + _) ofBits_zero).trans ((zero_add _).trans (Finset.sum_congr rfl fun l _ => congrArg (· * y (ix2 l j)) ?_))
  have e : matmul (F := Ideal) (φ₁ := .bf16) (φ₂ := .bf16) dot_S1024x2048_S2048x1024_S1024x1024_1_0_0_1_n_n none x
      (truncf .bf16 (shapeCast S2048x1024 w shapeCasts_S1x2048x1024_S2048x1024 : FVec Ideal S2048x1024 .f32) bitsLt_bf16_f32)
      (constant S1024x1024 .f32 0x00000000#32) (ix2 p l) = ∑ k : Fin 2048, x (ix2 p k) * w (ix3 0 k l) := by
    refine (Ideal.matmul_plain_apply (M := 1024) (K := 2048) (N := 1024) (φ₁ := .bf16) (φ₂ := .bf16) none x _ _ p l).trans ?_
    rw [constant_apply]
    refine (congrArg (· + _) ofBits_zero).trans ((zero_add _).trans (Finset.sum_congr rfl fun k _ => congrArg (x (ix2 p k) * ·) ?_))
    exact shapeCast_1ab_ab_apply w _ k l
  rw [← e]
  exact congrArg₂ (· * ·) (congrArg (max _) ofBits_zero) (congrArg (max _) ofBits_zero)

end Cert.MlpBlock

end
-- ==== Proof.MlpReference.lean ====
/- What the reference of the feed-forward part computes, one entry at a time. -/
module

public import proofs.«01_k».proof.Proof.MixRow
public import proofs.«01_k».proof.Proof.Gen.Reference5Ideal.Read
public import Idealize.ShloMosaic.Lib.ValueIdx

@[expose] public section

noncomputable section

namespace Cert.MlpReference

open Idealize.ShloMosaic Idealize.ShloMosaic.ValueIdx Cert.Reference5Ideal Cert.Reference5Ideal.Gen Cert.Reference5Ideal.Read Cert.MixRow

variable (x0 : FVec Ideal S16384x2048 .f32) (x1 : FVec Ideal S2x2048x8192 .f32) (x2 : FVec Ideal S8192x2048 .f32) (x3 x4 : FVec Ideal S2048 .f32)
  (p : Fin 16384) (j : Fin 2048)

/-- An entry of the inner layer: the square of the positive part of a product. -/
def inner (l : Fin 8192) : EReal :=
  max (∑ k : Fin 2048, x0 (ix2 p k) * x1 (ix3 1 k l)) 0 * max (∑ k : Fin 2048, x0 (ix2 p k) * x1 (ix3 1 k l)) 0

/-- The product's entries. -/
def product (i : Fin 2048) : EReal := ∑ l : Fin 8192, inner x0 x1 p l * x2 (ix2 l i)

/-- The weighted residual and the product. -/
def entry (i : Fin 2048) : EReal := alpha * x0 (ix2 p i) + product x0 x1 x2 p i

theorem val_main_v1_eq (i : S_.Idx) : val_main_v1 (F := Ideal) i = alpha := by
  rw [val_main_v1_apply, val_main_v0_apply, val_main_cst_apply]
  exact alpha_eq

theorem val_main_v5_at (k : Fin 2048) (l : Fin 8192) : val_main_v5 (F := Ideal) x1 (ix2 k l) = x1 (ix3 1 k l) := by
  rw [val_main_v5_apply, val_main_v4_apply]
  refine congrArg x1 (funext fun a => Fin.ext ?_)
  match a with
  | ⟨0, _⟩ => rfl
  | ⟨1, _⟩ => show (k.val * 8192 + l.val) / 8192 % 2048 = k.val; have := k.isLt; have := l.isLt; omega
  | ⟨2, _⟩ => show (k.val * 8192 + l.val) % 8192 = l.val; have := l.isLt; omega

theorem val_main_v7_at (l : Fin 8192) : val_main_v7 (F := Ideal) x0 x1 (ix2 p l) = max (∑ k : Fin 2048, x0 (ix2 p k) * x1 (ix3 1 k l)) 0 := by
  rw [val_main_v7_apply, val_main_call0_v0_apply, val_main_call0_cst_apply, val_main_v6_apply]
  refine congrArg₂ max (Finset.sum_congr rfl fun k _ => congrArg₂ (· * ·) (congrArg x0 ?_) ?_) ofBits_zero
  · exact funext fun a => match a with | ⟨0, _⟩ => rfl | ⟨1, _⟩ => rfl
  · rw [← val_main_v5_at x1]
    exact congrArg _ (funext fun a => match a with | ⟨0, _⟩ => rfl | ⟨1, _⟩ => rfl)

theorem val_main_v10_at : val_main_v10 (F := Ideal) x0 x1 x2 (ix2 p j) = entry x0 x1 x2 p j := by
  rw [val_main_v10_apply, val_main_v3_apply, val_main_v2_apply, val_main_v1_eq, val_main_v9_apply]
  refine congrArg (fun s => alpha * x0 (ix2 p j) + s) (Finset.sum_congr rfl fun l _ => congrArg₂ (· * ·) ?_ (congrArg x2 ?_))
  · have e : lidx_main_v9 (ix2 p j) l = ix2 p l := funext fun a => match a with | ⟨0, _⟩ => rfl | ⟨1, _⟩ => rfl
    rw [e, val_main_v8_apply, val_main_v7_at]
    rfl
  · exact funext fun a => match a with | ⟨0, _⟩ => rfl | ⟨1, _⟩ => rfl

theorem val_main_v14_at : val_main_v14 (F := Ideal) x0 x1 x2 (ix2 p 0) = mean (entry x0 x1 x2 p) := by
  have e : val_main_v11 (F := Ideal) x0 x1 x2 (ix1 p) = ∑ i, entry x0 x1 x2 p i := by
    rw [val_main_v11_apply, val_main_cst_0_apply]
    show Ideal.ofBits .f32 0x00000000#32 + _ = _
    rw [ofBits_zero, zero_add]
    refine Finset.sum_congr rfl fun i _ => ?_
    rw [← val_main_v10_at]
    exact congrArg _ (funext fun a => match a with | ⟨0, _⟩ => rfl | ⟨1, _⟩ => rfl)
  have e' : idx_main_v12 (ix2 p 0) = ix1 p := funext fun a => match a with | ⟨0, _⟩ => rfl
  rw [val_main_v14_apply, val_main_v12_apply, e', e, val_main_v13_apply, val_main_cst_1_apply]
  rfl

theorem val_main_v16_at : val_main_v16 (F := Ideal) x0 x1 x2 (ix2 p j) = centred (entry x0 x1 x2 p) j := by
  have e : idx_main_v15 (ix2 p j) = ix2 p 0 := funext fun a => match a with | ⟨0, _⟩ => rfl | ⟨1, _⟩ => rfl
  rw [val_main_v16_apply, val_main_v15_apply, val_main_v10_at, e, val_main_v14_at]
  rfl

theorem val_main_v23_at : val_main_v23 (F := Ideal) x0 x1 x2 (ix2 p j) = centred (entry x0 x1 x2 p) j := by
  have e : idx_main_v22 (ix2 p j) = ix2 p 0 := funext fun a => match a with | ⟨0, _⟩ => rfl | ⟨1, _⟩ => rfl
  rw [val_main_v23_apply, val_main_v22_apply, val_main_v10_at, e, val_main_v14_at]
  rfl

theorem val_main_v21_at : val_main_v21 (F := Ideal) x0 x1 x2 (ix2 p 0)
    = mean (fun i => centred (entry x0 x1 x2 p) i * centred (entry x0 x1 x2 p) i) := by
  have e : val_main_v18 (F := Ideal) x0 x1 x2 (ix1 p) = ∑ i, centred (entry x0 x1 x2 p) i * centred (entry x0 x1 x2 p) i := by
    rw [val_main_v18_apply, val_main_cst_2_apply]
    show Ideal.ofBits .f32 0x00000000#32 + _ = _
    rw [ofBits_zero, zero_add]
    refine Finset.sum_congr rfl fun i _ => ?_
    have e : idx_main_v18 (ix1 p) i = ix2 p i := funext fun a => match a with | ⟨0, _⟩ => rfl | ⟨1, _⟩ => rfl
    rw [e, val_main_v17_apply, val_main_v16_at]
    rfl
  have e' : idx_main_v19 (ix2 p 0) = ix1 p := funext fun a => match a with | ⟨0, _⟩ => rfl
  rw [val_main_v21_apply, val_main_v19_apply, e', e, val_main_v20_apply, val_main_cst_3_apply]
  rfl

/-- The reference's result, entry by entry. -/
theorem val_main_v34_at : val_main_v34 (F := Ideal) x0 x1 x2 x3 x4 (ix2 p j)
    = layer (entry x0 x1 x2 p) (fun i => x3 (ix1 i)) (fun i => x4 (ix1 i)) j := by
  have e1 : idx_main_v27 (ix2 p j) = ix2 p 0 := funext fun a => match a with | ⟨0, _⟩ => rfl | ⟨1, _⟩ => rfl
  have e2 : idx_main_v29 (idx_main_v30 (ix2 p j)) = ix1 j := funext fun a => match a with | ⟨0, _⟩ => rfl
  have e3 : idx_main_v32 (idx_main_v33 (ix2 p j)) = ix1 j := funext fun a => match a with | ⟨0, _⟩ => rfl
  rw [val_main_v34_apply, val_main_v31_apply, val_main_v28_apply, val_main_v23_at, val_main_v27_apply, e1, val_main_v26_apply,
    val_main_v25_apply, val_main_v21_at, val_main_v24_apply, val_main_cst_4_apply, val_main_v30_apply, val_main_v29_apply, e2,
    val_main_v33_apply, val_main_v32_apply, e3]
  rfl

end Cert.MlpReference

end
-- ==== Proof.MlpPrepared.lean ====
/- The arrays the network's call is given, as the host operations before it leave them, and their entries in a grid
   point's blocks. Point `t` reads rows 1024 (t / 8) … of the rows, and the columns 1024 (t % 8) … of the inner layer. -/
module

public import proofs.«01_k».proof.Proof.MlpValue
public import proofs.«01_k».proof.Proof.MlpReference
public import Idealize.ShloMosaic.Lib.Claim
public import Idealize.ShloMosaic.Lib.Pipeline.Value
public import Idealize.ShloMosaic.Lib.ValueIdx
public import Idealize.ShloMosaic.Lib.ValueLayout
public import Idealize.ShloMosaic.Lib.ValueLayoutCasts

@[expose] public section

noncomputable section

namespace Cert.MlpPrepared

open Idealize.ShloMosaic Idealize.ShloMosaic.ValueIdx Idealize.ShloMosaic.TcCoe Cert.Kernel5Ideal Cert.Kernel5Ideal.Gen Cert.MlpNames Cert.MlpValue

variable (m : (ℓ : Loc nD τ sig) → Buf (Elt Ideal) ℓ) (c : Dev nD)

theorem V_rows : V m c main_v0 = (truncf .bf16 (m (c.tc.loc main_arg0) : FVec Ideal S16384x2048 .f32) bitsLt_bf16_f32 : FVec Ideal S16384x2048 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']

theorem V_second : V m c main_v1 = (truncf .bf16 (m (c.tc.loc main_arg2) : FVec Ideal S8192x2048 .f32) bitsLt_bf16_f32 : FVec Ideal S8192x2048 .bf16) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']

theorem V_gain : V m c main_v2 = (shapeCast S1x2048 (m (c.tc.loc main_arg3)) shapeCasts_S2048_S1x2048 : FVec Ideal S1x2048 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']
  rfl

theorem V_bias : V m c main_v3 = (shapeCast S1x2048 (m (c.tc.loc main_arg4)) shapeCasts_S2048_S1x2048 : FVec Ideal S1x2048 .f32) := by
  unfold_abbrev_sides
  simp (disch := decide) only [↓ StableHlo.readResult, ↓ StableHlo.readPieces, List.flatten_cons, List.flatten_nil, List.append_nil,
    List.cons_append, List.nil_append, StableHlo.TRef.unary, StableHlo.TRef.ofBuf_toBuf, StableHlo.after_cons, StableHlo.after_nil,
    StableHlo.unary_result', StableHlo.reshape_result', StableHlo.unary_result_ne', StableHlo.reshape_result_ne']
  rfl

/-! ### A grid point's blocks -/

theorem index_0 : ∀ t : Fin grid0.N, t.val < 128 → win0_0.index t = ![t.val / 8, 0] := by decide +kernel
theorem index_1 : ∀ t : Fin grid0.N, t.val < 128 → win0_1.index t = ![1, 0, t.val % 8] := by decide +kernel
theorem index_2 : ∀ t : Fin grid0.N, t.val < 128 → win0_2.index t = ![t.val % 8, 0] := by decide +kernel
theorem index_3 : ∀ t : Fin grid0.N, win0_3.index t = ![0, 0] := by decide +kernel
theorem index_4 : ∀ t : Fin grid0.N, win0_4.index t = ![0, 0] := by decide +kernel

/-- The row of the arrays at a place of block `n`, and the place of the inner layer at a column of block `f`. -/
def row (n : ℕ) (p : Fin 1024) : Fin 16384 := ⟨(1024 * n + p.val) % 16384, Nat.mod_lt _ (by decide)⟩
def place (f : ℕ) (l : Fin 1024) : Fin 8192 := ⟨(1024 * f + l.val) % 8192, Nat.mod_lt _ (by decide)⟩

variable (t : Fin cfg0.N)

theorem rows_at (h : t.val < 128) (p : Fin 1024) (k : Fin 2048) : iblk m c 0 t (ix2 p k) = m (c.tc.loc main_arg0) (ix2 (row (t.val / 8) p) k) := by
  refine (congrFun (V_rows m c) _).trans (congrArg (m (c.tc.loc main_arg0)) (funext fun a => Fin.ext ?_))
  match a with
  | ⟨0, _⟩ =>
    show win0_0.index t 0 * 1024 + 1 * p.val = (1024 * (t.val / 8) + p.val) % 16384
    rw [index_0 t h]; show t.val / 8 * 1024 + 1 * p.val = _; omega
  | ⟨1, _⟩ =>
    show win0_0.index t 1 * 2048 + 1 * k.val = k.val
    rw [index_0 t h]; show 0 * 2048 + 1 * k.val = _; omega

theorem first_at (h : t.val < 128) (k : Fin 2048) (l : Fin 1024) : iblk m c 1 t (ix3 0 k l) = m (c.tc.loc main_arg1) (ix3 1 k (place (t.val % 8) l)) := by
  refine (congrFun (V_main_arg1 m c) _).trans (congrArg (m (c.tc.loc main_arg1)) (funext fun a => Fin.ext ?_))
  match a with
  | ⟨0, _⟩ =>
    show win0_1.index t 0 * 1 + 1 * 0 = 1
    rw [index_1 t h]; rfl
  | ⟨1, _⟩ =>
    show win0_1.index t 1 * 2048 + 1 * k.val = k.val
    rw [index_1 t h]; show 0 * 2048 + 1 * k.val = _; omega
  | ⟨2, _⟩ =>
    show win0_1.index t 2 * 1024 + 1 * l.val = (1024 * (t.val % 8) + l.val) % 8192
    rw [index_1 t h]; show t.val % 8 * 1024 + 1 * l.val = _; omega

theorem second_at (h : t.val < 128) (l : Fin 1024) (j : Fin 2048) : iblk m c 2 t (ix2 l j) = m (c.tc.loc main_arg2) (ix2 (place (t.val % 8) l) j) := by
  refine (congrFun (V_second m c) _).trans (congrArg (m (c.tc.loc main_arg2)) (funext fun a => Fin.ext ?_))
  match a with
  | ⟨0, _⟩ =>
    show win0_2.index t 0 * 1024 + 1 * l.val = (1024 * (t.val % 8) + l.val) % 8192
    rw [index_2 t h]; show t.val % 8 * 1024 + 1 * l.val = _; omega
  | ⟨1, _⟩ =>
    show win0_2.index t 1 * 2048 + 1 * j.val = j.val
    rw [index_2 t h]; show 0 * 2048 + 1 * j.val = _; omega

theorem gain_at (j : Fin 2048) : iblk m c 3 t (ix2 0 j) = m (c.tc.loc main_arg3) (ix1 j) := by
  refine (congrFun (V_gain m c) _).trans (shapeCast_apply (s := S2048) (t := S1x2048) _ _ _ (ix1 j) ?_)
  rewrite [Shape.rowMajor_val_one, Shape.rowMajor_val_two]
  show j.val = (win0_3.index t 0 * 1 + 1 * 0) * 2048 + (win0_3.index t 1 * 2048 + 1 * j.val)
  rw [index_3]
  show _ = (0 * 1 + 1 * 0) * 2048 + (0 * 2048 + 1 * j.val)
  omega

theorem bias_at (j : Fin 2048) : iblk m c 4 t (ix2 0 j) = m (c.tc.loc main_arg4) (ix1 j) := by
  refine (congrFun (V_bias m c) _).trans (shapeCast_apply (s := S2048) (t := S1x2048) _ _ _ (ix1 j) ?_)
  rewrite [Shape.rowMajor_val_one, Shape.rowMajor_val_two]
  show j.val = (win0_4.index t 0 * 1 + 1 * 0) * 2048 + (win0_4.index t 1 * 2048 + 1 * j.val)
  rw [index_4]
  show _ = (0 * 1 + 1 * 0) * 2048 + (0 * 2048 + 1 * j.val)
  omega

/-- A row of slab `b`. -/
def slabRow (b q : Fin 128) : Fin 16384 := ⟨128 * b.val + q.val, by omega⟩

theorem residual_at (b q : Fin 128) (i : Fin 2048) :
    shapeCast S128x2048 (resSlab c (V m c main_arg0) b) shapeCasts_S1x128x2048_S128x2048 (ix2 q i) = m (c.tc.loc main_arg0) (ix2 (slabRow b q) i) := by
  unfold resSlab
  rw [shapeCast_shapeCast]
  show V m c main_arg0 ((slab b).view.emb (ix2 q i)) = _
  rw [V_main_arg0]
  refine congrArg (m (c.tc.loc main_arg0)) (funext fun a => Fin.ext ?_)
  match a with
  | ⟨0, _⟩ => show 128 * b.val + 1 * q.val = 128 * b.val + q.val; omega
  | ⟨1, _⟩ => show 0 + 1 * i.val = i.val; omega

/-! ### The product, block by block -/

/-- What block `f` of the inner layer adds to a row's product. -/
def part (r : Fin 16384) (f : ℕ) (j : Fin 2048) : EReal :=
  ∑ l : Fin 1024, Cert.MlpReference.inner (m (c.tc.loc main_arg0)) (m (c.tc.loc main_arg1)) r (place f l) * m (c.tc.loc main_arg2) (ix2 (place f l) j)
/-- What the blocks before `g` add up to. -/
def upto (r : Fin 16384) (g : ℕ) (j : Fin 2048) : EReal := ∑ f ∈ Finset.range g, part m c r f j

theorem upto_zero (r : Fin 16384) (j : Fin 2048) : upto m c r 0 j = 0 := Finset.sum_range_zero _
theorem upto_succ (r : Fin 16384) (g : ℕ) (j : Fin 2048) : upto m c r (g + 1) j = upto m c r g j + part m c r g j := Finset.sum_range_succ _ _

/-- A sum by blocks. -/
theorem by_blocks (g : Fin 8192 → EReal) : ∑ f ∈ Finset.range 8, ∑ l : Fin 1024, g (place f l) = ∑ l : Fin 8192, g l := by
  rw [Finset.sum_range, ← Fintype.sum_prod_type' (fun (f : Fin 8) (l : Fin 1024) => g (place f.val l))]
  refine Fintype.sum_equiv (finProdFinEquiv (m := 8) (n := 1024)) _ (fun l : Fin 8192 => g l) fun x => congrArg g (Fin.ext ?_)
  show (1024 * x.1.val + x.2.val) % 8192 = x.2.val + 1024 * x.1.val
  have := x.1.isLt; have := x.2.isLt; omega

theorem upto_all (r : Fin 16384) (j : Fin 2048) :
    upto m c r 8 j = Cert.MlpReference.product (m (c.tc.loc main_arg0)) (m (c.tc.loc main_arg1)) (m (c.tc.loc main_arg2)) r j :=
  by_blocks fun l => Cert.MlpReference.inner (m (c.tc.loc main_arg0)) (m (c.tc.loc main_arg1)) r l * m (c.tc.loc main_arg2) (ix2 l j)

end Cert.MlpPrepared

end
-- ==== Proof.MlpResult.lean ====
/- The two whole arrays of the network are its reference's. -/
module

public import proofs.«01_k».proof.Proof.MlpEnds
public import proofs.«01_k».proof.Proof.MlpBlock
public import proofs.«01_k».proof.Proof.MlpPrepared

@[expose] public section

set_option maxRecDepth 16384

noncomputable section

namespace Cert.MlpResult

open Idealize.ShloMosaic Idealize.ShloMosaic.ValueIdx Idealize.ShloMosaic.TcCoe Idealize.SL.Sem Cert.Kernel5Ideal Cert.Kernel5Ideal.Gen
  Cert.MixRow Cert.MlpNames Cert.MlpValue Cert.MlpCarried Cert.MlpEnds Cert.MlpPrepared

variable (m : (ℓ : Loc nD τ sig) → Buf (Elt Ideal) ℓ) (c : Dev nD)

/-- The reference's first result of the kernel's arguments, -/
def expected : S16384x2048.Idx → EReal :=
  Cert.Reference5Ideal.Read.val_main_v34 (F := Ideal) (m (c.tc.loc main_arg0)) (m (c.tc.loc main_arg1)) (m (c.tc.loc main_arg2))
    (m (c.tc.loc main_arg3)) (m (c.tc.loc main_arg4))

/-- and its second. -/
def expectedHalf : S16384x2048.Idx → EReal :=
  Cert.Reference5Ideal.Read.val_main_v35 (F := Ideal) (m (c.tc.loc main_arg0)) (m (c.tc.loc main_arg1)) (m (c.tc.loc main_arg2))
    (m (c.tc.loc main_arg3)) (m (c.tc.loc main_arg4))

/-- Of the two accumulators, the one row `n` of the grid adds to, and the one it normalises. -/
def filling (n : ℕ) (d : Vec Ideal S1024x2048 .f32 × Vec Ideal S1024x2048 .f32) : Vec Ideal S1024x2048 .f32 := if n % 2 = 0 then d.1 else d.2
def filled (n : ℕ) (d : Vec Ideal S1024x2048 .f32 × Vec Ideal S1024x2048 .f32) : Vec Ideal S1024x2048 .f32 := if n % 2 = 0 then d.2 else d.1

theorem filling_next (n : ℕ) (d) : filling (n + 1) d = filled n d := by
  unfold filling filled
  by_cases h : n % 2 = 0
  · rw [if_pos h, if_neg (by omega)]
  · rw [if_neg h, if_pos (by omega)]
theorem filled_next (n : ℕ) (d) : filled (n + 1) d = filling n d := by
  unfold filling filled
  by_cases h : n % 2 = 0
  · rw [if_pos h, if_neg (by omega)]
  · rw [if_neg h, if_pos (by omega)]

theorem source_eq (t : Fin cfg0.N) : source m c t = filled (t.val / 8) (accs m c t.val) := by
  have ht : t.val < 136 := lt_of_lt_of_eq t.isLt (show cfg0.N = 136 from N_0)
  unfold source filled
  by_cases h : (t.val / 8) % 2 = 0
  · rw [if_pos h, if_pos (Or.inr h)]
  · rw [if_neg h, if_neg (by omega)]

theorem step_filling (t : Fin cfg0.N) (h : t.val < 128) (d) :
    filling (t.val / 8) (step m c t d) = added (iblk m c 0 t) (iblk m c 1 t) (filling (t.val / 8) d) (iblk m c 2 t) := by
  unfold filling step
  by_cases h8 : t.val < 8
  · rw [if_pos h8, if_pos (by omega), if_pos (by omega)]
  rw [if_neg h8, if_neg (show ¬ 128 ≤ t.val by omega)]
  by_cases hp : (t.val / 8) % 2 = 0
  · rw [if_pos hp, if_pos hp, if_neg (by omega)]
  · rw [if_neg hp, if_neg hp, if_pos (by omega)]

theorem step_filled (t : Fin cfg0.N) (d) :
    filled (t.val / 8) (step m c t d) = if t.val < 8 then filled (t.val / 8) d else cleared (filled (t.val / 8) d) t.val := by
  have ht : t.val < 136 := lt_of_lt_of_eq t.isLt (show cfg0.N = 136 from N_0)
  unfold filled step
  by_cases h8 : t.val < 8
  · rw [if_pos h8, if_pos h8, if_pos (by omega), if_pos (by omega)]
  rw [if_neg h8, if_neg h8]
  by_cases h : 128 ≤ t.val
  · rw [if_pos h, if_pos (by omega), if_pos (by omega)]
  rw [if_neg h]
  by_cases hp : (t.val / 8) % 2 = 0
  · rw [if_pos hp, if_pos hp, if_neg (by omega)]
  · rw [if_neg hp, if_neg hp, if_pos (by omega)]

theorem zeros_apply (y : S1024x2048.Idx) : zeros (F := Ideal) y = 0 := by
  unfold zeros k0_pay20
  simp only [shapeCast_self]
  exact ofBits_zero

/-- What the accumulators hold before point `8 n + f`: the sum of the row's first `f` blocks, and the sums of the row before
    less the slabs cleared. -/
structure Holding (n f : ℕ) (d : Vec Ideal S1024x2048 .f32 × Vec Ideal S1024x2048 .f32) : Prop where
  fresh : n < 17 → ∀ (p : Fin 1024) (j : Fin 2048), n < 16 ∨ f = 0 → filling n d (ix2 p j) = upto m c (row n p) f j
  before : ∀ (p : Fin 1024) (j : Fin 2048), filled n d (ix2 p j) = if n = 0 ∨ p.val < 128 * f then 0 else upto m c (row (n - 1) p) 8 j

/-- A whole row later the two change places. -/
theorem Holding.turned (n : ℕ) (d) (h : Holding m c n 8 d) (hn : n < 16) : Holding m c (n + 1) 0 d where
  fresh _ p j _ := by
    rw [filling_next, h.before, upto_zero, if_pos (Or.inr (by have := p.isLt; omega))]
  before p j := by
    rw [filled_next, h.fresh (by omega) p j (Or.inl hn), if_neg (by omega)]
    rfl

theorem holding_step (t : Fin cfg0.N) (d) (h : Holding m c (t.val / 8) (t.val % 8) d) : Holding m c (t.val / 8) (t.val % 8 + 1) (step m c t d) where
  fresh _ p j hf := by
    have hn : t.val / 8 < 16 := hf.elim id fun h => absurd h (Nat.succ_ne_zero _)
    have ht : t.val < 128 := by omega
    rw [step_filling m c t ht, upto_succ]
    refine (Cert.MlpBlock.added_apply j (iblk m c 0 t) (iblk m c 1 t) (filling (t.val / 8) d) (iblk m c 2 t) p).trans ?_
    refine congrArg₂ (· + ·) (h.fresh (by omega) p j (Or.inl hn)) ?_
    unfold part Cert.MlpReference.inner
    refine Finset.sum_congr rfl fun l _ => congrArg₂ (· * ·) ?_ (second_at m c t ht l j)
    have e := Finset.sum_congr (rfl : (Finset.univ : Finset (Fin 2048)) = _) fun k _ =>
      congrArg₂ (fun x y : EReal => x * y) (rows_at m c t ht p k) (first_at m c t ht k l)
    exact congrArg₂ (fun x y : EReal => x * y) (congrArg (fun x : EReal => max x 0) e) (congrArg (fun x : EReal => max x 0) e)
  before p j := by
    rw [step_filled]
    by_cases h8 : t.val < 8
    · rw [if_pos h8, h.before, if_pos (Or.inl (by omega)), if_pos (Or.inl (by omega))]
    rw [if_neg h8]
    unfold cleared
    show (if 128 * (t.val % 8) ≤ p.val ∧ p.val < 128 * (t.val % 8) + 128 then _ else _) = _
    by_cases hc : 128 * (t.val % 8) ≤ p.val ∧ p.val < 128 * (t.val % 8) + 128
    · rw [if_pos hc, if_pos (Or.inr (by omega))]
      exact ofBits_zero
    · rw [if_neg hc, h.before]
      by_cases hp : p.val < 128 * (t.val % 8)
      · rw [if_pos (Or.inr hp), if_pos (Or.inr (by omega))]
      · rw [if_neg (by omega), if_neg (by omega)]

theorem holding : ∀ k : ℕ, k ≤ 135 → Holding m c (k / 8) (k % 8) (accs m c k)
  | 0, _ => {
      fresh := fun _ p j _ => (zeros_apply (ix2 p j)).trans (upto_zero m c _ j).symm
      before := fun p j => (zeros_apply (ix2 p j)).trans (if_pos (Or.inl rfl)).symm }
  | k + 1, hk => by
      have hs := holding_step m c (point k) (accs m c k)
      have hv : (point k).val = k := Nat.mod_eq_of_lt (by omega)
      rw [hv] at hs
      have hs := hs (holding k (by omega))
      show Holding m c ((k + 1) / 8) ((k + 1) % 8) (step m c (point k) (accs m c k))
      by_cases h7 : k % 8 = 7
      · rw [h7] at hs
        rw [show (k + 1) / 8 = k / 8 + 1 by omega, show (k + 1) % 8 = 0 by omega]
        exact hs.turned m c _ _ (by omega)
      · rw [show (k + 1) / 8 = k / 8 by omega, show (k + 1) % 8 = k % 8 + 1 by omega]
        exact hs

/-- The slab a point normalises holds its rows' products. -/
theorem slab_apply (u q : Fin 128) (i : Fin 2048) (t : Fin cfg0.N) (ht : t.val = u.val + 8) :
    accSlab (source m c t) t.val (ix2 q i)
      = Cert.MlpReference.product (m (c.tc.loc main_arg0)) (m (c.tc.loc main_arg1)) (m (c.tc.loc main_arg2)) (slabRow u q) i := by
  have hu := u.isLt
  have hq := q.isLt
  have e : accSlab (source m c t) t.val (ix2 q i) = source m c t (ix2 ⟨128 * (t.val % 8) + q.val, by omega⟩ i) := by
    unfold accSlab
    refine congrArg (source m c t) (funext fun a => Fin.ext ?_)
    match a with
    | ⟨0, _⟩ => show 128 * (t.val % 8) + 1 * q.val = 128 * (t.val % 8) + q.val; omega
    | ⟨1, _⟩ => show 0 + 1 * i.val = i.val; omega
  rw [e, source_eq, (holding m c t.val (by omega)).before, if_neg (by show ¬(t.val / 8 = 0 ∨ 128 * (t.val % 8) + q.val < 128 * (t.val % 8)); omega), upto_all]
  refine congrArg (fun r => Cert.MlpReference.product _ _ _ r i) (Fin.ext ?_)
  show (1024 * (t.val / 8 - 1) + (128 * (t.val % 8) + q.val)) % 16384 = 128 * u.val + q.val
  omega

/-- A slab sent off is the reference's entries. -/
theorem sent_apply (u q : Fin 128) (j : Fin 2048) : slabOut m c u (ix2 q j) = expected m c (ix2 (slabRow u q) j) := by
  have hu := u.isLt
  have hv : (point (u.val + 8)).val = u.val + 8 := Nat.mod_eq_of_lt (by omega)
  have hb : Ring.bk 128 ((point (u.val + 8)).val - 8) = u := Fin.ext (by
    show ((point (u.val + 8)).val - 8) % 128 = u.val
    rw [hv]; omega)
  unfold slabOut sent expected
  rw [Cert.MlpReference.val_main_v34_at, hb]
  refine (Cert.MlpBlock.out_apply _ _ _ _ q j).trans ?_
  rw [show (fun i => iblk m c 3 (point (u.val + 8)) (ix2 0 i)) = fun i => m (c.tc.loc main_arg3) (ix1 i) from funext (gain_at m c _),
    show (fun i => iblk m c 4 (point (u.val + 8)) (ix2 0 i)) = fun i => m (c.tc.loc main_arg4) (ix1 i) from funext (bias_at m c _)]
  refine congrArg (fun y => layer y _ _ j) (funext fun i => ?_)
  exact (congrArg₂ (fun s r => s + alpha * r) (slab_apply m c u q i _ hv) (residual_at m c u q i)).trans (add_comm _ _)

theorem half_apply (u q : Fin 128) (j : Fin 2048) : slabHalf m c u (ix2 q j) = expectedHalf m c (ix2 (slabRow u q) j) :=
  sent_apply m c u q j

theorem row_eq (r : Fin 16384) : slabRow (slabIn r) (rowIn r) = r :=
  Fin.ext (show 128 * (r.val / 128) + r.val % 128 = r.val by omega)

/-- The first result after the run. -/
theorem array : wholeA m c = expected m c := by
  funext i
  obtain ⟨r, j, rfl⟩ : ∃ (r : Fin 16384) (j : Fin 2048), i = ix2 r j := ⟨i 0, i 1, eq_ix2 i⟩
  show slabOut m c (slabIn r) (ix2 (rowIn r) j) = _
  rw [sent_apply, row_eq]

/-- The second. -/
theorem half_array : wholeB m c = expectedHalf m c := by
  funext i
  obtain ⟨r, j, rfl⟩ : ∃ (r : Fin 16384) (j : Fin 2048), i = ix2 r j := ⟨i 0, i 1, eq_ix2 i⟩
  show slabHalf m c (slabIn r) (ix2 (rowIn r) j) = _
  rw [half_apply, row_eq]

/-- The run ends with the two results in place and the arguments as they were. -/
theorem run (ρ : Dev nD → PrngReg) : θ_run defs (onTc (τ := τ) (main (F := Ideal))) ⟨m, fun _ => 0, ρ⟩ (fun r => ∀ c : Dev nD,
      r.2.mem ((c : Thread nD τ).loc main_v4_0) = expected m c
      ∧ r.2.mem ((c : Thread nD τ).loc main_v4_1) = expectedHalf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (array m c), (h c).2.1.trans (half_array m c), (h c).2.2⟩) (Cert.MlpEnds.run m ρ)

end Cert.MlpResult

end
-- ==== Proof.lean ====
/- The claims, assembled: the frames; that the attention kernel and its reference compute the same function over the
   extended reals wherever the queries and keys are real numbers; and that the kernels of the queries, of the shared keys
   and values, of the mixer's output and of the feed-forward part compute theirs whatever the arguments are. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Result
public import proofs.«01_k».proof.Proof.QueryResult
public import proofs.«01_k».proof.Proof.KvResult
public import proofs.«01_k».proof.Proof.MixProgram
public import proofs.«01_k».proof.Proof.MixResult
public import proofs.«01_k».proof.Proof.MlpProgram
public import proofs.«01_k».proof.Proof.MlpResult
public import Idealize.ShloMosaic.Adequacy
public import Idealize.ShloMosaic.Init

@[expose] public section

noncomputable section

namespace Cert.Proof

open Idealize.ShloMosaic Idealize.ShloMosaic.TcCoe Idealize.SL.Sem

/-- The attention kernel computes the reference's attention. -/
theorem attention : Cert.algebraic_KernelIdeal_ReferenceIdeal_pre_finite_scores := by
  intro m g m' g' hpre hm
  refine ⟨fun c => Cert.Result.expected m c, ?_, ?_⟩
  · refine (θ_run Cert.KernelIdeal.defs _ _).mono (fun r h c => ⟨(h c).1.trans ?_, (h c).2⟩) (Cert.KernelIdeal.Value.run_blocks m g)
    obtain ⟨⟨f0, h0⟩, ⟨f1, h1⟩, ⟨f2, h2⟩, ⟨f3, h3⟩⟩ := Cert.Finite.real _ _ _ _ _ (hpre c)
    exact Cert.Result.array m c f0 f1 f2 f3 h0 h1 h2 h3
  · refine (θ_run Cert.ReferenceIdeal.defs _ _).mono (fun r h c => ⟨(h c).1.trans ?_, (h c).2⟩) (Cert.ReferenceIdeal.Value.run m' g')
    obtain ⟨e0, e1, e2, e3, e4⟩ := hm c
    rw [Cert.ReferenceIdeal.Read.val_main_v30_eq, e0, e1, e2, e3, e4]
    rfl

/-- The query kernel computes its reference's queries. -/
theorem queries : Cert.algebraic_Kernel2Ideal_Reference2Ideal := by
  intro m g m' g' _ hm
  refine ⟨fun c => Cert.QueryResult.expected m c, ?_, ?_⟩
  · exact (θ_run Cert.Kernel2Ideal.defs _ _).mono (fun r h c => ⟨(h c).1.trans (Cert.QueryResult.array m c), (h c).2⟩) (Cert.Kernel2Ideal.Value.run_blocks m g)
  · refine (θ_run Cert.Reference2Ideal.defs _ _).mono (fun r h c => ⟨(h c).1.trans ?_, (h c).2⟩) (Cert.Reference2Ideal.Value.run m' g')
    obtain ⟨e0, e1, e2, e3⟩ := hm c
    rw [Cert.Reference2Ideal.Read.val_main_v63_eq, e0, e1, e2, e3]
    rfl

/-- The kernel of the shared keys and values computes its reference's keys and values. -/
theorem keys_values : Cert.algebraic_Kernel3Ideal_Reference3Ideal := by
  intro m g m' g' _ hm
  refine ⟨fun c => Cert.KvResult.expectedKeys m c, fun c => Cert.KvResult.expectedValues m c, ?_, ?_⟩
  · exact (θ_run Cert.Kernel3Ideal.defs _ _).mono (fun r h c => ⟨(h c).1.trans (Cert.KvResult.keys_array m c),
      (h c).2.1.trans (Cert.KvResult.values_array m c), (h c).2.2⟩) (Cert.Kernel3Ideal.Value.run_blocks m g)
  · refine (θ_run Cert.Reference3Ideal.defs _ _).mono (fun r h c => ⟨(h c).1.trans ?_, (h c).2.1.trans ?_, (h c).2.2⟩) (Cert.Reference3Ideal.Value.run m' g')
    · obtain ⟨e0, e1, e2, e3⟩ := hm c
      rw [Cert.Reference3Ideal.Read.val_main_v61_eq, e0, e1, e2, e3]
      rfl
    · obtain ⟨e0, e1, e2, e3⟩ := hm c
      rw [Cert.Reference3Ideal.Read.val_main_v63_eq, e0, e1, e2, e3]
      rfl

/-- The kernel of the mixer's output computes its reference's two results. -/
theorem mixing : Cert.algebraic_Kernel4Ideal_Reference4Ideal := by
  intro m g m' g' _ hm
  refine ⟨fun c => Cert.MixResult.expected m c, fun c => Cert.MixResult.expectedHalf m c, Cert.MixResult.run m g, ?_⟩
  refine (θ_run Cert.Reference4Ideal.defs _ _).mono (fun r h c => ⟨(h c).1.trans ?_, (h c).2.1.trans ?_, (h c).2.2⟩) (Cert.Reference4Ideal.Value.run m' g')
  · obtain ⟨e0, e1, e2, e3, e4⟩ := hm c
    rw [Cert.Reference4Ideal.Read.val_main_v29_eq, e0, e1, e2, e3, e4]
    rfl
  · obtain ⟨e0, e1, e2, e3, e4⟩ := hm c
    rw [Cert.Reference4Ideal.Read.val_main_v30_eq, e0, e1, e2, e3, e4]
    rfl

/-- The kernel of the feed-forward part computes its reference's two results. -/
theorem network : Cert.algebraic_Kernel5Ideal_Reference5Ideal := by
  intro m g m' g' _ hm
  refine ⟨fun c => Cert.MlpResult.expected m c, fun c => Cert.MlpResult.expectedHalf m c, Cert.MlpResult.run m g, ?_⟩
  refine (θ_run Cert.Reference5Ideal.defs _ _).mono (fun r h c => ⟨(h c).1.trans ?_, (h c).2.1.trans ?_, (h c).2.2⟩) (Cert.Reference5Ideal.Value.run m' g')
  · obtain ⟨e0, e1, e2, e3, e4⟩ := hm c
    rw [Cert.Reference5Ideal.Read.val_main_v34_eq, e0, e1, e2, e3, e4]
    rfl
  · obtain ⟨e0, e1, e2, e3, e4⟩ := hm c
    rw [Cert.Reference5Ideal.Read.val_main_v35_eq, e0, e1, e2, e3, e4]
    rfl

/-- The attention's reference ends, keeps its arguments and leaves no semaphore raised: it has none. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The same with finite queries and keys. -/
theorem frame_reference_finite : Cert.quiescent_ReferenceIdeal_pre_finite_scores := fun m ρ _ =>
  frame_reference m ρ trivial

/-- The same of the queries' reference. -/
theorem frame_queries : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The same of the shared keys' and values' reference. -/
theorem frame_keys_values : Cert.quiescent_Reference3Ideal := fun m ρ _ =>
  (θ_run Cert.Reference3Ideal.defs _ _).mono (fun r h => ⟨fun c => (h c).2.2, sem_eq_zero_of_no_sems (by decide) r.2⟩) (Cert.Reference3Ideal.Value.run m ρ)

/-- The same of the mixer's output's reference. -/
theorem frame_mixing : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- The same of the feed-forward part's reference. -/
theorem frame_network : Cert.quiescent_Reference5Ideal := fun m ρ _ =>
  (θ_run Cert.Reference5Ideal.defs _ _).mono (fun r h => ⟨fun c => (h c).2.2, sem_eq_zero_of_no_sems (by decide) r.2⟩) (Cert.Reference5Ideal.Value.run m ρ)

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts,
  Cert.Kernel5Ideal.Gen.facts, Cert.Reference5Ideal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  frame_reference, frame_reference_finite,
  fun m ρ _ => Cert.Kernel2.Gen.frame m ρ, fun m ρ _ => Cert.Kernel2Ideal.Gen.frame m ρ, frame_queries,
  fun m ρ _ => Cert.Kernel3.Gen.frame m ρ, fun m ρ _ => Cert.Kernel3Ideal.Gen.frame m ρ, frame_keys_values,
  fun m ρ _ => Cert.MixProgram.frame m ρ, fun m ρ _ => Cert.MixFrame.frame m ρ, frame_mixing,
  fun m ρ _ => Cert.MlpProgram.frame m ρ, fun m ρ _ => Cert.MlpFrame.frame m ρ, frame_network,
  trivial, attention, IdealRules.named_const.statement Cert.Kernel2Ideal.κ "qscale" .f32 0x3DD53B95#32 _ rfl, queries, trivial, keys_values,
  IdealRules.named_const.statement Cert.Kernel4Ideal.κ "alpha" .f32 0x3FB504F3#32 _ rfl, mixing,
  IdealRules.named_const.statement Cert.Kernel5Ideal.κ "alpha" .f32 0x3FB504F3#32 _ rfl, network⟩

end Cert.Proof

end
